-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "gelu_cubic" .f32 0x3D122279#32 ((80338380498831 / 2251799813685248 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  IdealRules.named_const.Statement Cert.Kernel2Ideal.κ "neg_log2e" .f32 0xBFB8AA3B#32 ((-((Real.log 2)⁻¹) : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  IdealRules.named_const.Statement Cert.Kernel3Ideal.κ "neg_log2e" .f32 0xBFB8AA3B#32 ((-((Real.log 2)⁻¹) : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  IdealRules.named_const.Statement Cert.Kernel4Ideal.κ "q_scale" .f32 0x3E38AA3B#32 (((8 * (Real.log 2))⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v19)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v62) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S16x2048x2560 : Shape := ⟨3, ![16, 2048, 2560]⟩
abbrev S4x512 : Shape := ⟨2, ![4, 512]⟩
abbrev S512 : Shape := ⟨1, ![512]⟩
abbrev S8x64x64 : Shape := ⟨3, ![8, 64, 64]⟩
abbrev S16x2048x20x128 : Shape := ⟨4, ![16, 2048, 20, 128]⟩
abbrev S16x20x2048x128 : Shape := ⟨4, ![16, 20, 2048, 128]⟩
abbrev S_ : Shape := ⟨0, ![]⟩
abbrev S4x64x64 : Shape := ⟨3, ![4, 64, 64]⟩
abbrev S4x64x128 : Shape := ⟨3, ![4, 64, 128]⟩
abbrev S4x128x128 : Shape := ⟨3, ![4, 128, 128]⟩
abbrev S4x128x256 : Shape := ⟨3, ![4, 128, 256]⟩
abbrev S4x4x128 : Shape := ⟨3, ![4, 4, 128]⟩
abbrev S4x1x128 : Shape := ⟨3, ![4, 1, 128]⟩
abbrev S16x4x2048x128 : Shape := ⟨4, ![16, 4, 2048, 128]⟩
abbrev S1x4x2048x128 : Shape := ⟨4, ![1, 4, 2048, 128]⟩
abbrev S4x8x256x128 : Shape := ⟨4, ![4, 8, 256, 128]⟩
abbrev S4x264x128 : Shape := ⟨3, ![4, 264, 128]⟩
abbrev S256x128 : Shape := ⟨2, ![256, 128]⟩
abbrev S1x1x256x128 : Shape := ⟨4, ![1, 1, 256, 128]⟩
abbrev S1x4x128 : Shape := ⟨3, ![1, 4, 128]⟩
abbrev S4x128 : Shape := ⟨2, ![4, 128]⟩
abbrev S1x1x128 : Shape := ⟨3, ![1, 1, 128]⟩
abbrev S1x128 : Shape := ⟨2, ![1, 128]⟩
abbrev S2048x128 : Shape := ⟨2, ![2048, 128]⟩
abbrev S1x128x256 : Shape := ⟨3, ![1, 128, 256]⟩
abbrev S128x256 : Shape := ⟨2, ![128, 256]⟩
abbrev S2048x256 : Shape := ⟨2, ![2048, 256]⟩
abbrev S256x256 : Shape := ⟨2, ![256, 256]⟩
abbrev S8x128 : Shape := ⟨2, ![8, 128]⟩
abbrev S1x8x128 : Shape := ⟨3, ![1, 8, 128]⟩
abbrev S1x1x1x128 : Shape := ⟨4, ![1, 1, 1, 128]⟩
abbrev S1x256x128 : Shape := ⟨3, ![1, 256, 128]⟩

abbrev nBuf : Space → Nat
  | .hbm => 33
  | .vmem => 15
  | .smem => 0
  | _ => 0

abbrev bufTy : (tb : Table) → Fin (tcTables nBuf tb) → BufTy
  | .hbm, ⟨0, _⟩ => ⟨S16x2048x2560, .f32⟩
  | .hbm, ⟨1, _⟩ => ⟨S4x512, .f32⟩
  | .hbm, ⟨2, _⟩ => ⟨S512, .f32⟩
  | .hbm, ⟨3, _⟩ => ⟨S8x64x64, .f32⟩
  | .hbm, ⟨4, _⟩ => ⟨S512, .f32⟩
  | .hbm, ⟨5, _⟩ => ⟨S8x64x64, .f32⟩
  | .hbm, ⟨6, _⟩ => ⟨S512, .f32⟩
  | .hbm, ⟨7, _⟩ => ⟨S512, .f32⟩
  | .hbm, ⟨8, _⟩ => ⟨S16x2048x20x128, .f32⟩
  | .hbm, ⟨9, _⟩ => ⟨S16x20x2048x128, .f32⟩
  | .hbm, ⟨10, _⟩ => ⟨S_, .f32⟩
  | .hbm, ⟨11, _⟩ => ⟨S4x64x64, .f32⟩
  | .hbm, ⟨12, _⟩ => ⟨S4x64x64, .f32⟩
  | .hbm, ⟨13, _⟩ => ⟨S4x64x128, .f32⟩
  | .hbm, ⟨14, _⟩ => ⟨S4x64x64, .f32⟩
  | .hbm, ⟨15, _⟩ => ⟨S4x64x128, .f32⟩
  | .hbm, ⟨16, _⟩ => ⟨S4x128x128, .f32⟩
  | .hbm, ⟨17, _⟩ => ⟨S_, .f32⟩
  | .hbm, ⟨18, _⟩ => ⟨S4x64x64, .f32⟩
  | .hbm, ⟨19, _⟩ => ⟨S4x64x64, .f32⟩
  | .hbm, ⟨20, _⟩ => ⟨S4x64x128, .f32⟩
  | .hbm, ⟨21, _⟩ => ⟨S4x64x64, .f32⟩
  | .hbm, ⟨22, _⟩ => ⟨S4x64x128, .f32⟩
  | .hbm, ⟨23, _⟩ => ⟨S4x128x128, .f32⟩
  | .hbm, ⟨24, _⟩ => ⟨S4x128x256, .f32⟩
  | .hbm, ⟨25, _⟩ => ⟨S4x4x128, .f32⟩
  | .hbm, ⟨26, _⟩ => ⟨S4x4x128, .f32⟩
  | .hbm, ⟨27, _⟩ => ⟨S4x1x128, .f32⟩
  | .hbm, ⟨28, _⟩ => ⟨S4x128x256, .bf16⟩
  | .hbm, ⟨29, _⟩ => ⟨S4x1x128, .f32⟩
  | .hbm, ⟨30, _⟩ => ⟨S4x1x128, .f32⟩
  | .hbm, ⟨31, _⟩ => ⟨S4x1x128, .f32⟩
  | .hbm, ⟨32, _⟩ => ⟨S16x4x2048x128, .f32⟩
  | .local _ .vmem, ⟨0, _⟩ => ⟨S1x4x2048x128, .f32⟩
  | .local _ .vmem, ⟨1, _⟩ => ⟨S1x4x2048x128, .f32⟩
  | .local _ .vmem, ⟨2, _⟩ => ⟨S1x4x2048x128, .f32⟩
  | .local _ .vmem, ⟨3, _⟩ => ⟨S1x4x2048x128, .f32⟩
  | .local _ .vmem, ⟨4, _⟩ => ⟨S4x4x128, .f32⟩
  | .local _ .vmem, ⟨5, _⟩ => ⟨S4x1x128, .f32⟩
  | .local _ .vmem, ⟨6, _⟩ => ⟨S4x128x256, .bf16⟩
  | .local _ .vmem, ⟨7, _⟩ => ⟨S4x1x128, .f32⟩
  | .local _ .vmem, ⟨8, _⟩ => ⟨S4x1x128, .f32⟩
  | .local _ .vmem, ⟨9, _⟩ => ⟨S4x1x128, .f32⟩
  | .local _ .vmem, ⟨10, _⟩ => ⟨S1x4x2048x128, .f32⟩
  | .local _ .vmem, ⟨11, _⟩ => ⟨S1x4x2048x128, .f32⟩
  | .local _ .vmem, ⟨12, _⟩ => ⟨S4x8x256x128, .f32⟩
  | .local _ .vmem, ⟨13, _⟩ => ⟨S4x8x256x128, .f32⟩
  | .local _ .vmem, ⟨14, _⟩ => ⟨S4x264x128, .f32⟩
  | _, _ => ⟨S16x2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_1030 : BitVec 32 := 0#32
  let c256_i32 : BitVec 32 := 256#32
  let v2334 : BitVec 32 := Scalar.addi c0_i32_1030 c256_i32
  let c1_i32_1031 : BitVec 32 := 1#32
  ⟨c0_i32_1030, v2334, c1_i32_1031⟩
def k0_off1 (k0_t1 : Fin k0_t1_loop.trips) : Fin 4 → Nat :=
  let c0_1685 : Index := 0#32
  let c7_1686 : Index := 7#32
  let c0_i32_1030 : BitVec 32 := 0#32
  let c1_i32_1031 : BitVec 32 := 1#32
  let arg13 : BitVec 32 := Scf.iv c0_i32_1030 c1_i32_1031 k0_t1
  let v3112 : Index := Scalar.indexCast arg13
  let c0_1687 : Index := 0#32
  ![0, 7, v3112.toNat, 0]
def k0_off2 (k0_t1 : Fin k0_t1_loop.trips) : Fin 3 → Nat :=
  let c0_1692 : Index := 0#32
  let c0_i32_1030 : BitVec 32 := 0#32
  let c1_i32_1031 : BitVec 32 := 1#32
  let arg13 : BitVec 32 := Scf.iv c0_i32_1030 c1_i32_1031 k0_t1
  let c1_i32_1691 : BitVec 32 := 1#32
  let v3120 : BitVec 32 := Scalar.addi arg13 c1_i32_1691
  let v3121 : Index := Scalar.indexCast v3120
  let c0_1693 : Index := 0#32
  ![0, v3121.toNat, 0]
def k0_off3 (k0_t1 : Fin k0_t1_loop.trips) : Fin 4 → Nat :=
  let c1_1694 : Index := 1#32
  let c7_1695 : Index := 7#32
  let c0_i32_1030 : BitVec 32 := 0#32
  let c1_i32_1031 : BitVec 32 := 1#32
  let arg13 : BitVec 32 := Scf.iv c0_i32_1030 c1_i32_1031 k0_t1
  let v3125 : Index := Scalar.indexCast arg13
  let c0_1696 : Index := 0#32
  ![1, 7, v3125.toNat, 0]
def k0_off4 (k0_t1 : Fin k0_t1_loop.trips) : Fin 3 → Nat :=
  let c1_1701 : Index := 1#32
  let c0_i32_1030 : BitVec 32 := 0#32
  let c1_i32_1031 : BitVec 32 := 1#32
  let arg13 : BitVec 32 := Scf.iv c0_i32_1030 c1_i32_1031 k0_t1
  let c1_i32_1700 : BitVec 32 := 1#32
  let v3133 : BitVec 32 := Scalar.addi arg13 c1_i32_1700
  let v3134 : Index := Scalar.indexCast v3133
  let c0_1702 : Index := 0#32
  ![1, v3134.toNat, 0]
def k0_off5 (k0_t1 : Fin k0_t1_loop.trips) : Fin 4 → Nat :=
  let c2_1703 : Index := 2#32
  let c7_1704 : Index := 7#32
  let c0_i32_1030 : BitVec 32 := 0#32
  let c1_i32_1031 : BitVec 32 := 1#32
  let arg13 : BitVec 32 := Scf.iv c0_i32_1030 c1_i32_1031 k0_t1
  let v3138 : Index := Scalar.indexCast arg13
  let c0_1705 : Index := 0#32
  ![2, 7, v3138.toNat, 0]
def k0_off6 (k0_t1 : Fin k0_t1_loop.trips) : Fin 3 → Nat :=
  let c2_1710 : Index := 2#32
  let c0_i32_1030 : BitVec 32 := 0#32
  let c1_i32_1031 : BitVec 32 := 1#32
  let arg13 : BitVec 32 := Scf.iv c0_i32_1030 c1_i32_1031 k0_t1
  let c1_i32_1709 : BitVec 32 := 1#32
  let v3146 : BitVec 32 := Scalar.addi arg13 c1_i32_1709
  let v3147 : Index := Scalar.indexCast v3146
  let c0_1711 : Index := 0#32
  ![2, v3147.toNat, 0]
def k0_off7 (k0_t1 : Fin k0_t1_loop.trips) : Fin 4 → Nat :=
  let c3_1712 : Index := 3#32
  let c7_1713 : Index := 7#32
  let c0_i32_1030 : BitVec 32 := 0#32
  let c1_i32_1031 : BitVec 32 := 1#32
  let arg13 : BitVec 32 := Scf.iv c0_i32_1030 c1_i32_1031 k0_t1
  let v3151 : Index := Scalar.indexCast arg13
  let c0_1714 : Index := 0#32
  ![3, 7, v3151.toNat, 0]
def k0_off8 (k0_t1 : Fin k0_t1_loop.trips) : Fin 3 → Nat :=
  let c3_1719 : Index := 3#32
  let c0_i32_1030 : BitVec 32 := 0#32
  let c1_i32_1031 : BitVec 32 := 1#32
  let arg13 : BitVec 32 := Scf.iv c0_i32_1030 c1_i32_1031 k0_t1
  let c1_i32_1718 : BitVec 32 := 1#32
  let v3159 : BitVec 32 := Scalar.addi arg13 c1_i32_1718
  let v3160 : Index := Scalar.indexCast v3159
  let c0_1720 : Index := 0#32
  ![3, v3160.toNat, 0]
def cc0_transform_0 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_1 (i : grid0.Coords) : Fin 4 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![arg0.toNat, c4_i32.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x4x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "gelu_cubic" => some ((80338380498831 / 2251799813685248 : ℝ) : EReal)
  | "neg_log2e" => some ((-((Real.log 2)⁻¹) : ℝ) : EReal)
  | _ => none
-- ==== ReferenceIdeal.lean ====
abbrev S16x2048x2560 : Shape := ⟨3, ![16, 2048, 2560]⟩
abbrev S4x512 : Shape := ⟨2, ![4, 512]⟩
abbrev S512 : Shape := ⟨1, ![512]⟩
abbrev S8x64x64 : Shape := ⟨3, ![8, 64, 64]⟩
abbrev S16x2048x512 : Shape := ⟨3, ![16, 2048, 512]⟩
abbrev S_ : Shape := ⟨0, ![]⟩
abbrev S16x2051x512 : Shape := ⟨3, ![16, 2051, 512]⟩
abbrev S1x512 : Shape := ⟨2, ![1, 512]⟩
abbrev S1x1x512 : Shape := ⟨3, ![1, 1, 512]⟩
abbrev S16x2048x8x64 : Shape := ⟨4, ![16, 2048, 8, 64]⟩
abbrev S8x64x16x2048 : Shape := ⟨4, ![8, 64, 16, 2048]⟩
abbrev S16x512 : Shape := ⟨2, ![16, 512]⟩
abbrev S2048x16x512 : Shape := ⟨3, ![2048, 16, 512]⟩
abbrev S1x16x512 : Shape := ⟨3, ![1, 16, 512]⟩
abbrev S16x2048x4x128 : Shape := ⟨4, ![16, 2048, 4, 128]⟩
abbrev S16x4x2048x128 : Shape := ⟨4, ![16, 4, 2048, 128]⟩

abbrev nBuf : Space → Nat
  | .hbm => 154
  | .vmem => 0
  | .smem => 0
  | _ => 0

abbrev hbmTy0_0 (i : Nat) : BufTy := match i % 128 with
  | 0 => ⟨S16x2048x2560, .f32⟩
  | 1 => ⟨S4x512, .f32⟩
  | 2 => ⟨S512, .f32⟩
  | 3 => ⟨S8x64x64, .f32⟩
  | 4 => ⟨S512, .f32⟩
  | 5 => ⟨S8x64x64, .f32⟩
  | 6 => ⟨S512, .f32⟩
  | 7 => ⟨S512, .f32⟩
  | 8 => ⟨S16x2048x512, .f32⟩
  | 9 => ⟨S_, .i32⟩
  | 10 => ⟨S_, .f32⟩
  | 11 => ⟨S16x2051x512, .f32⟩
  | 12 => ⟨S16x2048x512, .f32⟩
  | 13 => ⟨S1x512, .f32⟩
  | 14 => ⟨S512, .f32⟩
  | 15 => ⟨S1x1x512, .f32⟩
  | 16 => ⟨S16x2048x512, .f32⟩
  | 17 => ⟨S16x2048x512, .f32⟩
  | 18 => ⟨S16x2048x512, .f32⟩
  | 19 => ⟨S1x512, .f32⟩
  | 20 => ⟨S512, .f32⟩
  | 21 => ⟨S1x1x512, .f32⟩
  | 22 => ⟨S16x2048x512, .f32⟩
  | 23 => ⟨S16x2048x512, .f32⟩
  | 24 => ⟨S16x2048x512, .f32⟩
  | 25 => ⟨S16x2048x512, .f32⟩
  | 26 => ⟨S1x512, .f32⟩
  | 27 => ⟨S512, .f32⟩
  | 28 => ⟨S1x1x512, .f32⟩
  | 29 => ⟨S16x2048x512, .f32⟩
  | 30 => ⟨S16x2048x512, .f32⟩
  | 31 => ⟨S16x2048x512, .f32⟩
  | 32 => ⟨S16x2048x512, .f32⟩
  | 33 => ⟨S1x512, .f32⟩
  | 34 => ⟨S512, .f32⟩
  | 35 => ⟨S1x1x512, .f32⟩
  | 36 => ⟨S16x2048x512, .f32⟩
  | 37 => ⟨S16x2048x512, .f32⟩
  | 38 => ⟨S16x2048x512, .f32⟩
  | 39 => ⟨S1x1x512, .f32⟩
  | 40 => ⟨S16x2048x512, .f32⟩
  | 41 => ⟨S16x2048x512, .f32⟩
  | 42 => ⟨S16x2048x8x64, .f32⟩
  | 43 => ⟨S8x64x16x2048, .f32⟩
  | 44 => ⟨S16x2048x8x64, .f32⟩
  | 45 => ⟨S16x2048x512, .f32⟩
  | 46 => ⟨S1x1x512, .f32⟩
  | 47 => ⟨S16x2048x512, .f32⟩
  | 48 => ⟨S16x2048x512, .f32⟩
  | 49 => ⟨S16x2048x512, .f32⟩
  | 50 => ⟨S16x2048x512, .f32⟩
  | 51 => ⟨S_, .f32⟩
  | 52 => ⟨S16x2048x512, .f32⟩
  | 53 => ⟨S16x2048x512, .f32⟩
  | 54 => ⟨S_, .f32⟩
  | 55 => ⟨S16x2048x512, .f32⟩
  | 56 => ⟨S16x2048x512, .f32⟩
  | 57 => ⟨S16x2048x8x64, .f32⟩
  | 58 => ⟨S8x64x16x2048, .f32⟩
  | 59 => ⟨S16x2048x8x64, .f32⟩
  | 60 => ⟨S16x2048x512, .f32⟩
  | 61 => ⟨S1x1x512, .f32⟩
  | 62 => ⟨S16x2048x512, .f32⟩
  | 63 => ⟨S16x2048x512, .f32⟩
  | 64 => ⟨S16x2048x512, .f32⟩
  | 65 => ⟨S16x2048x512, .f32⟩
  | 66 => ⟨S_, .f32⟩
  | 67 => ⟨S16x2048x512, .f32⟩
  | 68 => ⟨S16x2048x512, .f32⟩
  | 69 => ⟨S_, .f32⟩
  | 70 => ⟨S16x2048x512, .f32⟩
  | 71 => ⟨S16x2048x512, .f32⟩
  | 72 => ⟨S_, .f32⟩
  | 73 => ⟨S16x2048x512, .f32⟩
  | 74 => ⟨S16x2048x512, .f32⟩
  | 75 => ⟨S512, .f32⟩
  | 76 => ⟨S_, .f32⟩
  | 77 => ⟨S512, .f32⟩
  | 78 => ⟨S512, .f32⟩
  | 79 => ⟨S512, .f32⟩
  | 80 => ⟨S512, .f32⟩
  | 81 => ⟨S512, .i1⟩
  | 82 => ⟨S512, .f32⟩
  | 83 => ⟨S512, .f32⟩
  | 84 => ⟨S512, .f32⟩
  | 85 => ⟨S512, .f32⟩
  | 86 => ⟨S512, .f32⟩
  | 87 => ⟨S512, .f32⟩
  | 88 => ⟨S512, .f32⟩
  | 89 => ⟨S512, .f32⟩
  | 90 => ⟨S1x1x512, .f32⟩
  | 91 => ⟨S16x2048x512, .f32⟩
  | 92 => ⟨S16x2048x512, .f32⟩
  | 93 => ⟨S16x2048x512, .f32⟩
  | 94 => ⟨S_, .f32⟩
  | 95 => ⟨S16x2048x512, .f32⟩
  | 96 => ⟨S16x2048x512, .f32⟩
  | 97 => ⟨S16x2048x512, .f32⟩
  | 98 => ⟨S16x2048x512, .f32⟩
  | 99 => ⟨S16x2048x512, .f32⟩
  | 100 => ⟨S16x2048x512, .f32⟩
  | 101 => ⟨S16x2048x512, .f32⟩
  | 102 => ⟨S_, .f32⟩
  | 103 => ⟨S16x512, .f32⟩
  | 104 => ⟨S2048x16x512, .f32⟩
  | 105 => ⟨S2048x16x512, .f32⟩
  | 106 => ⟨S_, .f32⟩
  | 107 => ⟨S2048x16x512, .f32⟩
  | 108 => ⟨S_, .i32⟩
  | 109 => ⟨S2048x16x512, .f32⟩
  | 110 => ⟨S2048x16x512, .f32⟩
  | 111 => ⟨S_, .i32⟩
  | 112 => ⟨S16x512, .f32⟩
  | 113 => ⟨S2048x16x512, .f32⟩
  | 114 => ⟨S_, .i32⟩
  | 115 => ⟨S_, .i1⟩
  | 116 => ⟨S_, .i32⟩
  | 117 => ⟨S_, .i32⟩
  | 118 => ⟨S1x16x512, .f32⟩
  | 119 => ⟨S16x512, .f32⟩
  | 120 => ⟨S_, .i32⟩
  | 121 => ⟨S_, .i32⟩
  | 122 => ⟨S1x16x512, .f32⟩
  | 123 => ⟨S16x512, .f32⟩
  | 124 => ⟨S16x512, .f32⟩
  | 125 => ⟨S16x512, .f32⟩
  | 126 => ⟨S1x16x512, .f32⟩
  | 127 => ⟨S_, .i32⟩
  | _ => ⟨S16x2048x2560, .f32⟩

abbrev hbmTy0_1 (i : Nat) : BufTy := match i % 128 with
  | 0 => ⟨S_, .i32⟩
  | 1 => ⟨S2048x16x512, .f32⟩
  | 2 => ⟨S_, .i32⟩
  | 3 => ⟨S_, .i32⟩
  | 4 => ⟨S16x2048x512, .f32⟩
  | 5 => ⟨S16x2048x512, .f32⟩
  | 6 => ⟨S16x2048x512, .f32⟩
  | 7 => ⟨S16x2048x512, .f32⟩
  | 8 => ⟨S_, .f32⟩
  | 9 => ⟨S16x2048x512, .f32⟩
  | 10 => ⟨S16x2048x512, .f32⟩
  | 11 => ⟨S16x2048x512, .f32⟩
  | 12 => ⟨S_, .f32⟩
  | 13 => ⟨S16x2048x512, .f32⟩
  | 14 => ⟨S16x2048x512, .f32⟩
  | 15 => ⟨S16x2048x512, .f32⟩
  | 16 => ⟨S_, .f32⟩
  | 17 => ⟨S16x2048x512, .f32⟩
  | 18 => ⟨S16x2048x512, .f32⟩
  | 19 => ⟨S_, .f32⟩
  | 20 => ⟨S16x2048x512, .f32⟩
  | 21 => ⟨S16x2048x512, .f32⟩
  | 22 => ⟨S16x2048x512, .f32⟩
  | 23 => ⟨S16x2048x512, .f32⟩
  | 24 => ⟨S16x2048x4x128, .f32⟩
  | 25 => ⟨S16x4x2048x128, .f32⟩
  | _ => ⟨S16x2048x2560, .f32⟩

abbrev hbmTy (i : Nat) : BufTy := match i / 128 with
  | 0 => hbmTy0_0 i
  | 1 => hbmTy0_1 i
  | _ => ⟨S16x2048x2560, .f32⟩

abbrev bufTy : (tb : Table) → Fin (tcTables nBuf tb) → BufTy
  | .hbm, ⟨i, _⟩ => hbmTy i
  | _, _ => ⟨S16x2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst : Ref sig .tc := ⟨.hbm, 51, rfl⟩
abbrev main_v41 : Ref sig .tc := ⟨.hbm, 52, rfl⟩
abbrev main_v42 : Ref sig .tc := ⟨.hbm, 53, rfl⟩
abbrev main_cst_0 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_1 : Ref sig .tc := ⟨.hbm, 66, rfl⟩
abbrev main_v54 : Ref sig .tc := ⟨.hbm, 67, rfl⟩
abbrev main_v55 : Ref sig .tc := ⟨.hbm, 68, rfl⟩
abbrev main_cst_2 : Ref sig .tc := ⟨.hbm, 69, rfl⟩
abbrev main_v56 : Ref sig .tc := ⟨.hbm, 70, rfl⟩
abbrev main_v57 : Ref sig .tc := ⟨.hbm, 71, rfl⟩
abbrev main_cst_3 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_call1_cst : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_v6 : Ref sig .tc := ⟨.hbm, 83, rfl⟩
abbrev main_call1_v7 : Ref sig .tc := ⟨.hbm, 84, rfl⟩
abbrev main_call1_v8 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_4 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_5 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_6 : Ref sig .tc := ⟨.hbm, 106, rfl⟩
abbrev main_v76 : Ref sig .tc := ⟨.hbm, 107, rfl⟩
abbrev main_c_7 : Ref sig .tc := ⟨.hbm, 108, rfl⟩
abbrev main_v77_0 : Ref sig .tc := ⟨.hbm, 109, rfl⟩
abbrev main_v77_1 : Ref sig .tc := ⟨.hbm, 110, rfl⟩
abbrev main_v77_2 : Ref sig .tc := ⟨.hbm, 111, rfl⟩
abbrev main_v77_3 : Ref sig .tc := ⟨.hbm, 112, rfl⟩
abbrev main_v77_4 : Ref sig .tc := ⟨.hbm, 113, rfl⟩
abbrev main_while0c_c_16 : Ref sig .tc := ⟨.hbm, 114, rfl⟩
abbrev main_while0c_v96 : Ref sig .tc := ⟨.hbm, 115, rfl⟩
abbrev main_while0b_call2_c : Ref sig .tc := ⟨.hbm, 116, rfl⟩
abbrev main_while0b_call2_c_0 : Ref sig .tc := ⟨.hbm, 117, rfl⟩
abbrev main_while0b_call2_v0 : Ref sig .tc := ⟨.hbm, 118, rfl⟩
abbrev main_while0b_v96 : Ref sig .tc := ⟨.hbm, 119, rfl⟩
abbrev main_while0b_call3_c : Ref sig .tc := ⟨.hbm, 120, rfl⟩
abbrev main_while0b_call3_c_0 : Ref sig .tc := ⟨.hbm, 121, rfl⟩
abbrev main_while0b_call3_v0 : Ref sig .tc := ⟨.hbm, 122, rfl⟩
abbrev main_while0b_v97 : Ref sig .tc := ⟨.hbm, 123, rfl⟩
abbrev main_while0b_v98 : Ref sig .tc := ⟨.hbm, 124, rfl⟩
abbrev main_while0b_v99 : Ref sig .tc := ⟨.hbm, 125, rfl⟩
abbrev main_while0b_call4_v0 : Ref sig .tc := ⟨.hbm, 126, rfl⟩
abbrev main_while0b_call4_c : Ref sig .tc := ⟨.hbm, 127, rfl⟩
abbrev main_while0b_call4_c_0 : Ref sig .tc := ⟨.hbm, 128, rfl⟩
abbrev main_while0b_v100 : Ref sig .tc := ⟨.hbm, 129, rfl⟩
abbrev main_while0b_c_16 : Ref sig .tc := ⟨.hbm, 130, rfl⟩
abbrev main_while0b_v101 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_cst_8 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_cst_9 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_cst_10 : Ref sig .tc := ⟨.hbm, 144, rfl⟩
abbrev main_v88 : Ref sig .tc := ⟨.hbm, 145, rfl⟩
abbrev main_v89 : Ref sig .tc := ⟨.hbm, 146, rfl⟩
abbrev main_cst_11 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S16x2048x1024 : Shape := ⟨3, ![16, 2048, 1024]⟩
abbrev S16x2048x512 : Shape := ⟨3, ![16, 2048, 512]⟩
abbrev S512 : Shape := ⟨1, ![512]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S32768x1024 : Shape := ⟨2, ![32768, 1024]⟩
abbrev S16x2048x4x128 : Shape := ⟨4, ![16, 2048, 4, 128]⟩
abbrev S16x4x2048x128 : Shape := ⟨4, ![16, 4, 2048, 128]⟩
abbrev S1x512 : Shape := ⟨2, ![1, 512]⟩
abbrev S1x1024 : Shape := ⟨2, ![1, 1024]⟩
abbrev S1x4x1024x128 : Shape := ⟨4, ![1, 4, 1024, 128]⟩
abbrev S1x1x1024x128 : Shape := ⟨4, ![1, 1, 1024, 128]⟩
abbrev S1024x128 : Shape := ⟨2, ![1024, 128]⟩
abbrev S1024x512 : Shape := ⟨2, ![1024, 512]⟩
abbrev S1024x1 : Shape := ⟨2, ![1024, 1]⟩
abbrev S1024x768 : Shape := ⟨2, ![1024, 768]⟩
abbrev S768x1024 : Shape := ⟨2, ![768, 1024]⟩
abbrev S512x1024 : Shape := ⟨2, ![512, 1024]⟩

abbrev nBuf : Space → Nat
  | .hbm => 23
  | .vmem => 15
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024x5632, .f32⟩
  | .hbm, ⟨8, _⟩ => ⟨S2816x1024, .f32⟩
  | .hbm, ⟨9, _⟩ => ⟨S1024, .f32⟩
  | .hbm, ⟨10, _⟩ => ⟨S32768x1024, .f32⟩
  | .hbm, ⟨11, _⟩ => ⟨S1024x5632, .bf16⟩
  | .hbm, ⟨12, _⟩ => ⟨S2816x1024, .bf16⟩
  | .hbm, ⟨13, _⟩ => ⟨S16x2048x4x128, .f32⟩
  | .hbm, ⟨14, _⟩ => ⟨S16x4x2048x128, .f32⟩
  | .hbm, ⟨15, _⟩ => ⟨S16x2048x4x128, .f32⟩
  | .hbm, ⟨16, _⟩ => ⟨S16x4x2048x128, .f32⟩
  | .hbm, ⟨17, _⟩ => ⟨S1024x1024, .bf16⟩
  | .hbm, ⟨18, _⟩ => ⟨S1x512, .f32⟩
  | .hbm, ⟨19, _⟩ => ⟨S1x512, .f32⟩
  | .hbm, ⟨20, _⟩ => ⟨S1x1024, .f32⟩
  | .hbm, ⟨21, _⟩ => ⟨S1x1024, .f32⟩
  | .hbm, ⟨22, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x4x1024x128, .f32⟩
  | .local _ .vmem, ⟨3, _⟩ => ⟨S1x4x1024x128, .f32⟩
  | .local _ .vmem, ⟨4, _⟩ => ⟨S1x4x1024x128, .f32⟩
  | .local _ .vmem, ⟨5, _⟩ => ⟨S1x4x1024x128, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S1x1024, .f32⟩
  | .local _ .vmem, ⟨10, _⟩ => ⟨S1024x5632, .bf16⟩
  | .local _ .vmem, ⟨11, _⟩ => ⟨S2816x1024, .bf16⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_2 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel2Ideal.lean ====
variable {F : FTy → Type} [FloatOps F] [Named F]
def κ : String → Option EReal := fun
  | "neg_log2e" => some ((-((Real.log 2)⁻¹) : ℝ) : EReal)
  | _ => none
-- ==== Reference2Ideal.lean ====
abbrev S16x2048x1024 : Shape := ⟨3, ![16, 2048, 1024]⟩
abbrev S16x2048x512 : Shape := ⟨3, ![16, 2048, 512]⟩
abbrev S512 : Shape := ⟨1, ![512]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16x2048 : Shape := ⟨2, ![16, 2048]⟩
abbrev S16x2048x1 : Shape := ⟨3, ![16, 2048, 1]⟩
abbrev S1x1x512 : Shape := ⟨3, ![1, 1, 512]⟩
abbrev S1x1x1024 : Shape := ⟨3, ![1, 1, 1024]⟩
abbrev S16x2048x5632 : Shape := ⟨3, ![16, 2048, 5632]⟩
abbrev S16x2048x2816 : Shape := ⟨3, ![16, 2048, 2816]⟩
abbrev S32768x1024 : Shape := ⟨2, ![32768, 1024]⟩

abbrev nBuf : Space → Nat
  | .hbm => 96
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024x5632, .f32⟩
  | .hbm, ⟨8, _⟩ => ⟨S2816x1024, .f32⟩
  | .hbm, ⟨9, _⟩ => ⟨S1024, .f32⟩
  | .hbm, ⟨10, _⟩ => ⟨S16x2048x512, .f32⟩
  | .hbm, ⟨11, _⟩ => ⟨S_, .f32⟩
  | .hbm, ⟨12, _⟩ => ⟨S16x2048, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S16x2048x1, .f32⟩
  | .hbm, ⟨21, _⟩ => ⟨S16x2048x512, .f32⟩
  | .hbm, ⟨22, _⟩ => ⟨S16x2048x512, .f32⟩
  | .hbm, ⟨23, _⟩ => ⟨S1x1x512, .f32⟩
  | .hbm, ⟨24, _⟩ => ⟨S16x2048x512, .f32⟩
  | .hbm, ⟨25, _⟩ => ⟨S16x2048x512, .f32⟩
  | .hbm, ⟨26, _⟩ => ⟨S16x2048x512, .f32⟩
  | .hbm, ⟨27, _⟩ => ⟨S_, .f32⟩
  | .hbm, ⟨28, _⟩ => ⟨S16x2048, .f32⟩
  | .hbm, ⟨29, _⟩ => ⟨S16x2048x1, .f32⟩
  | .hbm, ⟨30, _⟩ => ⟨S_, .f32⟩
  | .hbm, ⟨31, _⟩ => ⟨S16x2048x1, .f32⟩
  | .hbm, ⟨32, _⟩ => ⟨S16x2048x1, .f32⟩
  | .hbm, ⟨33, _⟩ => ⟨S_, .f32⟩
  | .hbm, ⟨34, _⟩ => ⟨S16x2048x1, .f32⟩
  | .hbm, ⟨35, _⟩ => ⟨S16x2048x1, .f32⟩
  | .hbm, ⟨36, _⟩ => ⟨S16x2048x1, .f32⟩
  | .hbm, ⟨37, _⟩ => ⟨S16x2048x512, .f32⟩
  | .hbm, ⟨38, _⟩ => ⟨S16x2048x512, .f32⟩
  | .hbm, ⟨39, _⟩ => ⟨S1x1x512, .f32⟩
  | .hbm, ⟨40, _⟩ => ⟨S16x2048x512, .f32⟩
  | .hbm, ⟨41, _⟩ => ⟨S16x2048x512, .f32⟩
  | .hbm, ⟨42, _⟩ => ⟨S16x2048x1024, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S_, .f32⟩
  | .hbm, ⟨47, _⟩ => ⟨S16x2048, .f32⟩
  | .hbm, ⟨48, _⟩ => ⟨S16x2048x1, .f32⟩
  | .hbm, ⟨49, _⟩ => ⟨S_, .f32⟩
  | .hbm, ⟨50, _⟩ => ⟨S16x2048x1, .f32⟩
  | .hbm, ⟨51, _⟩ => ⟨S16x2048x1, .f32⟩
  | .hbm, ⟨52, _⟩ => ⟨S_, .f32⟩
  | .hbm, ⟨53, _⟩ => ⟨S16x2048x1, .f32⟩
  | .hbm, ⟨54, _⟩ => ⟨S16x2048x1, .f32⟩
  | .hbm, ⟨55, _⟩ => ⟨S16x2048x1, .f32⟩
  | .hbm, ⟨56, _⟩ => ⟨S16x2048x1024, .f32⟩
  | .hbm, ⟨57, _⟩ => ⟨S16x2048x1024, .f32⟩
  | .hbm, ⟨58, _⟩ => ⟨S1x1x1024, .f32⟩
  | .hbm, ⟨59, _⟩ => ⟨S16x2048x1024, .f32⟩
  | .hbm, ⟨60, _⟩ => ⟨S16x2048x1024, .f32⟩
  | .hbm, ⟨61, _⟩ => ⟨S16x2048x5632, .f32⟩
  | .hbm, ⟨62, _⟩ => ⟨S16x2048x2816, .f32⟩
  | .hbm, ⟨63, _⟩ => ⟨S16x2048x2816, .f32⟩
  | .hbm, ⟨64, _⟩ => ⟨S16x2048x2816, .f32⟩
  | .hbm, ⟨65, _⟩ => ⟨S16x2048x2816, .f32⟩
  | .hbm, ⟨66, _⟩ => ⟨S_, .f32⟩
  | .hbm, ⟨67, _⟩ => ⟨S16x2048x2816, .f32⟩
  | .hbm, ⟨68, _⟩ => ⟨S16x2048x2816, .f32⟩
  | .hbm, ⟨69, _⟩ => ⟨S_, .f32⟩
  | .hbm, ⟨70, _⟩ => ⟨S16x2048x2816, .f32⟩
  | .hbm, ⟨71, _⟩ => ⟨S16x2048x2816, .f32⟩
  | .hbm, ⟨72, _⟩ => ⟨S16x2048x2816, .f32⟩
  | .hbm, ⟨73, _⟩ => ⟨S16x2048x2816, .f32⟩
  | .hbm, ⟨74, _⟩ => ⟨S16x2048x1024, .f32⟩
  | .hbm, ⟨75, _⟩ => ⟨S_, .f32⟩
  | .hbm, ⟨76, _⟩ => ⟨S16x2048x1024, .f32⟩
  | .hbm, ⟨77, _⟩ => ⟨S16x2048x1024, .f32⟩
  | .hbm, ⟨78, _⟩ => ⟨S16x2048x1024, .f32⟩
  | .hbm, ⟨79, _⟩ => ⟨S16x2048x1024, .f32⟩
  | .hbm, ⟨80, _⟩ => ⟨S_, .f32⟩
  | .hbm, ⟨81, _⟩ => ⟨S16x2048, .f32⟩
  | .hbm, ⟨82, _⟩ => ⟨S16x2048x1, .f32⟩
  | .hbm, ⟨83, _⟩ => ⟨S_, .f32⟩
  | .hbm, ⟨84, _⟩ => ⟨S16x2048x1, .f32⟩
  | .hbm, ⟨85, _⟩ => ⟨S16x2048x1, .f32⟩
  | .hbm, ⟨86, _⟩ => ⟨S_, .f32⟩
  | .hbm, ⟨87, _⟩ => ⟨S16x2048x1, .f32⟩
  | .hbm, ⟨88, _⟩ => ⟨S16x2048x1, .f32⟩
  | .hbm, ⟨89, _⟩ => ⟨S16x2048x1, .f32⟩
  | .hbm, ⟨90, _⟩ => ⟨S16x2048x1024, .f32⟩
  | .hbm, ⟨91, _⟩ => ⟨S16x2048x1024, .f32⟩
  | .hbm, ⟨92, _⟩ => ⟨S1x1x1024, .f32⟩
  | .hbm, ⟨93, _⟩ => ⟨S16x2048x1024, .f32⟩
  | .hbm, ⟨94, _⟩ => ⟨S16x2048x1024, .f32⟩
  | .hbm, ⟨95, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_call0_v5 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_8 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_9 : Ref sig .tc := ⟨.hbm, 80, rfl⟩
abbrev main_v52 : Ref sig .tc := ⟨.hbm, 81, rfl⟩
abbrev main_v53 : Ref sig .tc := ⟨.hbm, 82, rfl⟩
abbrev main_cst_10 : Ref sig .tc := ⟨.hbm, 83, rfl⟩
abbrev main_v54 : Ref sig .tc := ⟨.hbm, 84, rfl⟩
abbrev main_v55 : Ref sig .tc := ⟨.hbm, 85, rfl⟩
abbrev main_cst_11 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩

abbrev nD : Nat := 1
abbrev τ : Topo := Topo.v7x

variable {F : FTy → Type} [FloatOps F]
-- ==== Kernel3.lean ====
abbrev S16x2048x1024 : Shape := ⟨3, ![16, 2048, 1024]⟩
abbrev S1024 : Shape := ⟨1, ![1024]⟩
abbrev S1024x5632 : Shape := ⟨2, ![1024, 5632]⟩
abbrev S2816x1024 : Shape := ⟨2, ![2816, 1024]⟩
abbrev S32768x1024 : Shape := ⟨2, ![32768, 1024]⟩
abbrev S1x1024 : Shape := ⟨2, ![1, 1024]⟩
abbrev S1024x1024 : Shape := ⟨2, ![1024, 1024]⟩
abbrev S1024x1 : Shape := ⟨2, ![1024, 1]⟩
abbrev S1024x1536 : Shape := ⟨2, ![1024, 1536]⟩
abbrev S1536x1024 : Shape := ⟨2, ![1536, 1024]⟩
abbrev S1024x1280 : Shape := ⟨2, ![1024, 1280]⟩
abbrev S1280x1024 : Shape := ⟨2, ![1280, 1024]⟩

abbrev nBuf : Space → Nat
  | .hbm => 9
  | .vmem => 7
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S32768x1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1024x1024, .f32⟩
  | .local _ .vmem, ⟨6, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel3Ideal.lean ====
variable {F : FTy → Type} [FloatOps F] [Named F]
def κ : String → Option EReal := fun
  | "neg_log2e" => some ((-((Real.log 2)⁻¹) : ℝ) : EReal)
  | _ => none
-- ==== Reference3Ideal.lean ====
abbrev S16x2048x1024 : Shape := ⟨3, ![16, 2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩
abbrev S32768x1024 : Shape := ⟨2, ![32768, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16x2048x1024, .f32⟩
  | .hbm, ⟨5, _⟩ => ⟨S_, .f32⟩
  | .hbm, ⟨6, _⟩ => ⟨S16x2048, .f32⟩
  | .hbm, ⟨7, _⟩ => ⟨S16x2048x1, .f32⟩
  | .hbm, ⟨8, _⟩ => ⟨S_, .f32⟩
  | .hbm, ⟨9, _⟩ => ⟨S16x2048x1, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S16x2048x1, .f32⟩
  | .hbm, ⟨15, _⟩ => ⟨S16x2048x1024, .f32⟩
  | .hbm, ⟨16, _⟩ => ⟨S16x2048x1024, .f32⟩
  | .hbm, ⟨17, _⟩ => ⟨S1x1x1024, .f32⟩
  | .hbm, ⟨18, _⟩ => ⟨S16x2048x1024, .f32⟩
  | .hbm, ⟨19, _⟩ => ⟨S16x2048x1024, .f32⟩
  | .hbm, ⟨20, _⟩ => ⟨S16x2048x5632, .f32⟩
  | .hbm, ⟨21, _⟩ => ⟨S16x2048x2816, .f32⟩
  | .hbm, ⟨22, _⟩ => ⟨S16x2048x2816, .f32⟩
  | .hbm, ⟨23, _⟩ => ⟨S16x2048x2816, .f32⟩
  | .hbm, ⟨24, _⟩ => ⟨S16x2048x2816, .f32⟩
  | .hbm, ⟨25, _⟩ => ⟨S_, .f32⟩
  | .hbm, ⟨26, _⟩ => ⟨S16x2048x2816, .f32⟩
  | .hbm, ⟨27, _⟩ => ⟨S16x2048x2816, .f32⟩
  | .hbm, ⟨28, _⟩ => ⟨S_, .f32⟩
  | .hbm, ⟨29, _⟩ => ⟨S16x2048x2816, .f32⟩
  | .hbm, ⟨30, _⟩ => ⟨S16x2048x2816, .f32⟩
  | .hbm, ⟨31, _⟩ => ⟨S16x2048x2816, .f32⟩
  | .hbm, ⟨32, _⟩ => ⟨S16x2048x2816, .f32⟩
  | .hbm, ⟨33, _⟩ => ⟨S16x2048x1024, .f32⟩
  | .hbm, ⟨34, _⟩ => ⟨S_, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Kernel4.lean ====
abbrev S16x2048x1024 : Shape := ⟨3, ![16, 2048, 1024]⟩
abbrev S1024 : Shape := ⟨1, ![1024]⟩
abbrev S1024x2560 : Shape := ⟨2, ![1024, 2560]⟩
abbrev S2048x32 : Shape := ⟨2, ![2048, 32]⟩
abbrev S1024x512 : Shape := ⟨2, ![1024, 512]⟩
abbrev S1024x2x4x2x32 : Shape := ⟨5, ![1024, 2, 4, 2, 32]⟩
abbrev S1024x2x2x4x32 : Shape := ⟨5, ![1024, 2, 2, 4, 32]⟩
abbrev S1024x1536 : Shape := ⟨2, ![1024, 1536]⟩
abbrev S32768x1024 : Shape := ⟨2, ![32768, 1024]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S1x1024 : Shape := ⟨2, ![1, 1024]⟩
abbrev S16x20x2048x128 : Shape := ⟨4, ![16, 20, 2048, 128]⟩
abbrev S1024x1024 : Shape := ⟨2, ![1024, 1024]⟩
abbrev S1024x128 : Shape := ⟨2, ![1024, 128]⟩
abbrev S1x20x1024x128 : Shape := ⟨4, ![1, 20, 1024, 128]⟩
abbrev S1024x1 : Shape := ⟨2, ![1024, 1]⟩
abbrev S1x1x1024x128 : Shape := ⟨4, ![1, 1, 1024, 128]⟩

abbrev nBuf : Space → Nat
  | .hbm => 25
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x2560, .f32⟩
  | .hbm, ⟨3, _⟩ => ⟨S2048x32, .f32⟩
  | .hbm, ⟨4, _⟩ => ⟨S2048x32, .f32⟩
  | .hbm, ⟨5, _⟩ => ⟨S1024x2560, .bf16⟩
  | .hbm, ⟨6, _⟩ => ⟨S1024x512, .bf16⟩
  | .hbm, ⟨7, _⟩ => ⟨S1024x2x4x2x32, .bf16⟩
  | .hbm, ⟨8, _⟩ => ⟨S1024x2x2x4x32, .bf16⟩
  | .hbm, ⟨9, _⟩ => ⟨S1024x512, .bf16⟩
  | .hbm, ⟨10, _⟩ => ⟨S1024x512, .bf16⟩
  | .hbm, ⟨11, _⟩ => ⟨S1024x2x4x2x32, .bf16⟩
  | .hbm, ⟨12, _⟩ => ⟨S1024x2x2x4x32, .bf16⟩
  | .hbm, ⟨13, _⟩ => ⟨S1024x512, .bf16⟩
  | .hbm, ⟨14, _⟩ => ⟨S1024x1536, .bf16⟩
  | .hbm, ⟨15, _⟩ => ⟨S1024x2560, .bf16⟩
  | .hbm, ⟨16, _⟩ => ⟨S32768x1024, .f32⟩
  | .hbm, ⟨17, _⟩ => ⟨S1x2048x1x32, .f32⟩
  | .hbm, ⟨18, _⟩ => ⟨S1x2048x4x32, .f32⟩
  | .hbm, ⟨19, _⟩ => ⟨S2048x128, .f32⟩
  | .hbm, ⟨20, _⟩ => ⟨S1x2048x1x32, .f32⟩
  | .hbm, ⟨21, _⟩ => ⟨S1x2048x4x32, .f32⟩
  | .hbm, ⟨22, _⟩ => ⟨S2048x128, .f32⟩
  | .hbm, ⟨23, _⟩ => ⟨S1x1024, .f32⟩
  | .hbm, ⟨24, _⟩ => ⟨S16x20x2048x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2560, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x20x1024x128, .f32⟩
  | .local _ .vmem, ⟨9, _⟩ => ⟨S1x20x1024x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x20x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel4Ideal.lean ====
variable {F : FTy → Type} [FloatOps F] [Named F]
def κ : String → Option EReal := fun
  | "q_scale" => some (((8 * (Real.log 2))⁻¹ : ℝ) : EReal)
  | _ => none
-- ==== Reference4Ideal.lean ====
abbrev S16x2048x1024 : Shape := ⟨3, ![16, 2048, 1024]⟩
abbrev S1024 : Shape := ⟨1, ![1024]⟩
abbrev S1024x2560 : Shape := ⟨2, ![1024, 2560]⟩
abbrev S2048x32 : Shape := ⟨2, ![2048, 32]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2560 : Shape := ⟨3, ![16, 2048, 2560]⟩
abbrev S16x2048x512 : Shape := ⟨3, ![16, 2048, 512]⟩
abbrev S16x2048x8x64 : Shape := ⟨4, ![16, 2048, 8, 64]⟩
abbrev S16x2048x8x32 : Shape := ⟨4, ![16, 2048, 8, 32]⟩
abbrev S1x2048x1x32 : Shape := ⟨4, ![1, 2048, 1, 32]⟩
abbrev S16x2048x1536 : Shape := ⟨3, ![16, 2048, 1536]⟩
abbrev S16x2048x12x128 : Shape := ⟨4, ![16, 2048, 12, 128]⟩
abbrev S16x12x2048x128 : Shape := ⟨4, ![16, 12, 2048, 128]⟩
abbrev S16x2048x2x4x2x32 : Shape := ⟨6, ![16, 2048, 2, 4, 2, 32]⟩
abbrev S16x2x2x2048x4x32 : Shape := ⟨6, ![16, 2, 2, 2048, 4, 32]⟩
abbrev S16x4x2048x128 : Shape := ⟨4, ![16, 4, 2048, 128]⟩
abbrev S16x20x2048x128 : Shape := ⟨4, ![16, 20, 2048, 128]⟩

abbrev nBuf : Space → Nat
  | .hbm => 74
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x2560, .f32⟩
  | .hbm, ⟨3, _⟩ => ⟨S2048x32, .f32⟩
  | .hbm, ⟨4, _⟩ => ⟨S2048x32, .f32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S16x2048x2560, .f32⟩
  | .hbm, ⟨22, _⟩ => ⟨S16x2048x512, .f32⟩
  | .hbm, ⟨23, _⟩ => ⟨S16x2048x8x64, .f32⟩
  | .hbm, ⟨24, _⟩ => ⟨S16x2048x8x32, .f32⟩
  | .hbm, ⟨25, _⟩ => ⟨S16x2048x8x32, .f32⟩
  | .hbm, ⟨26, _⟩ => ⟨S1x2048x1x32, .f32⟩
  | .hbm, ⟨27, _⟩ => ⟨S1x2048x1x32, .f32⟩
  | .hbm, ⟨28, _⟩ => ⟨S16x2048x8x32, .f32⟩
  | .hbm, ⟨29, _⟩ => ⟨S16x2048x8x32, .f32⟩
  | .hbm, ⟨30, _⟩ => ⟨S16x2048x8x32, .f32⟩
  | .hbm, ⟨31, _⟩ => ⟨S16x2048x8x32, .f32⟩
  | .hbm, ⟨32, _⟩ => ⟨S16x2048x8x32, .f32⟩
  | .hbm, ⟨33, _⟩ => ⟨S16x2048x8x32, .f32⟩
  | .hbm, ⟨34, _⟩ => ⟨S16x2048x8x32, .f32⟩
  | .hbm, ⟨35, _⟩ => ⟨S16x2048x8x32, .f32⟩
  | .hbm, ⟨36, _⟩ => ⟨S16x2048x8x32, .f32⟩
  | .hbm, ⟨37, _⟩ => ⟨S16x2048x8x32, .f32⟩
  | .hbm, ⟨38, _⟩ => ⟨S16x2048x8x64, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S16x2048x8x64, .f32⟩
  | .hbm, ⟨46, _⟩ => ⟨S16x2048x8x64, .f32⟩
  | .hbm, ⟨47, _⟩ => ⟨S16x2048x512, .f32⟩
  | .hbm, ⟨48, _⟩ => ⟨S16x2048x8x64, .f32⟩
  | .hbm, ⟨49, _⟩ => ⟨S16x2048x8x32, .f32⟩
  | .hbm, ⟨50, _⟩ => ⟨S16x2048x8x32, .f32⟩
  | .hbm, ⟨51, _⟩ => ⟨S1x2048x1x32, .f32⟩
  | .hbm, ⟨52, _⟩ => ⟨S1x2048x1x32, .f32⟩
  | .hbm, ⟨53, _⟩ => ⟨S16x2048x8x32, .f32⟩
  | .hbm, ⟨54, _⟩ => ⟨S16x2048x8x32, .f32⟩
  | .hbm, ⟨55, _⟩ => ⟨S16x2048x8x32, .f32⟩
  | .hbm, ⟨56, _⟩ => ⟨S16x2048x8x32, .f32⟩
  | .hbm, ⟨57, _⟩ => ⟨S16x2048x8x32, .f32⟩
  | .hbm, ⟨58, _⟩ => ⟨S16x2048x8x32, .f32⟩
  | .hbm, ⟨59, _⟩ => ⟨S16x2048x8x32, .f32⟩
  | .hbm, ⟨60, _⟩ => ⟨S16x2048x8x32, .f32⟩
  | .hbm, ⟨61, _⟩ => ⟨S16x2048x8x32, .f32⟩
  | .hbm, ⟨62, _⟩ => ⟨S16x2048x8x32, .f32⟩
  | .hbm, ⟨63, _⟩ => ⟨S16x2048x8x64, .f32⟩
  | .hbm, ⟨64, _⟩ => ⟨S16x2048x1536, .f32⟩
  | .hbm, ⟨65, _⟩ => ⟨S16x2048x12x128, .f32⟩
  | .hbm, ⟨66, _⟩ => ⟨S16x12x2048x128, .f32⟩
  | .hbm, ⟨67, _⟩ => ⟨S16x2048x2x4x2x32, .f32⟩
  | .hbm, ⟨68, _⟩ => ⟨S16x2x2x2048x4x32, .f32⟩
  | .hbm, ⟨69, _⟩ => ⟨S16x4x2048x128, .f32⟩
  | .hbm, ⟨70, _⟩ => ⟨S16x2048x2x4x2x32, .f32⟩
  | .hbm, ⟨71, _⟩ => ⟨S16x2x2x2048x4x32, .f32⟩
  | .hbm, ⟨72, _⟩ => ⟨S16x4x2048x128, .f32⟩
  | .hbm, ⟨73, _⟩ => ⟨S16x20x2048x128, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩

abbrev nD : Nat := 1
abbrev τ : Topo := Topo.v7x

variable {F : FTy → Type} [FloatOps F]
-- ==== Proof.Rec.FrameBits.lean ====
module

public import proofs.«01_k».proof.Proof.Rec.RunBits

/-! The frame of the recurrence call: the triple of its body, the proof data, the body obligation, the launch. -/

@[expose] public section

set_option maxRecDepth 16384

noncomputable section

namespace Cert.Kernel.Rec

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- `Y` is what one run of the body may leave in the output's buffer where the input buffers read `x1`, …, `x8`. -/
def Leaves (x1 : Vec F S1x4x2048x128 .f32) (x2 : Vec F S1x4x2048x128 .f32) (x3 : Vec F S4x4x128 .f32) (x4 : Vec F S4x1x128 .f32) (x5 : Vec F S4x128x256 .bf16) (x6 : Vec F S4x1x128 .f32) (x7 : Vec F S4x1x128 .f32) (x8 : Vec F S4x1x128 .f32) (Y : Vec F S1x4x2048x128 .f32) : Prop :=
  ∃ (c : Dev nD) (i : grid0.Coords) (arg1 : Memref sig .tc .vmem S1x4x2048x128 .f32) (harg1 : arg1.IsWhole) (arg2 : Memref sig .tc .vmem S1x4x2048x128 .f32) (harg2 : arg2.IsWhole) (arg3 : Memref sig .tc .vmem S4x4x128 .f32) (harg3 : arg3.IsWhole) (arg4 : Memref sig .tc .vmem S4x1x128 .f32) (harg4 : arg4.IsWhole) (arg5 : Memref sig .tc .vmem S4x128x256 .bf16) (harg5 : arg5.IsWhole) (arg6 : Memref sig .tc .vmem S4x1x128 .f32) (harg6 : arg6.IsWhole) (arg7 : Memref sig .tc .vmem S4x1x128 .f32) (harg7 : arg7.IsWhole) (arg8 : Memref sig .tc .vmem S4x1x128 .f32) (harg8 : arg8.IsWhole) (arg9 : Memref sig .tc .vmem S1x4x2048x128 .f32) (harg9 : arg9.IsWhole) (arg10 : Memref sig .tc .vmem S4x8x256x128 .f32) (harg10 : arg10.IsWhole) (arg11 : Memref sig .tc .vmem S4x8x256x128 .f32) (harg11 : arg11.IsWhole) (arg12 : Memref sig .tc .vmem S4x264x128 .f32) (harg12 : arg12.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty),
    arg1.view.read (Elt F) f1 = x1 ∧ arg2.view.read (Elt F) f2 = x2 ∧ arg3.view.read (Elt F) f3 = x3 ∧ arg4.view.read (Elt F) f4 = x4 ∧ arg5.view.read (Elt F) f5 = x5 ∧ arg6.view.read (Elt F) f6 = x6 ∧ arg7.view.read (Elt F) f7 = x7 ∧ arg8.view.read (Elt F) f8 = x8
    ∧ Y = arg9.view.read (Elt F) (arg9.view.writes (Elt F) f9 ((run c i arg1 harg1 arg2 harg2 arg3 harg3 arg4 harg4 arg5 harg5 arg6 harg6 arg7 harg7 arg8 harg8 arg9 harg9 arg10 harg10 arg11 harg11 arg12 harg12 f1 f2 f3 f4 f5 f6 f7 f8).1 f12))

/-- The body's triple: the inputs are kept, the output's buffer holds something the body may leave, the scratch is free again. -/
theorem sound_kernel (c : Dev nD) (E : Set ℕ) (i : grid0.Coords) (arg1 : Memref sig .tc .vmem S1x4x2048x128 .f32) (harg1 : arg1.IsWhole) (arg2 : Memref sig .tc .vmem S1x4x2048x128 .f32) (harg2 : arg2.IsWhole) (arg3 : Memref sig .tc .vmem S4x4x128 .f32) (harg3 : arg3.IsWhole) (arg4 : Memref sig .tc .vmem S4x1x128 .f32) (harg4 : arg4.IsWhole) (arg5 : Memref sig .tc .vmem S4x128x256 .bf16) (harg5 : arg5.IsWhole) (arg6 : Memref sig .tc .vmem S4x1x128 .f32) (harg6 : arg6.IsWhole) (arg7 : Memref sig .tc .vmem S4x1x128 .f32) (harg7 : arg7.IsWhole) (arg8 : Memref sig .tc .vmem S4x1x128 .f32) (harg8 : arg8.IsWhole) (arg9 : Memref sig .tc .vmem S1x4x2048x128 .f32) (harg9 : arg9.IsWhole) (arg10 : Memref sig .tc .vmem S4x8x256x128 .f32) (harg10 : arg10.IsWhole) (arg11 : Memref sig .tc .vmem S4x8x256x128 .f32) (harg11 : arg11.IsWhole) (arg12 : Memref sig .tc .vmem S4x264x128 .f32) (harg12 : arg12.IsWhole)
    (x1 : Vec F S1x4x2048x128 .f32) (x2 : Vec F S1x4x2048x128 .f32) (x3 : Vec F S4x4x128 .f32) (x4 : Vec F S4x1x128 .f32) (x5 : Vec F S4x128x256 .bf16) (x6 : Vec F S4x1x128 .f32) (x7 : Vec F S4x1x128 .f32) (x8 : Vec F S4x1x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ Y, ⌜Leaves x1 x2 x3 x4 x5 x6 x7 x8 Y⌝ ∗ owns (c : Thread nD τ) arg9 fullShare Y) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none (c : Thread nD τ) none) E (cc0_rglru (F := F) i arg1 harg1 arg2 harg2 arg3 harg3 arg4 harg4 arg5 harg5 arg6 harg6 arg7 harg7 arg8 harg8 arg9 harg9 arg10 harg10 arg11 harg11 arg12 harg12) K := by
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%d9, %f9, -, H9⟩, ⟨%d10, %f10, -, H10⟩, ⟨%d11, %f11, -, H11⟩, ⟨%d12, %f12, -, H12⟩, Hk⟩
  iapply (wp_wand_r frame (wpE (defs₀ (F := F)) Variants.none (c : Thread nD τ) none) E)
  isplitl [H1 H2 H3 H4 H5 H6 H7 H8 H9 H10 H11 H12]
  · iapply ((run c i arg1 harg1 arg2 harg2 arg3 harg3 arg4 harg4 arg5 harg5 arg6 harg6 arg7 harg7 arg8 harg8 arg9 harg9 arg10 harg10 arg11 harg11 arg12 harg12 f1 f2 f3 f4 f5 f6 f7 f8).2 E f9 f10 f11 f12)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iintro %u ⟨H1, H2, H3, H4, H5, H6, H7, H8, H9, ⟨%g10, H10⟩, ⟨%g11, H11⟩, ⟨%g12, H12⟩⟩
  iapply Hk
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  isplitl [H8]
  · iexists f8; isplitr; · ipureintro; exact h8
    iexact H8
  isplitl [H9]
  · iexists _; isplitr; swap
    · iexists _; isplitr; swap; · iexact H9
      ipureintro; rfl
    ipureintro
    exact ⟨c, i, arg1, harg1, arg2, harg2, arg3, harg3, arg4, harg4, arg5, harg5, arg6, harg6, arg7, harg7, arg8, harg8, arg9, harg9, arg10, harg10, arg11, harg11, arg12, harg12, f1, f2, f3, f4, f5, f6, f7, f8, f9, f10, f11, f12, h1, h2, h3, h4, h5, h6, h7, h8, rfl⟩
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

variable (m : (ℓ : Loc nD τ sig) → Buf (Elt F) ℓ) (ρ : Dev nD → PrngReg)

/-- The proof data: every input's block stays as it was; what the output's buffer is left with is not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Pipeline.Dat.unnamed (cfg := cfg0) 8 t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point `t`, -/
def bodyPre (c : Dev nD) (t : Fin cfg0.N) : sProp 𝕄 :=
  iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare d))

/-- and what it returns. -/
def bodyPost (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ (∃ d, owns (c : Thread nD τ) (win0_8.stage (cfg0.slots t 8)) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3, after0_4, after0_5, after0_6, after0_7]
  unfold Pipeline.ΦA
  rw [scopedRest0_eq]
  simp only [← owns_whole]
  iintro ⟨⟨⟨Hs0, Hs1, Hs2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [Hs0]; · iexact Hs0
  isplitl [Hs1]; · iexact Hs1
  isplitl [Hs2]; · iexact Hs2
  iintro ⟨H0, H1, H2, H3, H4, H5, H6, H7, ⟨%Y, %hY, H8⟩, Hs0, Hs1, Hs2⟩
  isplitl [Hs0 Hs1 Hs2 Hg]
  · isplitl [Hs0 Hs1 Hs2]
    · isplitl [Hs0]; · iexact Hs0
      isplitl [Hs1]; · iexact Hs1
      iexact Hs2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The output is forgotten. -/
def forgets0 : Fin 9 → Bool := ![false, false, false, false, false, false, false, false, true]

/-- The body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in
/-- The launch: the arrays end at what the library computes of the proof data, every other unscoped buffer as it was at the region's
    entry, every counter at zero. -/
theorem run_main : θ_run defs (onTc (τ := τ) (main (F := F))) (s₀ m ρ) (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The frame: the arguments end as they began, every counter at zero. -/
theorem frame : θ_run defs (onTc (τ := τ) (main (F := F))) ⟨m, fun _ => 0, ρ⟩ (fun r => (∀ c : Dev nD, r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7)) ∧ r.2.sem = fun _ => 0) :=
  (θ_run defs _ _).mono (fun r h => ⟨fun c => ⟨((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c), ((h.1 c).2 main_arg5 (Pipeline.mem_restRefs_of main_arg5 (by decide) (by decide))).trans (V_main_arg5 m c), ((h.1 c).2 main_arg6 (Pipeline.mem_restRefs_of main_arg6 (by decide) (by decide))).trans (V_main_arg6 m c), ((h.1 c).2 main_arg7 (Pipeline.mem_restRefs_of main_arg7 (by decide) (by decide))).trans (V_main_arg7 m c)⟩, h.2⟩) (run_main m ρ)

end Cert.Kernel.Rec

end

end
-- ==== Proof.Rec.Run.lean ====
module

public import proofs.«01_k».proof.Proof.Gen.KernelIdeal.Frame
public import proofs.«01_k».proof.Proof.Gen.KernelIdeal.Loops

@[expose] public section

set_option maxRecDepth 65536

noncomputable section

namespace Cert.KernelIdeal.Rec

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 0 in
/-- ONE RUN OF THE BODY: from the eight input buffers, the output's buffer and the three scratch buffers, each at any
    contents, the body ends with the inputs as they were, the output's buffer written with a list of pieces that the run
    finds (it may name what the carry scratch held at the start) and the scratch buffers at some contents. -/
@[irreducible] def run (c : Dev nD) (i : grid0.Coords) (arg1 : Memref sig .tc .vmem S1x4x2048x128 .f32) (harg1 : arg1.IsWhole) (arg2 : Memref sig .tc .vmem S1x4x2048x128 .f32) (harg2 : arg2.IsWhole) (arg3 : Memref sig .tc .vmem S4x4x128 .f32) (harg3 : arg3.IsWhole) (arg4 : Memref sig .tc .vmem S4x1x128 .f32) (harg4 : arg4.IsWhole) (arg5 : Memref sig .tc .vmem S4x128x256 .bf16) (harg5 : arg5.IsWhole) (arg6 : Memref sig .tc .vmem S4x1x128 .f32) (harg6 : arg6.IsWhole) (arg7 : Memref sig .tc .vmem S4x1x128 .f32) (harg7 : arg7.IsWhole) (arg8 : Memref sig .tc .vmem S4x1x128 .f32) (harg8 : arg8.IsWhole) (arg9 : Memref sig .tc .vmem S1x4x2048x128 .f32) (harg9 : arg9.IsWhole) (arg10 : Memref sig .tc .vmem S4x8x256x128 .f32) (harg10 : arg10.IsWhole) (arg11 : Memref sig .tc .vmem S4x8x256x128 .f32) (harg11 : arg11.IsWhole) (arg12 : Memref sig .tc .vmem S4x264x128 .f32) (harg12 : arg12.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) :
    { L : BufTy.Contents (Elt F) arg12.view.ty → List (View.Piece (Elt F) S1x4x2048x128 .f32) // ∀ (E : Set ℕ)
      (f9 : BufTy.Contents (Elt F) arg9.view.ty) (f10 : BufTy.Contents (Elt F) arg10.view.ty) (f11 : BufTy.Contents (Elt F) arg11.view.ty) (f12 : BufTy.Contents (Elt F) arg12.view.ty),
      (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄)
      ⊢ wp frame (wpE (defs₀ (F := F)) Variants.none (c : Thread nD τ) none) E (cc0_rglru (F := F) i arg1 harg1 arg2 harg2 arg3 harg3 arg4 harg4 arg5 harg5 arg6 harg6 arg7 harg7 arg8 harg8 arg9 harg9 arg10 harg10 arg11 harg11 arg12 harg12)
          (fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} (arg9.view.writes (Elt F) f9 (L f12))) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)))) } := by
  refine ⟨?_, fun E f9 f10 f11 f12 => ?run⟩
  case run =>
    simp only [cc0_rglru_eq_skeleton]; unfold cc0_rglru_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton]
    iintro ⟨H1, H2, H3, H4, H5, H6, H7, H8, H9, H10, H11, H12⟩
    sl_exec
    sl_step
    sl_close

end Cert.KernelIdeal.Rec

end
-- ==== Proof.Rec.Frame.lean ====
module

public import proofs.«01_k».proof.Proof.Rec.Run

/-! The frame of the recurrence call: the triple of its body, the proof data, the body obligation, the launch. -/

@[expose] public section

set_option maxRecDepth 16384

noncomputable section

namespace Cert.KernelIdeal.Rec

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- `Y` is what one run of the body may leave in the output's buffer where the input buffers read `x1`, …, `x8`. -/
def Leaves (x1 : Vec F S1x4x2048x128 .f32) (x2 : Vec F S1x4x2048x128 .f32) (x3 : Vec F S4x4x128 .f32) (x4 : Vec F S4x1x128 .f32) (x5 : Vec F S4x128x256 .bf16) (x6 : Vec F S4x1x128 .f32) (x7 : Vec F S4x1x128 .f32) (x8 : Vec F S4x1x128 .f32) (Y : Vec F S1x4x2048x128 .f32) : Prop :=
  ∃ (c : Dev nD) (i : grid0.Coords) (arg1 : Memref sig .tc .vmem S1x4x2048x128 .f32) (harg1 : arg1.IsWhole) (arg2 : Memref sig .tc .vmem S1x4x2048x128 .f32) (harg2 : arg2.IsWhole) (arg3 : Memref sig .tc .vmem S4x4x128 .f32) (harg3 : arg3.IsWhole) (arg4 : Memref sig .tc .vmem S4x1x128 .f32) (harg4 : arg4.IsWhole) (arg5 : Memref sig .tc .vmem S4x128x256 .bf16) (harg5 : arg5.IsWhole) (arg6 : Memref sig .tc .vmem S4x1x128 .f32) (harg6 : arg6.IsWhole) (arg7 : Memref sig .tc .vmem S4x1x128 .f32) (harg7 : arg7.IsWhole) (arg8 : Memref sig .tc .vmem S4x1x128 .f32) (harg8 : arg8.IsWhole) (arg9 : Memref sig .tc .vmem S1x4x2048x128 .f32) (harg9 : arg9.IsWhole) (arg10 : Memref sig .tc .vmem S4x8x256x128 .f32) (harg10 : arg10.IsWhole) (arg11 : Memref sig .tc .vmem S4x8x256x128 .f32) (harg11 : arg11.IsWhole) (arg12 : Memref sig .tc .vmem S4x264x128 .f32) (harg12 : arg12.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty),
    arg1.view.read (Elt F) f1 = x1 ∧ arg2.view.read (Elt F) f2 = x2 ∧ arg3.view.read (Elt F) f3 = x3 ∧ arg4.view.read (Elt F) f4 = x4 ∧ arg5.view.read (Elt F) f5 = x5 ∧ arg6.view.read (Elt F) f6 = x6 ∧ arg7.view.read (Elt F) f7 = x7 ∧ arg8.view.read (Elt F) f8 = x8
    ∧ Y = arg9.view.read (Elt F) (arg9.view.writes (Elt F) f9 ((run c i arg1 harg1 arg2 harg2 arg3 harg3 arg4 harg4 arg5 harg5 arg6 harg6 arg7 harg7 arg8 harg8 arg9 harg9 arg10 harg10 arg11 harg11 arg12 harg12 f1 f2 f3 f4 f5 f6 f7 f8).1 f12))

/-- The body's triple: the inputs are kept, the output's buffer holds something the body may leave, the scratch is free again. -/
theorem sound_kernel (c : Dev nD) (E : Set ℕ) (i : grid0.Coords) (arg1 : Memref sig .tc .vmem S1x4x2048x128 .f32) (harg1 : arg1.IsWhole) (arg2 : Memref sig .tc .vmem S1x4x2048x128 .f32) (harg2 : arg2.IsWhole) (arg3 : Memref sig .tc .vmem S4x4x128 .f32) (harg3 : arg3.IsWhole) (arg4 : Memref sig .tc .vmem S4x1x128 .f32) (harg4 : arg4.IsWhole) (arg5 : Memref sig .tc .vmem S4x128x256 .bf16) (harg5 : arg5.IsWhole) (arg6 : Memref sig .tc .vmem S4x1x128 .f32) (harg6 : arg6.IsWhole) (arg7 : Memref sig .tc .vmem S4x1x128 .f32) (harg7 : arg7.IsWhole) (arg8 : Memref sig .tc .vmem S4x1x128 .f32) (harg8 : arg8.IsWhole) (arg9 : Memref sig .tc .vmem S1x4x2048x128 .f32) (harg9 : arg9.IsWhole) (arg10 : Memref sig .tc .vmem S4x8x256x128 .f32) (harg10 : arg10.IsWhole) (arg11 : Memref sig .tc .vmem S4x8x256x128 .f32) (harg11 : arg11.IsWhole) (arg12 : Memref sig .tc .vmem S4x264x128 .f32) (harg12 : arg12.IsWhole)
    (x1 : Vec F S1x4x2048x128 .f32) (x2 : Vec F S1x4x2048x128 .f32) (x3 : Vec F S4x4x128 .f32) (x4 : Vec F S4x1x128 .f32) (x5 : Vec F S4x128x256 .bf16) (x6 : Vec F S4x1x128 .f32) (x7 : Vec F S4x1x128 .f32) (x8 : Vec F S4x1x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ Y, ⌜Leaves x1 x2 x3 x4 x5 x6 x7 x8 Y⌝ ∗ owns (c : Thread nD τ) arg9 fullShare Y) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none (c : Thread nD τ) none) E (cc0_rglru (F := F) i arg1 harg1 arg2 harg2 arg3 harg3 arg4 harg4 arg5 harg5 arg6 harg6 arg7 harg7 arg8 harg8 arg9 harg9 arg10 harg10 arg11 harg11 arg12 harg12) K := by
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%d9, %f9, -, H9⟩, ⟨%d10, %f10, -, H10⟩, ⟨%d11, %f11, -, H11⟩, ⟨%d12, %f12, -, H12⟩, Hk⟩
  iapply (wp_wand_r frame (wpE (defs₀ (F := F)) Variants.none (c : Thread nD τ) none) E)
  isplitl [H1 H2 H3 H4 H5 H6 H7 H8 H9 H10 H11 H12]
  · iapply ((run c i arg1 harg1 arg2 harg2 arg3 harg3 arg4 harg4 arg5 harg5 arg6 harg6 arg7 harg7 arg8 harg8 arg9 harg9 arg10 harg10 arg11 harg11 arg12 harg12 f1 f2 f3 f4 f5 f6 f7 f8).2 E f9 f10 f11 f12)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iintro %u ⟨H1, H2, H3, H4, H5, H6, H7, H8, H9, ⟨%g10, H10⟩, ⟨%g11, H11⟩, ⟨%g12, H12⟩⟩
  iapply Hk
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  isplitl [H8]
  · iexists f8; isplitr; · ipureintro; exact h8
    iexact H8
  isplitl [H9]
  · iexists _; isplitr; swap
    · iexists _; isplitr; swap; · iexact H9
      ipureintro; rfl
    ipureintro
    exact ⟨c, i, arg1, harg1, arg2, harg2, arg3, harg3, arg4, harg4, arg5, harg5, arg6, harg6, arg7, harg7, arg8, harg8, arg9, harg9, arg10, harg10, arg11, harg11, arg12, harg12, f1, f2, f3, f4, f5, f6, f7, f8, f9, f10, f11, f12, h1, h2, h3, h4, h5, h6, h7, h8, rfl⟩
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

variable (m : (ℓ : Loc nD τ sig) → Buf (Elt F) ℓ) (ρ : Dev nD → PrngReg) (o : Dev nD → Fin cfg0.N → Vec F S1x4x2048x128 .f32)

/-- The proof data: every input's block stays as it was; the output's buffer is left with `o`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => o c t
  Φ _ := Pipeline.ΦA spec0 c
  q w := Pipeline.shareOf spec0 w
  owed _ := 0

theorem A_eq (c : Dev nD) (w : Fin cfg0.W) : (dats m o 0 c).A w = V m c (Pipeline.arrRef spec0 w) := by dsimp only [dats]

theorem after0_0 (c : Dev nD) (t : Fin cfg0.N) : (dats m o 0 c).after 0 t = iblk m c 0 t := by dsimp only [dats]
theorem after0_1 (c : Dev nD) (t : Fin cfg0.N) : (dats m o 0 c).after 1 t = iblk m c 1 t := by dsimp only [dats]
theorem after0_2 (c : Dev nD) (t : Fin cfg0.N) : (dats m o 0 c).after 2 t = iblk m c 2 t := by dsimp only [dats]
theorem after0_3 (c : Dev nD) (t : Fin cfg0.N) : (dats m o 0 c).after 3 t = iblk m c 3 t := by dsimp only [dats]
theorem after0_4 (c : Dev nD) (t : Fin cfg0.N) : (dats m o 0 c).after 4 t = iblk m c 4 t := by dsimp only [dats]
theorem after0_5 (c : Dev nD) (t : Fin cfg0.N) : (dats m o 0 c).after 5 t = iblk m c 5 t := by dsimp only [dats]
theorem after0_6 (c : Dev nD) (t : Fin cfg0.N) : (dats m o 0 c).after 6 t = iblk m c 6 t := by dsimp only [dats]
theorem after0_7 (c : Dev nD) (t : Fin cfg0.N) : (dats m o 0 c).after 7 t = iblk m c 7 t := by dsimp only [dats]
theorem after0_8 (c : Dev nD) (t : Fin cfg0.N) : (dats m o 0 c).after 8 t = o c t := by dsimp only [dats]
theorem before0_0 (c : Dev nD) (t : Fin cfg0.N) (d) : (dats m o 0 c).before 0 t d = iblk m c 0 t :=
  before0_0_of m (dats m o 0 c) (A_eq m o c 0) (after0_0 m o c) t d
theorem before0_1 (c : Dev nD) (t : Fin cfg0.N) (d) : (dats m o 0 c).before 1 t d = iblk m c 1 t :=
  before0_1_of m (dats m o 0 c) (A_eq m o c 1) (after0_1 m o c) t d
theorem before0_2 (c : Dev nD) (t : Fin cfg0.N) (d) : (dats m o 0 c).before 2 t d = iblk m c 2 t :=
  before0_2_of m (dats m o 0 c) (A_eq m o c 2) (after0_2 m o c) t d
theorem before0_3 (c : Dev nD) (t : Fin cfg0.N) (d) : (dats m o 0 c).before 3 t d = iblk m c 3 t :=
  before0_3_of m (dats m o 0 c) (A_eq m o c 3) (after0_3 m o c) t d
theorem before0_4 (c : Dev nD) (t : Fin cfg0.N) (d) : (dats m o 0 c).before 4 t d = iblk m c 4 t :=
  before0_4_of m (dats m o 0 c) (A_eq m o c 4) (after0_4 m o c) t d
theorem before0_5 (c : Dev nD) (t : Fin cfg0.N) (d) : (dats m o 0 c).before 5 t d = iblk m c 5 t :=
  before0_5_of m (dats m o 0 c) (A_eq m o c 5) (after0_5 m o c) t d
theorem before0_6 (c : Dev nD) (t : Fin cfg0.N) (d) : (dats m o 0 c).before 6 t d = iblk m c 6 t :=
  before0_6_of m (dats m o 0 c) (A_eq m o c 6) (after0_6 m o c) t d
theorem before0_7 (c : Dev nD) (t : Fin cfg0.N) (d) : (dats m o 0 c).before 7 t d = iblk m c 7 t :=
  before0_7_of m (dats m o 0 c) (A_eq m o c 7) (after0_7 m o c) t d

/-- What the body is called with at point `t`, -/
def bodyPre (c : Dev nD) (t : Fin cfg0.N) : sProp 𝕄 :=
  iprop((dats m o 0 c).Φ t.castSucc ∗ (dats m o 0 c).owesAt () t.castSucc ∗ (∃ d, owns (c : Thread nD τ) (win0_0.stage (cfg0.slots t 0)) fullShare ((dats m o 0 c).before 0 t d)) ∗ (∃ d, owns (c : Thread nD τ) (win0_1.stage (cfg0.slots t 1)) fullShare ((dats m o 0 c).before 1 t d)) ∗ (∃ d, owns (c : Thread nD τ) (win0_2.stage (cfg0.slots t 2)) fullShare ((dats m o 0 c).before 2 t d)) ∗ (∃ d, owns (c : Thread nD τ) (win0_3.stage (cfg0.slots t 3)) fullShare ((dats m o 0 c).before 3 t d)) ∗ (∃ d, owns (c : Thread nD τ) (win0_4.stage (cfg0.slots t 4)) fullShare ((dats m o 0 c).before 4 t d)) ∗ (∃ d, owns (c : Thread nD τ) (win0_5.stage (cfg0.slots t 5)) fullShare ((dats m o 0 c).before 5 t d)) ∗ (∃ d, owns (c : Thread nD τ) (win0_6.stage (cfg0.slots t 6)) fullShare ((dats m o 0 c).before 6 t d)) ∗ (∃ d, owns (c : Thread nD τ) (win0_7.stage (cfg0.slots t 7)) fullShare ((dats m o 0 c).before 7 t d)) ∗ (∃ d, owns (c : Thread nD τ) (win0_8.stage (cfg0.slots t 8)) fullShare ((dats m o 0 c).before 8 t d)))

/-- and what it returns. -/
def bodyPost (c : Dev nD) (t : Fin cfg0.N) : sProp 𝕄 :=
  iprop((dats m o 0 c).Φ t.succ ∗ (dats m o 0 c).owesAt () t.succ ∗ owns (c : Thread nD τ) (win0_0.stage (cfg0.slots t 0)) fullShare ((dats m o 0 c).after 0 t) ∗ owns (c : Thread nD τ) (win0_1.stage (cfg0.slots t 1)) fullShare ((dats m o 0 c).after 1 t) ∗ owns (c : Thread nD τ) (win0_2.stage (cfg0.slots t 2)) fullShare ((dats m o 0 c).after 2 t) ∗ owns (c : Thread nD τ) (win0_3.stage (cfg0.slots t 3)) fullShare ((dats m o 0 c).after 3 t) ∗ owns (c : Thread nD τ) (win0_4.stage (cfg0.slots t 4)) fullShare ((dats m o 0 c).after 4 t) ∗ owns (c : Thread nD τ) (win0_5.stage (cfg0.slots t 5)) fullShare ((dats m o 0 c).after 5 t) ∗ owns (c : Thread nD τ) (win0_6.stage (cfg0.slots t 6)) fullShare ((dats m o 0 c).after 6 t) ∗ owns (c : Thread nD τ) (win0_7.stage (cfg0.slots t 7)) fullShare ((dats m o 0 c).after 7 t) ∗ owns (c : Thread nD τ) (win0_8.stage (cfg0.slots t 8)) fullShare ((dats m o 0 c).after 8 t))

/-- The body at any point. -/
theorem sound_body (ho : ∀ (c : Dev nD) (t : Fin cfg0.N) (Y : Vec F S1x4x2048x128 .f32), Leaves (iblk m c 0 t) (iblk m c 1 t) (iblk m c 2 t) (iblk m c 3 t) (iblk m c 4 t) (iblk m c 5 t) (iblk m c 6 t) (iblk m c 7 t) Y → Y = o c t) (c : Dev nD) (t : Fin cfg0.N) :
    bodyPre m o c t ⊢ wp frame (wpE (defs₀ (F := F)) Variants.none c none) Set.univ (bodyAt0 t) (fun _ => bodyPost m o c t) := by
  unfold bodyPre bodyPost bodyAt0
  simp only [before0_0, before0_1, before0_2, before0_3, before0_4, before0_5, before0_6, before0_7]
  rw [show (dats m o 0 c).Φ t.succ = (dats m o 0 c).Φ t.castSucc from rfl,
    show (dats m o 0 c).owesAt () t.succ = (dats m o 0 c).owesAt () t.castSucc from rfl,
    show (dats m o 0 c).Φ t.castSucc = Pipeline.ΦA spec0 c from rfl,
    after0_0, after0_1, after0_2, after0_3, after0_4, after0_5, after0_6, after0_7, after0_8]
  unfold Pipeline.ΦA
  rw [scopedRest0_eq]
  simp only [← owns_whole]
  iintro ⟨⟨⟨Hs0, Hs1, Hs2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [Hs0]; · iexact Hs0
  isplitl [Hs1]; · iexact Hs1
  isplitl [Hs2]; · iexact Hs2
  iintro ⟨H0, H1, H2, H3, H4, H5, H6, H7, ⟨%Y, %hY, H8⟩, Hs0, Hs1, Hs2⟩
  isplitl [Hs0 Hs1 Hs2 Hg]
  · isplitl [Hs0 Hs1 Hs2]
    · isplitl [Hs0]; · iexact Hs0
      isplitl [Hs1]; · iexact Hs1
      iexact Hs2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  rw [ho c t Y hY]
  iexact H8

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body obligation, at every point. -/
theorem body_obligation (ho : ∀ (c : Dev nD) (t : Fin cfg0.N) (Y : Vec F S1x4x2048x128 .f32), Leaves (iblk m c 0 t) (iblk m c 1 t) (iblk m c 2 t) (iblk m c 3 t) (iblk m c 4 t) (iblk m c 5 t) (iblk m c 6 t) (iblk m c 7 t) Y → Y = o c t) (c : Dev nD) : BodyObligation (dats (F := F) m o 0 c) (defs₀ (F := F)) Variants.none () Set.univ := fun t => by
  rw [bigSep_W0, bigSep_W0, defs₀_row]
  exact triple_restated (sound_body m o ho c t) rfl .rfl fun _ => .rfl

set_option backward.isDefEq.respectTransparency.types false in
set_option maxHeartbeats 800000 in
/-- The launch: the arrays end at what the library computes of the proof data, every other unscoped buffer as it was at the region's
    entry, every counter at zero. -/
theorem run_main (ho : ∀ (c : Dev nD) (t : Fin cfg0.N) (Y : Vec F S1x4x2048x128 .f32), Leaves (iblk m c 0 t) (iblk m c 1 t) (iblk m c 2 t) (iblk m c 3 t) (iblk m c 4 t) (iblk m c 5 t) (iblk m c 6 t) (iblk m c 7 t) Y → Y = o c t) : θ_run defs (onTc (τ := τ) (main (F := F))) (s₀ m ρ) (fun r => Pipeline.FramePost cfgs (dats m o) 0 (V m) r ∧ r.2.sem = fun _ => 0) :=
  Pipeline.θ_run_frame_shared (Q' := _) cfgs (dats m o) (0 : Fin 1) launch₀0 defs₀ Variants.none m ρ main
    (hbody := fun c => (body_obligation m o ho c).loose) (hq := fun _ _ _ => rfl)
    (howed := fun _ _ => rfl) (V := V m) (hmain := hmain m Variants.none) (hA := A_eq m o) (hΦ := fun _ _ => rfl)

/-- The run: the result's array is the library's over the proof data, the arguments are unchanged, every counter is at zero. -/
theorem run_blocks (ho : ∀ (c : Dev nD) (t : Fin cfg0.N) (Y : Vec F S1x4x2048x128 .f32), Leaves (iblk m c 0 t) (iblk m c 1 t) (iblk m c 2 t) (iblk m c 3 t) (iblk m c 4 t) (iblk m c 5 t) (iblk m c 6 t) (iblk m c 7 t) Y → Y = o c t) : θ_run defs (onTc (τ := τ) (main (F := F))) ⟨m, fun _ => 0, ρ⟩ (fun r => (∀ c : Dev nD, r.2.mem ((c : Thread nD τ).loc main_v22) = (dats m o 0 c).arrAt 8 cfg0.N ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7)) ∧ r.2.sem = fun _ => 0) :=
  (θ_run defs _ _).mono (fun r h => ⟨fun c => ⟨(h.1 c).1 8, ((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c), ((h.1 c).2 main_arg5 (Pipeline.mem_restRefs_of main_arg5 (by decide) (by decide))).trans (V_main_arg5 m c), ((h.1 c).2 main_arg6 (Pipeline.mem_restRefs_of main_arg6 (by decide) (by decide))).trans (V_main_arg6 m c), ((h.1 c).2 main_arg7 (Pipeline.mem_restRefs_of main_arg7 (by decide) (by decide))).trans (V_main_arg7 m c)⟩, h.2⟩) (run_main m ρ o ho)

end Cert.KernelIdeal.Rec

end

end
-- ==== Proof.Rec.Core.lean ====
module

public import proofs.«01_k».proof.Proof.Rec.Frame

/-! One channel slab of the recurrence call as plain functions of the arrays it loads: the eight row groups of the
    input, the convolution's weights and bias, the paired gate matrix, the gate biases and the decay parameter. -/

@[expose] public section

set_option maxRecDepth 16384

noncomputable section

namespace Cert.KernelIdeal.Rec

open Cert.KernelIdeal Cert.KernelIdeal.Gen
open Idealize.ShloMosaic Idealize.ShloMosaic.TcCoe Idealize.SL.Sem

variable {F : FTy → Type} [FloatOps F] [Named F]

/-- What one slab loads. -/
structure Slab (F : FTy → Type) where
  x : Fin 8 → FVec F S256x128 .f32
  cw : FVec F S4x128 .f32
  cb : FVec F S1x128 .f32
  w : FVec F S128x256 .bf16
  ba : FVec F S1x128 .f32
  bx : FVec F S1x128 .f32
  lam : FVec F S1x128 .f32

/-- A row spread over all groups. -/
def spread (v : FVec F S1x128 .f32) : FVec F S256x128 .f32 := broadcastTo S256x128 v broadcasts_S1x128_S256x128

/-- The groups moved on by one, the first filled with zero. -/
def shiftDown (v : FVec F S256x128 .f32) : FVec F S256x128 .f32 :=
  select (cmpi .eq (iota .tc S256x128 32 [0] iota_S256x128_d0_w32) (broadcast S256x128 0#32))
    (broadcast S256x128 (Scalar.ofBits .f32 0x00000000#32 : F .f32)) (dynamicRotate 0 1#32 none v rotates_S256x128_d0)

/-- The convolution at one row from its four taps. -/
def conv (s : Slab F) (p0 p1 p2 p3 : FVec F S256x128 .f32) : FVec F S256x128 .f32 :=
  addf (addf (addf (addf (spread s.cb) (mulf (spread (extractStridedSlice S1x128 ![0, 0] s.cw slices_S4x128_o0_0_S1x128)) p0))
    (mulf (spread (extractStridedSlice S1x128 ![1, 0] s.cw slices_S4x128_o1_0_S1x128)) p1))
    (mulf (spread (extractStridedSlice S1x128 ![2, 0] s.cw slices_S4x128_o2_0_S1x128)) p2))
    (mulf (spread (extractStridedSlice S1x128 ![3, 0] s.cw slices_S4x128_o3_0_S1x128)) p3)

/-- The convolved row `r` of every group. -/
def xr (s : Slab F) : ℕ → FVec F S256x128 .f32
  | 0 => conv s (shiftDown (s.x 5)) (shiftDown (s.x 6)) (shiftDown (s.x 7)) (s.x 0)
  | 1 => conv s (shiftDown (s.x 6)) (shiftDown (s.x 7)) (s.x 0) (s.x 1)
  | 2 => conv s (shiftDown (s.x 7)) (s.x 0) (s.x 1) (s.x 2)
  | 3 => conv s (s.x 0) (s.x 1) (s.x 2) (s.x 3)
  | 4 => conv s (s.x 1) (s.x 2) (s.x 3) (s.x 4)
  | 5 => conv s (s.x 2) (s.x 3) (s.x 4) (s.x 5)
  | 6 => conv s (s.x 3) (s.x 4) (s.x 5) (s.x 6)
  | _ => conv s (s.x 4) (s.x 5) (s.x 6) (s.x 7)

/-- Both gates' products of all rows, row by row. -/
def yAll (s : Slab F) : FVec F S2048x256 .f32 :=
  matmul dot_S2048x128_S128x256_S2048x256_1_0_0_1_n_n none
    (truncf .bf16 (concatenate S2048x128 0 [⟨S256x128, xr s 0⟩, ⟨S256x128, xr s 1⟩, ⟨S256x128, xr s 2⟩, ⟨S256x128, xr s 3⟩, ⟨S256x128, xr s 4⟩, ⟨S256x128, xr s 5⟩, ⟨S256x128, xr s 6⟩, ⟨S256x128, xr s 7⟩] concatenates_S256x128_S256x128_S256x128_S256x128_S256x128_S256x128_S256x128_S256x128_S2048x128_d0) bitsLt_bf16_f32)
    s.w (constant S2048x256 .f32 0x00000000#32)

/-- Both gates' products of row `r`. -/
def y (s : Slab F) : ℕ → FVec F S256x256 .f32
  | 0 => extractStridedSlice S256x256 ![0, 0] (yAll s) slices_S2048x256_o0_0_S256x256
  | 1 => extractStridedSlice S256x256 ![256, 0] (yAll s) slices_S2048x256_o256_0_S256x256
  | 2 => extractStridedSlice S256x256 ![512, 0] (yAll s) slices_S2048x256_o512_0_S256x256
  | 3 => extractStridedSlice S256x256 ![768, 0] (yAll s) slices_S2048x256_o768_0_S256x256
  | 4 => extractStridedSlice S256x256 ![1024, 0] (yAll s) slices_S2048x256_o1024_0_S256x256
  | 5 => extractStridedSlice S256x256 ![1280, 0] (yAll s) slices_S2048x256_o1280_0_S256x256
  | 6 => extractStridedSlice S256x256 ![1536, 0] (yAll s) slices_S2048x256_o1536_0_S256x256
  | _ => extractStridedSlice S256x256 ![1792, 0] (yAll s) slices_S2048x256_o1792_0_S256x256

/-- One in every place. -/
def ones : FVec F S256x128 .f32 := broadcast S256x128 (Scalar.ofBits .f32 0x3F800000#32 : F .f32)

/-- Minus the base-two logarithm of e in every place. -/
def negLog : FVec F S256x128 .f32 := broadcast S256x128 (Named.named κ "neg_log2e" 0xBFB8AA3B#32 : F .f32)

/-- The logistic function through the base-two exponential. -/
def gate (v : FVec F S256x128 .f32) : FVec F S256x128 .f32 := divf ones (addf ones (exp2 (mulf v negLog)))

/-- Eight times the softplus of minus the decay parameter. -/
def decay (s : Slab F) : FVec F S1x128 .f32 :=
  have z : FVec F S1x128 .f32 := broadcast S1x128 (Scalar.ofBits .f32 0x00000000#32 : F .f32)
  have n : FVec F S1x128 .f32 := subf z s.lam
  mulf (broadcast S1x128 (Scalar.ofBits .f32 0x41000000#32 : F .f32))
    (addf (maximumf n z) (log (addf (broadcast S1x128 (Scalar.ofBits .f32 0x3F800000#32 : F .f32)) (exp (subf z (absf n))))))

/-- Minus the logarithm of the recurrence's factor at row `r`. -/
def negLogA (s : Slab F) (r : ℕ) : FVec F S256x128 .f32 :=
  mulf (gate (addf (extractStridedSlice S256x128 ![0, 0] (y s r) slices_S256x256_o0_0_S256x128) (spread s.ba))) (spread (decay s))

/-- The recurrence's factor at row `r`. -/
def fac (s : Slab F) (r : ℕ) : FVec F S256x128 .f32 := exp2 (mulf (negLogA s r) negLog)

/-- The recurrence's input at row `r`. -/
def inp (s : Slab F) (r : ℕ) : FVec F S256x128 .f32 :=
  mulf (sqrt (mulf (tanh (negLogA s r)) (addf (mulf (fac s r) (fac s r)) ones)))
    (mulf (gate (addf (extractStridedSlice S256x128 ![0, 128] (y s r) slices_S256x256_o0_128_S256x128) (spread s.bx))) (xr s r))

/-- The recurrence inside each group from zero, after row `r`. -/
def hl (s : Slab F) : ℕ → FVec F S256x128 .f32
  | 0 => inp s 0
  | r + 1 => addf (mulf (fac s (r + 1)) (hl s r)) (inp s (r + 1))

/-- The product of the factors of a group up to row `r`. -/
def ac (s : Slab F) : ℕ → FVec F S256x128 .f32
  | 0 => fac s 0
  | r + 1 => mulf (fac s (r + 1)) (ac s r)

theorem inbX (c : Fin 4) (r : Fin 8) : ∀ a, S1x1x256x128.size a = 0 ∨ (![0, c.val, r.val, 0] : Fin 4 → ℕ) a + (![1, 1, 8, 1] : Fin 4 → ℕ) a * (S1x1x256x128.size a - 1) < S1x4x2048x128.size a := by
  have hc := c.isLt; have hr := r.isLt
  intro a; right; fin_cases a <;> simp [S1x1x256x128, S1x4x2048x128] <;> omega

theorem inb4 (c : Fin 4) : ∀ a, (![c.val, 0, 0] : Fin 3 → ℕ) a + S1x4x128.size a ≤ S4x4x128.size a := by
  have hc := c.isLt
  intro a; fin_cases a <;> simp [S1x4x128, S4x4x128] <;> omega

theorem inb1 (c : Fin 4) : ∀ a, (![c.val, 0, 0] : Fin 3 → ℕ) a + S1x1x128.size a ≤ S4x1x128.size a := by
  have hc := c.isLt
  intro a; fin_cases a <;> simp [S1x1x128, S4x1x128] <;> omega

theorem inbW (c : Fin 4) : ∀ a, (![c.val, 0, 0] : Fin 3 → ℕ) a + S1x128x256.size a ≤ S4x128x256.size a := by
  have hc := c.isLt
  intro a; fin_cases a <;> simp [S1x128x256, S4x128x256] <;> omega

/-- Slab `c` as it is cut from the blocks. -/
def slab (x1 : Vec F S1x4x2048x128 .f32) (x3 : Vec F S4x4x128 .f32) (x4 : Vec F S4x1x128 .f32) (x5 : Vec F S4x128x256 .bf16) (x6 x7 x8 : Vec F S4x1x128 .f32) (c : Fin 4) : Slab F where
  x r := shapeCast S256x128 (fun j => x1 (LoadRect.idx (s := S1x4x2048x128) ⟨![0, c.val, r.val, 0], S1x1x256x128.size, ![1, 1, 8, 1], inbX c r⟩ j) : Vec F S1x1x256x128 .f32) shapeCasts_S1x1x256x128_S256x128
  cw := shapeCast S4x128 (fun j => x3 ((Rect.unit (s := S4x4x128) ![c.val, 0, 0] S1x4x128.size (inb4 c)).toLoadRect.idx j) : Vec F S1x4x128 .f32) shapeCasts_S1x4x128_S4x128
  cb := shapeCast S1x128 (fun j => x4 ((Rect.unit (s := S4x1x128) ![c.val, 0, 0] S1x1x128.size (inb1 c)).toLoadRect.idx j) : Vec F S1x1x128 .f32) shapeCasts_S1x1x128_S1x128
  w := shapeCast S128x256 (fun j => x5 ((Rect.unit (s := S4x128x256) ![c.val, 0, 0] S1x128x256.size (inbW c)).toLoadRect.idx j) : Vec F S1x128x256 .bf16) shapeCasts_S1x128x256_S128x256
  ba := shapeCast S1x128 (fun j => x6 ((Rect.unit (s := S4x1x128) ![c.val, 0, 0] S1x1x128.size (inb1 c)).toLoadRect.idx j) : Vec F S1x1x128 .f32) shapeCasts_S1x1x128_S1x128
  bx := shapeCast S1x128 (fun j => x7 ((Rect.unit (s := S4x1x128) ![c.val, 0, 0] S1x1x128.size (inb1 c)).toLoadRect.idx j) : Vec F S1x1x128 .f32) shapeCasts_S1x1x128_S1x128
  lam := shapeCast S1x128 (fun j => x8 ((Rect.unit (s := S4x1x128) ![c.val, 0, 0] S1x1x128.size (inb1 c)).toLoadRect.idx j) : Vec F S1x1x128 .f32) shapeCasts_S1x1x128_S1x128

end Cert.KernelIdeal.Rec

end

end
-- ==== Proof.Rec.Trip.lean ====
module

public import proofs.«01_k».proof.Proof.Rec.Core
public import Idealize.ShloMosaic.Lib.Pipeline.ValueKit

/-! The loop that carries the state from group to group: what 256 trips leave in the carry scratch. -/

@[expose] public section

set_option maxRecDepth 16384

noncomputable section

namespace Cert.KernelIdeal.Rec

open Cert.KernelIdeal Cert.KernelIdeal.Gen
open Idealize.ShloMosaic Idealize.ShloMosaic.TcCoe Idealize.SL.Sem

/-- Row `k` of the last row group of slab `c`. -/
def rd (G : Vec Ideal S4x8x256x128 .f32) (c : Fin 4) (k : Fin 256) : FVec Ideal S1x128 .f32 := fun j => G (ix4 c 7 k (j 1))

/-- The state entering group `k` of slab `c`, from the groups' own recurrences `G` and products `H`. -/
def carry (G H : Vec Ideal S4x8x256x128 .f32) (c : Fin 4) : ℕ → FVec Ideal S1x128 .f32
  | 0 => k0_pay392
  | k + 1 => if h : k < 256 then addf (rd G c ⟨k, h⟩) (mulf (rd H c ⟨k, h⟩) (carry G H c k)) else carry G H c k

theorem cast_row (x : Vec Ideal S1x1x1x128 .f32) (l : Fin 128) :
    shapeCast S1x128 x shapeCasts_S1x1x1x128_S1x128 (ix2 0 l) = x (ix4 0 0 0 l) := by
  pointwise

theorem cast_row3 (x : FVec Ideal S1x128 .f32) (l : Fin 128) :
    shapeCast S1x1x128 x shapeCasts_S1x128_S1x1x128 (ix3 0 0 l) = x (ix2 0 l) := by
  pointwise

/-- A row load at any offsets that name the row. -/
theorem row_load {v : View sig .tc .vmem S4x8x256x128 .f32} (X : BufTy.Contents (Elt Ideal) v.ty) (c : Fin 4) (k : Fin 256)
    (off : Fin 4 → ℕ) (h : ∀ a, off a + S1x1x1x128.size a ≤ S4x8x256x128.size a) (ho : off = ![c.val, 7, k.val, 0]) :
    shapeCast S1x128 (View.readAt (Elt Ideal) v (Rect.unit (s := S4x8x256x128) off S1x1x1x128.size h).toLoadRect X : Vec Ideal S1x1x1x128 .f32) shapeCasts_S1x1x1x128_S1x128
      = rd (v.read (Elt Ideal) X) c k := by
  subst ho
  funext j
  obtain ⟨i, l, rfl⟩ : ∃ (i : Fin 1) (l : Fin 128), j = ix2 i l := ⟨j 0, j 1, eq_ix2 j⟩
  obtain rfl : i = 0 := Subsingleton.elim _ _
  refine (cast_row _ l).trans ?_
  rw [View.readAt_apply]
  refine congrArg (v.read (Elt Ideal) X) ?_
  funext a
  apply Fin.ext
  fin_cases a <;> simp [LoadRect.idx, Rect.unit, ix4, ix2, S4x8x256x128]

/-- One trip's four new states. -/
theorem tripR_eq (c : Dev nD) (i : grid0.Coords) (arg1 : Memref sig .tc .vmem S1x4x2048x128 .f32) (harg1 : arg1.IsWhole) (arg2 : Memref sig .tc .vmem S1x4x2048x128 .f32) (harg2 : arg2.IsWhole) (arg3 : Memref sig .tc .vmem S4x4x128 .f32) (harg3 : arg3.IsWhole) (arg4 : Memref sig .tc .vmem S4x1x128 .f32) (harg4 : arg4.IsWhole) (arg5 : Memref sig .tc .vmem S4x128x256 .bf16) (harg5 : arg5.IsWhole) (arg6 : Memref sig .tc .vmem S4x1x128 .f32) (harg6 : arg6.IsWhole) (arg7 : Memref sig .tc .vmem S4x1x128 .f32) (harg7 : arg7.IsWhole) (arg8 : Memref sig .tc .vmem S4x1x128 .f32) (harg8 : arg8.IsWhole) (arg9 : Memref sig .tc .vmem S1x4x2048x128 .f32) (harg9 : arg9.IsWhole) (arg10 : Memref sig .tc .vmem S4x8x256x128 .f32) (harg10 : arg10.IsWhole) (arg11 : Memref sig .tc .vmem S4x8x256x128 .f32) (harg11 : arg11.IsWhole) (arg12 : Memref sig .tc .vmem S4x264x128 .f32) (harg12 : arg12.IsWhole)
    (v2321 v2322 : FVec Ideal S256x128 .f32) (X10 : BufTy.Contents (Elt Ideal) arg10.view.ty) (X11 : BufTy.Contents (Elt Ideal) arg11.view.ty) (k : Fin k0_t1_loop.trips) (hk : k.val < 256)
    (acc : FVec Ideal S1x128 .f32 × FVec Ideal S1x128 .f32 × FVec Ideal S1x128 .f32 × FVec Ideal S1x128 .f32) :
    (trip_k0_t1 (F := Ideal) Variants.none c none i arg1 harg1 arg2 harg2 arg3 harg3 arg4 harg4 arg5 harg5 arg6 harg6 arg7 harg7 arg8 harg8 arg9 harg9 arg10 harg10 arg11 harg11 arg12 harg12 v2321 v2322 X10 X11 k).1 acc
      = (addf (rd (arg10.view.read (Elt Ideal) X10) 0 ⟨k, hk⟩) (mulf (rd (arg11.view.read (Elt Ideal) X11) 0 ⟨k, hk⟩) acc.1),
         addf (rd (arg10.view.read (Elt Ideal) X10) 1 ⟨k, hk⟩) (mulf (rd (arg11.view.read (Elt Ideal) X11) 1 ⟨k, hk⟩) acc.2.1),
         addf (rd (arg10.view.read (Elt Ideal) X10) 2 ⟨k, hk⟩) (mulf (rd (arg11.view.read (Elt Ideal) X11) 2 ⟨k, hk⟩) acc.2.2.1),
         addf (rd (arg10.view.read (Elt Ideal) X10) 3 ⟨k, hk⟩) (mulf (rd (arg11.view.read (Elt Ideal) X11) 3 ⟨k, hk⟩) acc.2.2.2)) := by
  rw [← row_load X10 0 ⟨k, hk⟩ (k0_off1 k) (k0_off1_inb k) (k0_off1_eq k), ← row_load X11 0 ⟨k, hk⟩ (k0_off1 k) (k0_off1_inb k) (k0_off1_eq k),
    ← row_load X10 1 ⟨k, hk⟩ (k0_off3 k) (k0_off3_inb k) (k0_off3_eq k), ← row_load X11 1 ⟨k, hk⟩ (k0_off3 k) (k0_off3_inb k) (k0_off3_eq k),
    ← row_load X10 2 ⟨k, hk⟩ (k0_off5 k) (k0_off5_inb k) (k0_off5_eq k), ← row_load X11 2 ⟨k, hk⟩ (k0_off5 k) (k0_off5_inb k) (k0_off5_eq k),
    ← row_load X10 3 ⟨k, hk⟩ (k0_off7 k) (k0_off7_inb k) (k0_off7_eq k), ← row_load X11 3 ⟨k, hk⟩ (k0_off7 k) (k0_off7_inb k) (k0_off7_eq k)]
  unfold trip_k0_t1
  rfl

/-- One trip's four stores: the new states, as rows of the carry scratch. -/
theorem tripL_eq (c : Dev nD) (i : grid0.Coords) (arg1 : Memref sig .tc .vmem S1x4x2048x128 .f32) (harg1 : arg1.IsWhole) (arg2 : Memref sig .tc .vmem S1x4x2048x128 .f32) (harg2 : arg2.IsWhole) (arg3 : Memref sig .tc .vmem S4x4x128 .f32) (harg3 : arg3.IsWhole) (arg4 : Memref sig .tc .vmem S4x1x128 .f32) (harg4 : arg4.IsWhole) (arg5 : Memref sig .tc .vmem S4x128x256 .bf16) (harg5 : arg5.IsWhole) (arg6 : Memref sig .tc .vmem S4x1x128 .f32) (harg6 : arg6.IsWhole) (arg7 : Memref sig .tc .vmem S4x1x128 .f32) (harg7 : arg7.IsWhole) (arg8 : Memref sig .tc .vmem S4x1x128 .f32) (harg8 : arg8.IsWhole) (arg9 : Memref sig .tc .vmem S1x4x2048x128 .f32) (harg9 : arg9.IsWhole) (arg10 : Memref sig .tc .vmem S4x8x256x128 .f32) (harg10 : arg10.IsWhole) (arg11 : Memref sig .tc .vmem S4x8x256x128 .f32) (harg11 : arg11.IsWhole) (arg12 : Memref sig .tc .vmem S4x264x128 .f32) (harg12 : arg12.IsWhole)
    (v2321 v2322 : FVec Ideal S256x128 .f32) (X10 : BufTy.Contents (Elt Ideal) arg10.view.ty) (X11 : BufTy.Contents (Elt Ideal) arg11.view.ty) (k : Fin k0_t1_loop.trips)
    (acc : FVec Ideal S1x128 .f32 × FVec Ideal S1x128 .f32 × FVec Ideal S1x128 .f32 × FVec Ideal S1x128 .f32) :
    (trip_k0_t1 (F := Ideal) Variants.none c none i arg1 harg1 arg2 harg2 arg3 harg3 arg4 harg4 arg5 harg5 arg6 harg6 arg7 harg7 arg8 harg8 arg9 harg9 arg10 harg10 arg11 harg11 arg12 harg12 v2321 v2322 X10 X11 k).2.1 acc
      = [⟨Rect.unit (s := S4x264x128) (k0_off8 k) S1x1x128.size (k0_off8_inb k), shapeCast S1x1x128 ((trip_k0_t1 (F := Ideal) Variants.none c none i arg1 harg1 arg2 harg2 arg3 harg3 arg4 harg4 arg5 harg5 arg6 harg6 arg7 harg7 arg8 harg8 arg9 harg9 arg10 harg10 arg11 harg11 arg12 harg12 v2321 v2322 X10 X11 k).1 acc).2.2.2 shapeCasts_S1x128_S1x1x128⟩,
         ⟨Rect.unit (s := S4x264x128) (k0_off6 k) S1x1x128.size (k0_off6_inb k), shapeCast S1x1x128 ((trip_k0_t1 (F := Ideal) Variants.none c none i arg1 harg1 arg2 harg2 arg3 harg3 arg4 harg4 arg5 harg5 arg6 harg6 arg7 harg7 arg8 harg8 arg9 harg9 arg10 harg10 arg11 harg11 arg12 harg12 v2321 v2322 X10 X11 k).1 acc).2.2.1 shapeCasts_S1x128_S1x1x128⟩,
         ⟨Rect.unit (s := S4x264x128) (k0_off4 k) S1x1x128.size (k0_off4_inb k), shapeCast S1x1x128 ((trip_k0_t1 (F := Ideal) Variants.none c none i arg1 harg1 arg2 harg2 arg3 harg3 arg4 harg4 arg5 harg5 arg6 harg6 arg7 harg7 arg8 harg8 arg9 harg9 arg10 harg10 arg11 harg11 arg12 harg12 v2321 v2322 X10 X11 k).1 acc).2.1 shapeCasts_S1x128_S1x1x128⟩,
         ⟨Rect.unit (s := S4x264x128) (k0_off2 k) S1x1x128.size (k0_off2_inb k), shapeCast S1x1x128 ((trip_k0_t1 (F := Ideal) Variants.none c none i arg1 harg1 arg2 harg2 arg3 harg3 arg4 harg4 arg5 harg5 arg6 harg6 arg7 harg7 arg8 harg8 arg9 harg9 arg10 harg10 arg11 harg11 arg12 harg12 v2321 v2322 X10 X11 k).1 acc).1 shapeCasts_S1x128_S1x1x128⟩] := by
  unfold trip_k0_t1
  rfl

/-- The states after `k` trips. -/
theorem st_carry (c : Dev nD) (i : grid0.Coords) (arg1 : Memref sig .tc .vmem S1x4x2048x128 .f32) (harg1 : arg1.IsWhole) (arg2 : Memref sig .tc .vmem S1x4x2048x128 .f32) (harg2 : arg2.IsWhole) (arg3 : Memref sig .tc .vmem S4x4x128 .f32) (harg3 : arg3.IsWhole) (arg4 : Memref sig .tc .vmem S4x1x128 .f32) (harg4 : arg4.IsWhole) (arg5 : Memref sig .tc .vmem S4x128x256 .bf16) (harg5 : arg5.IsWhole) (arg6 : Memref sig .tc .vmem S4x1x128 .f32) (harg6 : arg6.IsWhole) (arg7 : Memref sig .tc .vmem S4x1x128 .f32) (harg7 : arg7.IsWhole) (arg8 : Memref sig .tc .vmem S4x1x128 .f32) (harg8 : arg8.IsWhole) (arg9 : Memref sig .tc .vmem S1x4x2048x128 .f32) (harg9 : arg9.IsWhole) (arg10 : Memref sig .tc .vmem S4x8x256x128 .f32) (harg10 : arg10.IsWhole) (arg11 : Memref sig .tc .vmem S4x8x256x128 .f32) (harg11 : arg11.IsWhole) (arg12 : Memref sig .tc .vmem S4x264x128 .f32) (harg12 : arg12.IsWhole)
    (v2321 v2322 : FVec Ideal S256x128 .f32) (X10 : BufTy.Contents (Elt Ideal) arg10.view.ty) (X11 : BufTy.Contents (Elt Ideal) arg11.view.ty) :
    ∀ k : ℕ, k ≤ 256 → (st_k0_t1 (F := Ideal) Variants.none c none i arg1 harg1 arg2 harg2 arg3 harg3 arg4 harg4 arg5 harg5 arg6 harg6 arg7 harg7 arg8 harg8 arg9 harg9 arg10 harg10 arg11 harg11 arg12 harg12 v2321 v2322 X10 X11 (k0_pay392, k0_pay392, k0_pay392, k0_pay392) k).1
      = (carry (arg10.view.read (Elt Ideal) X10) (arg11.view.read (Elt Ideal) X11) 0 k, carry (arg10.view.read (Elt Ideal) X10) (arg11.view.read (Elt Ideal) X11) 1 k,
         carry (arg10.view.read (Elt Ideal) X10) (arg11.view.read (Elt Ideal) X11) 2 k, carry (arg10.view.read (Elt Ideal) X10) (arg11.view.read (Elt Ideal) X11) 3 k)
  | 0, _ => rfl
  | k + 1, h => by
    have hk : k < 256 := h
    have ht : k < k0_t1_loop.trips := by have : k0_t1_loop.trips = 256 := by decide +kernel
                                         omega
    rw [st_k0_t1_succ (F := Ideal) Variants.none c none i arg1 harg1 arg2 harg2 arg3 harg3 arg4 harg4 arg5 harg5 arg6 harg6 arg7 harg7 arg8 harg8 arg9 harg9 arg10 harg10 arg11 harg11 arg12 harg12 v2321 v2322 X10 X11 (k0_pay392, k0_pay392, k0_pay392, k0_pay392) ⟨k, ht⟩]
    show (trip_k0_t1 (F := Ideal) Variants.none c none i arg1 harg1 arg2 harg2 arg3 harg3 arg4 harg4 arg5 harg5 arg6 harg6 arg7 harg7 arg8 harg8 arg9 harg9 arg10 harg10 arg11 harg11 arg12 harg12 v2321 v2322 X10 X11 ⟨k, ht⟩).1 _ = _
    rw [tripR_eq c i arg1 harg1 arg2 harg2 arg3 harg3 arg4 harg4 arg5 harg5 arg6 harg6 arg7 harg7 arg8 harg8 arg9 harg9 arg10 harg10 arg11 harg11 arg12 harg12 v2321 v2322 X10 X11 ⟨k, ht⟩ hk, st_carry c i arg1 harg1 arg2 harg2 arg3 harg3 arg4 harg4 arg5 harg5 arg6 harg6 arg7 harg7 arg8 harg8 arg9 harg9 arg10 harg10 arg11 harg11 arg12 harg12 v2321 v2322 X10 X11 k hk.le]
    simp only [carry, dif_pos hk]

/-- A row store, read at a place of its row. -/
theorem row_hit {v : View sig .tc .vmem S4x264x128 .f32} (f : BufTy.Contents (Elt Ideal) v.ty) (off : Fin 3 → ℕ) (h : ∀ a, off a + S1x1x128.size a ≤ S4x264x128.size a)
    (c : Fin 4) (g : Fin 264) (l : Fin 128) (ho : off = ![c.val, g.val, 0]) (w : FVec Ideal S1x128 .f32) (L : List (View.Piece (Elt Ideal) S4x264x128 .f32)) :
    v.read (Elt Ideal) (v.writes (Elt Ideal) f (⟨Rect.unit (s := S4x264x128) off S1x1x128.size h, shapeCast S1x1x128 w shapeCasts_S1x128_S1x1x128⟩ :: L)) (ix3 c g l) = w (ix2 0 l) := by
  subst ho
  have hx : ∀ a : Fin 3, ((ix3 c g l : S4x264x128.Idx) a).val = (Rect.unit (s := S4x264x128) ![c.val, g.val, 0] S1x1x128.size h).off a
      + (Rect.unit (s := S4x264x128) ![c.val, g.val, 0] S1x1x128.size h).stride a * ((ix3 (0 : Fin 1) (0 : Fin 1) l : S1x1x128.Idx) a).val := by
    intro a
    fin_cases a <;> simp [Rect.unit, ix3]
  rw [View.read_writes_cons_hit_of_coords v f (Rect.unit (s := S4x264x128) ![c.val, g.val, 0] S1x1x128.size h)
    (shapeCast S1x1x128 w shapeCasts_S1x128_S1x1x128) L (ix3 (0 : Fin 1) (0 : Fin 1) l : S1x1x128.Idx) (ix3 c g l) hx]
  exact cast_row3 w l

/-- A row store, read at a place of another row. -/
theorem row_miss {v : View sig .tc .vmem S4x264x128 .f32} (f : BufTy.Contents (Elt Ideal) v.ty) (off : Fin 3 → ℕ) (h : ∀ a, off a + S1x1x128.size a ≤ S4x264x128.size a)
    (c' g' : ℕ) (c : Fin 4) (g : Fin 264) (l : Fin 128) (ho : off = ![c', g', 0]) (hne : c.val ≠ c' ∨ g.val ≠ g') (w : (Rect.unit (s := S4x264x128) off S1x1x128.size h).shape.Idx → Elt Ideal .f32) (L : List (View.Piece (Elt Ideal) S4x264x128 .f32)) :
    v.read (Elt Ideal) (v.writes (Elt Ideal) f (⟨Rect.unit (s := S4x264x128) off S1x1x128.size h, w⟩ :: L)) (ix3 c g l) = v.read (Elt Ideal) (v.writes (Elt Ideal) f L) (ix3 c g l) := by
  subst ho
  rcases hne with hne | hne
  · exact View.read_writes_cons_miss_of_axis v f _ L (ix3 c g l) 0 c' 1 rfl rfl rfl (by show c.val < c' ∨ c' + 1 ≤ c.val; omega)
  · exact View.read_writes_cons_miss_of_axis v f _ L (ix3 c g l) 1 g' 1 rfl rfl rfl (by show g.val < g' ∨ g' + 1 ≤ g.val; omega)

/-- What the carry scratch holds after `k` trips at the rows they have reached: the states. -/
theorem carry_read (c : Dev nD) (i : grid0.Coords) (arg1 : Memref sig .tc .vmem S1x4x2048x128 .f32) (harg1 : arg1.IsWhole) (arg2 : Memref sig .tc .vmem S1x4x2048x128 .f32) (harg2 : arg2.IsWhole) (arg3 : Memref sig .tc .vmem S4x4x128 .f32) (harg3 : arg3.IsWhole) (arg4 : Memref sig .tc .vmem S4x1x128 .f32) (harg4 : arg4.IsWhole) (arg5 : Memref sig .tc .vmem S4x128x256 .bf16) (harg5 : arg5.IsWhole) (arg6 : Memref sig .tc .vmem S4x1x128 .f32) (harg6 : arg6.IsWhole) (arg7 : Memref sig .tc .vmem S4x1x128 .f32) (harg7 : arg7.IsWhole) (arg8 : Memref sig .tc .vmem S4x1x128 .f32) (harg8 : arg8.IsWhole) (arg9 : Memref sig .tc .vmem S1x4x2048x128 .f32) (harg9 : arg9.IsWhole) (arg10 : Memref sig .tc .vmem S4x8x256x128 .f32) (harg10 : arg10.IsWhole) (arg11 : Memref sig .tc .vmem S4x8x256x128 .f32) (harg11 : arg11.IsWhole) (arg12 : Memref sig .tc .vmem S4x264x128 .f32) (harg12 : arg12.IsWhole)
    (v2321 v2322 : FVec Ideal S256x128 .f32) (X10 : BufTy.Contents (Elt Ideal) arg10.view.ty) (X11 : BufTy.Contents (Elt Ideal) arg11.view.ty) (f12 : BufTy.Contents (Elt Ideal) arg12.view.ty)
    (L0 : List (View.Piece (Elt Ideal) S4x264x128 .f32)) (hL0 : ∀ (s : Fin 4) (l : Fin 128), arg12.view.read (Elt Ideal) (arg12.view.writes (Elt Ideal) f12 L0) (ix3 s 0 l) = (k0_pay392 (F := Ideal)) (ix2 0 l)) :
    ∀ k : ℕ, k ≤ 256 → ∀ (s : Fin 4) (g : Fin 264) (l : Fin 128), g.val ≤ k →
      arg12.view.read (Elt Ideal) (arg12.view.writes (Elt Ideal) f12 ((st_k0_t1 (F := Ideal) Variants.none c none i arg1 harg1 arg2 harg2 arg3 harg3 arg4 harg4 arg5 harg5 arg6 harg6 arg7 harg7 arg8 harg8 arg9 harg9 arg10 harg10 arg11 harg11 arg12 harg12 v2321 v2322 X10 X11 (k0_pay392, k0_pay392, k0_pay392, k0_pay392) k).2 ++ L0)) (ix3 s g l)
        = carry (arg10.view.read (Elt Ideal) X10) (arg11.view.read (Elt Ideal) X11) s g.val (ix2 0 l)
  | 0, _, s, g, l, hg => by
    obtain rfl : g = 0 := Fin.ext (Nat.le_zero.mp hg)
    exact hL0 s l
  | k + 1, h, s, g, l, hg => by
    have hk : k < 256 := h
    have ht : k < k0_t1_loop.trips := by have : k0_t1_loop.trips = 256 := by decide +kernel
                                         omega
    have e := st_carry c i arg1 harg1 arg2 harg2 arg3 harg3 arg4 harg4 arg5 harg5 arg6 harg6 arg7 harg7 arg8 harg8 arg9 harg9 arg10 harg10 arg11 harg11 arg12 harg12 v2321 v2322 X10 X11 (k + 1) h
    rw [st_k0_t1_succ (F := Ideal) Variants.none c none i arg1 harg1 arg2 harg2 arg3 harg3 arg4 harg4 arg5 harg5 arg6 harg6 arg7 harg7 arg8 harg8 arg9 harg9 arg10 harg10 arg11 harg11 arg12 harg12 v2321 v2322 X10 X11 (k0_pay392, k0_pay392, k0_pay392, k0_pay392) ⟨k, ht⟩] at e ⊢
    show arg12.view.read (Elt Ideal) (arg12.view.writes (Elt Ideal) f12 (((trip_k0_t1 (F := Ideal) Variants.none c none i arg1 harg1 arg2 harg2 arg3 harg3 arg4 harg4 arg5 harg5 arg6 harg6 arg7 harg7 arg8 harg8 arg9 harg9 arg10 harg10 arg11 harg11 arg12 harg12 v2321 v2322 X10 X11 ⟨k, ht⟩).2.1 _ ++ (st_k0_t1 (F := Ideal) Variants.none c none i arg1 harg1 arg2 harg2 arg3 harg3 arg4 harg4 arg5 harg5 arg6 harg6 arg7 harg7 arg8 harg8 arg9 harg9 arg10 harg10 arg11 harg11 arg12 harg12 v2321 v2322 X10 X11 (k0_pay392, k0_pay392, k0_pay392, k0_pay392) k).2) ++ L0)) (ix3 s g l) = _
    have e' : (trip_k0_t1 (F := Ideal) Variants.none c none i arg1 harg1 arg2 harg2 arg3 harg3 arg4 harg4 arg5 harg5 arg6 harg6 arg7 harg7 arg8 harg8 arg9 harg9 arg10 harg10 arg11 harg11 arg12 harg12 v2321 v2322 X10 X11 ⟨k, ht⟩).1 (st_k0_t1 (F := Ideal) Variants.none c none i arg1 harg1 arg2 harg2 arg3 harg3 arg4 harg4 arg5 harg5 arg6 harg6 arg7 harg7 arg8 harg8 arg9 harg9 arg10 harg10 arg11 harg11 arg12 harg12 v2321 v2322 X10 X11 (k0_pay392, k0_pay392, k0_pay392, k0_pay392) k).1 = _ := e
    rw [tripL_eq, e']
    simp only [List.cons_append, List.nil_append]
    by_cases hgk : g.val ≤ k
    · rw [row_miss f12 _ _ _ _ s g l (k0_off8_eq ⟨k, ht⟩) (.inr (by show g.val ≠ k + 1; omega)), row_miss f12 _ _ _ _ s g l (k0_off6_eq ⟨k, ht⟩) (.inr (by show g.val ≠ k + 1; omega)),
        row_miss f12 _ _ _ _ s g l (k0_off4_eq ⟨k, ht⟩) (.inr (by show g.val ≠ k + 1; omega)), row_miss f12 _ _ _ _ s g l (k0_off2_eq ⟨k, ht⟩) (.inr (by show g.val ≠ k + 1; omega))]
      exact carry_read c i arg1 harg1 arg2 harg2 arg3 harg3 arg4 harg4 arg5 harg5 arg6 harg6 arg7 harg7 arg8 harg8 arg9 harg9 arg10 harg10 arg11 harg11 arg12 harg12 v2321 v2322 X10 X11 f12 L0 hL0 k hk.le s g l hgk
    · have hge : g.val = k + 1 := by omega
      rw [hge]
      match s with
      | 0 =>
        rw [row_miss f12 _ _ _ _ 0 g l (k0_off8_eq ⟨k, ht⟩) (.inl (by decide)), row_miss f12 _ _ _ _ 0 g l (k0_off6_eq ⟨k, ht⟩) (.inl (by decide)), row_miss f12 _ _ _ _ 0 g l (k0_off4_eq ⟨k, ht⟩) (.inl (by decide))]
        exact row_hit f12 _ _ 0 g l ((k0_off2_eq ⟨k, ht⟩).trans (by rw [hge]; rfl)) _ _
      | 1 =>
        rw [row_miss f12 _ _ _ _ 1 g l (k0_off8_eq ⟨k, ht⟩) (.inl (by decide)), row_miss f12 _ _ _ _ 1 g l (k0_off6_eq ⟨k, ht⟩) (.inl (by decide))]
        exact row_hit f12 _ _ 1 g l ((k0_off4_eq ⟨k, ht⟩).trans (by rw [hge]; rfl)) _ _
      | 2 =>
        rw [row_miss f12 _ _ _ _ 2 g l (k0_off8_eq ⟨k, ht⟩) (.inl (by decide))]
        exact row_hit f12 _ _ 2 g l ((k0_off6_eq ⟨k, ht⟩).trans (by rw [hge]; rfl)) _ _
      | 3 =>
        exact row_hit f12 _ _ 3 g l ((k0_off8_eq ⟨k, ht⟩).trans (by rw [hge]; rfl)) _ _

end Cert.KernelIdeal.Rec

end

end
-- ==== Proof.Rec.Cut.lean ====
module

public import proofs.«01_k».proof.Proof.Rec.Core

/-! The slabs cut from what the input buffers hold. -/

@[expose] public section

set_option maxRecDepth 16384
set_option maxHeartbeats 4000000

noncomputable section

namespace Cert.KernelIdeal.Rec

open Cert.KernelIdeal Cert.KernelIdeal.Gen
open Idealize.ShloMosaic Idealize.ShloMosaic.TcCoe Idealize.SL.Sem

variable {F : FTy → Type} [FloatOps F] [Named F]

variable (arg1 : Memref sig .tc .vmem S1x4x2048x128 .f32) (arg3 : Memref sig .tc .vmem S4x4x128 .f32) (arg4 : Memref sig .tc .vmem S4x1x128 .f32) (arg5 : Memref sig .tc .vmem S4x128x256 .bf16) (arg6 : Memref sig .tc .vmem S4x1x128 .f32) (arg7 : Memref sig .tc .vmem S4x1x128 .f32) (arg8 : Memref sig .tc .vmem S4x1x128 .f32)
variable (f1 : BufTy.Contents (Elt F) arg1.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty)

/-- Slab `c` of what the input buffers hold. -/
def cut (c : Fin 4) : Slab F :=
  slab (arg1.view.read (Elt F) f1) (arg3.view.read (Elt F) f3) (arg4.view.read (Elt F) f4) (arg5.view.read (Elt F) f5) (arg6.view.read (Elt F) f6) (arg7.view.read (Elt F) f7) (arg8.view.read (Elt F) f8) c

end Cert.KernelIdeal.Rec

end

end
-- ==== Proof.Rec.Slab0.lean ====
module

public import proofs.«01_k».proof.Proof.Rec.Cut

/-! Slab 0: each value the body computes for it, as a function of what the slab loads. -/

@[expose] public section

set_option maxRecDepth 16384
set_option maxHeartbeats 4000000

noncomputable section

namespace Cert.KernelIdeal.Rec

open Cert.KernelIdeal Cert.KernelIdeal.Gen
open Idealize.ShloMosaic Idealize.ShloMosaic.TcCoe Idealize.SL.Sem

variable {F : FTy → Type} [FloatOps F] [Named F]

variable (arg1 : Memref sig .tc .vmem S1x4x2048x128 .f32) (arg3 : Memref sig .tc .vmem S4x4x128 .f32) (arg4 : Memref sig .tc .vmem S4x1x128 .f32) (arg5 : Memref sig .tc .vmem S4x128x256 .bf16) (arg6 : Memref sig .tc .vmem S4x1x128 .f32) (arg7 : Memref sig .tc .vmem S4x1x128 .f32) (arg8 : Memref sig .tc .vmem S4x1x128 .f32)
variable (f1 : BufTy.Contents (Elt F) arg1.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty)

theorem v10_eq : run.sl.v10 arg1 f1 = (cut arg1 arg3 arg4 arg5 arg6 arg7 arg8 f1 f3 f4 f5 f6 f7 f8 0).x 4 := by
  simp only [run.sl.v10] <;> rfl

theorem v12_eq : run.sl.v12 arg1 f1 = (cut arg1 arg3 arg4 arg5 arg6 arg7 arg8 f1 f3 f4 f5 f6 f7 f8 0).x 5 := by
  simp only [run.sl.v12] <;> rfl

theorem v14_eq : run.sl.v14 arg1 f1 = (cut arg1 arg3 arg4 arg5 arg6 arg7 arg8 f1 f3 f4 f5 f6 f7 f8 0).x 6 := by
  simp only [run.sl.v14] <;> rfl

theorem v16_eq : run.sl.v16 arg1 f1 = (cut arg1 arg3 arg4 arg5 arg6 arg7 arg8 f1 f3 f4 f5 f6 f7 f8 0).x 7 := by
  simp only [run.sl.v16] <;> rfl

theorem r_eq : run.sl.r arg1 arg3 arg4 f1 f3 f4 = xr (cut arg1 arg3 arg4 arg5 arg6 arg7 arg8 f1 f3 f4 f5 f6 f7 f8 0) 7 := by
  simp only [run.sl.r, run.sl.v33, run.sl.v35, run.sl.v37, run.sl.v36, v10_eq arg1 arg3 arg4 arg5 arg6 arg7 arg8 f1 f3 f4 f5 f6 f7 f8, v12_eq arg1 arg3 arg4 arg5 arg6 arg7 arg8 f1 f3 f4 f5 f6 f7 f8, v14_eq arg1 arg3 arg4 arg5 arg6 arg7 arg8 f1 f3 f4 f5 f6 f7 f8, v16_eq arg1 arg3 arg4 arg5 arg6 arg7 arg8 f1 f3 f4 f5 f6 f7 f8] <;> rfl

theorem v31_eq : run.sl.v31 arg1 f1 = shiftDown ((cut arg1 arg3 arg4 arg5 arg6 arg7 arg8 f1 f3 f4 f5 f6 f7 f8 0).x 5) := by
  simp only [run.sl.v31, run.sl.v0, run.sl.v17, run.sl.v20, run.sl.v29, run.sl.cst, v12_eq arg1 arg3 arg4 arg5 arg6 arg7 arg8 f1 f3 f4 f5 f6 f7 f8] <;> rfl

theorem v26_eq : run.sl.v26 arg1 f1 = shiftDown ((cut arg1 arg3 arg4 arg5 arg6 arg7 arg8 f1 f3 f4 f5 f6 f7 f8 0).x 6) := by
  simp only [run.sl.v26, run.sl.v0, run.sl.v17, run.sl.v20, run.sl.v24, run.sl.cst, v14_eq arg1 arg3 arg4 arg5 arg6 arg7 arg8 f1 f3 f4 f5 f6 f7 f8] <;> rfl

theorem v21_eq : run.sl.v21 arg1 f1 = shiftDown ((cut arg1 arg3 arg4 arg5 arg6 arg7 arg8 f1 f3 f4 f5 f6 f7 f8 0).x 7) := by
  simp only [run.sl.v21, run.sl.v0, run.sl.v17, run.sl.v20, run.sl.v19, run.sl.cst, v16_eq arg1 arg3 arg4 arg5 arg6 arg7 arg8 f1 f3 f4 f5 f6 f7 f8] <;> rfl

theorem v2_eq : run.sl.v2 arg1 f1 = (cut arg1 arg3 arg4 arg5 arg6 arg7 arg8 f1 f3 f4 f5 f6 f7 f8 0).x 0 := by
  simp only [run.sl.v2] <;> rfl

theorem v52_eq : run.sl.v52 arg1 arg3 arg4 f1 f3 f4 = xr (cut arg1 arg3 arg4 arg5 arg6 arg7 arg8 f1 f3 f4 f5 f6 f7 f8 0) 0 := by
  simp only [run.sl.v52, run.sl.v48, run.sl.v51, run.sl.v44, run.sl.v47, run.sl.v50, run.sl.v40, run.sl.v43, run.sl.v46, run.sl.v49, run.sl.v39, run.sl.v38, run.sl.v42, run.sl.v45, run.sl.v33, run.sl.v35, run.sl.v37, run.sl.v41, run.sl.v36, v2_eq arg1 arg3 arg4 arg5 arg6 arg7 arg8 f1 f3 f4 f5 f6 f7 f8, v21_eq arg1 arg3 arg4 arg5 arg6 arg7 arg8 f1 f3 f4 f5 f6 f7 f8, v26_eq arg1 arg3 arg4 arg5 arg6 arg7 arg8 f1 f3 f4 f5 f6 f7 f8, v31_eq arg1 arg3 arg4 arg5 arg6 arg7 arg8 f1 f3 f4 f5 f6 f7 f8] <;> rfl

theorem v4_eq : run.sl.v4 arg1 f1 = (cut arg1 arg3 arg4 arg5 arg6 arg7 arg8 f1 f3 f4 f5 f6 f7 f8 0).x 1 := by
  simp only [run.sl.v4] <;> rfl

theorem v71_eq : run.sl.v71 arg1 arg3 arg4 f1 f3 f4 = xr (cut arg1 arg3 arg4 arg5 arg6 arg7 arg8 f1 f3 f4 f5 f6 f7 f8 0) 1 := by
  simp only [run.sl.v71, run.sl.v67, run.sl.v70, run.sl.v63, run.sl.v66, run.sl.v50, run.sl.v59, run.sl.v62, run.sl.v46, run.sl.v49, run.sl.v39, run.sl.v57, run.sl.v42, run.sl.v45, run.sl.v33, run.sl.v35, run.sl.v37, run.sl.v41, run.sl.v36, v4_eq arg1 arg3 arg4 arg5 arg6 arg7 arg8 f1 f3 f4 f5 f6 f7 f8, v2_eq arg1 arg3 arg4 arg5 arg6 arg7 arg8 f1 f3 f4 f5 f6 f7 f8, v21_eq arg1 arg3 arg4 arg5 arg6 arg7 arg8 f1 f3 f4 f5 f6 f7 f8, v26_eq arg1 arg3 arg4 arg5 arg6 arg7 arg8 f1 f3 f4 f5 f6 f7 f8] <;> rfl

theorem v6_eq : run.sl.v6 arg1 f1 = (cut arg1 arg3 arg4 arg5 arg6 arg7 arg8 f1 f3 f4 f5 f6 f7 f8 0).x 2 := by
  simp only [run.sl.v6] <;> rfl

theorem v90_eq : run.sl.v90 arg1 arg3 arg4 f1 f3 f4 = xr (cut arg1 arg3 arg4 arg5 arg6 arg7 arg8 f1 f3 f4 f5 f6 f7 f8 0) 2 := by
  simp only [run.sl.v90, run.sl.v86, run.sl.v89, run.sl.v82, run.sl.v85, run.sl.v50, run.sl.v78, run.sl.v81, run.sl.v46, run.sl.v49, run.sl.v39, run.sl.v76, run.sl.v42, run.sl.v45, run.sl.v33, run.sl.v35, run.sl.v37, run.sl.v41, run.sl.v36, v6_eq arg1 arg3 arg4 arg5 arg6 arg7 arg8 f1 f3 f4 f5 f6 f7 f8, v4_eq arg1 arg3 arg4 arg5 arg6 arg7 arg8 f1 f3 f4 f5 f6 f7 f8, v2_eq arg1 arg3 arg4 arg5 arg6 arg7 arg8 f1 f3 f4 f5 f6 f7 f8, v21_eq arg1 arg3 arg4 arg5 arg6 arg7 arg8 f1 f3 f4 f5 f6 f7 f8] <;> rfl

theorem v8_eq : run.sl.v8 arg1 f1 = (cut arg1 arg3 arg4 arg5 arg6 arg7 arg8 f1 f3 f4 f5 f6 f7 f8 0).x 3 := by
  simp only [run.sl.v8] <;> rfl

theorem v109_eq : run.sl.v109 arg1 arg3 arg4 f1 f3 f4 = xr (cut arg1 arg3 arg4 arg5 arg6 arg7 arg8 f1 f3 f4 f5 f6 f7 f8 0) 3 := by
  simp only [run.sl.v109, run.sl.v105, run.sl.v108, run.sl.v101, run.sl.v104, run.sl.v50, run.sl.v97, run.sl.v100, run.sl.v46, run.sl.v49, run.sl.v39, run.sl.v95, run.sl.v42, run.sl.v45, run.sl.v33, run.sl.v35, run.sl.v37, run.sl.v41, run.sl.v36, v8_eq arg1 arg3 arg4 arg5 arg6 arg7 arg8 f1 f3 f4 f5 f6 f7 f8, v6_eq arg1 arg3 arg4 arg5 arg6 arg7 arg8 f1 f3 f4 f5 f6 f7 f8, v4_eq arg1 arg3 arg4 arg5 arg6 arg7 arg8 f1 f3 f4 f5 f6 f7 f8, v2_eq arg1 arg3 arg4 arg5 arg6 arg7 arg8 f1 f3 f4 f5 f6 f7 f8] <;> rfl

theorem v128_eq : run.sl.v128 arg1 arg3 arg4 f1 f3 f4 = xr (cut arg1 arg3 arg4 arg5 arg6 arg7 arg8 f1 f3 f4 f5 f6 f7 f8 0) 4 := by
  simp only [run.sl.v128, run.sl.v124, run.sl.v127, run.sl.v120, run.sl.v123, run.sl.v50, run.sl.v116, run.sl.v119, run.sl.v46, run.sl.v49, run.sl.v39, run.sl.v114, run.sl.v42, run.sl.v45, run.sl.v33, run.sl.v35, run.sl.v37, run.sl.v41, run.sl.v36, v10_eq arg1 arg3 arg4 arg5 arg6 arg7 arg8 f1 f3 f4 f5 f6 f7 f8, v8_eq arg1 arg3 arg4 arg5 arg6 arg7 arg8 f1 f3 f4 f5 f6 f7 f8, v6_eq arg1 arg3 arg4 arg5 arg6 arg7 arg8 f1 f3 f4 f5 f6 f7 f8, v4_eq arg1 arg3 arg4 arg5 arg6 arg7 arg8 f1 f3 f4 f5 f6 f7 f8] <;> rfl

theorem v147_eq : run.sl.v147 arg1 arg3 arg4 f1 f3 f4 = xr (cut arg1 arg3 arg4 arg5 arg6 arg7 arg8 f1 f3 f4 f5 f6 f7 f8 0) 5 := by
  simp only [run.sl.v147, run.sl.v143, run.sl.v146, run.sl.v139, run.sl.v142, run.sl.v50, run.sl.v135, run.sl.v138, run.sl.v46, run.sl.v49, run.sl.v39, run.sl.v133, run.sl.v42, run.sl.v45, run.sl.v33, run.sl.v35, run.sl.v37, run.sl.v41, run.sl.v36, v12_eq arg1 arg3 arg4 arg5 arg6 arg7 arg8 f1 f3 f4 f5 f6 f7 f8, v10_eq arg1 arg3 arg4 arg5 arg6 arg7 arg8 f1 f3 f4 f5 f6 f7 f8, v8_eq arg1 arg3 arg4 arg5 arg6 arg7 arg8 f1 f3 f4 f5 f6 f7 f8, v6_eq arg1 arg3 arg4 arg5 arg6 arg7 arg8 f1 f3 f4 f5 f6 f7 f8] <;> rfl

theorem v166_eq : run.sl.v166 arg1 arg3 arg4 f1 f3 f4 = xr (cut arg1 arg3 arg4 arg5 arg6 arg7 arg8 f1 f3 f4 f5 f6 f7 f8 0) 6 := by
  simp only [run.sl.v166, run.sl.v162, run.sl.v165, run.sl.v158, run.sl.v161, run.sl.v50, run.sl.v154, run.sl.v157, run.sl.v46, run.sl.v49, run.sl.v39, run.sl.v152, run.sl.v42, run.sl.v45, run.sl.v33, run.sl.v35, run.sl.v37, run.sl.v41, run.sl.v36, v14_eq arg1 arg3 arg4 arg5 arg6 arg7 arg8 f1 f3 f4 f5 f6 f7 f8, v12_eq arg1 arg3 arg4 arg5 arg6 arg7 arg8 f1 f3 f4 f5 f6 f7 f8, v10_eq arg1 arg3 arg4 arg5 arg6 arg7 arg8 f1 f3 f4 f5 f6 f7 f8, v8_eq arg1 arg3 arg4 arg5 arg6 arg7 arg8 f1 f3 f4 f5 f6 f7 f8] <;> rfl

theorem r_1_eq : run.sl.r_1 arg1 arg3 arg4 arg5 f1 f3 f4 f5 = yAll (cut arg1 arg3 arg4 arg5 arg6 arg7 arg8 f1 f3 f4 f5 f6 f7 f8 0) := by
  simp only [run.sl.r_1, run.sl.v33, run.sl.v35, run.sl.v37, run.sl.v36, v10_eq arg1 arg3 arg4 arg5 arg6 arg7 arg8 f1 f3 f4 f5 f6 f7 f8, v12_eq arg1 arg3 arg4 arg5 arg6 arg7 arg8 f1 f3 f4 f5 f6 f7 f8, v14_eq arg1 arg3 arg4 arg5 arg6 arg7 arg8 f1 f3 f4 f5 f6 f7 f8, v16_eq arg1 arg3 arg4 arg5 arg6 arg7 arg8 f1 f3 f4 f5 f6 f7 f8, v52_eq arg1 arg3 arg4 arg5 arg6 arg7 arg8 f1 f3 f4 f5 f6 f7 f8, v71_eq arg1 arg3 arg4 arg5 arg6 arg7 arg8 f1 f3 f4 f5 f6 f7 f8, v90_eq arg1 arg3 arg4 arg5 arg6 arg7 arg8 f1 f3 f4 f5 f6 f7 f8, v109_eq arg1 arg3 arg4 arg5 arg6 arg7 arg8 f1 f3 f4 f5 f6 f7 f8, v128_eq arg1 arg3 arg4 arg5 arg6 arg7 arg8 f1 f3 f4 f5 f6 f7 f8, v147_eq arg1 arg3 arg4 arg5 arg6 arg7 arg8 f1 f3 f4 f5 f6 f7 f8, v166_eq arg1 arg3 arg4 arg5 arg6 arg7 arg8 f1 f3 f4 f5 f6 f7 f8] <;> rfl

theorem r_2_eq : run.sl.r_2 arg8 f8 = decay (cut arg1 arg3 arg4 arg5 arg6 arg7 arg8 f1 f3 f4 f5 f6 f7 f8 0) := by
  simp only [run.sl.r_2] <;> rfl

theorem r_12_eq : run.sl.r_12 arg1 arg3 arg4 arg5 arg6 arg7 arg8 f1 f3 f4 f5 f6 f7 f8 = inp (cut arg1 arg3 arg4 arg5 arg6 arg7 arg8 f1 f3 f4 f5 f6 f7 f8 0) 2 := by
  simp only [run.sl.r_12, v90_eq arg1 arg3 arg4 arg5 arg6 arg7 arg8 f1 f3 f4 f5 f6 f7 f8, r_1_eq arg1 arg3 arg4 arg5 arg6 arg7 arg8 f1 f3 f4 f5 f6 f7 f8, r_2_eq arg1 arg3 arg4 arg5 arg6 arg7 arg8 f1 f3 f4 f5 f6 f7 f8] <;> rfl

theorem r_3_eq : run.sl.r_3 arg1 arg3 arg4 arg5 f1 f3 f4 f5 = y (cut arg1 arg3 arg4 arg5 arg6 arg7 arg8 f1 f3 f4 f5 f6 f7 f8 0) 0 := by
  simp only [run.sl.r_3, run.sl.v33, run.sl.v35, run.sl.v37, run.sl.v36, v10_eq arg1 arg3 arg4 arg5 arg6 arg7 arg8 f1 f3 f4 f5 f6 f7 f8, v12_eq arg1 arg3 arg4 arg5 arg6 arg7 arg8 f1 f3 f4 f5 f6 f7 f8, v14_eq arg1 arg3 arg4 arg5 arg6 arg7 arg8 f1 f3 f4 f5 f6 f7 f8, v16_eq arg1 arg3 arg4 arg5 arg6 arg7 arg8 f1 f3 f4 f5 f6 f7 f8, v52_eq arg1 arg3 arg4 arg5 arg6 arg7 arg8 f1 f3 f4 f5 f6 f7 f8, v71_eq arg1 arg3 arg4 arg5 arg6 arg7 arg8 f1 f3 f4 f5 f6 f7 f8, v90_eq arg1 arg3 arg4 arg5 arg6 arg7 arg8 f1 f3 f4 f5 f6 f7 f8, v109_eq arg1 arg3 arg4 arg5 arg6 arg7 arg8 f1 f3 f4 f5 f6 f7 f8, v128_eq arg1 arg3 arg4 arg5 arg6 arg7 arg8 f1 f3 f4 f5 f6 f7 f8, v147_eq arg1 arg3 arg4 arg5 arg6 arg7 arg8 f1 f3 f4 f5 f6 f7 f8, v166_eq arg1 arg3 arg4 arg5 arg6 arg7 arg8 f1 f3 f4 f5 f6 f7 f8] <;> rfl

theorem r_6_eq : run.sl.r_6 arg1 arg3 arg4 arg5 arg6 arg7 arg8 f1 f3 f4 f5 f6 f7 f8 = hl (cut arg1 arg3 arg4 arg5 arg6 arg7 arg8 f1 f3 f4 f5 f6 f7 f8 0) 0 := by
  simp only [run.sl.r_6, run.sl.r_4, run.sl.v33, run.sl.v35, run.sl.v37, run.sl.v36, v52_eq arg1 arg3 arg4 arg5 arg6 arg7 arg8 f1 f3 f4 f5 f6 f7 f8, r_2_eq arg1 arg3 arg4 arg5 arg6 arg7 arg8 f1 f3 f4 f5 f6 f7 f8, r_3_eq arg1 arg3 arg4 arg5 arg6 arg7 arg8 f1 f3 f4 f5 f6 f7 f8, v10_eq arg1 arg3 arg4 arg5 arg6 arg7 arg8 f1 f3 f4 f5 f6 f7 f8, v12_eq arg1 arg3 arg4 arg5 arg6 arg7 arg8 f1 f3 f4 f5 f6 f7 f8, v14_eq arg1 arg3 arg4 arg5 arg6 arg7 arg8 f1 f3 f4 f5 f6 f7 f8, v16_eq arg1 arg3 arg4 arg5 arg6 arg7 arg8 f1 f3 f4 f5 f6 f7 f8, v71_eq arg1 arg3 arg4 arg5 arg6 arg7 arg8 f1 f3 f4 f5 f6 f7 f8, v90_eq arg1 arg3 arg4 arg5 arg6 arg7 arg8 f1 f3 f4 f5 f6 f7 f8, v109_eq arg1 arg3 arg4 arg5 arg6 arg7 arg8 f1 f3 f4 f5 f6 f7 f8, v128_eq arg1 arg3 arg4 arg5 arg6 arg7 arg8 f1 f3 f4 f5 f6 f7 f8, v147_eq arg1 arg3 arg4 arg5 arg6 arg7 arg8 f1 f3 f4 f5 f6 f7 f8, v166_eq arg1 arg3 arg4 arg5 arg6 arg7 arg8 f1 f3 f4 f5 f6 f7 f8] <;> rfl

theorem r_7_eq : run.sl.r_7 arg1 arg3 arg4 arg5 f1 f3 f4 f5 = y (cut arg1 arg3 arg4 arg5 arg6 arg7 arg8 f1 f3 f4 f5 f6 f7 f8 0) 1 := by
  simp only [run.sl.r_7, r_1_eq arg1 arg3 arg4 arg5 arg6 arg7 arg8 f1 f3 f4 f5 f6 f7 f8] <;> rfl

theorem r_9_eq : run.sl.r_9 arg1 arg3 arg4 arg5 arg6 arg7 arg8 f1 f3 f4 f5 f6 f7 f8 = hl (cut arg1 arg3 arg4 arg5 arg6 arg7 arg8 f1 f3 f4 f5 f6 f7 f8 0) 1 := by
  simp only [run.sl.r_9, run.sl.r_8, v71_eq arg1 arg3 arg4 arg5 arg6 arg7 arg8 f1 f3 f4 f5 f6 f7 f8, r_2_eq arg1 arg3 arg4 arg5 arg6 arg7 arg8 f1 f3 f4 f5 f6 f7 f8, r_6_eq arg1 arg3 arg4 arg5 arg6 arg7 arg8 f1 f3 f4 f5 f6 f7 f8, r_7_eq arg1 arg3 arg4 arg5 arg6 arg7 arg8 f1 f3 f4 f5 f6 f7 f8, r_1_eq arg1 arg3 arg4 arg5 arg6 arg7 arg8 f1 f3 f4 f5 f6 f7 f8] <;> rfl

theorem r_14_eq : run.sl.r_14 arg1 arg3 arg4 arg5 arg6 arg7 arg8 f1 f3 f4 f5 f6 f7 f8 = hl (cut arg1 arg3 arg4 arg5 arg6 arg7 arg8 f1 f3 f4 f5 f6 f7 f8 0) 2 := by
  simp only [run.sl.r_14, run.sl.r_13, r_12_eq arg1 arg3 arg4 arg5 arg6 arg7 arg8 f1 f3 f4 f5 f6 f7 f8, r_1_eq arg1 arg3 arg4 arg5 arg6 arg7 arg8 f1 f3 f4 f5 f6 f7 f8, r_2_eq arg1 arg3 arg4 arg5 arg6 arg7 arg8 f1 f3 f4 f5 f6 f7 f8, r_9_eq arg1 arg3 arg4 arg5 arg6 arg7 arg8 f1 f3 f4 f5 f6 f7 f8] <;> rfl

theorem r_17_eq : run.sl.r_17 arg1 arg3 arg4 arg5 arg6 arg8 f1 f3 f4 f5 f6 f8 = negLogA (cut arg1 arg3 arg4 arg5 arg6 arg7 arg8 f1 f3 f4 f5 f6 f7 f8 0) 3 := by
  simp only [run.sl.r_17, r_1_eq arg1 arg3 arg4 arg5 arg6 arg7 arg8 f1 f3 f4 f5 f6 f7 f8, r_2_eq arg1 arg3 arg4 arg5 arg6 arg7 arg8 f1 f3 f4 f5 f6 f7 f8] <;> rfl

theorem r_19_eq : run.sl.r_19 arg1 arg3 arg4 arg5 arg6 arg7 arg8 f1 f3 f4 f5 f6 f7 f8 = hl (cut arg1 arg3 arg4 arg5 arg6 arg7 arg8 f1 f3 f4 f5 f6 f7 f8 0) 3 := by
  simp only [run.sl.r_19, run.sl.r_16, run.sl.r_18, v109_eq arg1 arg3 arg4 arg5 arg6 arg7 arg8 f1 f3 f4 f5 f6 f7 f8, r_14_eq arg1 arg3 arg4 arg5 arg6 arg7 arg8 f1 f3 f4 f5 f6 f7 f8, r_17_eq arg1 arg3 arg4 arg5 arg6 arg7 arg8 f1 f3 f4 f5 f6 f7 f8, r_1_eq arg1 arg3 arg4 arg5 arg6 arg7 arg8 f1 f3 f4 f5 f6 f7 f8, r_2_eq arg1 arg3 arg4 arg5 arg6 arg7 arg8 f1 f3 f4 f5 f6 f7 f8] <;> rfl

theorem r_23_eq : run.sl.r_23 arg1 arg3 arg4 arg5 arg6 arg7 arg8 f1 f3 f4 f5 f6 f7 f8 = hl (cut arg1 arg3 arg4 arg5 arg6 arg7 arg8 f1 f3 f4 f5 f6 f7 f8 0) 4 := by
  simp only [run.sl.r_23, run.sl.r_21, run.sl.r_22, v128_eq arg1 arg3 arg4 arg5 arg6 arg7 arg8 f1 f3 f4 f5 f6 f7 f8, r_2_eq arg1 arg3 arg4 arg5 arg6 arg7 arg8 f1 f3 f4 f5 f6 f7 f8, r_19_eq arg1 arg3 arg4 arg5 arg6 arg7 arg8 f1 f3 f4 f5 f6 f7 f8, r_1_eq arg1 arg3 arg4 arg5 arg6 arg7 arg8 f1 f3 f4 f5 f6 f7 f8] <;> rfl

theorem r_27_eq : run.sl.r_27 arg1 arg3 arg4 arg5 arg6 arg7 arg8 f1 f3 f4 f5 f6 f7 f8 = hl (cut arg1 arg3 arg4 arg5 arg6 arg7 arg8 f1 f3 f4 f5 f6 f7 f8 0) 5 := by
  simp only [run.sl.r_27, run.sl.r_25, run.sl.r_26, v147_eq arg1 arg3 arg4 arg5 arg6 arg7 arg8 f1 f3 f4 f5 f6 f7 f8, r_2_eq arg1 arg3 arg4 arg5 arg6 arg7 arg8 f1 f3 f4 f5 f6 f7 f8, r_23_eq arg1 arg3 arg4 arg5 arg6 arg7 arg8 f1 f3 f4 f5 f6 f7 f8, r_1_eq arg1 arg3 arg4 arg5 arg6 arg7 arg8 f1 f3 f4 f5 f6 f7 f8] <;> rfl

theorem r_29_eq : run.sl.r_29 arg1 arg3 arg4 arg5 f1 f3 f4 f5 = y (cut arg1 arg3 arg4 arg5 arg6 arg7 arg8 f1 f3 f4 f5 f6 f7 f8 0) 6 := by
  simp only [run.sl.r_29, r_1_eq arg1 arg3 arg4 arg5 arg6 arg7 arg8 f1 f3 f4 f5 f6 f7 f8] <;> rfl

theorem r_31_eq : run.sl.r_31 arg1 arg3 arg4 arg5 arg6 arg7 arg8 f1 f3 f4 f5 f6 f7 f8 = hl (cut arg1 arg3 arg4 arg5 arg6 arg7 arg8 f1 f3 f4 f5 f6 f7 f8 0) 6 := by
  simp only [run.sl.r_31, run.sl.r_30, v166_eq arg1 arg3 arg4 arg5 arg6 arg7 arg8 f1 f3 f4 f5 f6 f7 f8, r_2_eq arg1 arg3 arg4 arg5 arg6 arg7 arg8 f1 f3 f4 f5 f6 f7 f8, r_27_eq arg1 arg3 arg4 arg5 arg6 arg7 arg8 f1 f3 f4 f5 f6 f7 f8, r_29_eq arg1 arg3 arg4 arg5 arg6 arg7 arg8 f1 f3 f4 f5 f6 f7 f8, r_1_eq arg1 arg3 arg4 arg5 arg6 arg7 arg8 f1 f3 f4 f5 f6 f7 f8] <;> rfl

theorem r_33_eq : run.sl.r_33 arg1 arg3 arg4 arg5 arg6 arg7 arg8 f1 f3 f4 f5 f6 f7 f8 = hl (cut arg1 arg3 arg4 arg5 arg6 arg7 arg8 f1 f3 f4 f5 f6 f7 f8 0) 7 := by
  simp only [run.sl.r_33, r_eq arg1 arg3 arg4 arg5 arg6 arg7 arg8 f1 f3 f4 f5 f6 f7 f8, r_1_eq arg1 arg3 arg4 arg5 arg6 arg7 arg8 f1 f3 f4 f5 f6 f7 f8, r_2_eq arg1 arg3 arg4 arg5 arg6 arg7 arg8 f1 f3 f4 f5 f6 f7 f8, r_31_eq arg1 arg3 arg4 arg5 arg6 arg7 arg8 f1 f3 f4 f5 f6 f7 f8] <;> rfl

theorem v576_eq : run.sl.v576 arg1 arg3 arg4 arg5 arg6 arg7 arg8 f1 f3 f4 f5 f6 f7 f8 = shapeCast S1x1x256x128 (hl (cut arg1 arg3 arg4 arg5 arg6 arg7 arg8 f1 f3 f4 f5 f6 f7 f8 0) 7) shapeCasts_S256x128_S1x1x256x128 := by
  simp only [run.sl.v576, r_33_eq arg1 arg3 arg4 arg5 arg6 arg7 arg8 f1 f3 f4 f5 f6 f7 f8] <;> rfl

theorem r_5_eq : run.sl.r_5 arg1 arg3 arg4 arg5 arg6 arg8 f1 f3 f4 f5 f6 f8 = ac (cut arg1 arg3 arg4 arg5 arg6 arg7 arg8 f1 f3 f4 f5 f6 f7 f8 0) 0 := by
  simp only [run.sl.r_5, run.sl.r_4, run.sl.v33, run.sl.v35, run.sl.v37, run.sl.v36, r_2_eq arg1 arg3 arg4 arg5 arg6 arg7 arg8 f1 f3 f4 f5 f6 f7 f8, v10_eq arg1 arg3 arg4 arg5 arg6 arg7 arg8 f1 f3 f4 f5 f6 f7 f8, v12_eq arg1 arg3 arg4 arg5 arg6 arg7 arg8 f1 f3 f4 f5 f6 f7 f8, v14_eq arg1 arg3 arg4 arg5 arg6 arg7 arg8 f1 f3 f4 f5 f6 f7 f8, v16_eq arg1 arg3 arg4 arg5 arg6 arg7 arg8 f1 f3 f4 f5 f6 f7 f8, v52_eq arg1 arg3 arg4 arg5 arg6 arg7 arg8 f1 f3 f4 f5 f6 f7 f8, v71_eq arg1 arg3 arg4 arg5 arg6 arg7 arg8 f1 f3 f4 f5 f6 f7 f8, v90_eq arg1 arg3 arg4 arg5 arg6 arg7 arg8 f1 f3 f4 f5 f6 f7 f8, v109_eq arg1 arg3 arg4 arg5 arg6 arg7 arg8 f1 f3 f4 f5 f6 f7 f8, v128_eq arg1 arg3 arg4 arg5 arg6 arg7 arg8 f1 f3 f4 f5 f6 f7 f8, v147_eq arg1 arg3 arg4 arg5 arg6 arg7 arg8 f1 f3 f4 f5 f6 f7 f8, v166_eq arg1 arg3 arg4 arg5 arg6 arg7 arg8 f1 f3 f4 f5 f6 f7 f8] <;> rfl

theorem r_10_eq : run.sl.r_10 arg1 arg3 arg4 arg5 arg6 arg8 f1 f3 f4 f5 f6 f8 = ac (cut arg1 arg3 arg4 arg5 arg6 arg7 arg8 f1 f3 f4 f5 f6 f7 f8 0) 1 := by
  simp only [run.sl.r_10, run.sl.r_8, r_2_eq arg1 arg3 arg4 arg5 arg6 arg7 arg8 f1 f3 f4 f5 f6 f7 f8, r_5_eq arg1 arg3 arg4 arg5 arg6 arg7 arg8 f1 f3 f4 f5 f6 f7 f8, r_1_eq arg1 arg3 arg4 arg5 arg6 arg7 arg8 f1 f3 f4 f5 f6 f7 f8] <;> rfl

theorem r_11_eq : run.sl.r_11 arg1 arg3 arg4 arg5 arg6 arg8 f1 f3 f4 f5 f6 f8 = fac (cut arg1 arg3 arg4 arg5 arg6 arg7 arg8 f1 f3 f4 f5 f6 f7 f8 0) 2 := by
  simp only [run.sl.r_11, r_1_eq arg1 arg3 arg4 arg5 arg6 arg7 arg8 f1 f3 f4 f5 f6 f7 f8, r_2_eq arg1 arg3 arg4 arg5 arg6 arg7 arg8 f1 f3 f4 f5 f6 f7 f8] <;> rfl

theorem r_15_eq : run.sl.r_15 arg1 arg3 arg4 arg5 arg6 arg8 f1 f3 f4 f5 f6 f8 = ac (cut arg1 arg3 arg4 arg5 arg6 arg7 arg8 f1 f3 f4 f5 f6 f7 f8 0) 2 := by
  simp only [run.sl.r_15, r_10_eq arg1 arg3 arg4 arg5 arg6 arg7 arg8 f1 f3 f4 f5 f6 f7 f8, r_11_eq arg1 arg3 arg4 arg5 arg6 arg7 arg8 f1 f3 f4 f5 f6 f7 f8] <;> rfl

theorem r_20_eq : run.sl.r_20 arg1 arg3 arg4 arg5 arg6 arg8 f1 f3 f4 f5 f6 f8 = ac (cut arg1 arg3 arg4 arg5 arg6 arg7 arg8 f1 f3 f4 f5 f6 f7 f8 0) 3 := by
  simp only [run.sl.r_20, run.sl.r_18, r_15_eq arg1 arg3 arg4 arg5 arg6 arg7 arg8 f1 f3 f4 f5 f6 f7 f8, r_1_eq arg1 arg3 arg4 arg5 arg6 arg7 arg8 f1 f3 f4 f5 f6 f7 f8, r_2_eq arg1 arg3 arg4 arg5 arg6 arg7 arg8 f1 f3 f4 f5 f6 f7 f8] <;> rfl

theorem r_24_eq : run.sl.r_24 arg1 arg3 arg4 arg5 arg6 arg8 f1 f3 f4 f5 f6 f8 = ac (cut arg1 arg3 arg4 arg5 arg6 arg7 arg8 f1 f3 f4 f5 f6 f7 f8 0) 4 := by
  simp only [run.sl.r_24, run.sl.r_21, r_2_eq arg1 arg3 arg4 arg5 arg6 arg7 arg8 f1 f3 f4 f5 f6 f7 f8, r_20_eq arg1 arg3 arg4 arg5 arg6 arg7 arg8 f1 f3 f4 f5 f6 f7 f8, r_1_eq arg1 arg3 arg4 arg5 arg6 arg7 arg8 f1 f3 f4 f5 f6 f7 f8] <;> rfl

theorem r_28_eq : run.sl.r_28 arg1 arg3 arg4 arg5 arg6 arg8 f1 f3 f4 f5 f6 f8 = ac (cut arg1 arg3 arg4 arg5 arg6 arg7 arg8 f1 f3 f4 f5 f6 f7 f8 0) 5 := by
  simp only [run.sl.r_28, run.sl.r_25, r_2_eq arg1 arg3 arg4 arg5 arg6 arg7 arg8 f1 f3 f4 f5 f6 f7 f8, r_24_eq arg1 arg3 arg4 arg5 arg6 arg7 arg8 f1 f3 f4 f5 f6 f7 f8, r_1_eq arg1 arg3 arg4 arg5 arg6 arg7 arg8 f1 f3 f4 f5 f6 f7 f8] <;> rfl

theorem r_32_eq : run.sl.r_32 arg1 arg3 arg4 arg5 arg6 arg8 f1 f3 f4 f5 f6 f8 = ac (cut arg1 arg3 arg4 arg5 arg6 arg7 arg8 f1 f3 f4 f5 f6 f7 f8 0) 6 := by
  simp only [run.sl.r_32, run.sl.r_30, r_2_eq arg1 arg3 arg4 arg5 arg6 arg7 arg8 f1 f3 f4 f5 f6 f7 f8, r_28_eq arg1 arg3 arg4 arg5 arg6 arg7 arg8 f1 f3 f4 f5 f6 f7 f8, r_1_eq arg1 arg3 arg4 arg5 arg6 arg7 arg8 f1 f3 f4 f5 f6 f7 f8] <;> rfl

theorem r_34_eq : run.sl.r_34 arg1 arg3 arg4 arg5 arg6 arg8 f1 f3 f4 f5 f6 f8 = ac (cut arg1 arg3 arg4 arg5 arg6 arg7 arg8 f1 f3 f4 f5 f6 f7 f8 0) 7 := by
  simp only [run.sl.r_34, r_1_eq arg1 arg3 arg4 arg5 arg6 arg7 arg8 f1 f3 f4 f5 f6 f7 f8, r_2_eq arg1 arg3 arg4 arg5 arg6 arg7 arg8 f1 f3 f4 f5 f6 f7 f8, r_32_eq arg1 arg3 arg4 arg5 arg6 arg7 arg8 f1 f3 f4 f5 f6 f7 f8] <;> rfl

theorem v579_eq : run.sl.v579 arg1 arg3 arg4 arg5 arg6 arg8 f1 f3 f4 f5 f6 f8 = shapeCast S1x1x256x128 (ac (cut arg1 arg3 arg4 arg5 arg6 arg7 arg8 f1 f3 f4 f5 f6 f7 f8 0) 7) shapeCasts_S256x128_S1x1x256x128 := by
  simp only [run.sl.v579, r_34_eq arg1 arg3 arg4 arg5 arg6 arg7 arg8 f1 f3 f4 f5 f6 f7 f8] <;> rfl

theorem pH00 : k0_pay41 (run.sl.v52 arg1 arg3 arg4 f1 f3 f4) (run.sl.r_2 arg8 f8) (run.sl.r_3 arg1 arg3 arg4 arg5 f1 f3 f4 f5) (run.sl.r_4 arg1 arg3 arg4 arg5 arg6 f1 f3 f4 f5 f6) (View.readAt (Elt F) arg7.view (Rect.unit (s := S4x1x128) ![0, 0, 0] S1x1x128.size inb_S4x1x128_S1x1x128_0_0_0).toLoadRect f7) = shapeCast S1x1x256x128 (hl (cut arg1 arg3 arg4 arg5 arg6 arg7 arg8 f1 f3 f4 f5 f6 f7 f8 0) 0) shapeCasts_S256x128_S1x1x256x128 := by
  simp only [run.sl.r_4, run.sl.v33, run.sl.v35, run.sl.v37, run.sl.v36, v52_eq arg1 arg3 arg4 arg5 arg6 arg7 arg8 f1 f3 f4 f5 f6 f7 f8, r_2_eq arg1 arg3 arg4 arg5 arg6 arg7 arg8 f1 f3 f4 f5 f6 f7 f8, r_3_eq arg1 arg3 arg4 arg5 arg6 arg7 arg8 f1 f3 f4 f5 f6 f7 f8, v10_eq arg1 arg3 arg4 arg5 arg6 arg7 arg8 f1 f3 f4 f5 f6 f7 f8, v12_eq arg1 arg3 arg4 arg5 arg6 arg7 arg8 f1 f3 f4 f5 f6 f7 f8, v14_eq arg1 arg3 arg4 arg5 arg6 arg7 arg8 f1 f3 f4 f5 f6 f7 f8, v16_eq arg1 arg3 arg4 arg5 arg6 arg7 arg8 f1 f3 f4 f5 f6 f7 f8, v71_eq arg1 arg3 arg4 arg5 arg6 arg7 arg8 f1 f3 f4 f5 f6 f7 f8, v90_eq arg1 arg3 arg4 arg5 arg6 arg7 arg8 f1 f3 f4 f5 f6 f7 f8, v109_eq arg1 arg3 arg4 arg5 arg6 arg7 arg8 f1 f3 f4 f5 f6 f7 f8, v128_eq arg1 arg3 arg4 arg5 arg6 arg7 arg8 f1 f3 f4 f5 f6 f7 f8, v147_eq arg1 arg3 arg4 arg5 arg6 arg7 arg8 f1 f3 f4 f5 f6 f7 f8, v166_eq arg1 arg3 arg4 arg5 arg6 arg7 arg8 f1 f3 f4 f5 f6 f7 f8] <;> rfl

theorem pH01 : k0_pay49 (run.sl.v71 arg1 arg3 arg4 f1 f3 f4) (run.sl.r_2 arg8 f8) (run.sl.r_6 arg1 arg3 arg4 arg5 arg6 arg7 arg8 f1 f3 f4 f5 f6 f7 f8) (run.sl.r_7 arg1 arg3 arg4 arg5 f1 f3 f4 f5) (run.sl.r_8 arg1 arg3 arg4 arg5 f1 f3 f4 f5) (View.readAt (Elt F) arg6.view (Rect.unit (s := S4x1x128) ![0, 0, 0] S1x1x128.size inb_S4x1x128_S1x1x128_0_0_0).toLoadRect f6) (View.readAt (Elt F) arg7.view (Rect.unit (s := S4x1x128) ![0, 0, 0] S1x1x128.size inb_S4x1x128_S1x1x128_0_0_0).toLoadRect f7) = shapeCast S1x1x256x128 (hl (cut arg1 arg3 arg4 arg5 arg6 arg7 arg8 f1 f3 f4 f5 f6 f7 f8 0) 1) shapeCasts_S256x128_S1x1x256x128 := by
  simp only [run.sl.r_8, v71_eq arg1 arg3 arg4 arg5 arg6 arg7 arg8 f1 f3 f4 f5 f6 f7 f8, r_2_eq arg1 arg3 arg4 arg5 arg6 arg7 arg8 f1 f3 f4 f5 f6 f7 f8, r_6_eq arg1 arg3 arg4 arg5 arg6 arg7 arg8 f1 f3 f4 f5 f6 f7 f8, r_7_eq arg1 arg3 arg4 arg5 arg6 arg7 arg8 f1 f3 f4 f5 f6 f7 f8, r_1_eq arg1 arg3 arg4 arg5 arg6 arg7 arg8 f1 f3 f4 f5 f6 f7 f8] <;> rfl

theorem pH02 : k0_pay58 (run.sl.r_12 arg1 arg3 arg4 arg5 arg6 arg7 arg8 f1 f3 f4 f5 f6 f7 f8) (run.sl.r_13 arg1 arg3 arg4 arg5 arg6 arg7 arg8 f1 f3 f4 f5 f6 f7 f8) = shapeCast S1x1x256x128 (hl (cut arg1 arg3 arg4 arg5 arg6 arg7 arg8 f1 f3 f4 f5 f6 f7 f8 0) 2) shapeCasts_S256x128_S1x1x256x128 := by
  simp only [run.sl.r_13, r_12_eq arg1 arg3 arg4 arg5 arg6 arg7 arg8 f1 f3 f4 f5 f6 f7 f8, r_1_eq arg1 arg3 arg4 arg5 arg6 arg7 arg8 f1 f3 f4 f5 f6 f7 f8, r_2_eq arg1 arg3 arg4 arg5 arg6 arg7 arg8 f1 f3 f4 f5 f6 f7 f8, r_9_eq arg1 arg3 arg4 arg5 arg6 arg7 arg8 f1 f3 f4 f5 f6 f7 f8] <;> rfl

theorem pH03 : k0_pay67 (run.sl.v109 arg1 arg3 arg4 f1 f3 f4) (run.sl.r_14 arg1 arg3 arg4 arg5 arg6 arg7 arg8 f1 f3 f4 f5 f6 f7 f8) (run.sl.r_16 arg1 arg3 arg4 arg5 arg7 f1 f3 f4 f5 f7) (run.sl.r_17 arg1 arg3 arg4 arg5 arg6 arg8 f1 f3 f4 f5 f6 f8) (run.sl.r_18 arg1 arg3 arg4 arg5 arg6 arg8 f1 f3 f4 f5 f6 f8) = shapeCast S1x1x256x128 (hl (cut arg1 arg3 arg4 arg5 arg6 arg7 arg8 f1 f3 f4 f5 f6 f7 f8 0) 3) shapeCasts_S256x128_S1x1x256x128 := by
  simp only [run.sl.r_16, run.sl.r_18, v109_eq arg1 arg3 arg4 arg5 arg6 arg7 arg8 f1 f3 f4 f5 f6 f7 f8, r_14_eq arg1 arg3 arg4 arg5 arg6 arg7 arg8 f1 f3 f4 f5 f6 f7 f8, r_17_eq arg1 arg3 arg4 arg5 arg6 arg7 arg8 f1 f3 f4 f5 f6 f7 f8, r_1_eq arg1 arg3 arg4 arg5 arg6 arg7 arg8 f1 f3 f4 f5 f6 f7 f8, r_2_eq arg1 arg3 arg4 arg5 arg6 arg7 arg8 f1 f3 f4 f5 f6 f7 f8] <;> rfl

theorem pH04 : k0_pay76 (run.sl.v128 arg1 arg3 arg4 f1 f3 f4) (run.sl.r_2 arg8 f8) (run.sl.r_19 arg1 arg3 arg4 arg5 arg6 arg7 arg8 f1 f3 f4 f5 f6 f7 f8) (run.sl.r_21 arg1 arg3 arg4 arg5 arg6 f1 f3 f4 f5 f6) (run.sl.r_22 arg1 arg3 arg4 arg5 arg7 f1 f3 f4 f5 f7) = shapeCast S1x1x256x128 (hl (cut arg1 arg3 arg4 arg5 arg6 arg7 arg8 f1 f3 f4 f5 f6 f7 f8 0) 4) shapeCasts_S256x128_S1x1x256x128 := by
  simp only [run.sl.r_21, run.sl.r_22, v128_eq arg1 arg3 arg4 arg5 arg6 arg7 arg8 f1 f3 f4 f5 f6 f7 f8, r_2_eq arg1 arg3 arg4 arg5 arg6 arg7 arg8 f1 f3 f4 f5 f6 f7 f8, r_19_eq arg1 arg3 arg4 arg5 arg6 arg7 arg8 f1 f3 f4 f5 f6 f7 f8, r_1_eq arg1 arg3 arg4 arg5 arg6 arg7 arg8 f1 f3 f4 f5 f6 f7 f8] <;> rfl

theorem pH05 : k0_pay85 (run.sl.v147 arg1 arg3 arg4 f1 f3 f4) (run.sl.r_2 arg8 f8) (run.sl.r_23 arg1 arg3 arg4 arg5 arg6 arg7 arg8 f1 f3 f4 f5 f6 f7 f8) (run.sl.r_25 arg1 arg3 arg4 arg5 arg6 f1 f3 f4 f5 f6) (run.sl.r_26 arg1 arg3 arg4 arg5 f1 f3 f4 f5) (View.readAt (Elt F) arg7.view (Rect.unit (s := S4x1x128) ![0, 0, 0] S1x1x128.size inb_S4x1x128_S1x1x128_0_0_0).toLoadRect f7) = shapeCast S1x1x256x128 (hl (cut arg1 arg3 arg4 arg5 arg6 arg7 arg8 f1 f3 f4 f5 f6 f7 f8 0) 5) shapeCasts_S256x128_S1x1x256x128 := by
  simp only [run.sl.r_25, run.sl.r_26, v147_eq arg1 arg3 arg4 arg5 arg6 arg7 arg8 f1 f3 f4 f5 f6 f7 f8, r_2_eq arg1 arg3 arg4 arg5 arg6 arg7 arg8 f1 f3 f4 f5 f6 f7 f8, r_23_eq arg1 arg3 arg4 arg5 arg6 arg7 arg8 f1 f3 f4 f5 f6 f7 f8, r_1_eq arg1 arg3 arg4 arg5 arg6 arg7 arg8 f1 f3 f4 f5 f6 f7 f8] <;> rfl

theorem pH06 : k0_pay93 (run.sl.v166 arg1 arg3 arg4 f1 f3 f4) (run.sl.r_2 arg8 f8) (run.sl.r_27 arg1 arg3 arg4 arg5 arg6 arg7 arg8 f1 f3 f4 f5 f6 f7 f8) (run.sl.r_29 arg1 arg3 arg4 arg5 f1 f3 f4 f5) (run.sl.r_30 arg1 arg3 arg4 arg5 arg6 f1 f3 f4 f5 f6) (View.readAt (Elt F) arg7.view (Rect.unit (s := S4x1x128) ![0, 0, 0] S1x1x128.size inb_S4x1x128_S1x1x128_0_0_0).toLoadRect f7) = shapeCast S1x1x256x128 (hl (cut arg1 arg3 arg4 arg5 arg6 arg7 arg8 f1 f3 f4 f5 f6 f7 f8 0) 6) shapeCasts_S256x128_S1x1x256x128 := by
  simp only [run.sl.r_30, v166_eq arg1 arg3 arg4 arg5 arg6 arg7 arg8 f1 f3 f4 f5 f6 f7 f8, r_2_eq arg1 arg3 arg4 arg5 arg6 arg7 arg8 f1 f3 f4 f5 f6 f7 f8, r_27_eq arg1 arg3 arg4 arg5 arg6 arg7 arg8 f1 f3 f4 f5 f6 f7 f8, r_29_eq arg1 arg3 arg4 arg5 arg6 arg7 arg8 f1 f3 f4 f5 f6 f7 f8, r_1_eq arg1 arg3 arg4 arg5 arg6 arg7 arg8 f1 f3 f4 f5 f6 f7 f8] <;> rfl

theorem pH07 : run.sl.v576 arg1 arg3 arg4 arg5 arg6 arg7 arg8 f1 f3 f4 f5 f6 f7 f8 = shapeCast S1x1x256x128 (hl (cut arg1 arg3 arg4 arg5 arg6 arg7 arg8 f1 f3 f4 f5 f6 f7 f8 0) 7) shapeCasts_S256x128_S1x1x256x128 := by
  simp only [v576_eq arg1 arg3 arg4 arg5 arg6 arg7 arg8 f1 f3 f4 f5 f6 f7 f8] <;> rfl

theorem pA00 : k0_pay42 (run.sl.r_2 arg8 f8) (run.sl.r_4 arg1 arg3 arg4 arg5 arg6 f1 f3 f4 f5 f6) = shapeCast S1x1x256x128 (ac (cut arg1 arg3 arg4 arg5 arg6 arg7 arg8 f1 f3 f4 f5 f6 f7 f8 0) 0) shapeCasts_S256x128_S1x1x256x128 := by
  simp only [run.sl.r_4, run.sl.v33, run.sl.v35, run.sl.v37, run.sl.v36, r_2_eq arg1 arg3 arg4 arg5 arg6 arg7 arg8 f1 f3 f4 f5 f6 f7 f8, v10_eq arg1 arg3 arg4 arg5 arg6 arg7 arg8 f1 f3 f4 f5 f6 f7 f8, v12_eq arg1 arg3 arg4 arg5 arg6 arg7 arg8 f1 f3 f4 f5 f6 f7 f8, v14_eq arg1 arg3 arg4 arg5 arg6 arg7 arg8 f1 f3 f4 f5 f6 f7 f8, v16_eq arg1 arg3 arg4 arg5 arg6 arg7 arg8 f1 f3 f4 f5 f6 f7 f8, v52_eq arg1 arg3 arg4 arg5 arg6 arg7 arg8 f1 f3 f4 f5 f6 f7 f8, v71_eq arg1 arg3 arg4 arg5 arg6 arg7 arg8 f1 f3 f4 f5 f6 f7 f8, v90_eq arg1 arg3 arg4 arg5 arg6 arg7 arg8 f1 f3 f4 f5 f6 f7 f8, v109_eq arg1 arg3 arg4 arg5 arg6 arg7 arg8 f1 f3 f4 f5 f6 f7 f8, v128_eq arg1 arg3 arg4 arg5 arg6 arg7 arg8 f1 f3 f4 f5 f6 f7 f8, v147_eq arg1 arg3 arg4 arg5 arg6 arg7 arg8 f1 f3 f4 f5 f6 f7 f8, v166_eq arg1 arg3 arg4 arg5 arg6 arg7 arg8 f1 f3 f4 f5 f6 f7 f8] <;> rfl

theorem pA01 : k0_pay50 (run.sl.r_10 arg1 arg3 arg4 arg5 arg6 arg8 f1 f3 f4 f5 f6 f8) = shapeCast S1x1x256x128 (ac (cut arg1 arg3 arg4 arg5 arg6 arg7 arg8 f1 f3 f4 f5 f6 f7 f8 0) 1) shapeCasts_S256x128_S1x1x256x128 := by
  simp only [r_10_eq arg1 arg3 arg4 arg5 arg6 arg7 arg8 f1 f3 f4 f5 f6 f7 f8] <;> rfl

theorem pA02 : k0_pay59 (run.sl.r_10 arg1 arg3 arg4 arg5 arg6 arg8 f1 f3 f4 f5 f6 f8) (run.sl.r_11 arg1 arg3 arg4 arg5 arg6 arg8 f1 f3 f4 f5 f6 f8) = shapeCast S1x1x256x128 (ac (cut arg1 arg3 arg4 arg5 arg6 arg7 arg8 f1 f3 f4 f5 f6 f7 f8 0) 2) shapeCasts_S256x128_S1x1x256x128 := by
  simp only [r_10_eq arg1 arg3 arg4 arg5 arg6 arg7 arg8 f1 f3 f4 f5 f6 f7 f8, r_11_eq arg1 arg3 arg4 arg5 arg6 arg7 arg8 f1 f3 f4 f5 f6 f7 f8] <;> rfl

theorem pA03 : k0_pay68 (run.sl.r_15 arg1 arg3 arg4 arg5 arg6 arg8 f1 f3 f4 f5 f6 f8) (run.sl.r_18 arg1 arg3 arg4 arg5 arg6 arg8 f1 f3 f4 f5 f6 f8) = shapeCast S1x1x256x128 (ac (cut arg1 arg3 arg4 arg5 arg6 arg7 arg8 f1 f3 f4 f5 f6 f7 f8 0) 3) shapeCasts_S256x128_S1x1x256x128 := by
  simp only [run.sl.r_18, r_15_eq arg1 arg3 arg4 arg5 arg6 arg7 arg8 f1 f3 f4 f5 f6 f7 f8, r_1_eq arg1 arg3 arg4 arg5 arg6 arg7 arg8 f1 f3 f4 f5 f6 f7 f8, r_2_eq arg1 arg3 arg4 arg5 arg6 arg7 arg8 f1 f3 f4 f5 f6 f7 f8] <;> rfl

theorem pA04 : k0_pay77 (run.sl.r_2 arg8 f8) (run.sl.r_20 arg1 arg3 arg4 arg5 arg6 arg8 f1 f3 f4 f5 f6 f8) (run.sl.r_21 arg1 arg3 arg4 arg5 arg6 f1 f3 f4 f5 f6) = shapeCast S1x1x256x128 (ac (cut arg1 arg3 arg4 arg5 arg6 arg7 arg8 f1 f3 f4 f5 f6 f7 f8 0) 4) shapeCasts_S256x128_S1x1x256x128 := by
  simp only [run.sl.r_21, r_2_eq arg1 arg3 arg4 arg5 arg6 arg7 arg8 f1 f3 f4 f5 f6 f7 f8, r_20_eq arg1 arg3 arg4 arg5 arg6 arg7 arg8 f1 f3 f4 f5 f6 f7 f8, r_1_eq arg1 arg3 arg4 arg5 arg6 arg7 arg8 f1 f3 f4 f5 f6 f7 f8] <;> rfl

theorem pA05 : k0_pay86 (run.sl.r_2 arg8 f8) (run.sl.r_24 arg1 arg3 arg4 arg5 arg6 arg8 f1 f3 f4 f5 f6 f8) (run.sl.r_25 arg1 arg3 arg4 arg5 arg6 f1 f3 f4 f5 f6) = shapeCast S1x1x256x128 (ac (cut arg1 arg3 arg4 arg5 arg6 arg7 arg8 f1 f3 f4 f5 f6 f7 f8 0) 5) shapeCasts_S256x128_S1x1x256x128 := by
  simp only [run.sl.r_25, r_2_eq arg1 arg3 arg4 arg5 arg6 arg7 arg8 f1 f3 f4 f5 f6 f7 f8, r_24_eq arg1 arg3 arg4 arg5 arg6 arg7 arg8 f1 f3 f4 f5 f6 f7 f8, r_1_eq arg1 arg3 arg4 arg5 arg6 arg7 arg8 f1 f3 f4 f5 f6 f7 f8] <;> rfl

theorem pA06 : k0_pay94 (run.sl.r_32 arg1 arg3 arg4 arg5 arg6 arg8 f1 f3 f4 f5 f6 f8) = shapeCast S1x1x256x128 (ac (cut arg1 arg3 arg4 arg5 arg6 arg7 arg8 f1 f3 f4 f5 f6 f7 f8 0) 6) shapeCasts_S256x128_S1x1x256x128 := by
  simp only [r_32_eq arg1 arg3 arg4 arg5 arg6 arg7 arg8 f1 f3 f4 f5 f6 f7 f8] <;> rfl

theorem pA07 : run.sl.v579 arg1 arg3 arg4 arg5 arg6 arg8 f1 f3 f4 f5 f6 f8 = shapeCast S1x1x256x128 (ac (cut arg1 arg3 arg4 arg5 arg6 arg7 arg8 f1 f3 f4 f5 f6 f7 f8 0) 7) shapeCasts_S256x128_S1x1x256x128 := by
  simp only [v579_eq arg1 arg3 arg4 arg5 arg6 arg7 arg8 f1 f3 f4 f5 f6 f7 f8] <;> rfl

end Cert.KernelIdeal.Rec

end

end
-- ==== Proof.Rec.Slab1.lean ====
module

public import proofs.«01_k».proof.Proof.Rec.Cut

/-! Slab 1: each value the body computes for it, as a function of what the slab loads. -/

@[expose] public section

set_option maxRecDepth 16384
set_option maxHeartbeats 4000000

noncomputable section

namespace Cert.KernelIdeal.Rec

open Cert.KernelIdeal Cert.KernelIdeal.Gen
open Idealize.ShloMosaic Idealize.ShloMosaic.TcCoe Idealize.SL.Sem

variable {F : FTy → Type} [FloatOps F] [Named F]

variable (arg1 : Memref sig .tc .vmem S1x4x2048x128 .f32) (arg3 : Memref sig .tc .vmem S4x4x128 .f32) (arg4 : Memref sig .tc .vmem S4x1x128 .f32) (arg5 : Memref sig .tc .vmem S4x128x256 .bf16) (arg6 : Memref sig .tc .vmem S4x1x128 .f32) (arg7 : Memref sig .tc .vmem S4x1x128 .f32) (arg8 : Memref sig .tc .vmem S4x1x128 .f32)
variable (f1 : BufTy.Contents (Elt F) arg1.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty)

theorem v593_eq : run.sl.v593 arg1 f1 = (cut arg1 arg3 arg4 arg5 arg6 arg7 arg8 f1 f3 f4 f5 f6 f7 f8 1).x 4 := by
  simp only [run.sl.v593] <;> rfl

theorem v595_eq : run.sl.v595 arg1 f1 = (cut arg1 arg3 arg4 arg5 arg6 arg7 arg8 f1 f3 f4 f5 f6 f7 f8 1).x 5 := by
  simp only [run.sl.v595] <;> rfl

theorem v597_eq : run.sl.v597 arg1 f1 = (cut arg1 arg3 arg4 arg5 arg6 arg7 arg8 f1 f3 f4 f5 f6 f7 f8 1).x 6 := by
  simp only [run.sl.v597] <;> rfl

theorem v599_eq : run.sl.v599 arg1 f1 = (cut arg1 arg3 arg4 arg5 arg6 arg7 arg8 f1 f3 f4 f5 f6 f7 f8 1).x 7 := by
  simp only [run.sl.v599] <;> rfl

theorem v768_eq : run.sl.v768 arg1 arg3 arg4 f1 f3 f4 = xr (cut arg1 arg3 arg4 arg5 arg6 arg7 arg8 f1 f3 f4 f5 f6 f7 f8 1) 7 := by
  simp only [run.sl.v768, run.sl.v764, run.sl.v767, run.sl.v760, run.sl.v763, run.sl.v633, run.sl.v756, run.sl.v759, run.sl.v629, run.sl.v632, run.sl.v622, run.sl.v754, run.sl.v625, run.sl.v628, run.sl.v616, run.sl.v618, run.sl.v620, run.sl.v624, run.sl.v619, v599_eq arg1 arg3 arg4 arg5 arg6 arg7 arg8 f1 f3 f4 f5 f6 f7 f8, v597_eq arg1 arg3 arg4 arg5 arg6 arg7 arg8 f1 f3 f4 f5 f6 f7 f8, v595_eq arg1 arg3 arg4 arg5 arg6 arg7 arg8 f1 f3 f4 f5 f6 f7 f8, v593_eq arg1 arg3 arg4 arg5 arg6 arg7 arg8 f1 f3 f4 f5 f6 f7 f8] <;> rfl

theorem v591_eq : run.sl.v591 arg1 f1 = (cut arg1 arg3 arg4 arg5 arg6 arg7 arg8 f1 f3 f4 f5 f6 f7 f8 1).x 3 := by
  simp only [run.sl.v591] <;> rfl

theorem v749_eq : run.sl.v749 arg1 arg3 arg4 f1 f3 f4 = xr (cut arg1 arg3 arg4 arg5 arg6 arg7 arg8 f1 f3 f4 f5 f6 f7 f8 1) 6 := by
  simp only [run.sl.v749, run.sl.v745, run.sl.v748, run.sl.v741, run.sl.v744, run.sl.v633, run.sl.v737, run.sl.v740, run.sl.v629, run.sl.v632, run.sl.v622, run.sl.v735, run.sl.v625, run.sl.v628, run.sl.v616, run.sl.v618, run.sl.v620, run.sl.v624, run.sl.v619, v597_eq arg1 arg3 arg4 arg5 arg6 arg7 arg8 f1 f3 f4 f5 f6 f7 f8, v595_eq arg1 arg3 arg4 arg5 arg6 arg7 arg8 f1 f3 f4 f5 f6 f7 f8, v593_eq arg1 arg3 arg4 arg5 arg6 arg7 arg8 f1 f3 f4 f5 f6 f7 f8, v591_eq arg1 arg3 arg4 arg5 arg6 arg7 arg8 f1 f3 f4 f5 f6 f7 f8] <;> rfl

theorem v589_eq : run.sl.v589 arg1 f1 = (cut arg1 arg3 arg4 arg5 arg6 arg7 arg8 f1 f3 f4 f5 f6 f7 f8 1).x 2 := by
  simp only [run.sl.v589] <;> rfl

theorem v730_eq : run.sl.v730 arg1 arg3 arg4 f1 f3 f4 = xr (cut arg1 arg3 arg4 arg5 arg6 arg7 arg8 f1 f3 f4 f5 f6 f7 f8 1) 5 := by
  simp only [run.sl.v730, run.sl.v726, run.sl.v729, run.sl.v722, run.sl.v725, run.sl.v633, run.sl.v718, run.sl.v721, run.sl.v629, run.sl.v632, run.sl.v622, run.sl.v716, run.sl.v625, run.sl.v628, run.sl.v616, run.sl.v618, run.sl.v620, run.sl.v624, run.sl.v619, v595_eq arg1 arg3 arg4 arg5 arg6 arg7 arg8 f1 f3 f4 f5 f6 f7 f8, v593_eq arg1 arg3 arg4 arg5 arg6 arg7 arg8 f1 f3 f4 f5 f6 f7 f8, v591_eq arg1 arg3 arg4 arg5 arg6 arg7 arg8 f1 f3 f4 f5 f6 f7 f8, v589_eq arg1 arg3 arg4 arg5 arg6 arg7 arg8 f1 f3 f4 f5 f6 f7 f8] <;> rfl

theorem v614_eq : run.sl.v614 arg1 f1 = shiftDown ((cut arg1 arg3 arg4 arg5 arg6 arg7 arg8 f1 f3 f4 f5 f6 f7 f8 1).x 5) := by
  simp only [run.sl.v614, run.sl.v0, run.sl.v17, run.sl.v20, run.sl.v612, run.sl.cst, v595_eq arg1 arg3 arg4 arg5 arg6 arg7 arg8 f1 f3 f4 f5 f6 f7 f8] <;> rfl

theorem v609_eq : run.sl.v609 arg1 f1 = shiftDown ((cut arg1 arg3 arg4 arg5 arg6 arg7 arg8 f1 f3 f4 f5 f6 f7 f8 1).x 6) := by
  simp only [run.sl.v609, run.sl.v0, run.sl.v17, run.sl.v20, run.sl.v607, run.sl.cst, v597_eq arg1 arg3 arg4 arg5 arg6 arg7 arg8 f1 f3 f4 f5 f6 f7 f8] <;> rfl

theorem v604_eq : run.sl.v604 arg1 f1 = shiftDown ((cut arg1 arg3 arg4 arg5 arg6 arg7 arg8 f1 f3 f4 f5 f6 f7 f8 1).x 7) := by
  simp only [run.sl.v604, run.sl.v0, run.sl.v17, run.sl.v20, run.sl.v602, run.sl.cst, v599_eq arg1 arg3 arg4 arg5 arg6 arg7 arg8 f1 f3 f4 f5 f6 f7 f8] <;> rfl

theorem v585_eq : run.sl.v585 arg1 f1 = (cut arg1 arg3 arg4 arg5 arg6 arg7 arg8 f1 f3 f4 f5 f6 f7 f8 1).x 0 := by
  simp only [run.sl.v585] <;> rfl

theorem v635_eq : run.sl.v635 arg1 arg3 arg4 f1 f3 f4 = xr (cut arg1 arg3 arg4 arg5 arg6 arg7 arg8 f1 f3 f4 f5 f6 f7 f8 1) 0 := by
  simp only [run.sl.v635, run.sl.v631, run.sl.v634, run.sl.v627, run.sl.v630, run.sl.v633, run.sl.v623, run.sl.v626, run.sl.v629, run.sl.v632, run.sl.v622, run.sl.v621, run.sl.v625, run.sl.v628, run.sl.v616, run.sl.v618, run.sl.v620, run.sl.v624, run.sl.v619, v585_eq arg1 arg3 arg4 arg5 arg6 arg7 arg8 f1 f3 f4 f5 f6 f7 f8, v604_eq arg1 arg3 arg4 arg5 arg6 arg7 arg8 f1 f3 f4 f5 f6 f7 f8, v609_eq arg1 arg3 arg4 arg5 arg6 arg7 arg8 f1 f3 f4 f5 f6 f7 f8, v614_eq arg1 arg3 arg4 arg5 arg6 arg7 arg8 f1 f3 f4 f5 f6 f7 f8] <;> rfl

theorem v587_eq : run.sl.v587 arg1 f1 = (cut arg1 arg3 arg4 arg5 arg6 arg7 arg8 f1 f3 f4 f5 f6 f7 f8 1).x 1 := by
  simp only [run.sl.v587] <;> rfl

theorem v654_eq : run.sl.v654 arg1 arg3 arg4 f1 f3 f4 = xr (cut arg1 arg3 arg4 arg5 arg6 arg7 arg8 f1 f3 f4 f5 f6 f7 f8 1) 1 := by
  simp only [run.sl.v654, run.sl.v650, run.sl.v653, run.sl.v646, run.sl.v649, run.sl.v633, run.sl.v642, run.sl.v645, run.sl.v629, run.sl.v632, run.sl.v622, run.sl.v640, run.sl.v625, run.sl.v628, run.sl.v616, run.sl.v618, run.sl.v620, run.sl.v624, run.sl.v619, v587_eq arg1 arg3 arg4 arg5 arg6 arg7 arg8 f1 f3 f4 f5 f6 f7 f8, v585_eq arg1 arg3 arg4 arg5 arg6 arg7 arg8 f1 f3 f4 f5 f6 f7 f8, v604_eq arg1 arg3 arg4 arg5 arg6 arg7 arg8 f1 f3 f4 f5 f6 f7 f8, v609_eq arg1 arg3 arg4 arg5 arg6 arg7 arg8 f1 f3 f4 f5 f6 f7 f8] <;> rfl

theorem v673_eq : run.sl.v673 arg1 arg3 arg4 f1 f3 f4 = xr (cut arg1 arg3 arg4 arg5 arg6 arg7 arg8 f1 f3 f4 f5 f6 f7 f8 1) 2 := by
  simp only [run.sl.v673, run.sl.v669, run.sl.v672, run.sl.v665, run.sl.v668, run.sl.v633, run.sl.v661, run.sl.v664, run.sl.v629, run.sl.v632, run.sl.v622, run.sl.v659, run.sl.v625, run.sl.v628, run.sl.v616, run.sl.v618, run.sl.v620, run.sl.v624, run.sl.v619, v589_eq arg1 arg3 arg4 arg5 arg6 arg7 arg8 f1 f3 f4 f5 f6 f7 f8, v587_eq arg1 arg3 arg4 arg5 arg6 arg7 arg8 f1 f3 f4 f5 f6 f7 f8, v585_eq arg1 arg3 arg4 arg5 arg6 arg7 arg8 f1 f3 f4 f5 f6 f7 f8, v604_eq arg1 arg3 arg4 arg5 arg6 arg7 arg8 f1 f3 f4 f5 f6 f7 f8] <;> rfl

theorem v692_eq : run.sl.v692 arg1 arg3 arg4 f1 f3 f4 = xr (cut arg1 arg3 arg4 arg5 arg6 arg7 arg8 f1 f3 f4 f5 f6 f7 f8 1) 3 := by
  simp only [run.sl.v692, run.sl.v688, run.sl.v691, run.sl.v684, run.sl.v687, run.sl.v633, run.sl.v680, run.sl.v683, run.sl.v629, run.sl.v632, run.sl.v622, run.sl.v678, run.sl.v625, run.sl.v628, run.sl.v616, run.sl.v618, run.sl.v620, run.sl.v624, run.sl.v619, v591_eq arg1 arg3 arg4 arg5 arg6 arg7 arg8 f1 f3 f4 f5 f6 f7 f8, v589_eq arg1 arg3 arg4 arg5 arg6 arg7 arg8 f1 f3 f4 f5 f6 f7 f8, v587_eq arg1 arg3 arg4 arg5 arg6 arg7 arg8 f1 f3 f4 f5 f6 f7 f8, v585_eq arg1 arg3 arg4 arg5 arg6 arg7 arg8 f1 f3 f4 f5 f6 f7 f8] <;> rfl

theorem v711_eq : run.sl.v711 arg1 arg3 arg4 f1 f3 f4 = xr (cut arg1 arg3 arg4 arg5 arg6 arg7 arg8 f1 f3 f4 f5 f6 f7 f8 1) 4 := by
  simp only [run.sl.v711, run.sl.v707, run.sl.v710, run.sl.v703, run.sl.v706, run.sl.v633, run.sl.v699, run.sl.v702, run.sl.v629, run.sl.v632, run.sl.v622, run.sl.v697, run.sl.v625, run.sl.v628, run.sl.v616, run.sl.v618, run.sl.v620, run.sl.v624, run.sl.v619, v593_eq arg1 arg3 arg4 arg5 arg6 arg7 arg8 f1 f3 f4 f5 f6 f7 f8, v591_eq arg1 arg3 arg4 arg5 arg6 arg7 arg8 f1 f3 f4 f5 f6 f7 f8, v589_eq arg1 arg3 arg4 arg5 arg6 arg7 arg8 f1 f3 f4 f5 f6 f7 f8, v587_eq arg1 arg3 arg4 arg5 arg6 arg7 arg8 f1 f3 f4 f5 f6 f7 f8] <;> rfl

theorem v773_eq : run.sl.v773 arg1 arg3 arg4 arg5 f1 f3 f4 f5 = yAll (cut arg1 arg3 arg4 arg5 arg6 arg7 arg8 f1 f3 f4 f5 f6 f7 f8 1) := by
  simp only [run.sl.v773, run.sl.v772, run.sl.v771, run.sl.cst_320, run.sl.v769, v635_eq arg1 arg3 arg4 arg5 arg6 arg7 arg8 f1 f3 f4 f5 f6 f7 f8, v654_eq arg1 arg3 arg4 arg5 arg6 arg7 arg8 f1 f3 f4 f5 f6 f7 f8, v673_eq arg1 arg3 arg4 arg5 arg6 arg7 arg8 f1 f3 f4 f5 f6 f7 f8, v692_eq arg1 arg3 arg4 arg5 arg6 arg7 arg8 f1 f3 f4 f5 f6 f7 f8, v711_eq arg1 arg3 arg4 arg5 arg6 arg7 arg8 f1 f3 f4 f5 f6 f7 f8, v730_eq arg1 arg3 arg4 arg5 arg6 arg7 arg8 f1 f3 f4 f5 f6 f7 f8, v749_eq arg1 arg3 arg4 arg5 arg6 arg7 arg8 f1 f3 f4 f5 f6 f7 f8, v768_eq arg1 arg3 arg4 arg5 arg6 arg7 arg8 f1 f3 f4 f5 f6 f7 f8] <;> rfl

theorem r_35_eq : run.sl.r_35 arg8 f8 = decay (cut arg1 arg3 arg4 arg5 arg6 arg7 arg8 f1 f3 f4 f5 f6 f7 f8 1) := by
  simp only [run.sl.r_35, run.sl.v779, run.sl.v783, run.sl.v777, run.sl.v776, run.sl.v782, run.sl.v775, run.sl.cst, run.sl.v780] <;> rfl

theorem r_37_eq : run.sl.r_37 arg1 arg3 arg4 arg5 arg6 arg7 arg8 f1 f3 f4 f5 f6 f7 f8 = hl (cut arg1 arg3 arg4 arg5 arg6 arg7 arg8 f1 f3 f4 f5 f6 f7 f8 1) 0 := by
  simp only [run.sl.r_37, run.sl.v779, run.sl.v783, run.sl.v777, run.sl.v776, run.sl.v782, run.sl.v775, run.sl.cst, run.sl.v780, v635_eq arg1 arg3 arg4 arg5 arg6 arg7 arg8 f1 f3 f4 f5 f6 f7 f8, v773_eq arg1 arg3 arg4 arg5 arg6 arg7 arg8 f1 f3 f4 f5 f6 f7 f8] <;> rfl

theorem r_39_eq : run.sl.r_39 arg1 arg3 arg4 arg5 arg6 arg8 f1 f3 f4 f5 f6 f8 = fac (cut arg1 arg3 arg4 arg5 arg6 arg7 arg8 f1 f3 f4 f5 f6 f7 f8 1) 1 := by
  simp only [run.sl.r_39, v773_eq arg1 arg3 arg4 arg5 arg6 arg7 arg8 f1 f3 f4 f5 f6 f7 f8, r_35_eq arg1 arg3 arg4 arg5 arg6 arg7 arg8 f1 f3 f4 f5 f6 f7 f8] <;> rfl

theorem r_41_eq : run.sl.r_41 arg1 arg3 arg4 arg5 arg6 arg7 arg8 f1 f3 f4 f5 f6 f7 f8 = hl (cut arg1 arg3 arg4 arg5 arg6 arg7 arg8 f1 f3 f4 f5 f6 f7 f8 1) 1 := by
  simp only [run.sl.r_41, run.sl.r_38, run.sl.r_40, v654_eq arg1 arg3 arg4 arg5 arg6 arg7 arg8 f1 f3 f4 f5 f6 f7 f8, r_37_eq arg1 arg3 arg4 arg5 arg6 arg7 arg8 f1 f3 f4 f5 f6 f7 f8, r_39_eq arg1 arg3 arg4 arg5 arg6 arg7 arg8 f1 f3 f4 f5 f6 f7 f8, v773_eq arg1 arg3 arg4 arg5 arg6 arg7 arg8 f1 f3 f4 f5 f6 f7 f8, r_35_eq arg1 arg3 arg4 arg5 arg6 arg7 arg8 f1 f3 f4 f5 f6 f7 f8] <;> rfl

theorem r_45_eq : run.sl.r_45 arg1 arg3 arg4 arg5 arg6 arg7 arg8 f1 f3 f4 f5 f6 f7 f8 = hl (cut arg1 arg3 arg4 arg5 arg6 arg7 arg8 f1 f3 f4 f5 f6 f7 f8 1) 2 := by
  simp only [run.sl.r_45, run.sl.r_43, run.sl.r_44, v673_eq arg1 arg3 arg4 arg5 arg6 arg7 arg8 f1 f3 f4 f5 f6 f7 f8, r_35_eq arg1 arg3 arg4 arg5 arg6 arg7 arg8 f1 f3 f4 f5 f6 f7 f8, r_41_eq arg1 arg3 arg4 arg5 arg6 arg7 arg8 f1 f3 f4 f5 f6 f7 f8, v773_eq arg1 arg3 arg4 arg5 arg6 arg7 arg8 f1 f3 f4 f5 f6 f7 f8] <;> rfl

theorem r_49_eq : run.sl.r_49 arg1 arg3 arg4 arg5 arg6 arg7 arg8 f1 f3 f4 f5 f6 f7 f8 = hl (cut arg1 arg3 arg4 arg5 arg6 arg7 arg8 f1 f3 f4 f5 f6 f7 f8 1) 3 := by
  simp only [run.sl.r_49, run.sl.r_47, run.sl.r_48, v692_eq arg1 arg3 arg4 arg5 arg6 arg7 arg8 f1 f3 f4 f5 f6 f7 f8, r_35_eq arg1 arg3 arg4 arg5 arg6 arg7 arg8 f1 f3 f4 f5 f6 f7 f8, r_45_eq arg1 arg3 arg4 arg5 arg6 arg7 arg8 f1 f3 f4 f5 f6 f7 f8, v773_eq arg1 arg3 arg4 arg5 arg6 arg7 arg8 f1 f3 f4 f5 f6 f7 f8] <;> rfl

theorem r_51_eq : run.sl.r_51 arg1 arg3 arg4 arg5 f1 f3 f4 f5 = y (cut arg1 arg3 arg4 arg5 arg6 arg7 arg8 f1 f3 f4 f5 f6 f7 f8 1) 4 := by
  simp only [run.sl.r_51, v773_eq arg1 arg3 arg4 arg5 arg6 arg7 arg8 f1 f3 f4 f5 f6 f7 f8] <;> rfl

theorem r_53_eq : run.sl.r_53 arg1 arg3 arg4 arg5 arg6 arg7 arg8 f1 f3 f4 f5 f6 f7 f8 = hl (cut arg1 arg3 arg4 arg5 arg6 arg7 arg8 f1 f3 f4 f5 f6 f7 f8 1) 4 := by
  simp only [run.sl.r_53, run.sl.r_52, v711_eq arg1 arg3 arg4 arg5 arg6 arg7 arg8 f1 f3 f4 f5 f6 f7 f8, r_35_eq arg1 arg3 arg4 arg5 arg6 arg7 arg8 f1 f3 f4 f5 f6 f7 f8, r_49_eq arg1 arg3 arg4 arg5 arg6 arg7 arg8 f1 f3 f4 f5 f6 f7 f8, r_51_eq arg1 arg3 arg4 arg5 arg6 arg7 arg8 f1 f3 f4 f5 f6 f7 f8, v773_eq arg1 arg3 arg4 arg5 arg6 arg7 arg8 f1 f3 f4 f5 f6 f7 f8] <;> rfl

theorem r_55_eq : run.sl.r_55 arg1 arg3 arg4 arg5 arg6 arg7 arg8 f1 f3 f4 f5 f6 f7 f8 = hl (cut arg1 arg3 arg4 arg5 arg6 arg7 arg8 f1 f3 f4 f5 f6 f7 f8 1) 5 := by
  simp only [run.sl.r_55, v730_eq arg1 arg3 arg4 arg5 arg6 arg7 arg8 f1 f3 f4 f5 f6 f7 f8, v773_eq arg1 arg3 arg4 arg5 arg6 arg7 arg8 f1 f3 f4 f5 f6 f7 f8, r_35_eq arg1 arg3 arg4 arg5 arg6 arg7 arg8 f1 f3 f4 f5 f6 f7 f8, r_53_eq arg1 arg3 arg4 arg5 arg6 arg7 arg8 f1 f3 f4 f5 f6 f7 f8] <;> rfl

theorem r_58_eq : run.sl.r_58 arg1 arg3 arg4 arg5 arg6 arg8 f1 f3 f4 f5 f6 f8 = fac (cut arg1 arg3 arg4 arg5 arg6 arg7 arg8 f1 f3 f4 f5 f6 f7 f8 1) 6 := by
  simp only [run.sl.r_58, v773_eq arg1 arg3 arg4 arg5 arg6 arg7 arg8 f1 f3 f4 f5 f6 f7 f8, r_35_eq arg1 arg3 arg4 arg5 arg6 arg7 arg8 f1 f3 f4 f5 f6 f7 f8] <;> rfl

theorem r_60_eq : run.sl.r_60 arg1 arg3 arg4 arg5 arg6 arg7 arg8 f1 f3 f4 f5 f6 f7 f8 = hl (cut arg1 arg3 arg4 arg5 arg6 arg7 arg8 f1 f3 f4 f5 f6 f7 f8 1) 6 := by
  simp only [run.sl.r_60, run.sl.r_57, run.sl.r_59, v749_eq arg1 arg3 arg4 arg5 arg6 arg7 arg8 f1 f3 f4 f5 f6 f7 f8, r_55_eq arg1 arg3 arg4 arg5 arg6 arg7 arg8 f1 f3 f4 f5 f6 f7 f8, r_58_eq arg1 arg3 arg4 arg5 arg6 arg7 arg8 f1 f3 f4 f5 f6 f7 f8, v773_eq arg1 arg3 arg4 arg5 arg6 arg7 arg8 f1 f3 f4 f5 f6 f7 f8, r_35_eq arg1 arg3 arg4 arg5 arg6 arg7 arg8 f1 f3 f4 f5 f6 f7 f8] <;> rfl

theorem r_36_eq : run.sl.r_36 arg1 arg3 arg4 arg5 arg6 arg8 f1 f3 f4 f5 f6 f8 = ac (cut arg1 arg3 arg4 arg5 arg6 arg7 arg8 f1 f3 f4 f5 f6 f7 f8 1) 0 := by
  simp only [run.sl.r_36, run.sl.v779, run.sl.v783, run.sl.v777, run.sl.v776, run.sl.v782, run.sl.v775, run.sl.cst, run.sl.v780, v773_eq arg1 arg3 arg4 arg5 arg6 arg7 arg8 f1 f3 f4 f5 f6 f7 f8] <;> rfl

theorem r_42_eq : run.sl.r_42 arg1 arg3 arg4 arg5 arg6 arg8 f1 f3 f4 f5 f6 f8 = ac (cut arg1 arg3 arg4 arg5 arg6 arg7 arg8 f1 f3 f4 f5 f6 f7 f8 1) 1 := by
  simp only [run.sl.r_42, r_36_eq arg1 arg3 arg4 arg5 arg6 arg7 arg8 f1 f3 f4 f5 f6 f7 f8, r_39_eq arg1 arg3 arg4 arg5 arg6 arg7 arg8 f1 f3 f4 f5 f6 f7 f8] <;> rfl

theorem r_46_eq : run.sl.r_46 arg1 arg3 arg4 arg5 arg6 arg8 f1 f3 f4 f5 f6 f8 = ac (cut arg1 arg3 arg4 arg5 arg6 arg7 arg8 f1 f3 f4 f5 f6 f7 f8 1) 2 := by
  simp only [run.sl.r_46, run.sl.r_43, r_35_eq arg1 arg3 arg4 arg5 arg6 arg7 arg8 f1 f3 f4 f5 f6 f7 f8, r_42_eq arg1 arg3 arg4 arg5 arg6 arg7 arg8 f1 f3 f4 f5 f6 f7 f8, v773_eq arg1 arg3 arg4 arg5 arg6 arg7 arg8 f1 f3 f4 f5 f6 f7 f8] <;> rfl

theorem r_50_eq : run.sl.r_50 arg1 arg3 arg4 arg5 arg6 arg8 f1 f3 f4 f5 f6 f8 = ac (cut arg1 arg3 arg4 arg5 arg6 arg7 arg8 f1 f3 f4 f5 f6 f7 f8 1) 3 := by
  simp only [run.sl.r_50, run.sl.r_47, r_35_eq arg1 arg3 arg4 arg5 arg6 arg7 arg8 f1 f3 f4 f5 f6 f7 f8, r_46_eq arg1 arg3 arg4 arg5 arg6 arg7 arg8 f1 f3 f4 f5 f6 f7 f8, v773_eq arg1 arg3 arg4 arg5 arg6 arg7 arg8 f1 f3 f4 f5 f6 f7 f8] <;> rfl

theorem r_54_eq : run.sl.r_54 arg1 arg3 arg4 arg5 arg6 arg8 f1 f3 f4 f5 f6 f8 = ac (cut arg1 arg3 arg4 arg5 arg6 arg7 arg8 f1 f3 f4 f5 f6 f7 f8 1) 4 := by
  simp only [run.sl.r_54, run.sl.r_52, r_35_eq arg1 arg3 arg4 arg5 arg6 arg7 arg8 f1 f3 f4 f5 f6 f7 f8, r_50_eq arg1 arg3 arg4 arg5 arg6 arg7 arg8 f1 f3 f4 f5 f6 f7 f8, v773_eq arg1 arg3 arg4 arg5 arg6 arg7 arg8 f1 f3 f4 f5 f6 f7 f8] <;> rfl

theorem r_56_eq : run.sl.r_56 arg1 arg3 arg4 arg5 arg6 arg8 f1 f3 f4 f5 f6 f8 = ac (cut arg1 arg3 arg4 arg5 arg6 arg7 arg8 f1 f3 f4 f5 f6 f7 f8 1) 5 := by
  simp only [run.sl.r_56, v773_eq arg1 arg3 arg4 arg5 arg6 arg7 arg8 f1 f3 f4 f5 f6 f7 f8, r_35_eq arg1 arg3 arg4 arg5 arg6 arg7 arg8 f1 f3 f4 f5 f6 f7 f8, r_54_eq arg1 arg3 arg4 arg5 arg6 arg7 arg8 f1 f3 f4 f5 f6 f7 f8] <;> rfl

theorem r_61_eq : run.sl.r_61 arg1 arg3 arg4 arg5 arg6 arg8 f1 f3 f4 f5 f6 f8 = ac (cut arg1 arg3 arg4 arg5 arg6 arg7 arg8 f1 f3 f4 f5 f6 f7 f8 1) 6 := by
  simp only [run.sl.r_61, r_56_eq arg1 arg3 arg4 arg5 arg6 arg7 arg8 f1 f3 f4 f5 f6 f7 f8, r_58_eq arg1 arg3 arg4 arg5 arg6 arg7 arg8 f1 f3 f4 f5 f6 f7 f8] <;> rfl

theorem pH10 : k0_pay137 (run.sl.r_37 arg1 arg3 arg4 arg5 arg6 arg7 arg8 f1 f3 f4 f5 f6 f7 f8) = shapeCast S1x1x256x128 (hl (cut arg1 arg3 arg4 arg5 arg6 arg7 arg8 f1 f3 f4 f5 f6 f7 f8 1) 0) shapeCasts_S256x128_S1x1x256x128 := by
  simp only [r_37_eq arg1 arg3 arg4 arg5 arg6 arg7 arg8 f1 f3 f4 f5 f6 f7 f8] <;> rfl

theorem pH11 : k0_pay146 (run.sl.v654 arg1 arg3 arg4 f1 f3 f4) (run.sl.r_37 arg1 arg3 arg4 arg5 arg6 arg7 arg8 f1 f3 f4 f5 f6 f7 f8) (run.sl.r_38 arg1 arg3 arg4 arg5 arg7 f1 f3 f4 f5 f7) (run.sl.r_39 arg1 arg3 arg4 arg5 arg6 arg8 f1 f3 f4 f5 f6 f8) (run.sl.r_40 arg1 arg3 arg4 arg5 arg6 arg8 f1 f3 f4 f5 f6 f8) = shapeCast S1x1x256x128 (hl (cut arg1 arg3 arg4 arg5 arg6 arg7 arg8 f1 f3 f4 f5 f6 f7 f8 1) 1) shapeCasts_S256x128_S1x1x256x128 := by
  simp only [run.sl.r_38, run.sl.r_40, v654_eq arg1 arg3 arg4 arg5 arg6 arg7 arg8 f1 f3 f4 f5 f6 f7 f8, r_37_eq arg1 arg3 arg4 arg5 arg6 arg7 arg8 f1 f3 f4 f5 f6 f7 f8, r_39_eq arg1 arg3 arg4 arg5 arg6 arg7 arg8 f1 f3 f4 f5 f6 f7 f8, v773_eq arg1 arg3 arg4 arg5 arg6 arg7 arg8 f1 f3 f4 f5 f6 f7 f8, r_35_eq arg1 arg3 arg4 arg5 arg6 arg7 arg8 f1 f3 f4 f5 f6 f7 f8] <;> rfl

theorem pH12 : k0_pay156 (run.sl.v673 arg1 arg3 arg4 f1 f3 f4) (run.sl.r_35 arg8 f8) (run.sl.r_41 arg1 arg3 arg4 arg5 arg6 arg7 arg8 f1 f3 f4 f5 f6 f7 f8) (run.sl.r_43 arg1 arg3 arg4 arg5 arg6 f1 f3 f4 f5 f6) (run.sl.r_44 arg1 arg3 arg4 arg5 arg7 f1 f3 f4 f5 f7) k0_pay151 = shapeCast S1x1x256x128 (hl (cut arg1 arg3 arg4 arg5 arg6 arg7 arg8 f1 f3 f4 f5 f6 f7 f8 1) 2) shapeCasts_S256x128_S1x1x256x128 := by
  simp only [run.sl.r_43, run.sl.r_44, v673_eq arg1 arg3 arg4 arg5 arg6 arg7 arg8 f1 f3 f4 f5 f6 f7 f8, r_35_eq arg1 arg3 arg4 arg5 arg6 arg7 arg8 f1 f3 f4 f5 f6 f7 f8, r_41_eq arg1 arg3 arg4 arg5 arg6 arg7 arg8 f1 f3 f4 f5 f6 f7 f8, v773_eq arg1 arg3 arg4 arg5 arg6 arg7 arg8 f1 f3 f4 f5 f6 f7 f8] <;> rfl

theorem pH13 : k0_pay165 (run.sl.v692 arg1 arg3 arg4 f1 f3 f4) (run.sl.r_35 arg8 f8) (run.sl.r_45 arg1 arg3 arg4 arg5 arg6 arg7 arg8 f1 f3 f4 f5 f6 f7 f8) (run.sl.r_47 arg1 arg3 arg4 arg5 arg6 f1 f3 f4 f5 f6) (run.sl.r_48 arg1 arg3 arg4 arg5 f1 f3 f4 f5) (View.readAt (Elt F) arg7.view (Rect.unit (s := S4x1x128) ![1, 0, 0] S1x1x128.size inb_S4x1x128_S1x1x128_1_0_0).toLoadRect f7) = shapeCast S1x1x256x128 (hl (cut arg1 arg3 arg4 arg5 arg6 arg7 arg8 f1 f3 f4 f5 f6 f7 f8 1) 3) shapeCasts_S256x128_S1x1x256x128 := by
  simp only [run.sl.r_47, run.sl.r_48, v692_eq arg1 arg3 arg4 arg5 arg6 arg7 arg8 f1 f3 f4 f5 f6 f7 f8, r_35_eq arg1 arg3 arg4 arg5 arg6 arg7 arg8 f1 f3 f4 f5 f6 f7 f8, r_45_eq arg1 arg3 arg4 arg5 arg6 arg7 arg8 f1 f3 f4 f5 f6 f7 f8, v773_eq arg1 arg3 arg4 arg5 arg6 arg7 arg8 f1 f3 f4 f5 f6 f7 f8] <;> rfl

theorem pH14 : k0_pay174 (run.sl.v711 arg1 arg3 arg4 f1 f3 f4) (run.sl.r_35 arg8 f8) (run.sl.r_49 arg1 arg3 arg4 arg5 arg6 arg7 arg8 f1 f3 f4 f5 f6 f7 f8) (run.sl.r_51 arg1 arg3 arg4 arg5 f1 f3 f4 f5) (run.sl.r_52 arg1 arg3 arg4 arg5 arg6 f1 f3 f4 f5 f6) k0_pay169 (View.readAt (Elt F) arg7.view (Rect.unit (s := S4x1x128) ![1, 0, 0] S1x1x128.size inb_S4x1x128_S1x1x128_1_0_0).toLoadRect f7) = shapeCast S1x1x256x128 (hl (cut arg1 arg3 arg4 arg5 arg6 arg7 arg8 f1 f3 f4 f5 f6 f7 f8 1) 4) shapeCasts_S256x128_S1x1x256x128 := by
  simp only [run.sl.r_52, v711_eq arg1 arg3 arg4 arg5 arg6 arg7 arg8 f1 f3 f4 f5 f6 f7 f8, r_35_eq arg1 arg3 arg4 arg5 arg6 arg7 arg8 f1 f3 f4 f5 f6 f7 f8, r_49_eq arg1 arg3 arg4 arg5 arg6 arg7 arg8 f1 f3 f4 f5 f6 f7 f8, r_51_eq arg1 arg3 arg4 arg5 arg6 arg7 arg8 f1 f3 f4 f5 f6 f7 f8, v773_eq arg1 arg3 arg4 arg5 arg6 arg7 arg8 f1 f3 f4 f5 f6 f7 f8] <;> rfl

theorem pH15 : k0_pay181 (run.sl.r_55 arg1 arg3 arg4 arg5 arg6 arg7 arg8 f1 f3 f4 f5 f6 f7 f8) = shapeCast S1x1x256x128 (hl (cut arg1 arg3 arg4 arg5 arg6 arg7 arg8 f1 f3 f4 f5 f6 f7 f8 1) 5) shapeCasts_S256x128_S1x1x256x128 := by
  simp only [r_55_eq arg1 arg3 arg4 arg5 arg6 arg7 arg8 f1 f3 f4 f5 f6 f7 f8] <;> rfl

theorem pH16 : k0_pay190 (run.sl.v749 arg1 arg3 arg4 f1 f3 f4) (run.sl.r_55 arg1 arg3 arg4 arg5 arg6 arg7 arg8 f1 f3 f4 f5 f6 f7 f8) (run.sl.r_57 arg1 arg3 arg4 arg5 arg7 f1 f3 f4 f5 f7) (run.sl.r_58 arg1 arg3 arg4 arg5 arg6 arg8 f1 f3 f4 f5 f6 f8) (run.sl.r_59 arg1 arg3 arg4 arg5 arg6 arg8 f1 f3 f4 f5 f6 f8) = shapeCast S1x1x256x128 (hl (cut arg1 arg3 arg4 arg5 arg6 arg7 arg8 f1 f3 f4 f5 f6 f7 f8 1) 6) shapeCasts_S256x128_S1x1x256x128 := by
  simp only [run.sl.r_57, run.sl.r_59, v749_eq arg1 arg3 arg4 arg5 arg6 arg7 arg8 f1 f3 f4 f5 f6 f7 f8, r_55_eq arg1 arg3 arg4 arg5 arg6 arg7 arg8 f1 f3 f4 f5 f6 f7 f8, r_58_eq arg1 arg3 arg4 arg5 arg6 arg7 arg8 f1 f3 f4 f5 f6 f7 f8, v773_eq arg1 arg3 arg4 arg5 arg6 arg7 arg8 f1 f3 f4 f5 f6 f7 f8, r_35_eq arg1 arg3 arg4 arg5 arg6 arg7 arg8 f1 f3 f4 f5 f6 f7 f8] <;> rfl

theorem pH17 : k0_pay198 (run.sl.v768 arg1 arg3 arg4 f1 f3 f4) (run.sl.r_60 arg1 arg3 arg4 arg5 arg6 arg7 arg8 f1 f3 f4 f5 f6 f7 f8) (run.sl.r_62 arg1 arg3 arg4 arg5 arg6 f1 f3 f4 f5 f6) (run.sl.r_63 arg1 arg3 arg4 arg5 arg7 f1 f3 f4 f5 f7) (run.sl.r_64 arg8 f8) = shapeCast S1x1x256x128 (hl (cut arg1 arg3 arg4 arg5 arg6 arg7 arg8 f1 f3 f4 f5 f6 f7 f8 1) 7) shapeCasts_S256x128_S1x1x256x128 := by
  simp only [run.sl.r_62, run.sl.r_63, run.sl.r_64, v768_eq arg1 arg3 arg4 arg5 arg6 arg7 arg8 f1 f3 f4 f5 f6 f7 f8, r_60_eq arg1 arg3 arg4 arg5 arg6 arg7 arg8 f1 f3 f4 f5 f6 f7 f8, v773_eq arg1 arg3 arg4 arg5 arg6 arg7 arg8 f1 f3 f4 f5 f6 f7 f8, r_35_eq arg1 arg3 arg4 arg5 arg6 arg7 arg8 f1 f3 f4 f5 f6 f7 f8] <;> rfl

theorem pA10 : k0_pay138 (run.sl.r_36 arg1 arg3 arg4 arg5 arg6 arg8 f1 f3 f4 f5 f6 f8) = shapeCast S1x1x256x128 (ac (cut arg1 arg3 arg4 arg5 arg6 arg7 arg8 f1 f3 f4 f5 f6 f7 f8 1) 0) shapeCasts_S256x128_S1x1x256x128 := by
  simp only [r_36_eq arg1 arg3 arg4 arg5 arg6 arg7 arg8 f1 f3 f4 f5 f6 f7 f8] <;> rfl

theorem pA11 : k0_pay147 (run.sl.r_36 arg1 arg3 arg4 arg5 arg6 arg8 f1 f3 f4 f5 f6 f8) (run.sl.r_39 arg1 arg3 arg4 arg5 arg6 arg8 f1 f3 f4 f5 f6 f8) = shapeCast S1x1x256x128 (ac (cut arg1 arg3 arg4 arg5 arg6 arg7 arg8 f1 f3 f4 f5 f6 f7 f8 1) 1) shapeCasts_S256x128_S1x1x256x128 := by
  simp only [r_36_eq arg1 arg3 arg4 arg5 arg6 arg7 arg8 f1 f3 f4 f5 f6 f7 f8, r_39_eq arg1 arg3 arg4 arg5 arg6 arg7 arg8 f1 f3 f4 f5 f6 f7 f8] <;> rfl

theorem pA12 : k0_pay157 (run.sl.r_35 arg8 f8) (run.sl.r_42 arg1 arg3 arg4 arg5 arg6 arg8 f1 f3 f4 f5 f6 f8) (run.sl.r_43 arg1 arg3 arg4 arg5 arg6 f1 f3 f4 f5 f6) = shapeCast S1x1x256x128 (ac (cut arg1 arg3 arg4 arg5 arg6 arg7 arg8 f1 f3 f4 f5 f6 f7 f8 1) 2) shapeCasts_S256x128_S1x1x256x128 := by
  simp only [run.sl.r_43, r_35_eq arg1 arg3 arg4 arg5 arg6 arg7 arg8 f1 f3 f4 f5 f6 f7 f8, r_42_eq arg1 arg3 arg4 arg5 arg6 arg7 arg8 f1 f3 f4 f5 f6 f7 f8, v773_eq arg1 arg3 arg4 arg5 arg6 arg7 arg8 f1 f3 f4 f5 f6 f7 f8] <;> rfl

theorem pA13 : k0_pay166 (run.sl.r_35 arg8 f8) (run.sl.r_46 arg1 arg3 arg4 arg5 arg6 arg8 f1 f3 f4 f5 f6 f8) (run.sl.r_47 arg1 arg3 arg4 arg5 arg6 f1 f3 f4 f5 f6) = shapeCast S1x1x256x128 (ac (cut arg1 arg3 arg4 arg5 arg6 arg7 arg8 f1 f3 f4 f5 f6 f7 f8 1) 3) shapeCasts_S256x128_S1x1x256x128 := by
  simp only [run.sl.r_47, r_35_eq arg1 arg3 arg4 arg5 arg6 arg7 arg8 f1 f3 f4 f5 f6 f7 f8, r_46_eq arg1 arg3 arg4 arg5 arg6 arg7 arg8 f1 f3 f4 f5 f6 f7 f8, v773_eq arg1 arg3 arg4 arg5 arg6 arg7 arg8 f1 f3 f4 f5 f6 f7 f8] <;> rfl

theorem pA14 : k0_pay175 (run.sl.r_35 arg8 f8) (run.sl.r_50 arg1 arg3 arg4 arg5 arg6 arg8 f1 f3 f4 f5 f6 f8) (run.sl.r_52 arg1 arg3 arg4 arg5 arg6 f1 f3 f4 f5 f6) k0_pay169 = shapeCast S1x1x256x128 (ac (cut arg1 arg3 arg4 arg5 arg6 arg7 arg8 f1 f3 f4 f5 f6 f7 f8 1) 4) shapeCasts_S256x128_S1x1x256x128 := by
  simp only [run.sl.r_52, r_35_eq arg1 arg3 arg4 arg5 arg6 arg7 arg8 f1 f3 f4 f5 f6 f7 f8, r_50_eq arg1 arg3 arg4 arg5 arg6 arg7 arg8 f1 f3 f4 f5 f6 f7 f8, v773_eq arg1 arg3 arg4 arg5 arg6 arg7 arg8 f1 f3 f4 f5 f6 f7 f8] <;> rfl

theorem pA15 : k0_pay182 (run.sl.r_56 arg1 arg3 arg4 arg5 arg6 arg8 f1 f3 f4 f5 f6 f8) = shapeCast S1x1x256x128 (ac (cut arg1 arg3 arg4 arg5 arg6 arg7 arg8 f1 f3 f4 f5 f6 f7 f8 1) 5) shapeCasts_S256x128_S1x1x256x128 := by
  simp only [r_56_eq arg1 arg3 arg4 arg5 arg6 arg7 arg8 f1 f3 f4 f5 f6 f7 f8] <;> rfl

theorem pA16 : k0_pay191 (run.sl.r_56 arg1 arg3 arg4 arg5 arg6 arg8 f1 f3 f4 f5 f6 f8) (run.sl.r_58 arg1 arg3 arg4 arg5 arg6 arg8 f1 f3 f4 f5 f6 f8) = shapeCast S1x1x256x128 (ac (cut arg1 arg3 arg4 arg5 arg6 arg7 arg8 f1 f3 f4 f5 f6 f7 f8 1) 6) shapeCasts_S256x128_S1x1x256x128 := by
  simp only [r_56_eq arg1 arg3 arg4 arg5 arg6 arg7 arg8 f1 f3 f4 f5 f6 f7 f8, r_58_eq arg1 arg3 arg4 arg5 arg6 arg7 arg8 f1 f3 f4 f5 f6 f7 f8] <;> rfl

theorem pA17 : k0_pay199 (run.sl.r_61 arg1 arg3 arg4 arg5 arg6 arg8 f1 f3 f4 f5 f6 f8) (run.sl.r_62 arg1 arg3 arg4 arg5 arg6 f1 f3 f4 f5 f6) (run.sl.r_64 arg8 f8) = shapeCast S1x1x256x128 (ac (cut arg1 arg3 arg4 arg5 arg6 arg7 arg8 f1 f3 f4 f5 f6 f7 f8 1) 7) shapeCasts_S256x128_S1x1x256x128 := by
  simp only [run.sl.r_62, run.sl.r_64, r_61_eq arg1 arg3 arg4 arg5 arg6 arg7 arg8 f1 f3 f4 f5 f6 f7 f8, v773_eq arg1 arg3 arg4 arg5 arg6 arg7 arg8 f1 f3 f4 f5 f6 f7 f8, r_35_eq arg1 arg3 arg4 arg5 arg6 arg7 arg8 f1 f3 f4 f5 f6 f7 f8] <;> rfl

end Cert.KernelIdeal.Rec

end

end
-- ==== Proof.Rec.Slab2.lean ====
module

public import proofs.«01_k».proof.Proof.Rec.Cut

/-! Slab 2: each value the body computes for it, as a function of what the slab loads. -/

@[expose] public section

set_option maxRecDepth 16384
set_option maxHeartbeats 4000000

noncomputable section

namespace Cert.KernelIdeal.Rec

open Cert.KernelIdeal Cert.KernelIdeal.Gen
open Idealize.ShloMosaic Idealize.ShloMosaic.TcCoe Idealize.SL.Sem

variable {F : FTy → Type} [FloatOps F] [Named F]

variable (arg1 : Memref sig .tc .vmem S1x4x2048x128 .f32) (arg3 : Memref sig .tc .vmem S4x4x128 .f32) (arg4 : Memref sig .tc .vmem S4x1x128 .f32) (arg5 : Memref sig .tc .vmem S4x128x256 .bf16) (arg6 : Memref sig .tc .vmem S4x1x128 .f32) (arg7 : Memref sig .tc .vmem S4x1x128 .f32) (arg8 : Memref sig .tc .vmem S4x1x128 .f32)
variable (f1 : BufTy.Contents (Elt F) arg1.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty)

theorem v1176_eq : run.sl.v1176 arg1 f1 = (cut arg1 arg3 arg4 arg5 arg6 arg7 arg8 f1 f3 f4 f5 f6 f7 f8 2).x 4 := by
  simp only [run.sl.v1176] <;> rfl

theorem v1178_eq : run.sl.v1178 arg1 f1 = (cut arg1 arg3 arg4 arg5 arg6 arg7 arg8 f1 f3 f4 f5 f6 f7 f8 2).x 5 := by
  simp only [run.sl.v1178] <;> rfl

theorem v1180_eq : run.sl.v1180 arg1 f1 = (cut arg1 arg3 arg4 arg5 arg6 arg7 arg8 f1 f3 f4 f5 f6 f7 f8 2).x 6 := by
  simp only [run.sl.v1180] <;> rfl

theorem v1182_eq : run.sl.v1182 arg1 f1 = (cut arg1 arg3 arg4 arg5 arg6 arg7 arg8 f1 f3 f4 f5 f6 f7 f8 2).x 7 := by
  simp only [run.sl.v1182] <;> rfl

theorem v1351_eq : run.sl.v1351 arg1 arg3 arg4 f1 f3 f4 = xr (cut arg1 arg3 arg4 arg5 arg6 arg7 arg8 f1 f3 f4 f5 f6 f7 f8 2) 7 := by
  simp only [run.sl.v1351, run.sl.v1347, run.sl.v1350, run.sl.v1343, run.sl.v1346, run.sl.v1216, run.sl.v1339, run.sl.v1342, run.sl.v1212, run.sl.v1215, run.sl.v1205, run.sl.v1337, run.sl.v1208, run.sl.v1211, run.sl.v1199, run.sl.v1201, run.sl.v1203, run.sl.v1207, run.sl.v1202, v1182_eq arg1 arg3 arg4 arg5 arg6 arg7 arg8 f1 f3 f4 f5 f6 f7 f8, v1180_eq arg1 arg3 arg4 arg5 arg6 arg7 arg8 f1 f3 f4 f5 f6 f7 f8, v1178_eq arg1 arg3 arg4 arg5 arg6 arg7 arg8 f1 f3 f4 f5 f6 f7 f8, v1176_eq arg1 arg3 arg4 arg5 arg6 arg7 arg8 f1 f3 f4 f5 f6 f7 f8] <;> rfl

theorem r_70_eq : run.sl.r_70 arg8 f8 = decay (cut arg1 arg3 arg4 arg5 arg6 arg7 arg8 f1 f3 f4 f5 f6 f7 f8 2) := by
  simp only [run.sl.r_70] <;> rfl

theorem v1174_eq : run.sl.v1174 arg1 f1 = (cut arg1 arg3 arg4 arg5 arg6 arg7 arg8 f1 f3 f4 f5 f6 f7 f8 2).x 3 := by
  simp only [run.sl.v1174] <;> rfl

theorem v1332_eq : run.sl.v1332 arg1 arg3 arg4 f1 f3 f4 = xr (cut arg1 arg3 arg4 arg5 arg6 arg7 arg8 f1 f3 f4 f5 f6 f7 f8 2) 6 := by
  simp only [run.sl.v1332, run.sl.v1328, run.sl.v1331, run.sl.v1324, run.sl.v1327, run.sl.v1216, run.sl.v1320, run.sl.v1323, run.sl.v1212, run.sl.v1215, run.sl.v1205, run.sl.v1318, run.sl.v1208, run.sl.v1211, run.sl.v1199, run.sl.v1201, run.sl.v1203, run.sl.v1207, run.sl.v1202, v1180_eq arg1 arg3 arg4 arg5 arg6 arg7 arg8 f1 f3 f4 f5 f6 f7 f8, v1178_eq arg1 arg3 arg4 arg5 arg6 arg7 arg8 f1 f3 f4 f5 f6 f7 f8, v1176_eq arg1 arg3 arg4 arg5 arg6 arg7 arg8 f1 f3 f4 f5 f6 f7 f8, v1174_eq arg1 arg3 arg4 arg5 arg6 arg7 arg8 f1 f3 f4 f5 f6 f7 f8] <;> rfl

theorem r_67_eq : run.sl.r_67 arg1 f1 = (cut arg1 arg3 arg4 arg5 arg6 arg7 arg8 f1 f3 f4 f5 f6 f7 f8 2).x 2 := by
  simp only [run.sl.r_67] <;> rfl

theorem v1313_eq : run.sl.v1313 arg1 arg3 arg4 f1 f3 f4 = xr (cut arg1 arg3 arg4 arg5 arg6 arg7 arg8 f1 f3 f4 f5 f6 f7 f8 2) 5 := by
  simp only [run.sl.v1313, run.sl.v1309, run.sl.v1312, run.sl.v1305, run.sl.v1308, run.sl.v1216, run.sl.v1301, run.sl.v1304, run.sl.v1212, run.sl.v1215, run.sl.v1205, run.sl.v1299, run.sl.v1208, run.sl.v1211, run.sl.v1199, run.sl.v1201, run.sl.v1203, run.sl.v1207, run.sl.v1202, v1178_eq arg1 arg3 arg4 arg5 arg6 arg7 arg8 f1 f3 f4 f5 f6 f7 f8, v1176_eq arg1 arg3 arg4 arg5 arg6 arg7 arg8 f1 f3 f4 f5 f6 f7 f8, v1174_eq arg1 arg3 arg4 arg5 arg6 arg7 arg8 f1 f3 f4 f5 f6 f7 f8, r_67_eq arg1 arg3 arg4 arg5 arg6 arg7 arg8 f1 f3 f4 f5 f6 f7 f8] <;> rfl

theorem r_65_eq : run.sl.r_65 arg1 f1 = (cut arg1 arg3 arg4 arg5 arg6 arg7 arg8 f1 f3 f4 f5 f6 f7 f8 2).x 0 := by
  simp only [run.sl.r_65] <;> rfl

theorem r_66_eq : run.sl.r_66 arg1 f1 = (cut arg1 arg3 arg4 arg5 arg6 arg7 arg8 f1 f3 f4 f5 f6 f7 f8 2).x 1 := by
  simp only [run.sl.r_66] <;> rfl

theorem v1275_eq : run.sl.v1275 arg1 arg3 arg4 f1 f3 f4 = xr (cut arg1 arg3 arg4 arg5 arg6 arg7 arg8 f1 f3 f4 f5 f6 f7 f8 2) 3 := by
  simp only [run.sl.v1275, run.sl.v1271, run.sl.v1274, run.sl.v1267, run.sl.v1270, run.sl.v1216, run.sl.v1263, run.sl.v1266, run.sl.v1212, run.sl.v1215, run.sl.v1205, run.sl.v1261, run.sl.v1208, run.sl.v1211, run.sl.v1199, run.sl.v1201, run.sl.v1203, run.sl.v1207, run.sl.v1202, v1174_eq arg1 arg3 arg4 arg5 arg6 arg7 arg8 f1 f3 f4 f5 f6 f7 f8, r_67_eq arg1 arg3 arg4 arg5 arg6 arg7 arg8 f1 f3 f4 f5 f6 f7 f8, r_66_eq arg1 arg3 arg4 arg5 arg6 arg7 arg8 f1 f3 f4 f5 f6 f7 f8, r_65_eq arg1 arg3 arg4 arg5 arg6 arg7 arg8 f1 f3 f4 f5 f6 f7 f8] <;> rfl

theorem v1187_eq : run.sl.v1187 arg1 f1 = shiftDown ((cut arg1 arg3 arg4 arg5 arg6 arg7 arg8 f1 f3 f4 f5 f6 f7 f8 2).x 7) := by
  simp only [run.sl.v1187, run.sl.v0, run.sl.v17, run.sl.v20, run.sl.v1185, run.sl.cst, v1182_eq arg1 arg3 arg4 arg5 arg6 arg7 arg8 f1 f3 f4 f5 f6 f7 f8] <;> rfl

theorem v1256_eq : run.sl.v1256 arg1 arg3 arg4 f1 f3 f4 = xr (cut arg1 arg3 arg4 arg5 arg6 arg7 arg8 f1 f3 f4 f5 f6 f7 f8 2) 2 := by
  simp only [run.sl.v1256, run.sl.v1252, run.sl.v1255, run.sl.v1248, run.sl.v1251, run.sl.v1216, run.sl.v1244, run.sl.v1247, run.sl.v1212, run.sl.v1215, run.sl.v1205, run.sl.v1242, run.sl.v1208, run.sl.v1211, run.sl.v1199, run.sl.v1201, run.sl.v1203, run.sl.v1207, run.sl.v1202, r_67_eq arg1 arg3 arg4 arg5 arg6 arg7 arg8 f1 f3 f4 f5 f6 f7 f8, r_66_eq arg1 arg3 arg4 arg5 arg6 arg7 arg8 f1 f3 f4 f5 f6 f7 f8, r_65_eq arg1 arg3 arg4 arg5 arg6 arg7 arg8 f1 f3 f4 f5 f6 f7 f8, v1187_eq arg1 arg3 arg4 arg5 arg6 arg7 arg8 f1 f3 f4 f5 f6 f7 f8] <;> rfl

theorem v1192_eq : run.sl.v1192 arg1 f1 = shiftDown ((cut arg1 arg3 arg4 arg5 arg6 arg7 arg8 f1 f3 f4 f5 f6 f7 f8 2).x 6) := by
  simp only [run.sl.v1192, run.sl.v0, run.sl.v17, run.sl.v20, run.sl.v1190, run.sl.cst, v1180_eq arg1 arg3 arg4 arg5 arg6 arg7 arg8 f1 f3 f4 f5 f6 f7 f8] <;> rfl

theorem v1237_eq : run.sl.v1237 arg1 arg3 arg4 f1 f3 f4 = xr (cut arg1 arg3 arg4 arg5 arg6 arg7 arg8 f1 f3 f4 f5 f6 f7 f8 2) 1 := by
  simp only [run.sl.v1237, run.sl.v1233, run.sl.v1236, run.sl.v1229, run.sl.v1232, run.sl.v1216, run.sl.v1225, run.sl.v1228, run.sl.v1212, run.sl.v1215, run.sl.v1205, run.sl.v1223, run.sl.v1208, run.sl.v1211, run.sl.v1199, run.sl.v1201, run.sl.v1203, run.sl.v1207, run.sl.v1202, r_66_eq arg1 arg3 arg4 arg5 arg6 arg7 arg8 f1 f3 f4 f5 f6 f7 f8, r_65_eq arg1 arg3 arg4 arg5 arg6 arg7 arg8 f1 f3 f4 f5 f6 f7 f8, v1187_eq arg1 arg3 arg4 arg5 arg6 arg7 arg8 f1 f3 f4 f5 f6 f7 f8, v1192_eq arg1 arg3 arg4 arg5 arg6 arg7 arg8 f1 f3 f4 f5 f6 f7 f8] <;> rfl

theorem v1197_eq : run.sl.v1197 arg1 f1 = shiftDown ((cut arg1 arg3 arg4 arg5 arg6 arg7 arg8 f1 f3 f4 f5 f6 f7 f8 2).x 5) := by
  simp only [run.sl.v1197, run.sl.v0, run.sl.v17, run.sl.v20, run.sl.v1195, run.sl.cst, v1178_eq arg1 arg3 arg4 arg5 arg6 arg7 arg8 f1 f3 f4 f5 f6 f7 f8] <;> rfl

theorem v1218_eq : run.sl.v1218 arg1 arg3 arg4 f1 f3 f4 = xr (cut arg1 arg3 arg4 arg5 arg6 arg7 arg8 f1 f3 f4 f5 f6 f7 f8 2) 0 := by
  simp only [run.sl.v1218, run.sl.v1214, run.sl.v1217, run.sl.v1210, run.sl.v1213, run.sl.v1216, run.sl.v1206, run.sl.v1209, run.sl.v1212, run.sl.v1215, run.sl.v1205, run.sl.v1204, run.sl.v1208, run.sl.v1211, run.sl.v1199, run.sl.v1201, run.sl.v1203, run.sl.v1207, run.sl.v1202, r_65_eq arg1 arg3 arg4 arg5 arg6 arg7 arg8 f1 f3 f4 f5 f6 f7 f8, v1187_eq arg1 arg3 arg4 arg5 arg6 arg7 arg8 f1 f3 f4 f5 f6 f7 f8, v1192_eq arg1 arg3 arg4 arg5 arg6 arg7 arg8 f1 f3 f4 f5 f6 f7 f8, v1197_eq arg1 arg3 arg4 arg5 arg6 arg7 arg8 f1 f3 f4 f5 f6 f7 f8] <;> rfl

theorem v1294_eq : run.sl.v1294 arg1 arg3 arg4 f1 f3 f4 = xr (cut arg1 arg3 arg4 arg5 arg6 arg7 arg8 f1 f3 f4 f5 f6 f7 f8 2) 4 := by
  simp only [run.sl.v1294, run.sl.v1290, run.sl.v1293, run.sl.v1286, run.sl.v1289, run.sl.v1216, run.sl.v1282, run.sl.v1285, run.sl.v1212, run.sl.v1215, run.sl.v1205, run.sl.v1280, run.sl.v1208, run.sl.v1211, run.sl.v1199, run.sl.v1201, run.sl.v1203, run.sl.v1207, run.sl.v1202, v1176_eq arg1 arg3 arg4 arg5 arg6 arg7 arg8 f1 f3 f4 f5 f6 f7 f8, v1174_eq arg1 arg3 arg4 arg5 arg6 arg7 arg8 f1 f3 f4 f5 f6 f7 f8, r_67_eq arg1 arg3 arg4 arg5 arg6 arg7 arg8 f1 f3 f4 f5 f6 f7 f8, r_66_eq arg1 arg3 arg4 arg5 arg6 arg7 arg8 f1 f3 f4 f5 f6 f7 f8] <;> rfl

theorem r_74_eq : run.sl.r_74 arg1 arg3 arg4 arg5 arg6 arg7 arg8 f1 f3 f4 f5 f6 f7 f8 = hl (cut arg1 arg3 arg4 arg5 arg6 arg7 arg8 f1 f3 f4 f5 f6 f7 f8 2) 0 := by
  simp only [run.sl.r_74, run.sl.r_71, run.sl.r_72, run.sl.cst_599, run.sl.v1352, run.sl.r_68, v1218_eq arg1 arg3 arg4 arg5 arg6 arg7 arg8 f1 f3 f4 f5 f6 f7 f8, r_70_eq arg1 arg3 arg4 arg5 arg6 arg7 arg8 f1 f3 f4 f5 f6 f7 f8, v1237_eq arg1 arg3 arg4 arg5 arg6 arg7 arg8 f1 f3 f4 f5 f6 f7 f8, v1256_eq arg1 arg3 arg4 arg5 arg6 arg7 arg8 f1 f3 f4 f5 f6 f7 f8, v1275_eq arg1 arg3 arg4 arg5 arg6 arg7 arg8 f1 f3 f4 f5 f6 f7 f8, v1294_eq arg1 arg3 arg4 arg5 arg6 arg7 arg8 f1 f3 f4 f5 f6 f7 f8, v1313_eq arg1 arg3 arg4 arg5 arg6 arg7 arg8 f1 f3 f4 f5 f6 f7 f8, v1332_eq arg1 arg3 arg4 arg5 arg6 arg7 arg8 f1 f3 f4 f5 f6 f7 f8, v1351_eq arg1 arg3 arg4 arg5 arg6 arg7 arg8 f1 f3 f4 f5 f6 f7 f8] <;> rfl

theorem r_69_eq : run.sl.r_69 arg1 arg3 arg4 arg5 f1 f3 f4 f5 = yAll (cut arg1 arg3 arg4 arg5 arg6 arg7 arg8 f1 f3 f4 f5 f6 f7 f8 2) := by
  simp only [run.sl.r_69, run.sl.v1352, run.sl.r_68, v1218_eq arg1 arg3 arg4 arg5 arg6 arg7 arg8 f1 f3 f4 f5 f6 f7 f8, v1237_eq arg1 arg3 arg4 arg5 arg6 arg7 arg8 f1 f3 f4 f5 f6 f7 f8, v1256_eq arg1 arg3 arg4 arg5 arg6 arg7 arg8 f1 f3 f4 f5 f6 f7 f8, v1275_eq arg1 arg3 arg4 arg5 arg6 arg7 arg8 f1 f3 f4 f5 f6 f7 f8, v1294_eq arg1 arg3 arg4 arg5 arg6 arg7 arg8 f1 f3 f4 f5 f6 f7 f8, v1313_eq arg1 arg3 arg4 arg5 arg6 arg7 arg8 f1 f3 f4 f5 f6 f7 f8, v1332_eq arg1 arg3 arg4 arg5 arg6 arg7 arg8 f1 f3 f4 f5 f6 f7 f8, v1351_eq arg1 arg3 arg4 arg5 arg6 arg7 arg8 f1 f3 f4 f5 f6 f7 f8] <;> rfl

theorem r_78_eq : run.sl.r_78 arg1 arg3 arg4 arg5 arg6 arg7 arg8 f1 f3 f4 f5 f6 f7 f8 = hl (cut arg1 arg3 arg4 arg5 arg6 arg7 arg8 f1 f3 f4 f5 f6 f7 f8 2) 1 := by
  simp only [run.sl.r_78, run.sl.r_75, run.sl.r_76, run.sl.r_77, v1237_eq arg1 arg3 arg4 arg5 arg6 arg7 arg8 f1 f3 f4 f5 f6 f7 f8, r_70_eq arg1 arg3 arg4 arg5 arg6 arg7 arg8 f1 f3 f4 f5 f6 f7 f8, r_74_eq arg1 arg3 arg4 arg5 arg6 arg7 arg8 f1 f3 f4 f5 f6 f7 f8, r_69_eq arg1 arg3 arg4 arg5 arg6 arg7 arg8 f1 f3 f4 f5 f6 f7 f8] <;> rfl

theorem r_80_eq : run.sl.r_80 arg1 arg3 arg4 arg5 f1 f3 f4 f5 = y (cut arg1 arg3 arg4 arg5 arg6 arg7 arg8 f1 f3 f4 f5 f6 f7 f8 2) 2 := by
  simp only [run.sl.r_80, r_69_eq arg1 arg3 arg4 arg5 arg6 arg7 arg8 f1 f3 f4 f5 f6 f7 f8] <;> rfl

theorem r_82_eq : run.sl.r_82 arg1 arg3 arg4 arg5 arg6 arg7 arg8 f1 f3 f4 f5 f6 f7 f8 = hl (cut arg1 arg3 arg4 arg5 arg6 arg7 arg8 f1 f3 f4 f5 f6 f7 f8 2) 2 := by
  simp only [run.sl.r_82, run.sl.r_81, v1256_eq arg1 arg3 arg4 arg5 arg6 arg7 arg8 f1 f3 f4 f5 f6 f7 f8, r_70_eq arg1 arg3 arg4 arg5 arg6 arg7 arg8 f1 f3 f4 f5 f6 f7 f8, r_78_eq arg1 arg3 arg4 arg5 arg6 arg7 arg8 f1 f3 f4 f5 f6 f7 f8, r_80_eq arg1 arg3 arg4 arg5 arg6 arg7 arg8 f1 f3 f4 f5 f6 f7 f8, r_69_eq arg1 arg3 arg4 arg5 arg6 arg7 arg8 f1 f3 f4 f5 f6 f7 f8] <;> rfl

theorem r_84_eq : run.sl.r_84 arg1 arg3 arg4 arg5 f1 f3 f4 f5 = y (cut arg1 arg3 arg4 arg5 arg6 arg7 arg8 f1 f3 f4 f5 f6 f7 f8 2) 3 := by
  simp only [run.sl.r_84, r_69_eq arg1 arg3 arg4 arg5 arg6 arg7 arg8 f1 f3 f4 f5 f6 f7 f8] <;> rfl

theorem r_86_eq : run.sl.r_86 arg1 arg3 arg4 arg5 arg6 arg7 arg8 f1 f3 f4 f5 f6 f7 f8 = hl (cut arg1 arg3 arg4 arg5 arg6 arg7 arg8 f1 f3 f4 f5 f6 f7 f8 2) 3 := by
  simp only [run.sl.r_86, run.sl.r_85, v1275_eq arg1 arg3 arg4 arg5 arg6 arg7 arg8 f1 f3 f4 f5 f6 f7 f8, r_70_eq arg1 arg3 arg4 arg5 arg6 arg7 arg8 f1 f3 f4 f5 f6 f7 f8, r_82_eq arg1 arg3 arg4 arg5 arg6 arg7 arg8 f1 f3 f4 f5 f6 f7 f8, r_84_eq arg1 arg3 arg4 arg5 arg6 arg7 arg8 f1 f3 f4 f5 f6 f7 f8, r_69_eq arg1 arg3 arg4 arg5 arg6 arg7 arg8 f1 f3 f4 f5 f6 f7 f8] <;> rfl

theorem r_89_eq : run.sl.r_89 arg1 arg3 arg4 arg5 arg6 arg8 f1 f3 f4 f5 f6 f8 = fac (cut arg1 arg3 arg4 arg5 arg6 arg7 arg8 f1 f3 f4 f5 f6 f7 f8 2) 4 := by
  simp only [run.sl.r_89, r_69_eq arg1 arg3 arg4 arg5 arg6 arg7 arg8 f1 f3 f4 f5 f6 f7 f8, r_70_eq arg1 arg3 arg4 arg5 arg6 arg7 arg8 f1 f3 f4 f5 f6 f7 f8] <;> rfl

theorem r_92_eq : run.sl.r_92 arg1 arg3 arg4 arg5 arg6 arg7 arg8 f1 f3 f4 f5 f6 f7 f8 = hl (cut arg1 arg3 arg4 arg5 arg6 arg7 arg8 f1 f3 f4 f5 f6 f7 f8 2) 4 := by
  simp only [run.sl.r_92, run.sl.r_90, run.sl.r_91, r_86_eq arg1 arg3 arg4 arg5 arg6 arg7 arg8 f1 f3 f4 f5 f6 f7 f8, r_89_eq arg1 arg3 arg4 arg5 arg6 arg7 arg8 f1 f3 f4 f5 f6 f7 f8, r_69_eq arg1 arg3 arg4 arg5 arg6 arg7 arg8 f1 f3 f4 f5 f6 f7 f8, r_70_eq arg1 arg3 arg4 arg5 arg6 arg7 arg8 f1 f3 f4 f5 f6 f7 f8, v1294_eq arg1 arg3 arg4 arg5 arg6 arg7 arg8 f1 f3 f4 f5 f6 f7 f8] <;> rfl

theorem r_95_eq : run.sl.r_95 arg1 arg3 arg4 arg5 arg6 arg8 f1 f3 f4 f5 f6 f8 = negLogA (cut arg1 arg3 arg4 arg5 arg6 arg7 arg8 f1 f3 f4 f5 f6 f7 f8 2) 5 := by
  simp only [run.sl.r_95, r_69_eq arg1 arg3 arg4 arg5 arg6 arg7 arg8 f1 f3 f4 f5 f6 f7 f8, r_70_eq arg1 arg3 arg4 arg5 arg6 arg7 arg8 f1 f3 f4 f5 f6 f7 f8] <;> rfl

theorem r_96_eq : run.sl.r_96 arg1 arg3 arg4 arg5 arg6 arg7 arg8 f1 f3 f4 f5 f6 f7 f8 = hl (cut arg1 arg3 arg4 arg5 arg6 arg7 arg8 f1 f3 f4 f5 f6 f7 f8 2) 5 := by
  simp only [run.sl.r_96, run.sl.r_94, run.sl.cst_711, v1313_eq arg1 arg3 arg4 arg5 arg6 arg7 arg8 f1 f3 f4 f5 f6 f7 f8, r_92_eq arg1 arg3 arg4 arg5 arg6 arg7 arg8 f1 f3 f4 f5 f6 f7 f8, r_95_eq arg1 arg3 arg4 arg5 arg6 arg7 arg8 f1 f3 f4 f5 f6 f7 f8, r_69_eq arg1 arg3 arg4 arg5 arg6 arg7 arg8 f1 f3 f4 f5 f6 f7 f8] <;> rfl

theorem r_100_eq : run.sl.r_100 arg1 arg3 arg4 arg5 arg6 arg7 arg8 f1 f3 f4 f5 f6 f7 f8 = hl (cut arg1 arg3 arg4 arg5 arg6 arg7 arg8 f1 f3 f4 f5 f6 f7 f8 2) 6 := by
  simp only [run.sl.r_100, run.sl.r_98, run.sl.r_99, v1332_eq arg1 arg3 arg4 arg5 arg6 arg7 arg8 f1 f3 f4 f5 f6 f7 f8, r_70_eq arg1 arg3 arg4 arg5 arg6 arg7 arg8 f1 f3 f4 f5 f6 f7 f8, r_96_eq arg1 arg3 arg4 arg5 arg6 arg7 arg8 f1 f3 f4 f5 f6 f7 f8, r_69_eq arg1 arg3 arg4 arg5 arg6 arg7 arg8 f1 f3 f4 f5 f6 f7 f8] <;> rfl

theorem r_102_eq : run.sl.r_102 arg1 arg3 arg4 arg5 f1 f3 f4 f5 = y (cut arg1 arg3 arg4 arg5 arg6 arg7 arg8 f1 f3 f4 f5 f6 f7 f8 2) 7 := by
  simp only [run.sl.r_102, r_69_eq arg1 arg3 arg4 arg5 arg6 arg7 arg8 f1 f3 f4 f5 f6 f7 f8] <;> rfl

theorem r_88_eq : run.sl.r_88 arg1 arg3 arg4 arg5 arg6 arg7 arg8 f1 f3 f4 f5 f6 f7 f8 = shapeCast S1x1x256x128 (hl (cut arg1 arg3 arg4 arg5 arg6 arg7 arg8 f1 f3 f4 f5 f6 f7 f8 2) 3) shapeCasts_S256x128_S1x1x256x128 := by
  simp only [run.sl.r_88, run.sl.r_85, v1275_eq arg1 arg3 arg4 arg5 arg6 arg7 arg8 f1 f3 f4 f5 f6 f7 f8, r_70_eq arg1 arg3 arg4 arg5 arg6 arg7 arg8 f1 f3 f4 f5 f6 f7 f8, r_82_eq arg1 arg3 arg4 arg5 arg6 arg7 arg8 f1 f3 f4 f5 f6 f7 f8, r_84_eq arg1 arg3 arg4 arg5 arg6 arg7 arg8 f1 f3 f4 f5 f6 f7 f8, r_69_eq arg1 arg3 arg4 arg5 arg6 arg7 arg8 f1 f3 f4 f5 f6 f7 f8] <;> rfl

theorem r_73_eq : run.sl.r_73 arg1 arg3 arg4 arg5 arg6 arg8 f1 f3 f4 f5 f6 f8 = ac (cut arg1 arg3 arg4 arg5 arg6 arg7 arg8 f1 f3 f4 f5 f6 f7 f8 2) 0 := by
  simp only [run.sl.r_73, run.sl.r_71, run.sl.v1352, run.sl.r_68, r_70_eq arg1 arg3 arg4 arg5 arg6 arg7 arg8 f1 f3 f4 f5 f6 f7 f8, v1218_eq arg1 arg3 arg4 arg5 arg6 arg7 arg8 f1 f3 f4 f5 f6 f7 f8, v1237_eq arg1 arg3 arg4 arg5 arg6 arg7 arg8 f1 f3 f4 f5 f6 f7 f8, v1256_eq arg1 arg3 arg4 arg5 arg6 arg7 arg8 f1 f3 f4 f5 f6 f7 f8, v1275_eq arg1 arg3 arg4 arg5 arg6 arg7 arg8 f1 f3 f4 f5 f6 f7 f8, v1294_eq arg1 arg3 arg4 arg5 arg6 arg7 arg8 f1 f3 f4 f5 f6 f7 f8, v1313_eq arg1 arg3 arg4 arg5 arg6 arg7 arg8 f1 f3 f4 f5 f6 f7 f8, v1332_eq arg1 arg3 arg4 arg5 arg6 arg7 arg8 f1 f3 f4 f5 f6 f7 f8, v1351_eq arg1 arg3 arg4 arg5 arg6 arg7 arg8 f1 f3 f4 f5 f6 f7 f8] <;> rfl

theorem r_79_eq : run.sl.r_79 arg1 arg3 arg4 arg5 arg6 arg8 f1 f3 f4 f5 f6 f8 = ac (cut arg1 arg3 arg4 arg5 arg6 arg7 arg8 f1 f3 f4 f5 f6 f7 f8 2) 1 := by
  simp only [run.sl.r_79, run.sl.r_75, r_70_eq arg1 arg3 arg4 arg5 arg6 arg7 arg8 f1 f3 f4 f5 f6 f7 f8, r_73_eq arg1 arg3 arg4 arg5 arg6 arg7 arg8 f1 f3 f4 f5 f6 f7 f8, r_69_eq arg1 arg3 arg4 arg5 arg6 arg7 arg8 f1 f3 f4 f5 f6 f7 f8] <;> rfl

theorem r_83_eq : run.sl.r_83 arg1 arg3 arg4 arg5 arg6 arg8 f1 f3 f4 f5 f6 f8 = ac (cut arg1 arg3 arg4 arg5 arg6 arg7 arg8 f1 f3 f4 f5 f6 f7 f8 2) 2 := by
  simp only [run.sl.r_83, run.sl.r_81, r_70_eq arg1 arg3 arg4 arg5 arg6 arg7 arg8 f1 f3 f4 f5 f6 f7 f8, r_79_eq arg1 arg3 arg4 arg5 arg6 arg7 arg8 f1 f3 f4 f5 f6 f7 f8, r_69_eq arg1 arg3 arg4 arg5 arg6 arg7 arg8 f1 f3 f4 f5 f6 f7 f8] <;> rfl

theorem r_87_eq : run.sl.r_87 arg1 arg3 arg4 arg5 arg6 arg8 f1 f3 f4 f5 f6 f8 = ac (cut arg1 arg3 arg4 arg5 arg6 arg7 arg8 f1 f3 f4 f5 f6 f7 f8 2) 3 := by
  simp only [run.sl.r_87, run.sl.r_85, r_70_eq arg1 arg3 arg4 arg5 arg6 arg7 arg8 f1 f3 f4 f5 f6 f7 f8, r_83_eq arg1 arg3 arg4 arg5 arg6 arg7 arg8 f1 f3 f4 f5 f6 f7 f8, r_69_eq arg1 arg3 arg4 arg5 arg6 arg7 arg8 f1 f3 f4 f5 f6 f7 f8] <;> rfl

theorem r_93_eq : run.sl.r_93 arg1 arg3 arg4 arg5 arg6 arg8 f1 f3 f4 f5 f6 f8 = ac (cut arg1 arg3 arg4 arg5 arg6 arg7 arg8 f1 f3 f4 f5 f6 f7 f8 2) 4 := by
  simp only [run.sl.r_93, r_87_eq arg1 arg3 arg4 arg5 arg6 arg7 arg8 f1 f3 f4 f5 f6 f7 f8, r_89_eq arg1 arg3 arg4 arg5 arg6 arg7 arg8 f1 f3 f4 f5 f6 f7 f8] <;> rfl

theorem r_97_eq : run.sl.r_97 arg1 arg3 arg4 arg5 arg6 arg8 f1 f3 f4 f5 f6 f8 = ac (cut arg1 arg3 arg4 arg5 arg6 arg7 arg8 f1 f3 f4 f5 f6 f7 f8 2) 5 := by
  simp only [run.sl.r_97, run.sl.cst_711, r_93_eq arg1 arg3 arg4 arg5 arg6 arg7 arg8 f1 f3 f4 f5 f6 f7 f8, r_95_eq arg1 arg3 arg4 arg5 arg6 arg7 arg8 f1 f3 f4 f5 f6 f7 f8] <;> rfl

theorem r_101_eq : run.sl.r_101 arg1 arg3 arg4 arg5 arg6 arg8 f1 f3 f4 f5 f6 f8 = ac (cut arg1 arg3 arg4 arg5 arg6 arg7 arg8 f1 f3 f4 f5 f6 f7 f8 2) 6 := by
  simp only [run.sl.r_101, run.sl.r_98, r_70_eq arg1 arg3 arg4 arg5 arg6 arg7 arg8 f1 f3 f4 f5 f6 f7 f8, r_97_eq arg1 arg3 arg4 arg5 arg6 arg7 arg8 f1 f3 f4 f5 f6 f7 f8, r_69_eq arg1 arg3 arg4 arg5 arg6 arg7 arg8 f1 f3 f4 f5 f6 f7 f8] <;> rfl

theorem pH20 : k0_pay234 (run.sl.v1218 arg1 arg3 arg4 f1 f3 f4) (run.sl.r_70 arg8 f8) (run.sl.r_71 arg1 arg3 arg4 arg5 arg6 f1 f3 f4 f5 f6) (run.sl.r_72 arg1 arg3 arg4 arg5 arg7 f1 f3 f4 f5 f7) run.sl.cst_599 = shapeCast S1x1x256x128 (hl (cut arg1 arg3 arg4 arg5 arg6 arg7 arg8 f1 f3 f4 f5 f6 f7 f8 2) 0) shapeCasts_S256x128_S1x1x256x128 := by
  simp only [run.sl.r_71, run.sl.r_72, run.sl.cst_599, run.sl.v1352, run.sl.r_68, v1218_eq arg1 arg3 arg4 arg5 arg6 arg7 arg8 f1 f3 f4 f5 f6 f7 f8, r_70_eq arg1 arg3 arg4 arg5 arg6 arg7 arg8 f1 f3 f4 f5 f6 f7 f8, v1237_eq arg1 arg3 arg4 arg5 arg6 arg7 arg8 f1 f3 f4 f5 f6 f7 f8, v1256_eq arg1 arg3 arg4 arg5 arg6 arg7 arg8 f1 f3 f4 f5 f6 f7 f8, v1275_eq arg1 arg3 arg4 arg5 arg6 arg7 arg8 f1 f3 f4 f5 f6 f7 f8, v1294_eq arg1 arg3 arg4 arg5 arg6 arg7 arg8 f1 f3 f4 f5 f6 f7 f8, v1313_eq arg1 arg3 arg4 arg5 arg6 arg7 arg8 f1 f3 f4 f5 f6 f7 f8, v1332_eq arg1 arg3 arg4 arg5 arg6 arg7 arg8 f1 f3 f4 f5 f6 f7 f8, v1351_eq arg1 arg3 arg4 arg5 arg6 arg7 arg8 f1 f3 f4 f5 f6 f7 f8] <;> rfl

theorem pH21 : k0_pay243 (run.sl.v1237 arg1 arg3 arg4 f1 f3 f4) (run.sl.r_70 arg8 f8) (run.sl.r_74 arg1 arg3 arg4 arg5 arg6 arg7 arg8 f1 f3 f4 f5 f6 f7 f8) (run.sl.r_75 arg1 arg3 arg4 arg5 arg6 f1 f3 f4 f5 f6) (run.sl.r_76 arg1 arg3 arg4 arg5 f1 f3 f4 f5) (run.sl.r_77 arg7 f7) = shapeCast S1x1x256x128 (hl (cut arg1 arg3 arg4 arg5 arg6 arg7 arg8 f1 f3 f4 f5 f6 f7 f8 2) 1) shapeCasts_S256x128_S1x1x256x128 := by
  simp only [run.sl.r_75, run.sl.r_76, run.sl.r_77, v1237_eq arg1 arg3 arg4 arg5 arg6 arg7 arg8 f1 f3 f4 f5 f6 f7 f8, r_70_eq arg1 arg3 arg4 arg5 arg6 arg7 arg8 f1 f3 f4 f5 f6 f7 f8, r_74_eq arg1 arg3 arg4 arg5 arg6 arg7 arg8 f1 f3 f4 f5 f6 f7 f8, r_69_eq arg1 arg3 arg4 arg5 arg6 arg7 arg8 f1 f3 f4 f5 f6 f7 f8] <;> rfl

theorem pH22 : k0_pay251 (run.sl.v1256 arg1 arg3 arg4 f1 f3 f4) (run.sl.r_70 arg8 f8) (run.sl.r_78 arg1 arg3 arg4 arg5 arg6 arg7 arg8 f1 f3 f4 f5 f6 f7 f8) (run.sl.r_80 arg1 arg3 arg4 arg5 f1 f3 f4 f5) (run.sl.r_81 arg1 arg3 arg4 arg5 arg6 f1 f3 f4 f5 f6) (View.readAt (Elt F) arg7.view (Rect.unit (s := S4x1x128) ![2, 0, 0] S1x1x128.size inb_S4x1x128_S1x1x128_2_0_0).toLoadRect f7) = shapeCast S1x1x256x128 (hl (cut arg1 arg3 arg4 arg5 arg6 arg7 arg8 f1 f3 f4 f5 f6 f7 f8 2) 2) shapeCasts_S256x128_S1x1x256x128 := by
  simp only [run.sl.r_81, v1256_eq arg1 arg3 arg4 arg5 arg6 arg7 arg8 f1 f3 f4 f5 f6 f7 f8, r_70_eq arg1 arg3 arg4 arg5 arg6 arg7 arg8 f1 f3 f4 f5 f6 f7 f8, r_78_eq arg1 arg3 arg4 arg5 arg6 arg7 arg8 f1 f3 f4 f5 f6 f7 f8, r_80_eq arg1 arg3 arg4 arg5 arg6 arg7 arg8 f1 f3 f4 f5 f6 f7 f8, r_69_eq arg1 arg3 arg4 arg5 arg6 arg7 arg8 f1 f3 f4 f5 f6 f7 f8] <;> rfl

theorem pH23 : run.sl.r_88 arg1 arg3 arg4 arg5 arg6 arg7 arg8 f1 f3 f4 f5 f6 f7 f8 = shapeCast S1x1x256x128 (hl (cut arg1 arg3 arg4 arg5 arg6 arg7 arg8 f1 f3 f4 f5 f6 f7 f8 2) 3) shapeCasts_S256x128_S1x1x256x128 := by
  simp only [r_88_eq arg1 arg3 arg4 arg5 arg6 arg7 arg8 f1 f3 f4 f5 f6 f7 f8] <;> rfl

theorem pH24 : k0_pay268 (run.sl.r_86 arg1 arg3 arg4 arg5 arg6 arg7 arg8 f1 f3 f4 f5 f6 f7 f8) (run.sl.r_89 arg1 arg3 arg4 arg5 arg6 arg8 f1 f3 f4 f5 f6 f8) (run.sl.r_90 arg1 arg3 arg4 arg5 arg6 arg8 f1 f3 f4 f5 f6 f8) (run.sl.r_91 arg1 arg3 arg4 arg5 arg7 f1 f3 f4 f5 f7) = shapeCast S1x1x256x128 (hl (cut arg1 arg3 arg4 arg5 arg6 arg7 arg8 f1 f3 f4 f5 f6 f7 f8 2) 4) shapeCasts_S256x128_S1x1x256x128 := by
  simp only [run.sl.r_90, run.sl.r_91, r_86_eq arg1 arg3 arg4 arg5 arg6 arg7 arg8 f1 f3 f4 f5 f6 f7 f8, r_89_eq arg1 arg3 arg4 arg5 arg6 arg7 arg8 f1 f3 f4 f5 f6 f7 f8, r_69_eq arg1 arg3 arg4 arg5 arg6 arg7 arg8 f1 f3 f4 f5 f6 f7 f8, r_70_eq arg1 arg3 arg4 arg5 arg6 arg7 arg8 f1 f3 f4 f5 f6 f7 f8, v1294_eq arg1 arg3 arg4 arg5 arg6 arg7 arg8 f1 f3 f4 f5 f6 f7 f8] <;> rfl

theorem pH25 : k0_pay276 (run.sl.v1313 arg1 arg3 arg4 f1 f3 f4) (run.sl.r_92 arg1 arg3 arg4 arg5 arg6 arg7 arg8 f1 f3 f4 f5 f6 f7 f8) (run.sl.r_94 arg1 arg3 arg4 arg5 arg7 f1 f3 f4 f5 f7) (run.sl.r_95 arg1 arg3 arg4 arg5 arg6 arg8 f1 f3 f4 f5 f6 f8) run.sl.cst_711 = shapeCast S1x1x256x128 (hl (cut arg1 arg3 arg4 arg5 arg6 arg7 arg8 f1 f3 f4 f5 f6 f7 f8 2) 5) shapeCasts_S256x128_S1x1x256x128 := by
  simp only [run.sl.r_94, run.sl.cst_711, v1313_eq arg1 arg3 arg4 arg5 arg6 arg7 arg8 f1 f3 f4 f5 f6 f7 f8, r_92_eq arg1 arg3 arg4 arg5 arg6 arg7 arg8 f1 f3 f4 f5 f6 f7 f8, r_95_eq arg1 arg3 arg4 arg5 arg6 arg7 arg8 f1 f3 f4 f5 f6 f7 f8, r_69_eq arg1 arg3 arg4 arg5 arg6 arg7 arg8 f1 f3 f4 f5 f6 f7 f8] <;> rfl

theorem pH26 : k0_pay286 (run.sl.v1332 arg1 arg3 arg4 f1 f3 f4) (run.sl.r_70 arg8 f8) (run.sl.r_96 arg1 arg3 arg4 arg5 arg6 arg7 arg8 f1 f3 f4 f5 f6 f7 f8) (run.sl.r_98 arg1 arg3 arg4 arg5 arg6 f1 f3 f4 f5 f6) (run.sl.r_99 arg1 arg3 arg4 arg5 arg7 f1 f3 f4 f5 f7) k0_pay281 = shapeCast S1x1x256x128 (hl (cut arg1 arg3 arg4 arg5 arg6 arg7 arg8 f1 f3 f4 f5 f6 f7 f8 2) 6) shapeCasts_S256x128_S1x1x256x128 := by
  simp only [run.sl.r_98, run.sl.r_99, v1332_eq arg1 arg3 arg4 arg5 arg6 arg7 arg8 f1 f3 f4 f5 f6 f7 f8, r_70_eq arg1 arg3 arg4 arg5 arg6 arg7 arg8 f1 f3 f4 f5 f6 f7 f8, r_96_eq arg1 arg3 arg4 arg5 arg6 arg7 arg8 f1 f3 f4 f5 f6 f7 f8, r_69_eq arg1 arg3 arg4 arg5 arg6 arg7 arg8 f1 f3 f4 f5 f6 f7 f8] <;> rfl

theorem pH27 : k0_pay293 (run.sl.v1351 arg1 arg3 arg4 f1 f3 f4) (run.sl.r_70 arg8 f8) (run.sl.r_100 arg1 arg3 arg4 arg5 arg6 arg7 arg8 f1 f3 f4 f5 f6 f7 f8) (run.sl.r_102 arg1 arg3 arg4 arg5 f1 f3 f4 f5) (run.sl.r_103 arg1 arg3 arg4 arg5 arg6 f1 f3 f4 f5 f6) k0_pay290 (View.readAt (Elt F) arg7.view (Rect.unit (s := S4x1x128) ![2, 0, 0] S1x1x128.size inb_S4x1x128_S1x1x128_2_0_0).toLoadRect f7) = shapeCast S1x1x256x128 (hl (cut arg1 arg3 arg4 arg5 arg6 arg7 arg8 f1 f3 f4 f5 f6 f7 f8 2) 7) shapeCasts_S256x128_S1x1x256x128 := by
  simp only [run.sl.r_103, v1351_eq arg1 arg3 arg4 arg5 arg6 arg7 arg8 f1 f3 f4 f5 f6 f7 f8, r_70_eq arg1 arg3 arg4 arg5 arg6 arg7 arg8 f1 f3 f4 f5 f6 f7 f8, r_100_eq arg1 arg3 arg4 arg5 arg6 arg7 arg8 f1 f3 f4 f5 f6 f7 f8, r_102_eq arg1 arg3 arg4 arg5 arg6 arg7 arg8 f1 f3 f4 f5 f6 f7 f8, r_69_eq arg1 arg3 arg4 arg5 arg6 arg7 arg8 f1 f3 f4 f5 f6 f7 f8] <;> rfl

theorem pA20 : k0_pay235 (run.sl.r_70 arg8 f8) (run.sl.r_71 arg1 arg3 arg4 arg5 arg6 f1 f3 f4 f5 f6) = shapeCast S1x1x256x128 (ac (cut arg1 arg3 arg4 arg5 arg6 arg7 arg8 f1 f3 f4 f5 f6 f7 f8 2) 0) shapeCasts_S256x128_S1x1x256x128 := by
  simp only [run.sl.r_71, run.sl.v1352, run.sl.r_68, r_70_eq arg1 arg3 arg4 arg5 arg6 arg7 arg8 f1 f3 f4 f5 f6 f7 f8, v1218_eq arg1 arg3 arg4 arg5 arg6 arg7 arg8 f1 f3 f4 f5 f6 f7 f8, v1237_eq arg1 arg3 arg4 arg5 arg6 arg7 arg8 f1 f3 f4 f5 f6 f7 f8, v1256_eq arg1 arg3 arg4 arg5 arg6 arg7 arg8 f1 f3 f4 f5 f6 f7 f8, v1275_eq arg1 arg3 arg4 arg5 arg6 arg7 arg8 f1 f3 f4 f5 f6 f7 f8, v1294_eq arg1 arg3 arg4 arg5 arg6 arg7 arg8 f1 f3 f4 f5 f6 f7 f8, v1313_eq arg1 arg3 arg4 arg5 arg6 arg7 arg8 f1 f3 f4 f5 f6 f7 f8, v1332_eq arg1 arg3 arg4 arg5 arg6 arg7 arg8 f1 f3 f4 f5 f6 f7 f8, v1351_eq arg1 arg3 arg4 arg5 arg6 arg7 arg8 f1 f3 f4 f5 f6 f7 f8] <;> rfl

theorem pA21 : k0_pay244 (run.sl.r_70 arg8 f8) (run.sl.r_73 arg1 arg3 arg4 arg5 arg6 arg8 f1 f3 f4 f5 f6 f8) (run.sl.r_75 arg1 arg3 arg4 arg5 arg6 f1 f3 f4 f5 f6) = shapeCast S1x1x256x128 (ac (cut arg1 arg3 arg4 arg5 arg6 arg7 arg8 f1 f3 f4 f5 f6 f7 f8 2) 1) shapeCasts_S256x128_S1x1x256x128 := by
  simp only [run.sl.r_75, r_70_eq arg1 arg3 arg4 arg5 arg6 arg7 arg8 f1 f3 f4 f5 f6 f7 f8, r_73_eq arg1 arg3 arg4 arg5 arg6 arg7 arg8 f1 f3 f4 f5 f6 f7 f8, r_69_eq arg1 arg3 arg4 arg5 arg6 arg7 arg8 f1 f3 f4 f5 f6 f7 f8] <;> rfl

theorem pA22 : k0_pay252 (run.sl.r_70 arg8 f8) (run.sl.r_79 arg1 arg3 arg4 arg5 arg6 arg8 f1 f3 f4 f5 f6 f8) (run.sl.r_81 arg1 arg3 arg4 arg5 arg6 f1 f3 f4 f5 f6) = shapeCast S1x1x256x128 (ac (cut arg1 arg3 arg4 arg5 arg6 arg7 arg8 f1 f3 f4 f5 f6 f7 f8 2) 2) shapeCasts_S256x128_S1x1x256x128 := by
  simp only [run.sl.r_81, r_70_eq arg1 arg3 arg4 arg5 arg6 arg7 arg8 f1 f3 f4 f5 f6 f7 f8, r_79_eq arg1 arg3 arg4 arg5 arg6 arg7 arg8 f1 f3 f4 f5 f6 f7 f8, r_69_eq arg1 arg3 arg4 arg5 arg6 arg7 arg8 f1 f3 f4 f5 f6 f7 f8] <;> rfl

theorem pA23 : k0_pay260 (run.sl.r_87 arg1 arg3 arg4 arg5 arg6 arg8 f1 f3 f4 f5 f6 f8) = shapeCast S1x1x256x128 (ac (cut arg1 arg3 arg4 arg5 arg6 arg7 arg8 f1 f3 f4 f5 f6 f7 f8 2) 3) shapeCasts_S256x128_S1x1x256x128 := by
  simp only [r_87_eq arg1 arg3 arg4 arg5 arg6 arg7 arg8 f1 f3 f4 f5 f6 f7 f8] <;> rfl

theorem pA24 : k0_pay269 (run.sl.r_87 arg1 arg3 arg4 arg5 arg6 arg8 f1 f3 f4 f5 f6 f8) (run.sl.r_89 arg1 arg3 arg4 arg5 arg6 arg8 f1 f3 f4 f5 f6 f8) = shapeCast S1x1x256x128 (ac (cut arg1 arg3 arg4 arg5 arg6 arg7 arg8 f1 f3 f4 f5 f6 f7 f8 2) 4) shapeCasts_S256x128_S1x1x256x128 := by
  simp only [r_87_eq arg1 arg3 arg4 arg5 arg6 arg7 arg8 f1 f3 f4 f5 f6 f7 f8, r_89_eq arg1 arg3 arg4 arg5 arg6 arg7 arg8 f1 f3 f4 f5 f6 f7 f8] <;> rfl

theorem pA25 : k0_pay277 (run.sl.r_93 arg1 arg3 arg4 arg5 arg6 arg8 f1 f3 f4 f5 f6 f8) (run.sl.r_95 arg1 arg3 arg4 arg5 arg6 arg8 f1 f3 f4 f5 f6 f8) run.sl.cst_711 = shapeCast S1x1x256x128 (ac (cut arg1 arg3 arg4 arg5 arg6 arg7 arg8 f1 f3 f4 f5 f6 f7 f8 2) 5) shapeCasts_S256x128_S1x1x256x128 := by
  simp only [run.sl.cst_711, r_93_eq arg1 arg3 arg4 arg5 arg6 arg7 arg8 f1 f3 f4 f5 f6 f7 f8, r_95_eq arg1 arg3 arg4 arg5 arg6 arg7 arg8 f1 f3 f4 f5 f6 f7 f8] <;> rfl

theorem pA26 : k0_pay287 (run.sl.r_70 arg8 f8) (run.sl.r_97 arg1 arg3 arg4 arg5 arg6 arg8 f1 f3 f4 f5 f6 f8) (run.sl.r_98 arg1 arg3 arg4 arg5 arg6 f1 f3 f4 f5 f6) = shapeCast S1x1x256x128 (ac (cut arg1 arg3 arg4 arg5 arg6 arg7 arg8 f1 f3 f4 f5 f6 f7 f8 2) 6) shapeCasts_S256x128_S1x1x256x128 := by
  simp only [run.sl.r_98, r_70_eq arg1 arg3 arg4 arg5 arg6 arg7 arg8 f1 f3 f4 f5 f6 f7 f8, r_97_eq arg1 arg3 arg4 arg5 arg6 arg7 arg8 f1 f3 f4 f5 f6 f7 f8, r_69_eq arg1 arg3 arg4 arg5 arg6 arg7 arg8 f1 f3 f4 f5 f6 f7 f8] <;> rfl

theorem pA27 : k0_pay294 (run.sl.r_70 arg8 f8) (run.sl.r_101 arg1 arg3 arg4 arg5 arg6 arg8 f1 f3 f4 f5 f6 f8) (run.sl.r_103 arg1 arg3 arg4 arg5 arg6 f1 f3 f4 f5 f6) k0_pay290 = shapeCast S1x1x256x128 (ac (cut arg1 arg3 arg4 arg5 arg6 arg7 arg8 f1 f3 f4 f5 f6 f7 f8 2) 7) shapeCasts_S256x128_S1x1x256x128 := by
  simp only [run.sl.r_103, r_70_eq arg1 arg3 arg4 arg5 arg6 arg7 arg8 f1 f3 f4 f5 f6 f7 f8, r_101_eq arg1 arg3 arg4 arg5 arg6 arg7 arg8 f1 f3 f4 f5 f6 f7 f8, r_69_eq arg1 arg3 arg4 arg5 arg6 arg7 arg8 f1 f3 f4 f5 f6 f7 f8] <;> rfl

end Cert.KernelIdeal.Rec

end

end
-- ==== Proof.Rec.Slab3.lean ====
module

public import proofs.«01_k».proof.Proof.Rec.Cut

/-! Slab 3: each value the body computes for it, as a function of what the slab loads. -/

@[expose] public section

set_option maxRecDepth 16384
set_option maxHeartbeats 4000000

noncomputable section

namespace Cert.KernelIdeal.Rec

open Cert.KernelIdeal Cert.KernelIdeal.Gen
open Idealize.ShloMosaic Idealize.ShloMosaic.TcCoe Idealize.SL.Sem

variable {F : FTy → Type} [FloatOps F] [Named F]

variable (arg1 : Memref sig .tc .vmem S1x4x2048x128 .f32) (arg3 : Memref sig .tc .vmem S4x4x128 .f32) (arg4 : Memref sig .tc .vmem S4x1x128 .f32) (arg5 : Memref sig .tc .vmem S4x128x256 .bf16) (arg6 : Memref sig .tc .vmem S4x1x128 .f32) (arg7 : Memref sig .tc .vmem S4x1x128 .f32) (arg8 : Memref sig .tc .vmem S4x1x128 .f32)
variable (f1 : BufTy.Contents (Elt F) arg1.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty)

theorem v1759_eq : run.sl.v1759 arg1 f1 = (cut arg1 arg3 arg4 arg5 arg6 arg7 arg8 f1 f3 f4 f5 f6 f7 f8 3).x 4 := by
  simp only [run.sl.v1759] <;> rfl

theorem v1761_eq : run.sl.v1761 arg1 f1 = (cut arg1 arg3 arg4 arg5 arg6 arg7 arg8 f1 f3 f4 f5 f6 f7 f8 3).x 5 := by
  simp only [run.sl.v1761] <;> rfl

theorem v1763_eq : run.sl.v1763 arg1 f1 = (cut arg1 arg3 arg4 arg5 arg6 arg7 arg8 f1 f3 f4 f5 f6 f7 f8 3).x 6 := by
  simp only [run.sl.v1763] <;> rfl

theorem v1765_eq : run.sl.v1765 arg1 f1 = (cut arg1 arg3 arg4 arg5 arg6 arg7 arg8 f1 f3 f4 f5 f6 f7 f8 3).x 7 := by
  simp only [run.sl.v1765] <;> rfl

theorem r_104_eq : run.sl.r_104 arg1 arg3 arg4 f1 f3 f4 = xr (cut arg1 arg3 arg4 arg5 arg6 arg7 arg8 f1 f3 f4 f5 f6 f7 f8 3) 7 := by
  simp only [run.sl.r_104, run.sl.v1782, run.sl.v1784, run.sl.v1786, run.sl.v1785, v1759_eq arg1 arg3 arg4 arg5 arg6 arg7 arg8 f1 f3 f4 f5 f6 f7 f8, v1761_eq arg1 arg3 arg4 arg5 arg6 arg7 arg8 f1 f3 f4 f5 f6 f7 f8, v1763_eq arg1 arg3 arg4 arg5 arg6 arg7 arg8 f1 f3 f4 f5 f6 f7 f8, v1765_eq arg1 arg3 arg4 arg5 arg6 arg7 arg8 f1 f3 f4 f5 f6 f7 f8] <;> rfl

theorem v1780_eq : run.sl.v1780 arg1 f1 = shiftDown ((cut arg1 arg3 arg4 arg5 arg6 arg7 arg8 f1 f3 f4 f5 f6 f7 f8 3).x 5) := by
  simp only [run.sl.v1780, run.sl.v0, run.sl.v17, run.sl.v20, run.sl.v1778, run.sl.cst, v1761_eq arg1 arg3 arg4 arg5 arg6 arg7 arg8 f1 f3 f4 f5 f6 f7 f8] <;> rfl

theorem v1775_eq : run.sl.v1775 arg1 f1 = shiftDown ((cut arg1 arg3 arg4 arg5 arg6 arg7 arg8 f1 f3 f4 f5 f6 f7 f8 3).x 6) := by
  simp only [run.sl.v1775, run.sl.v0, run.sl.v17, run.sl.v20, run.sl.v1773, run.sl.cst, v1763_eq arg1 arg3 arg4 arg5 arg6 arg7 arg8 f1 f3 f4 f5 f6 f7 f8] <;> rfl

theorem v1770_eq : run.sl.v1770 arg1 f1 = shiftDown ((cut arg1 arg3 arg4 arg5 arg6 arg7 arg8 f1 f3 f4 f5 f6 f7 f8 3).x 7) := by
  simp only [run.sl.v1770, run.sl.v0, run.sl.v17, run.sl.v20, run.sl.v1768, run.sl.cst, v1765_eq arg1 arg3 arg4 arg5 arg6 arg7 arg8 f1 f3 f4 f5 f6 f7 f8] <;> rfl

theorem v1751_eq : run.sl.v1751 arg1 f1 = (cut arg1 arg3 arg4 arg5 arg6 arg7 arg8 f1 f3 f4 f5 f6 f7 f8 3).x 0 := by
  simp only [run.sl.v1751] <;> rfl

theorem v1801_eq : run.sl.v1801 arg1 arg3 arg4 f1 f3 f4 = xr (cut arg1 arg3 arg4 arg5 arg6 arg7 arg8 f1 f3 f4 f5 f6 f7 f8 3) 0 := by
  simp only [run.sl.v1801, run.sl.v1797, run.sl.v1800, run.sl.v1793, run.sl.v1796, run.sl.v1799, run.sl.v1789, run.sl.v1792, run.sl.v1795, run.sl.v1798, run.sl.v1788, run.sl.v1787, run.sl.v1791, run.sl.v1794, run.sl.v1782, run.sl.v1784, run.sl.v1786, run.sl.v1790, run.sl.v1785, v1751_eq arg1 arg3 arg4 arg5 arg6 arg7 arg8 f1 f3 f4 f5 f6 f7 f8, v1770_eq arg1 arg3 arg4 arg5 arg6 arg7 arg8 f1 f3 f4 f5 f6 f7 f8, v1775_eq arg1 arg3 arg4 arg5 arg6 arg7 arg8 f1 f3 f4 f5 f6 f7 f8, v1780_eq arg1 arg3 arg4 arg5 arg6 arg7 arg8 f1 f3 f4 f5 f6 f7 f8] <;> rfl

theorem v1753_eq : run.sl.v1753 arg1 f1 = (cut arg1 arg3 arg4 arg5 arg6 arg7 arg8 f1 f3 f4 f5 f6 f7 f8 3).x 1 := by
  simp only [run.sl.v1753] <;> rfl

theorem v1820_eq : run.sl.v1820 arg1 arg3 arg4 f1 f3 f4 = xr (cut arg1 arg3 arg4 arg5 arg6 arg7 arg8 f1 f3 f4 f5 f6 f7 f8 3) 1 := by
  simp only [run.sl.v1820, run.sl.v1816, run.sl.v1819, run.sl.v1812, run.sl.v1815, run.sl.v1799, run.sl.v1808, run.sl.v1811, run.sl.v1795, run.sl.v1798, run.sl.v1788, run.sl.v1806, run.sl.v1791, run.sl.v1794, run.sl.v1782, run.sl.v1784, run.sl.v1786, run.sl.v1790, run.sl.v1785, v1753_eq arg1 arg3 arg4 arg5 arg6 arg7 arg8 f1 f3 f4 f5 f6 f7 f8, v1751_eq arg1 arg3 arg4 arg5 arg6 arg7 arg8 f1 f3 f4 f5 f6 f7 f8, v1770_eq arg1 arg3 arg4 arg5 arg6 arg7 arg8 f1 f3 f4 f5 f6 f7 f8, v1775_eq arg1 arg3 arg4 arg5 arg6 arg7 arg8 f1 f3 f4 f5 f6 f7 f8] <;> rfl

theorem v1755_eq : run.sl.v1755 arg1 f1 = (cut arg1 arg3 arg4 arg5 arg6 arg7 arg8 f1 f3 f4 f5 f6 f7 f8 3).x 2 := by
  simp only [run.sl.v1755] <;> rfl

theorem v1839_eq : run.sl.v1839 arg1 arg3 arg4 f1 f3 f4 = xr (cut arg1 arg3 arg4 arg5 arg6 arg7 arg8 f1 f3 f4 f5 f6 f7 f8 3) 2 := by
  simp only [run.sl.v1839, run.sl.v1835, run.sl.v1838, run.sl.v1831, run.sl.v1834, run.sl.v1799, run.sl.v1827, run.sl.v1830, run.sl.v1795, run.sl.v1798, run.sl.v1788, run.sl.v1825, run.sl.v1791, run.sl.v1794, run.sl.v1782, run.sl.v1784, run.sl.v1786, run.sl.v1790, run.sl.v1785, v1755_eq arg1 arg3 arg4 arg5 arg6 arg7 arg8 f1 f3 f4 f5 f6 f7 f8, v1753_eq arg1 arg3 arg4 arg5 arg6 arg7 arg8 f1 f3 f4 f5 f6 f7 f8, v1751_eq arg1 arg3 arg4 arg5 arg6 arg7 arg8 f1 f3 f4 f5 f6 f7 f8, v1770_eq arg1 arg3 arg4 arg5 arg6 arg7 arg8 f1 f3 f4 f5 f6 f7 f8] <;> rfl

theorem v1757_eq : run.sl.v1757 arg1 f1 = (cut arg1 arg3 arg4 arg5 arg6 arg7 arg8 f1 f3 f4 f5 f6 f7 f8 3).x 3 := by
  simp only [run.sl.v1757] <;> rfl

theorem v1858_eq : run.sl.v1858 arg1 arg3 arg4 f1 f3 f4 = xr (cut arg1 arg3 arg4 arg5 arg6 arg7 arg8 f1 f3 f4 f5 f6 f7 f8 3) 3 := by
  simp only [run.sl.v1858, run.sl.v1854, run.sl.v1857, run.sl.v1850, run.sl.v1853, run.sl.v1799, run.sl.v1846, run.sl.v1849, run.sl.v1795, run.sl.v1798, run.sl.v1788, run.sl.v1844, run.sl.v1791, run.sl.v1794, run.sl.v1782, run.sl.v1784, run.sl.v1786, run.sl.v1790, run.sl.v1785, v1757_eq arg1 arg3 arg4 arg5 arg6 arg7 arg8 f1 f3 f4 f5 f6 f7 f8, v1755_eq arg1 arg3 arg4 arg5 arg6 arg7 arg8 f1 f3 f4 f5 f6 f7 f8, v1753_eq arg1 arg3 arg4 arg5 arg6 arg7 arg8 f1 f3 f4 f5 f6 f7 f8, v1751_eq arg1 arg3 arg4 arg5 arg6 arg7 arg8 f1 f3 f4 f5 f6 f7 f8] <;> rfl

theorem v1877_eq : run.sl.v1877 arg1 arg3 arg4 f1 f3 f4 = xr (cut arg1 arg3 arg4 arg5 arg6 arg7 arg8 f1 f3 f4 f5 f6 f7 f8 3) 4 := by
  simp only [run.sl.v1877, run.sl.v1873, run.sl.v1876, run.sl.v1869, run.sl.v1872, run.sl.v1799, run.sl.v1865, run.sl.v1868, run.sl.v1795, run.sl.v1798, run.sl.v1788, run.sl.v1863, run.sl.v1791, run.sl.v1794, run.sl.v1782, run.sl.v1784, run.sl.v1786, run.sl.v1790, run.sl.v1785, v1759_eq arg1 arg3 arg4 arg5 arg6 arg7 arg8 f1 f3 f4 f5 f6 f7 f8, v1757_eq arg1 arg3 arg4 arg5 arg6 arg7 arg8 f1 f3 f4 f5 f6 f7 f8, v1755_eq arg1 arg3 arg4 arg5 arg6 arg7 arg8 f1 f3 f4 f5 f6 f7 f8, v1753_eq arg1 arg3 arg4 arg5 arg6 arg7 arg8 f1 f3 f4 f5 f6 f7 f8] <;> rfl

theorem v1896_eq : run.sl.v1896 arg1 arg3 arg4 f1 f3 f4 = xr (cut arg1 arg3 arg4 arg5 arg6 arg7 arg8 f1 f3 f4 f5 f6 f7 f8 3) 5 := by
  simp only [run.sl.v1896, run.sl.v1892, run.sl.v1895, run.sl.v1888, run.sl.v1891, run.sl.v1799, run.sl.v1884, run.sl.v1887, run.sl.v1795, run.sl.v1798, run.sl.v1788, run.sl.v1882, run.sl.v1791, run.sl.v1794, run.sl.v1782, run.sl.v1784, run.sl.v1786, run.sl.v1790, run.sl.v1785, v1761_eq arg1 arg3 arg4 arg5 arg6 arg7 arg8 f1 f3 f4 f5 f6 f7 f8, v1759_eq arg1 arg3 arg4 arg5 arg6 arg7 arg8 f1 f3 f4 f5 f6 f7 f8, v1757_eq arg1 arg3 arg4 arg5 arg6 arg7 arg8 f1 f3 f4 f5 f6 f7 f8, v1755_eq arg1 arg3 arg4 arg5 arg6 arg7 arg8 f1 f3 f4 f5 f6 f7 f8] <;> rfl

theorem v1915_eq : run.sl.v1915 arg1 arg3 arg4 f1 f3 f4 = xr (cut arg1 arg3 arg4 arg5 arg6 arg7 arg8 f1 f3 f4 f5 f6 f7 f8 3) 6 := by
  simp only [run.sl.v1915, run.sl.v1911, run.sl.v1914, run.sl.v1907, run.sl.v1910, run.sl.v1799, run.sl.v1903, run.sl.v1906, run.sl.v1795, run.sl.v1798, run.sl.v1788, run.sl.v1901, run.sl.v1791, run.sl.v1794, run.sl.v1782, run.sl.v1784, run.sl.v1786, run.sl.v1790, run.sl.v1785, v1763_eq arg1 arg3 arg4 arg5 arg6 arg7 arg8 f1 f3 f4 f5 f6 f7 f8, v1761_eq arg1 arg3 arg4 arg5 arg6 arg7 arg8 f1 f3 f4 f5 f6 f7 f8, v1759_eq arg1 arg3 arg4 arg5 arg6 arg7 arg8 f1 f3 f4 f5 f6 f7 f8, v1757_eq arg1 arg3 arg4 arg5 arg6 arg7 arg8 f1 f3 f4 f5 f6 f7 f8] <;> rfl

theorem r_105_eq : run.sl.r_105 arg1 arg3 arg4 arg5 f1 f3 f4 f5 = yAll (cut arg1 arg3 arg4 arg5 arg6 arg7 arg8 f1 f3 f4 f5 f6 f7 f8 3) := by
  simp only [run.sl.r_105, run.sl.v1782, run.sl.v1784, run.sl.v1786, run.sl.v1785, v1759_eq arg1 arg3 arg4 arg5 arg6 arg7 arg8 f1 f3 f4 f5 f6 f7 f8, v1761_eq arg1 arg3 arg4 arg5 arg6 arg7 arg8 f1 f3 f4 f5 f6 f7 f8, v1763_eq arg1 arg3 arg4 arg5 arg6 arg7 arg8 f1 f3 f4 f5 f6 f7 f8, v1765_eq arg1 arg3 arg4 arg5 arg6 arg7 arg8 f1 f3 f4 f5 f6 f7 f8, v1801_eq arg1 arg3 arg4 arg5 arg6 arg7 arg8 f1 f3 f4 f5 f6 f7 f8, v1820_eq arg1 arg3 arg4 arg5 arg6 arg7 arg8 f1 f3 f4 f5 f6 f7 f8, v1839_eq arg1 arg3 arg4 arg5 arg6 arg7 arg8 f1 f3 f4 f5 f6 f7 f8, v1858_eq arg1 arg3 arg4 arg5 arg6 arg7 arg8 f1 f3 f4 f5 f6 f7 f8, v1877_eq arg1 arg3 arg4 arg5 arg6 arg7 arg8 f1 f3 f4 f5 f6 f7 f8, v1896_eq arg1 arg3 arg4 arg5 arg6 arg7 arg8 f1 f3 f4 f5 f6 f7 f8, v1915_eq arg1 arg3 arg4 arg5 arg6 arg7 arg8 f1 f3 f4 f5 f6 f7 f8] <;> rfl

theorem r_106_eq : run.sl.r_106 arg8 f8 = decay (cut arg1 arg3 arg4 arg5 arg6 arg7 arg8 f1 f3 f4 f5 f6 f7 f8 3) := by
  simp only [run.sl.r_106] <;> rfl

theorem r_116_eq : run.sl.r_116 arg1 arg3 arg4 arg5 arg6 arg7 arg8 f1 f3 f4 f5 f6 f7 f8 = inp (cut arg1 arg3 arg4 arg5 arg6 arg7 arg8 f1 f3 f4 f5 f6 f7 f8 3) 2 := by
  simp only [run.sl.r_116, v1839_eq arg1 arg3 arg4 arg5 arg6 arg7 arg8 f1 f3 f4 f5 f6 f7 f8, r_105_eq arg1 arg3 arg4 arg5 arg6 arg7 arg8 f1 f3 f4 f5 f6 f7 f8, r_106_eq arg1 arg3 arg4 arg5 arg6 arg7 arg8 f1 f3 f4 f5 f6 f7 f8] <;> rfl

theorem r_107_eq : run.sl.r_107 arg1 arg3 arg4 arg5 f1 f3 f4 f5 = y (cut arg1 arg3 arg4 arg5 arg6 arg7 arg8 f1 f3 f4 f5 f6 f7 f8 3) 0 := by
  simp only [run.sl.r_107, run.sl.v1782, run.sl.v1784, run.sl.v1786, run.sl.v1785, v1759_eq arg1 arg3 arg4 arg5 arg6 arg7 arg8 f1 f3 f4 f5 f6 f7 f8, v1761_eq arg1 arg3 arg4 arg5 arg6 arg7 arg8 f1 f3 f4 f5 f6 f7 f8, v1763_eq arg1 arg3 arg4 arg5 arg6 arg7 arg8 f1 f3 f4 f5 f6 f7 f8, v1765_eq arg1 arg3 arg4 arg5 arg6 arg7 arg8 f1 f3 f4 f5 f6 f7 f8, v1801_eq arg1 arg3 arg4 arg5 arg6 arg7 arg8 f1 f3 f4 f5 f6 f7 f8, v1820_eq arg1 arg3 arg4 arg5 arg6 arg7 arg8 f1 f3 f4 f5 f6 f7 f8, v1839_eq arg1 arg3 arg4 arg5 arg6 arg7 arg8 f1 f3 f4 f5 f6 f7 f8, v1858_eq arg1 arg3 arg4 arg5 arg6 arg7 arg8 f1 f3 f4 f5 f6 f7 f8, v1877_eq arg1 arg3 arg4 arg5 arg6 arg7 arg8 f1 f3 f4 f5 f6 f7 f8, v1896_eq arg1 arg3 arg4 arg5 arg6 arg7 arg8 f1 f3 f4 f5 f6 f7 f8, v1915_eq arg1 arg3 arg4 arg5 arg6 arg7 arg8 f1 f3 f4 f5 f6 f7 f8] <;> rfl

theorem r_110_eq : run.sl.r_110 arg1 arg3 arg4 arg5 arg6 arg7 arg8 f1 f3 f4 f5 f6 f7 f8 = hl (cut arg1 arg3 arg4 arg5 arg6 arg7 arg8 f1 f3 f4 f5 f6 f7 f8 3) 0 := by
  simp only [run.sl.r_110, run.sl.r_108, run.sl.v1782, run.sl.v1784, run.sl.v1786, run.sl.v1785, v1801_eq arg1 arg3 arg4 arg5 arg6 arg7 arg8 f1 f3 f4 f5 f6 f7 f8, r_106_eq arg1 arg3 arg4 arg5 arg6 arg7 arg8 f1 f3 f4 f5 f6 f7 f8, r_107_eq arg1 arg3 arg4 arg5 arg6 arg7 arg8 f1 f3 f4 f5 f6 f7 f8, v1759_eq arg1 arg3 arg4 arg5 arg6 arg7 arg8 f1 f3 f4 f5 f6 f7 f8, v1761_eq arg1 arg3 arg4 arg5 arg6 arg7 arg8 f1 f3 f4 f5 f6 f7 f8, v1763_eq arg1 arg3 arg4 arg5 arg6 arg7 arg8 f1 f3 f4 f5 f6 f7 f8, v1765_eq arg1 arg3 arg4 arg5 arg6 arg7 arg8 f1 f3 f4 f5 f6 f7 f8, v1820_eq arg1 arg3 arg4 arg5 arg6 arg7 arg8 f1 f3 f4 f5 f6 f7 f8, v1839_eq arg1 arg3 arg4 arg5 arg6 arg7 arg8 f1 f3 f4 f5 f6 f7 f8, v1858_eq arg1 arg3 arg4 arg5 arg6 arg7 arg8 f1 f3 f4 f5 f6 f7 f8, v1877_eq arg1 arg3 arg4 arg5 arg6 arg7 arg8 f1 f3 f4 f5 f6 f7 f8, v1896_eq arg1 arg3 arg4 arg5 arg6 arg7 arg8 f1 f3 f4 f5 f6 f7 f8, v1915_eq arg1 arg3 arg4 arg5 arg6 arg7 arg8 f1 f3 f4 f5 f6 f7 f8] <;> rfl

theorem r_111_eq : run.sl.r_111 arg1 arg3 arg4 arg5 f1 f3 f4 f5 = y (cut arg1 arg3 arg4 arg5 arg6 arg7 arg8 f1 f3 f4 f5 f6 f7 f8 3) 1 := by
  simp only [run.sl.r_111, r_105_eq arg1 arg3 arg4 arg5 arg6 arg7 arg8 f1 f3 f4 f5 f6 f7 f8] <;> rfl

theorem r_113_eq : run.sl.r_113 arg1 arg3 arg4 arg5 arg6 arg7 arg8 f1 f3 f4 f5 f6 f7 f8 = hl (cut arg1 arg3 arg4 arg5 arg6 arg7 arg8 f1 f3 f4 f5 f6 f7 f8 3) 1 := by
  simp only [run.sl.r_113, run.sl.r_112, v1820_eq arg1 arg3 arg4 arg5 arg6 arg7 arg8 f1 f3 f4 f5 f6 f7 f8, r_106_eq arg1 arg3 arg4 arg5 arg6 arg7 arg8 f1 f3 f4 f5 f6 f7 f8, r_110_eq arg1 arg3 arg4 arg5 arg6 arg7 arg8 f1 f3 f4 f5 f6 f7 f8, r_111_eq arg1 arg3 arg4 arg5 arg6 arg7 arg8 f1 f3 f4 f5 f6 f7 f8, r_105_eq arg1 arg3 arg4 arg5 arg6 arg7 arg8 f1 f3 f4 f5 f6 f7 f8] <;> rfl

theorem r_118_eq : run.sl.r_118 arg1 arg3 arg4 arg5 arg6 arg7 arg8 f1 f3 f4 f5 f6 f7 f8 = hl (cut arg1 arg3 arg4 arg5 arg6 arg7 arg8 f1 f3 f4 f5 f6 f7 f8 3) 2 := by
  simp only [run.sl.r_118, run.sl.r_117, r_116_eq arg1 arg3 arg4 arg5 arg6 arg7 arg8 f1 f3 f4 f5 f6 f7 f8, r_105_eq arg1 arg3 arg4 arg5 arg6 arg7 arg8 f1 f3 f4 f5 f6 f7 f8, r_106_eq arg1 arg3 arg4 arg5 arg6 arg7 arg8 f1 f3 f4 f5 f6 f7 f8, r_113_eq arg1 arg3 arg4 arg5 arg6 arg7 arg8 f1 f3 f4 f5 f6 f7 f8] <;> rfl

theorem r_121_eq : run.sl.r_121 arg1 arg3 arg4 arg5 arg6 arg8 f1 f3 f4 f5 f6 f8 = negLogA (cut arg1 arg3 arg4 arg5 arg6 arg7 arg8 f1 f3 f4 f5 f6 f7 f8 3) 3 := by
  simp only [run.sl.r_121, r_105_eq arg1 arg3 arg4 arg5 arg6 arg7 arg8 f1 f3 f4 f5 f6 f7 f8, r_106_eq arg1 arg3 arg4 arg5 arg6 arg7 arg8 f1 f3 f4 f5 f6 f7 f8] <;> rfl

theorem r_123_eq : run.sl.r_123 arg1 arg3 arg4 arg5 arg6 arg7 arg8 f1 f3 f4 f5 f6 f7 f8 = hl (cut arg1 arg3 arg4 arg5 arg6 arg7 arg8 f1 f3 f4 f5 f6 f7 f8 3) 3 := by
  simp only [run.sl.r_123, run.sl.r_120, run.sl.r_122, v1858_eq arg1 arg3 arg4 arg5 arg6 arg7 arg8 f1 f3 f4 f5 f6 f7 f8, r_118_eq arg1 arg3 arg4 arg5 arg6 arg7 arg8 f1 f3 f4 f5 f6 f7 f8, r_121_eq arg1 arg3 arg4 arg5 arg6 arg7 arg8 f1 f3 f4 f5 f6 f7 f8, r_105_eq arg1 arg3 arg4 arg5 arg6 arg7 arg8 f1 f3 f4 f5 f6 f7 f8, r_106_eq arg1 arg3 arg4 arg5 arg6 arg7 arg8 f1 f3 f4 f5 f6 f7 f8] <;> rfl

theorem r_127_eq : run.sl.r_127 arg1 arg3 arg4 arg5 arg6 arg7 arg8 f1 f3 f4 f5 f6 f7 f8 = hl (cut arg1 arg3 arg4 arg5 arg6 arg7 arg8 f1 f3 f4 f5 f6 f7 f8 3) 4 := by
  simp only [run.sl.r_127, run.sl.r_125, run.sl.r_126, v1877_eq arg1 arg3 arg4 arg5 arg6 arg7 arg8 f1 f3 f4 f5 f6 f7 f8, r_106_eq arg1 arg3 arg4 arg5 arg6 arg7 arg8 f1 f3 f4 f5 f6 f7 f8, r_123_eq arg1 arg3 arg4 arg5 arg6 arg7 arg8 f1 f3 f4 f5 f6 f7 f8, r_105_eq arg1 arg3 arg4 arg5 arg6 arg7 arg8 f1 f3 f4 f5 f6 f7 f8] <;> rfl

theorem r_131_eq : run.sl.r_131 arg1 arg3 arg4 arg5 arg6 arg7 arg8 f1 f3 f4 f5 f6 f7 f8 = hl (cut arg1 arg3 arg4 arg5 arg6 arg7 arg8 f1 f3 f4 f5 f6 f7 f8 3) 5 := by
  simp only [run.sl.r_131, run.sl.r_129, run.sl.r_130, v1896_eq arg1 arg3 arg4 arg5 arg6 arg7 arg8 f1 f3 f4 f5 f6 f7 f8, r_106_eq arg1 arg3 arg4 arg5 arg6 arg7 arg8 f1 f3 f4 f5 f6 f7 f8, r_127_eq arg1 arg3 arg4 arg5 arg6 arg7 arg8 f1 f3 f4 f5 f6 f7 f8, r_105_eq arg1 arg3 arg4 arg5 arg6 arg7 arg8 f1 f3 f4 f5 f6 f7 f8] <;> rfl

theorem r_133_eq : run.sl.r_133 arg1 arg3 arg4 arg5 f1 f3 f4 f5 = y (cut arg1 arg3 arg4 arg5 arg6 arg7 arg8 f1 f3 f4 f5 f6 f7 f8 3) 6 := by
  simp only [run.sl.r_133, r_105_eq arg1 arg3 arg4 arg5 arg6 arg7 arg8 f1 f3 f4 f5 f6 f7 f8] <;> rfl

theorem r_135_eq : run.sl.r_135 arg1 arg3 arg4 arg5 arg6 arg7 arg8 f1 f3 f4 f5 f6 f7 f8 = hl (cut arg1 arg3 arg4 arg5 arg6 arg7 arg8 f1 f3 f4 f5 f6 f7 f8 3) 6 := by
  simp only [run.sl.r_135, run.sl.r_134, v1915_eq arg1 arg3 arg4 arg5 arg6 arg7 arg8 f1 f3 f4 f5 f6 f7 f8, r_106_eq arg1 arg3 arg4 arg5 arg6 arg7 arg8 f1 f3 f4 f5 f6 f7 f8, r_131_eq arg1 arg3 arg4 arg5 arg6 arg7 arg8 f1 f3 f4 f5 f6 f7 f8, r_133_eq arg1 arg3 arg4 arg5 arg6 arg7 arg8 f1 f3 f4 f5 f6 f7 f8, r_105_eq arg1 arg3 arg4 arg5 arg6 arg7 arg8 f1 f3 f4 f5 f6 f7 f8] <;> rfl

theorem r_137_eq : run.sl.r_137 arg1 arg3 arg4 arg5 arg6 arg7 arg8 f1 f3 f4 f5 f6 f7 f8 = hl (cut arg1 arg3 arg4 arg5 arg6 arg7 arg8 f1 f3 f4 f5 f6 f7 f8 3) 7 := by
  simp only [run.sl.r_137, r_104_eq arg1 arg3 arg4 arg5 arg6 arg7 arg8 f1 f3 f4 f5 f6 f7 f8, r_105_eq arg1 arg3 arg4 arg5 arg6 arg7 arg8 f1 f3 f4 f5 f6 f7 f8, r_106_eq arg1 arg3 arg4 arg5 arg6 arg7 arg8 f1 f3 f4 f5 f6 f7 f8, r_135_eq arg1 arg3 arg4 arg5 arg6 arg7 arg8 f1 f3 f4 f5 f6 f7 f8] <;> rfl

theorem r_109_eq : run.sl.r_109 arg1 arg3 arg4 arg5 arg6 arg8 f1 f3 f4 f5 f6 f8 = ac (cut arg1 arg3 arg4 arg5 arg6 arg7 arg8 f1 f3 f4 f5 f6 f7 f8 3) 0 := by
  simp only [run.sl.r_109, run.sl.r_108, run.sl.v1782, run.sl.v1784, run.sl.v1786, run.sl.v1785, r_106_eq arg1 arg3 arg4 arg5 arg6 arg7 arg8 f1 f3 f4 f5 f6 f7 f8, v1759_eq arg1 arg3 arg4 arg5 arg6 arg7 arg8 f1 f3 f4 f5 f6 f7 f8, v1761_eq arg1 arg3 arg4 arg5 arg6 arg7 arg8 f1 f3 f4 f5 f6 f7 f8, v1763_eq arg1 arg3 arg4 arg5 arg6 arg7 arg8 f1 f3 f4 f5 f6 f7 f8, v1765_eq arg1 arg3 arg4 arg5 arg6 arg7 arg8 f1 f3 f4 f5 f6 f7 f8, v1801_eq arg1 arg3 arg4 arg5 arg6 arg7 arg8 f1 f3 f4 f5 f6 f7 f8, v1820_eq arg1 arg3 arg4 arg5 arg6 arg7 arg8 f1 f3 f4 f5 f6 f7 f8, v1839_eq arg1 arg3 arg4 arg5 arg6 arg7 arg8 f1 f3 f4 f5 f6 f7 f8, v1858_eq arg1 arg3 arg4 arg5 arg6 arg7 arg8 f1 f3 f4 f5 f6 f7 f8, v1877_eq arg1 arg3 arg4 arg5 arg6 arg7 arg8 f1 f3 f4 f5 f6 f7 f8, v1896_eq arg1 arg3 arg4 arg5 arg6 arg7 arg8 f1 f3 f4 f5 f6 f7 f8, v1915_eq arg1 arg3 arg4 arg5 arg6 arg7 arg8 f1 f3 f4 f5 f6 f7 f8] <;> rfl

theorem r_114_eq : run.sl.r_114 arg1 arg3 arg4 arg5 arg6 arg8 f1 f3 f4 f5 f6 f8 = ac (cut arg1 arg3 arg4 arg5 arg6 arg7 arg8 f1 f3 f4 f5 f6 f7 f8 3) 1 := by
  simp only [run.sl.r_114, run.sl.r_112, r_106_eq arg1 arg3 arg4 arg5 arg6 arg7 arg8 f1 f3 f4 f5 f6 f7 f8, r_109_eq arg1 arg3 arg4 arg5 arg6 arg7 arg8 f1 f3 f4 f5 f6 f7 f8, r_105_eq arg1 arg3 arg4 arg5 arg6 arg7 arg8 f1 f3 f4 f5 f6 f7 f8] <;> rfl

theorem r_115_eq : run.sl.r_115 arg1 arg3 arg4 arg5 arg6 arg8 f1 f3 f4 f5 f6 f8 = fac (cut arg1 arg3 arg4 arg5 arg6 arg7 arg8 f1 f3 f4 f5 f6 f7 f8 3) 2 := by
  simp only [run.sl.r_115, r_105_eq arg1 arg3 arg4 arg5 arg6 arg7 arg8 f1 f3 f4 f5 f6 f7 f8, r_106_eq arg1 arg3 arg4 arg5 arg6 arg7 arg8 f1 f3 f4 f5 f6 f7 f8] <;> rfl

theorem r_119_eq : run.sl.r_119 arg1 arg3 arg4 arg5 arg6 arg8 f1 f3 f4 f5 f6 f8 = ac (cut arg1 arg3 arg4 arg5 arg6 arg7 arg8 f1 f3 f4 f5 f6 f7 f8 3) 2 := by
  simp only [run.sl.r_119, r_114_eq arg1 arg3 arg4 arg5 arg6 arg7 arg8 f1 f3 f4 f5 f6 f7 f8, r_115_eq arg1 arg3 arg4 arg5 arg6 arg7 arg8 f1 f3 f4 f5 f6 f7 f8] <;> rfl

theorem r_124_eq : run.sl.r_124 arg1 arg3 arg4 arg5 arg6 arg8 f1 f3 f4 f5 f6 f8 = ac (cut arg1 arg3 arg4 arg5 arg6 arg7 arg8 f1 f3 f4 f5 f6 f7 f8 3) 3 := by
  simp only [run.sl.r_124, run.sl.r_122, r_119_eq arg1 arg3 arg4 arg5 arg6 arg7 arg8 f1 f3 f4 f5 f6 f7 f8, r_105_eq arg1 arg3 arg4 arg5 arg6 arg7 arg8 f1 f3 f4 f5 f6 f7 f8, r_106_eq arg1 arg3 arg4 arg5 arg6 arg7 arg8 f1 f3 f4 f5 f6 f7 f8] <;> rfl

theorem r_128_eq : run.sl.r_128 arg1 arg3 arg4 arg5 arg6 arg8 f1 f3 f4 f5 f6 f8 = ac (cut arg1 arg3 arg4 arg5 arg6 arg7 arg8 f1 f3 f4 f5 f6 f7 f8 3) 4 := by
  simp only [run.sl.r_128, run.sl.r_125, r_106_eq arg1 arg3 arg4 arg5 arg6 arg7 arg8 f1 f3 f4 f5 f6 f7 f8, r_124_eq arg1 arg3 arg4 arg5 arg6 arg7 arg8 f1 f3 f4 f5 f6 f7 f8, r_105_eq arg1 arg3 arg4 arg5 arg6 arg7 arg8 f1 f3 f4 f5 f6 f7 f8] <;> rfl

theorem r_132_eq : run.sl.r_132 arg1 arg3 arg4 arg5 arg6 arg8 f1 f3 f4 f5 f6 f8 = ac (cut arg1 arg3 arg4 arg5 arg6 arg7 arg8 f1 f3 f4 f5 f6 f7 f8 3) 5 := by
  simp only [run.sl.r_132, run.sl.r_129, r_106_eq arg1 arg3 arg4 arg5 arg6 arg7 arg8 f1 f3 f4 f5 f6 f7 f8, r_128_eq arg1 arg3 arg4 arg5 arg6 arg7 arg8 f1 f3 f4 f5 f6 f7 f8, r_105_eq arg1 arg3 arg4 arg5 arg6 arg7 arg8 f1 f3 f4 f5 f6 f7 f8] <;> rfl

theorem r_136_eq : run.sl.r_136 arg1 arg3 arg4 arg5 arg6 arg8 f1 f3 f4 f5 f6 f8 = ac (cut arg1 arg3 arg4 arg5 arg6 arg7 arg8 f1 f3 f4 f5 f6 f7 f8 3) 6 := by
  simp only [run.sl.r_136, run.sl.r_134, r_106_eq arg1 arg3 arg4 arg5 arg6 arg7 arg8 f1 f3 f4 f5 f6 f7 f8, r_132_eq arg1 arg3 arg4 arg5 arg6 arg7 arg8 f1 f3 f4 f5 f6 f7 f8, r_105_eq arg1 arg3 arg4 arg5 arg6 arg7 arg8 f1 f3 f4 f5 f6 f7 f8] <;> rfl

theorem r_138_eq : run.sl.r_138 arg1 arg3 arg4 arg5 arg6 arg8 f1 f3 f4 f5 f6 f8 = ac (cut arg1 arg3 arg4 arg5 arg6 arg7 arg8 f1 f3 f4 f5 f6 f7 f8 3) 7 := by
  simp only [run.sl.r_138, r_105_eq arg1 arg3 arg4 arg5 arg6 arg7 arg8 f1 f3 f4 f5 f6 f7 f8, r_106_eq arg1 arg3 arg4 arg5 arg6 arg7 arg8 f1 f3 f4 f5 f6 f7 f8, r_136_eq arg1 arg3 arg4 arg5 arg6 arg7 arg8 f1 f3 f4 f5 f6 f7 f8] <;> rfl

theorem pH30 : k0_pay330 (run.sl.v1801 arg1 arg3 arg4 f1 f3 f4) (run.sl.r_106 arg8 f8) (run.sl.r_107 arg1 arg3 arg4 arg5 f1 f3 f4 f5) (run.sl.r_108 arg1 arg3 arg4 arg5 arg6 f1 f3 f4 f5 f6) (View.readAt (Elt F) arg7.view (Rect.unit (s := S4x1x128) ![3, 0, 0] S1x1x128.size inb_S4x1x128_S1x1x128_3_0_0).toLoadRect f7) = shapeCast S1x1x256x128 (hl (cut arg1 arg3 arg4 arg5 arg6 arg7 arg8 f1 f3 f4 f5 f6 f7 f8 3) 0) shapeCasts_S256x128_S1x1x256x128 := by
  simp only [run.sl.r_108, run.sl.v1782, run.sl.v1784, run.sl.v1786, run.sl.v1785, v1801_eq arg1 arg3 arg4 arg5 arg6 arg7 arg8 f1 f3 f4 f5 f6 f7 f8, r_106_eq arg1 arg3 arg4 arg5 arg6 arg7 arg8 f1 f3 f4 f5 f6 f7 f8, r_107_eq arg1 arg3 arg4 arg5 arg6 arg7 arg8 f1 f3 f4 f5 f6 f7 f8, v1759_eq arg1 arg3 arg4 arg5 arg6 arg7 arg8 f1 f3 f4 f5 f6 f7 f8, v1761_eq arg1 arg3 arg4 arg5 arg6 arg7 arg8 f1 f3 f4 f5 f6 f7 f8, v1763_eq arg1 arg3 arg4 arg5 arg6 arg7 arg8 f1 f3 f4 f5 f6 f7 f8, v1765_eq arg1 arg3 arg4 arg5 arg6 arg7 arg8 f1 f3 f4 f5 f6 f7 f8, v1820_eq arg1 arg3 arg4 arg5 arg6 arg7 arg8 f1 f3 f4 f5 f6 f7 f8, v1839_eq arg1 arg3 arg4 arg5 arg6 arg7 arg8 f1 f3 f4 f5 f6 f7 f8, v1858_eq arg1 arg3 arg4 arg5 arg6 arg7 arg8 f1 f3 f4 f5 f6 f7 f8, v1877_eq arg1 arg3 arg4 arg5 arg6 arg7 arg8 f1 f3 f4 f5 f6 f7 f8, v1896_eq arg1 arg3 arg4 arg5 arg6 arg7 arg8 f1 f3 f4 f5 f6 f7 f8, v1915_eq arg1 arg3 arg4 arg5 arg6 arg7 arg8 f1 f3 f4 f5 f6 f7 f8] <;> rfl

theorem pH31 : k0_pay338 (run.sl.v1820 arg1 arg3 arg4 f1 f3 f4) (run.sl.r_106 arg8 f8) (run.sl.r_110 arg1 arg3 arg4 arg5 arg6 arg7 arg8 f1 f3 f4 f5 f6 f7 f8) (run.sl.r_111 arg1 arg3 arg4 arg5 f1 f3 f4 f5) (run.sl.r_112 arg1 arg3 arg4 arg5 f1 f3 f4 f5) (View.readAt (Elt F) arg6.view (Rect.unit (s := S4x1x128) ![3, 0, 0] S1x1x128.size inb_S4x1x128_S1x1x128_3_0_0).toLoadRect f6) (View.readAt (Elt F) arg7.view (Rect.unit (s := S4x1x128) ![3, 0, 0] S1x1x128.size inb_S4x1x128_S1x1x128_3_0_0).toLoadRect f7) = shapeCast S1x1x256x128 (hl (cut arg1 arg3 arg4 arg5 arg6 arg7 arg8 f1 f3 f4 f5 f6 f7 f8 3) 1) shapeCasts_S256x128_S1x1x256x128 := by
  simp only [run.sl.r_112, v1820_eq arg1 arg3 arg4 arg5 arg6 arg7 arg8 f1 f3 f4 f5 f6 f7 f8, r_106_eq arg1 arg3 arg4 arg5 arg6 arg7 arg8 f1 f3 f4 f5 f6 f7 f8, r_110_eq arg1 arg3 arg4 arg5 arg6 arg7 arg8 f1 f3 f4 f5 f6 f7 f8, r_111_eq arg1 arg3 arg4 arg5 arg6 arg7 arg8 f1 f3 f4 f5 f6 f7 f8, r_105_eq arg1 arg3 arg4 arg5 arg6 arg7 arg8 f1 f3 f4 f5 f6 f7 f8] <;> rfl

theorem pH32 : k0_pay347 (run.sl.r_116 arg1 arg3 arg4 arg5 arg6 arg7 arg8 f1 f3 f4 f5 f6 f7 f8) (run.sl.r_117 arg1 arg3 arg4 arg5 arg6 arg7 arg8 f1 f3 f4 f5 f6 f7 f8) = shapeCast S1x1x256x128 (hl (cut arg1 arg3 arg4 arg5 arg6 arg7 arg8 f1 f3 f4 f5 f6 f7 f8 3) 2) shapeCasts_S256x128_S1x1x256x128 := by
  simp only [run.sl.r_117, r_116_eq arg1 arg3 arg4 arg5 arg6 arg7 arg8 f1 f3 f4 f5 f6 f7 f8, r_105_eq arg1 arg3 arg4 arg5 arg6 arg7 arg8 f1 f3 f4 f5 f6 f7 f8, r_106_eq arg1 arg3 arg4 arg5 arg6 arg7 arg8 f1 f3 f4 f5 f6 f7 f8, r_113_eq arg1 arg3 arg4 arg5 arg6 arg7 arg8 f1 f3 f4 f5 f6 f7 f8] <;> rfl

theorem pH33 : k0_pay356 (run.sl.v1858 arg1 arg3 arg4 f1 f3 f4) (run.sl.r_118 arg1 arg3 arg4 arg5 arg6 arg7 arg8 f1 f3 f4 f5 f6 f7 f8) (run.sl.r_120 arg1 arg3 arg4 arg5 arg7 f1 f3 f4 f5 f7) (run.sl.r_121 arg1 arg3 arg4 arg5 arg6 arg8 f1 f3 f4 f5 f6 f8) (run.sl.r_122 arg1 arg3 arg4 arg5 arg6 arg8 f1 f3 f4 f5 f6 f8) = shapeCast S1x1x256x128 (hl (cut arg1 arg3 arg4 arg5 arg6 arg7 arg8 f1 f3 f4 f5 f6 f7 f8 3) 3) shapeCasts_S256x128_S1x1x256x128 := by
  simp only [run.sl.r_120, run.sl.r_122, v1858_eq arg1 arg3 arg4 arg5 arg6 arg7 arg8 f1 f3 f4 f5 f6 f7 f8, r_118_eq arg1 arg3 arg4 arg5 arg6 arg7 arg8 f1 f3 f4 f5 f6 f7 f8, r_121_eq arg1 arg3 arg4 arg5 arg6 arg7 arg8 f1 f3 f4 f5 f6 f7 f8, r_105_eq arg1 arg3 arg4 arg5 arg6 arg7 arg8 f1 f3 f4 f5 f6 f7 f8, r_106_eq arg1 arg3 arg4 arg5 arg6 arg7 arg8 f1 f3 f4 f5 f6 f7 f8] <;> rfl

theorem pH34 : k0_pay365 (run.sl.v1877 arg1 arg3 arg4 f1 f3 f4) (run.sl.r_106 arg8 f8) (run.sl.r_123 arg1 arg3 arg4 arg5 arg6 arg7 arg8 f1 f3 f4 f5 f6 f7 f8) (run.sl.r_125 arg1 arg3 arg4 arg5 arg6 f1 f3 f4 f5 f6) (run.sl.r_126 arg1 arg3 arg4 arg5 arg7 f1 f3 f4 f5 f7) = shapeCast S1x1x256x128 (hl (cut arg1 arg3 arg4 arg5 arg6 arg7 arg8 f1 f3 f4 f5 f6 f7 f8 3) 4) shapeCasts_S256x128_S1x1x256x128 := by
  simp only [run.sl.r_125, run.sl.r_126, v1877_eq arg1 arg3 arg4 arg5 arg6 arg7 arg8 f1 f3 f4 f5 f6 f7 f8, r_106_eq arg1 arg3 arg4 arg5 arg6 arg7 arg8 f1 f3 f4 f5 f6 f7 f8, r_123_eq arg1 arg3 arg4 arg5 arg6 arg7 arg8 f1 f3 f4 f5 f6 f7 f8, r_105_eq arg1 arg3 arg4 arg5 arg6 arg7 arg8 f1 f3 f4 f5 f6 f7 f8] <;> rfl

theorem pH35 : k0_pay374 (run.sl.v1896 arg1 arg3 arg4 f1 f3 f4) (run.sl.r_106 arg8 f8) (run.sl.r_127 arg1 arg3 arg4 arg5 arg6 arg7 arg8 f1 f3 f4 f5 f6 f7 f8) (run.sl.r_129 arg1 arg3 arg4 arg5 arg6 f1 f3 f4 f5 f6) (run.sl.r_130 arg1 arg3 arg4 arg5 f1 f3 f4 f5) (View.readAt (Elt F) arg7.view (Rect.unit (s := S4x1x128) ![3, 0, 0] S1x1x128.size inb_S4x1x128_S1x1x128_3_0_0).toLoadRect f7) = shapeCast S1x1x256x128 (hl (cut arg1 arg3 arg4 arg5 arg6 arg7 arg8 f1 f3 f4 f5 f6 f7 f8 3) 5) shapeCasts_S256x128_S1x1x256x128 := by
  simp only [run.sl.r_129, run.sl.r_130, v1896_eq arg1 arg3 arg4 arg5 arg6 arg7 arg8 f1 f3 f4 f5 f6 f7 f8, r_106_eq arg1 arg3 arg4 arg5 arg6 arg7 arg8 f1 f3 f4 f5 f6 f7 f8, r_127_eq arg1 arg3 arg4 arg5 arg6 arg7 arg8 f1 f3 f4 f5 f6 f7 f8, r_105_eq arg1 arg3 arg4 arg5 arg6 arg7 arg8 f1 f3 f4 f5 f6 f7 f8] <;> rfl

theorem pH36 : k0_pay382 (run.sl.v1915 arg1 arg3 arg4 f1 f3 f4) (run.sl.r_106 arg8 f8) (run.sl.r_131 arg1 arg3 arg4 arg5 arg6 arg7 arg8 f1 f3 f4 f5 f6 f7 f8) (run.sl.r_133 arg1 arg3 arg4 arg5 f1 f3 f4 f5) (run.sl.r_134 arg1 arg3 arg4 arg5 arg6 f1 f3 f4 f5 f6) (View.readAt (Elt F) arg7.view (Rect.unit (s := S4x1x128) ![3, 0, 0] S1x1x128.size inb_S4x1x128_S1x1x128_3_0_0).toLoadRect f7) = shapeCast S1x1x256x128 (hl (cut arg1 arg3 arg4 arg5 arg6 arg7 arg8 f1 f3 f4 f5 f6 f7 f8 3) 6) shapeCasts_S256x128_S1x1x256x128 := by
  simp only [run.sl.r_134, v1915_eq arg1 arg3 arg4 arg5 arg6 arg7 arg8 f1 f3 f4 f5 f6 f7 f8, r_106_eq arg1 arg3 arg4 arg5 arg6 arg7 arg8 f1 f3 f4 f5 f6 f7 f8, r_131_eq arg1 arg3 arg4 arg5 arg6 arg7 arg8 f1 f3 f4 f5 f6 f7 f8, r_133_eq arg1 arg3 arg4 arg5 arg6 arg7 arg8 f1 f3 f4 f5 f6 f7 f8, r_105_eq arg1 arg3 arg4 arg5 arg6 arg7 arg8 f1 f3 f4 f5 f6 f7 f8] <;> rfl

theorem pH37 : k0_pay389 (run.sl.r_137 arg1 arg3 arg4 arg5 arg6 arg7 arg8 f1 f3 f4 f5 f6 f7 f8) = shapeCast S1x1x256x128 (hl (cut arg1 arg3 arg4 arg5 arg6 arg7 arg8 f1 f3 f4 f5 f6 f7 f8 3) 7) shapeCasts_S256x128_S1x1x256x128 := by
  simp only [r_137_eq arg1 arg3 arg4 arg5 arg6 arg7 arg8 f1 f3 f4 f5 f6 f7 f8] <;> rfl

theorem pA30 : k0_pay331 (run.sl.r_106 arg8 f8) (run.sl.r_108 arg1 arg3 arg4 arg5 arg6 f1 f3 f4 f5 f6) = shapeCast S1x1x256x128 (ac (cut arg1 arg3 arg4 arg5 arg6 arg7 arg8 f1 f3 f4 f5 f6 f7 f8 3) 0) shapeCasts_S256x128_S1x1x256x128 := by
  simp only [run.sl.r_108, run.sl.v1782, run.sl.v1784, run.sl.v1786, run.sl.v1785, r_106_eq arg1 arg3 arg4 arg5 arg6 arg7 arg8 f1 f3 f4 f5 f6 f7 f8, v1759_eq arg1 arg3 arg4 arg5 arg6 arg7 arg8 f1 f3 f4 f5 f6 f7 f8, v1761_eq arg1 arg3 arg4 arg5 arg6 arg7 arg8 f1 f3 f4 f5 f6 f7 f8, v1763_eq arg1 arg3 arg4 arg5 arg6 arg7 arg8 f1 f3 f4 f5 f6 f7 f8, v1765_eq arg1 arg3 arg4 arg5 arg6 arg7 arg8 f1 f3 f4 f5 f6 f7 f8, v1801_eq arg1 arg3 arg4 arg5 arg6 arg7 arg8 f1 f3 f4 f5 f6 f7 f8, v1820_eq arg1 arg3 arg4 arg5 arg6 arg7 arg8 f1 f3 f4 f5 f6 f7 f8, v1839_eq arg1 arg3 arg4 arg5 arg6 arg7 arg8 f1 f3 f4 f5 f6 f7 f8, v1858_eq arg1 arg3 arg4 arg5 arg6 arg7 arg8 f1 f3 f4 f5 f6 f7 f8, v1877_eq arg1 arg3 arg4 arg5 arg6 arg7 arg8 f1 f3 f4 f5 f6 f7 f8, v1896_eq arg1 arg3 arg4 arg5 arg6 arg7 arg8 f1 f3 f4 f5 f6 f7 f8, v1915_eq arg1 arg3 arg4 arg5 arg6 arg7 arg8 f1 f3 f4 f5 f6 f7 f8] <;> rfl

theorem pA31 : k0_pay339 (run.sl.r_114 arg1 arg3 arg4 arg5 arg6 arg8 f1 f3 f4 f5 f6 f8) = shapeCast S1x1x256x128 (ac (cut arg1 arg3 arg4 arg5 arg6 arg7 arg8 f1 f3 f4 f5 f6 f7 f8 3) 1) shapeCasts_S256x128_S1x1x256x128 := by
  simp only [r_114_eq arg1 arg3 arg4 arg5 arg6 arg7 arg8 f1 f3 f4 f5 f6 f7 f8] <;> rfl

theorem pA32 : k0_pay348 (run.sl.r_114 arg1 arg3 arg4 arg5 arg6 arg8 f1 f3 f4 f5 f6 f8) (run.sl.r_115 arg1 arg3 arg4 arg5 arg6 arg8 f1 f3 f4 f5 f6 f8) = shapeCast S1x1x256x128 (ac (cut arg1 arg3 arg4 arg5 arg6 arg7 arg8 f1 f3 f4 f5 f6 f7 f8 3) 2) shapeCasts_S256x128_S1x1x256x128 := by
  simp only [r_114_eq arg1 arg3 arg4 arg5 arg6 arg7 arg8 f1 f3 f4 f5 f6 f7 f8, r_115_eq arg1 arg3 arg4 arg5 arg6 arg7 arg8 f1 f3 f4 f5 f6 f7 f8] <;> rfl

theorem pA33 : k0_pay357 (run.sl.r_119 arg1 arg3 arg4 arg5 arg6 arg8 f1 f3 f4 f5 f6 f8) (run.sl.r_122 arg1 arg3 arg4 arg5 arg6 arg8 f1 f3 f4 f5 f6 f8) = shapeCast S1x1x256x128 (ac (cut arg1 arg3 arg4 arg5 arg6 arg7 arg8 f1 f3 f4 f5 f6 f7 f8 3) 3) shapeCasts_S256x128_S1x1x256x128 := by
  simp only [run.sl.r_122, r_119_eq arg1 arg3 arg4 arg5 arg6 arg7 arg8 f1 f3 f4 f5 f6 f7 f8, r_105_eq arg1 arg3 arg4 arg5 arg6 arg7 arg8 f1 f3 f4 f5 f6 f7 f8, r_106_eq arg1 arg3 arg4 arg5 arg6 arg7 arg8 f1 f3 f4 f5 f6 f7 f8] <;> rfl

theorem pA34 : k0_pay366 (run.sl.r_106 arg8 f8) (run.sl.r_124 arg1 arg3 arg4 arg5 arg6 arg8 f1 f3 f4 f5 f6 f8) (run.sl.r_125 arg1 arg3 arg4 arg5 arg6 f1 f3 f4 f5 f6) = shapeCast S1x1x256x128 (ac (cut arg1 arg3 arg4 arg5 arg6 arg7 arg8 f1 f3 f4 f5 f6 f7 f8 3) 4) shapeCasts_S256x128_S1x1x256x128 := by
  simp only [run.sl.r_125, r_106_eq arg1 arg3 arg4 arg5 arg6 arg7 arg8 f1 f3 f4 f5 f6 f7 f8, r_124_eq arg1 arg3 arg4 arg5 arg6 arg7 arg8 f1 f3 f4 f5 f6 f7 f8, r_105_eq arg1 arg3 arg4 arg5 arg6 arg7 arg8 f1 f3 f4 f5 f6 f7 f8] <;> rfl

theorem pA35 : k0_pay375 (run.sl.r_106 arg8 f8) (run.sl.r_128 arg1 arg3 arg4 arg5 arg6 arg8 f1 f3 f4 f5 f6 f8) (run.sl.r_129 arg1 arg3 arg4 arg5 arg6 f1 f3 f4 f5 f6) = shapeCast S1x1x256x128 (ac (cut arg1 arg3 arg4 arg5 arg6 arg7 arg8 f1 f3 f4 f5 f6 f7 f8 3) 5) shapeCasts_S256x128_S1x1x256x128 := by
  simp only [run.sl.r_129, r_106_eq arg1 arg3 arg4 arg5 arg6 arg7 arg8 f1 f3 f4 f5 f6 f7 f8, r_128_eq arg1 arg3 arg4 arg5 arg6 arg7 arg8 f1 f3 f4 f5 f6 f7 f8, r_105_eq arg1 arg3 arg4 arg5 arg6 arg7 arg8 f1 f3 f4 f5 f6 f7 f8] <;> rfl

theorem pA36 : k0_pay383 (run.sl.r_136 arg1 arg3 arg4 arg5 arg6 arg8 f1 f3 f4 f5 f6 f8) = shapeCast S1x1x256x128 (ac (cut arg1 arg3 arg4 arg5 arg6 arg7 arg8 f1 f3 f4 f5 f6 f7 f8 3) 6) shapeCasts_S256x128_S1x1x256x128 := by
  simp only [r_136_eq arg1 arg3 arg4 arg5 arg6 arg7 arg8 f1 f3 f4 f5 f6 f7 f8] <;> rfl

theorem pA37 : k0_pay390 (run.sl.r_138 arg1 arg3 arg4 arg5 arg6 arg8 f1 f3 f4 f5 f6 f8) = shapeCast S1x1x256x128 (ac (cut arg1 arg3 arg4 arg5 arg6 arg7 arg8 f1 f3 f4 f5 f6 f7 f8 3) 7) shapeCasts_S256x128_S1x1x256x128 := by
  simp only [r_138_eq arg1 arg3 arg4 arg5 arg6 arg7 arg8 f1 f3 f4 f5 f6 f7 f8] <;> rfl

end Cert.KernelIdeal.Rec

end

end
-- ==== Proof.Rec.Lists.lean ====
module

public import proofs.«01_k».proof.Proof.Rec.Slab0
public import proofs.«01_k».proof.Proof.Rec.Slab1
public import proofs.«01_k».proof.Proof.Rec.Slab2
public import proofs.«01_k».proof.Proof.Rec.Slab3

/-! The list of the 32 strided stores of the output, each as one function of the carried state, the two scratches and
    the gating input. -/

@[expose] public section

set_option maxRecDepth 16384
set_option maxHeartbeats 4000000

noncomputable section

namespace Cert.KernelIdeal.Rec

open Cert.KernelIdeal Cert.KernelIdeal.Gen
open Idealize.ShloMosaic Idealize.ShloMosaic.TcCoe Idealize.SL.Sem

variable {F : FTy → Type} [FloatOps F] [Named F]

/-- The tanh form of the gelu as the body spells it. -/
def geluV (v : FVec F S256x128 .f32) : FVec F S256x128 .f32 :=
  mulf v (addf (broadcast S256x128 (Scalar.ofBits .f32 0x3F000000#32 : F .f32)) (mulf (broadcast S256x128 (Scalar.ofBits .f32 0x3F000000#32 : F .f32))
    (tanh (mulf v (addf (broadcast S256x128 (Scalar.ofBits .f32 0x3F4C422A#32 : F .f32)) (mulf (broadcast S256x128 (Named.named κ "gelu_cubic" 0x3D122279#32 : F .f32)) (mulf v v)))))))

/-- One stored row group: the recurrence's rows with the carried state, gated. -/
def gated (h0 hv av gv : FVec F S256x128 .f32) : Vec F S1x1x256x128 .f32 :=
  shapeCast S1x1x256x128 (mulf (addf hv (mulf av h0)) (geluV gv)) shapeCasts_S256x128_S1x1x256x128

theorem inbS (c : Fin 4) (r : Fin 8) : ∀ a, (![c.val, r.val, 0, 0] : Fin 4 → ℕ) a + S1x1x256x128.size a ≤ S4x8x256x128.size a := by
  have hc := c.isLt; have hr := r.isLt
  intro a; fin_cases a <;> simp [S1x1x256x128, S4x8x256x128] <;> omega

theorem inbC (c : Fin 4) : ∀ a, (![c.val, 0, 0] : Fin 3 → ℕ) a + S1x256x128.size a ≤ S4x264x128.size a := by
  have hc := c.isLt
  intro a; fin_cases a <;> simp [S1x256x128, S4x264x128] <;> omega

/-- The rectangle of row group `r` of slab `c` in a scratch. -/
abbrev rectS (c : Fin 4) (r : Fin 8) : Rect S4x8x256x128 := Rect.unit ![c.val, r.val, 0, 0] S1x1x256x128.size (inbS c r)

/-- The strided rectangle of row group `r` of slab `c` in the output. -/
abbrev rectO (c : Fin 4) (r : Fin 8) : Rect S1x4x2048x128 := { off := ![0, c.val, r.val, 0], size := S1x1x256x128.size, stride := ![1, 1, 8, 1], inb := inbX c r, stride_pos := spos_1_1_8_1 }

/-- The order in which the row groups are listed, last stored first. -/
def groups : List (Fin 4 × Fin 8) :=
  [(3, 7), (3, 6), (3, 5), (3, 4), (3, 3), (3, 2), (3, 1), (3, 0), (2, 7), (2, 6), (2, 5), (2, 4), (2, 3), (2, 2), (2, 1), (2, 0), (1, 7), (1, 6), (1, 5), (1, 4), (1, 3), (1, 2), (1, 1), (1, 0), (0, 7), (0, 6), (0, 5), (0, 4), (0, 3), (0, 2), (0, 1), (0, 0)]

theorem mem_groups : ∀ c : Fin 4, ∀ r : Fin 8, (c, r) ∈ groups := by decide

variable (arg1 : Memref sig .tc .vmem S1x4x2048x128 .f32) (arg3 : Memref sig .tc .vmem S4x4x128 .f32) (arg4 : Memref sig .tc .vmem S4x1x128 .f32) (arg5 : Memref sig .tc .vmem S4x128x256 .bf16) (arg6 : Memref sig .tc .vmem S4x1x128 .f32) (arg7 : Memref sig .tc .vmem S4x1x128 .f32) (arg8 : Memref sig .tc .vmem S4x1x128 .f32)
variable (f1 : BufTy.Contents (Elt F) arg1.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty)

/-- The stores of the scratch of the groups' own recurrences. -/
theorem H10_32_eq : run.sl.H10_32 arg1 arg3 arg4 arg5 arg6 arg7 arg8 f1 f3 f4 f5 f6 f7 f8 = groups.map (fun q => (⟨rectS q.1 q.2, shapeCast S1x1x256x128 (hl (cut arg1 arg3 arg4 arg5 arg6 arg7 arg8 f1 f3 f4 f5 f6 f7 f8 q.1) q.2.val) shapeCasts_S256x128_S1x1x256x128⟩ : View.Piece (Elt F) S4x8x256x128 .f32)) := by
  simp only [run.sl.H10_32]
  rw [pH37 arg1 arg3 arg4 arg5 arg6 arg7 arg8 f1 f3 f4 f5 f6 f7 f8, pH36 arg1 arg3 arg4 arg5 arg6 arg7 arg8 f1 f3 f4 f5 f6 f7 f8, pH35 arg1 arg3 arg4 arg5 arg6 arg7 arg8 f1 f3 f4 f5 f6 f7 f8, pH34 arg1 arg3 arg4 arg5 arg6 arg7 arg8 f1 f3 f4 f5 f6 f7 f8, pH33 arg1 arg3 arg4 arg5 arg6 arg7 arg8 f1 f3 f4 f5 f6 f7 f8, pH32 arg1 arg3 arg4 arg5 arg6 arg7 arg8 f1 f3 f4 f5 f6 f7 f8, pH31 arg1 arg3 arg4 arg5 arg6 arg7 arg8 f1 f3 f4 f5 f6 f7 f8, pH30 arg1 arg3 arg4 arg5 arg6 arg7 arg8 f1 f3 f4 f5 f6 f7 f8, pH27 arg1 arg3 arg4 arg5 arg6 arg7 arg8 f1 f3 f4 f5 f6 f7 f8, pH26 arg1 arg3 arg4 arg5 arg6 arg7 arg8 f1 f3 f4 f5 f6 f7 f8, pH25 arg1 arg3 arg4 arg5 arg6 arg7 arg8 f1 f3 f4 f5 f6 f7 f8, pH24 arg1 arg3 arg4 arg5 arg6 arg7 arg8 f1 f3 f4 f5 f6 f7 f8, pH23 arg1 arg3 arg4 arg5 arg6 arg7 arg8 f1 f3 f4 f5 f6 f7 f8, pH22 arg1 arg3 arg4 arg5 arg6 arg7 arg8 f1 f3 f4 f5 f6 f7 f8, pH21 arg1 arg3 arg4 arg5 arg6 arg7 arg8 f1 f3 f4 f5 f6 f7 f8, pH20 arg1 arg3 arg4 arg5 arg6 arg7 arg8 f1 f3 f4 f5 f6 f7 f8, pH17 arg1 arg3 arg4 arg5 arg6 arg7 arg8 f1 f3 f4 f5 f6 f7 f8, pH16 arg1 arg3 arg4 arg5 arg6 arg7 arg8 f1 f3 f4 f5 f6 f7 f8, pH15 arg1 arg3 arg4 arg5 arg6 arg7 arg8 f1 f3 f4 f5 f6 f7 f8, pH14 arg1 arg3 arg4 arg5 arg6 arg7 arg8 f1 f3 f4 f5 f6 f7 f8, pH13 arg1 arg3 arg4 arg5 arg6 arg7 arg8 f1 f3 f4 f5 f6 f7 f8, pH12 arg1 arg3 arg4 arg5 arg6 arg7 arg8 f1 f3 f4 f5 f6 f7 f8, pH11 arg1 arg3 arg4 arg5 arg6 arg7 arg8 f1 f3 f4 f5 f6 f7 f8, pH10 arg1 arg3 arg4 arg5 arg6 arg7 arg8 f1 f3 f4 f5 f6 f7 f8, pH07 arg1 arg3 arg4 arg5 arg6 arg7 arg8 f1 f3 f4 f5 f6 f7 f8, pH06 arg1 arg3 arg4 arg5 arg6 arg7 arg8 f1 f3 f4 f5 f6 f7 f8, pH05 arg1 arg3 arg4 arg5 arg6 arg7 arg8 f1 f3 f4 f5 f6 f7 f8, pH04 arg1 arg3 arg4 arg5 arg6 arg7 arg8 f1 f3 f4 f5 f6 f7 f8, pH03 arg1 arg3 arg4 arg5 arg6 arg7 arg8 f1 f3 f4 f5 f6 f7 f8, pH02 arg1 arg3 arg4 arg5 arg6 arg7 arg8 f1 f3 f4 f5 f6 f7 f8, pH01 arg1 arg3 arg4 arg5 arg6 arg7 arg8 f1 f3 f4 f5 f6 f7 f8, pH00 arg1 arg3 arg4 arg5 arg6 arg7 arg8 f1 f3 f4 f5 f6 f7 f8]
  rfl

/-- The stores of the scratch of the groups' own products. -/
theorem H11_32_eq : run.sl.H11_32 arg1 arg3 arg4 arg5 arg6 arg8 f1 f3 f4 f5 f6 f8 = groups.map (fun q => (⟨rectS q.1 q.2, shapeCast S1x1x256x128 (ac (cut arg1 arg3 arg4 arg5 arg6 arg7 arg8 f1 f3 f4 f5 f6 f7 f8 q.1) q.2.val) shapeCasts_S256x128_S1x1x256x128⟩ : View.Piece (Elt F) S4x8x256x128 .f32)) := by
  simp only [run.sl.H11_32]
  rw [pA37 arg1 arg3 arg4 arg5 arg6 arg7 arg8 f1 f3 f4 f5 f6 f7 f8, pA36 arg1 arg3 arg4 arg5 arg6 arg7 arg8 f1 f3 f4 f5 f6 f7 f8, pA35 arg1 arg3 arg4 arg5 arg6 arg7 arg8 f1 f3 f4 f5 f6 f7 f8, pA34 arg1 arg3 arg4 arg5 arg6 arg7 arg8 f1 f3 f4 f5 f6 f7 f8, pA33 arg1 arg3 arg4 arg5 arg6 arg7 arg8 f1 f3 f4 f5 f6 f7 f8, pA32 arg1 arg3 arg4 arg5 arg6 arg7 arg8 f1 f3 f4 f5 f6 f7 f8, pA31 arg1 arg3 arg4 arg5 arg6 arg7 arg8 f1 f3 f4 f5 f6 f7 f8, pA30 arg1 arg3 arg4 arg5 arg6 arg7 arg8 f1 f3 f4 f5 f6 f7 f8, pA27 arg1 arg3 arg4 arg5 arg6 arg7 arg8 f1 f3 f4 f5 f6 f7 f8, pA26 arg1 arg3 arg4 arg5 arg6 arg7 arg8 f1 f3 f4 f5 f6 f7 f8, pA25 arg1 arg3 arg4 arg5 arg6 arg7 arg8 f1 f3 f4 f5 f6 f7 f8, pA24 arg1 arg3 arg4 arg5 arg6 arg7 arg8 f1 f3 f4 f5 f6 f7 f8, pA23 arg1 arg3 arg4 arg5 arg6 arg7 arg8 f1 f3 f4 f5 f6 f7 f8, pA22 arg1 arg3 arg4 arg5 arg6 arg7 arg8 f1 f3 f4 f5 f6 f7 f8, pA21 arg1 arg3 arg4 arg5 arg6 arg7 arg8 f1 f3 f4 f5 f6 f7 f8, pA20 arg1 arg3 arg4 arg5 arg6 arg7 arg8 f1 f3 f4 f5 f6 f7 f8, pA17 arg1 arg3 arg4 arg5 arg6 arg7 arg8 f1 f3 f4 f5 f6 f7 f8, pA16 arg1 arg3 arg4 arg5 arg6 arg7 arg8 f1 f3 f4 f5 f6 f7 f8, pA15 arg1 arg3 arg4 arg5 arg6 arg7 arg8 f1 f3 f4 f5 f6 f7 f8, pA14 arg1 arg3 arg4 arg5 arg6 arg7 arg8 f1 f3 f4 f5 f6 f7 f8, pA13 arg1 arg3 arg4 arg5 arg6 arg7 arg8 f1 f3 f4 f5 f6 f7 f8, pA12 arg1 arg3 arg4 arg5 arg6 arg7 arg8 f1 f3 f4 f5 f6 f7 f8, pA11 arg1 arg3 arg4 arg5 arg6 arg7 arg8 f1 f3 f4 f5 f6 f7 f8, pA10 arg1 arg3 arg4 arg5 arg6 arg7 arg8 f1 f3 f4 f5 f6 f7 f8, pA07 arg1 arg3 arg4 arg5 arg6 arg7 arg8 f1 f3 f4 f5 f6 f7 f8, pA06 arg1 arg3 arg4 arg5 arg6 arg7 arg8 f1 f3 f4 f5 f6 f7 f8, pA05 arg1 arg3 arg4 arg5 arg6 arg7 arg8 f1 f3 f4 f5 f6 f7 f8, pA04 arg1 arg3 arg4 arg5 arg6 arg7 arg8 f1 f3 f4 f5 f6 f7 f8, pA03 arg1 arg3 arg4 arg5 arg6 arg7 arg8 f1 f3 f4 f5 f6 f7 f8, pA02 arg1 arg3 arg4 arg5 arg6 arg7 arg8 f1 f3 f4 f5 f6 f7 f8, pA01 arg1 arg3 arg4 arg5 arg6 arg7 arg8 f1 f3 f4 f5 f6 f7 f8, pA00 arg1 arg3 arg4 arg5 arg6 arg7 arg8 f1 f3 f4 f5 f6 f7 f8]
  rfl

end Cert.KernelIdeal.Rec

end

end
-- ==== Proof.Rec.Pieces.lean ====
module

public import proofs.«01_k».proof.Proof.Rec.Lists

/-! Every stored row group of the output, as the body computes it from the scratches. -/

@[expose] public section

set_option maxRecDepth 16384
set_option maxHeartbeats 4000000

noncomputable section

namespace Cert.KernelIdeal.Rec

open Cert.KernelIdeal Cert.KernelIdeal.Gen
open Idealize.ShloMosaic Idealize.ShloMosaic.TcCoe Idealize.SL.Sem

variable {F : FTy → Type} [FloatOps F] [Named F]

variable (c : Dev nD) (i : grid0.Coords) (arg1 : Memref sig .tc .vmem S1x4x2048x128 .f32) (harg1 : arg1.IsWhole) (arg2 : Memref sig .tc .vmem S1x4x2048x128 .f32) (harg2 : arg2.IsWhole) (arg3 : Memref sig .tc .vmem S4x4x128 .f32) (harg3 : arg3.IsWhole) (arg4 : Memref sig .tc .vmem S4x1x128 .f32) (harg4 : arg4.IsWhole) (arg5 : Memref sig .tc .vmem S4x128x256 .bf16) (harg5 : arg5.IsWhole) (arg6 : Memref sig .tc .vmem S4x1x128 .f32) (harg6 : arg6.IsWhole) (arg7 : Memref sig .tc .vmem S4x1x128 .f32) (harg7 : arg7.IsWhole) (arg8 : Memref sig .tc .vmem S4x1x128 .f32) (harg8 : arg8.IsWhole) (arg9 : Memref sig .tc .vmem S1x4x2048x128 .f32) (harg9 : arg9.IsWhole) (arg10 : Memref sig .tc .vmem S4x8x256x128 .f32) (harg10 : arg10.IsWhole) (arg11 : Memref sig .tc .vmem S4x8x256x128 .f32) (harg11 : arg11.IsWhole) (arg12 : Memref sig .tc .vmem S4x264x128 .f32) (harg12 : arg12.IsWhole)
variable (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f12 : BufTy.Contents (Elt F) arg12.view.ty)

/-- The first stores of the carry scratch: its first eight rows are zero. -/
def zeroRows : List (View.Piece (Elt F) S4x264x128 .f32) :=
  [⟨Rect.unit (s := S4x264x128) ![3, 0, 0] S1x8x128.size (by decide), k0_pay391⟩, ⟨Rect.unit (s := S4x264x128) ![2, 0, 0] S1x8x128.size (by decide), k0_pay391⟩, ⟨Rect.unit (s := S4x264x128) ![1, 0, 0] S1x8x128.size (by decide), k0_pay391⟩, ⟨Rect.unit (s := S4x264x128) ![0, 0, 0] S1x8x128.size (by decide), k0_pay391⟩]

/-- What the carry scratch holds after the loop. -/
def carried : BufTy.Contents (Elt F) arg12.view.ty :=
  arg12.view.writes (Elt F) f12 ((st_k0_t1 Variants.none c none i arg1 harg1 arg2 harg2 arg3 harg3 arg4 harg4 arg5 harg5 arg6 harg6 arg7 harg7 arg8 harg8 arg9 harg9 arg10 harg10 arg11 harg11 arg12 harg12 (run.sl.r_137 arg1 arg3 arg4 arg5 arg6 arg7 arg8 f1 f3 f4 f5 f6 f7 f8) (run.sl.r_138 arg1 arg3 arg4 arg5 arg6 arg8 f1 f3 f4 f5 f6 f8) (arg10.view.writes (Elt F) arg10.view.junk (run.sl.H10_32 arg1 arg3 arg4 arg5 arg6 arg7 arg8 f1 f3 f4 f5 f6 f7 f8)) (arg11.view.writes (Elt F) arg11.view.junk (run.sl.H11_32 arg1 arg3 arg4 arg5 arg6 arg8 f1 f3 f4 f5 f6 f8)) (k0_pay392, k0_pay392, k0_pay392, k0_pay392) (Scf.trips k0_t1_loop.lb k0_t1_loop.ub k0_t1_loop.st)).2 ++ zeroRows)

/-- The states entering every group of slab `s`, loaded back. -/
def hin (s : Fin 4) : FVec F S256x128 .f32 :=
  shapeCast S256x128 (View.readAt (Elt F) arg12.view (Rect.unit (s := S4x264x128) ![s.val, 0, 0] S1x256x128.size (inbC s)).toLoadRect (carried c i arg1 harg1 arg2 harg2 arg3 harg3 arg4 harg4 arg5 harg5 arg6 harg6 arg7 harg7 arg8 harg8 arg9 harg9 arg10 harg10 arg11 harg11 arg12 harg12 f1 f3 f4 f5 f6 f7 f8 f12) : Vec F S1x256x128 .f32) shapeCasts_S1x256x128_S256x128

/-- One stored row group from the scratches. -/
def piece (s : Fin 4) (r : Fin 8) : Vec F S1x1x256x128 .f32 :=
  gated (hin c i arg1 harg1 arg2 harg2 arg3 harg3 arg4 harg4 arg5 harg5 arg6 harg6 arg7 harg7 arg8 harg8 arg9 harg9 arg10 harg10 arg11 harg11 arg12 harg12 f1 f3 f4 f5 f6 f7 f8 f12 s)
    (shapeCast S256x128 (arg10.view.readCov (run.sl.H10_32 arg1 arg3 arg4 arg5 arg6 arg7 arg8 f1 f3 f4 f5 f6 f7 f8) (rectS s r).toLoadRect : Vec F S1x1x256x128 .f32) shapeCasts_S1x1x256x128_S256x128)
    (shapeCast S256x128 (arg11.view.readCov (run.sl.H11_32 arg1 arg3 arg4 arg5 arg6 arg8 f1 f3 f4 f5 f6 f8) (rectS s r).toLoadRect : Vec F S1x1x256x128 .f32) shapeCasts_S1x1x256x128_S256x128)
    (shapeCast S256x128 (View.readAt (Elt F) arg2.view (rectO s r).toLoadRect f2 : Vec F S1x1x256x128 .f32) shapeCasts_S1x1x256x128_S256x128)

theorem pO37 : k0_pay1 (run.sl.r_181 c i arg1 harg1 arg2 harg2 arg3 harg3 arg4 harg4 arg5 harg5 arg6 harg6 arg7 harg7 arg8 harg8 arg9 harg9 arg10 harg10 arg11 harg11 arg12 harg12 f1 f3 f4 f5 f6 f7 f8 f12) (run.sl.r_182 arg2 f2) (run.sl.r_183 arg2 f2) k0_pay473 = piece c i arg1 harg1 arg2 harg2 arg3 harg3 arg4 harg4 arg5 harg5 arg6 harg6 arg7 harg7 arg8 harg8 arg9 harg9 arg10 harg10 arg11 harg11 arg12 harg12 f1 f2 f3 f4 f5 f6 f7 f8 f12 3 7 := by
  simp only [run.sl.r_181, run.sl.r_182, run.sl.r_183, run.sl.r_170, run.sl.v3088, run.sl.v3090, run.sl.v2918]
  rfl

theorem pO36 : k0_pay469 (run.sl.r_180 c i arg1 harg1 arg2 harg2 arg3 harg3 arg4 harg4 arg5 harg5 arg6 harg6 arg7 harg7 arg8 harg8 arg9 harg9 arg10 harg10 arg11 harg11 arg12 harg12 f1 f2 f3 f4 f5 f6 f7 f8 f12) = piece c i arg1 harg1 arg2 harg2 arg3 harg3 arg4 harg4 arg5 harg5 arg6 harg6 arg7 harg7 arg8 harg8 arg9 harg9 arg10 harg10 arg11 harg11 arg12 harg12 f1 f2 f3 f4 f5 f6 f7 f8 f12 3 6 := by
  simp only [run.sl.r_180, run.sl.r_170, run.sl.v3064, run.sl.v3066, run.sl.v2918]
  rfl

theorem pO35 : k0_pay467 (run.sl.r_177 c i arg1 harg1 arg2 harg2 arg3 harg3 arg4 harg4 arg5 harg5 arg6 harg6 arg7 harg7 arg8 harg8 arg9 harg9 arg10 harg10 arg11 harg11 arg12 harg12 f1 f3 f4 f5 f6 f7 f8 f12) (run.sl.r_178 arg2 f2) (run.sl.r_179 arg2 f2) run.sl.cst_1049 = piece c i arg1 harg1 arg2 harg2 arg3 harg3 arg4 harg4 arg5 harg5 arg6 harg6 arg7 harg7 arg8 harg8 arg9 harg9 arg10 harg10 arg11 harg11 arg12 harg12 f1 f2 f3 f4 f5 f6 f7 f8 f12 3 5 := by
  simp only [run.sl.r_177, run.sl.r_178, run.sl.r_179, run.sl.cst_1049, run.sl.r_170, run.sl.v3040, run.sl.v3042, run.sl.v2918]
  rfl

theorem pO34 : k0_pay463 (run.sl.r_170 c i arg1 harg1 arg2 harg2 arg3 harg3 arg4 harg4 arg5 harg5 arg6 harg6 arg7 harg7 arg8 harg8 arg9 harg9 arg10 harg10 arg11 harg11 arg12 harg12 f1 f3 f4 f5 f6 f7 f8 f12) (run.sl.r_176 arg1 arg3 arg4 arg5 arg6 arg7 arg8 arg10 f1 f3 f4 f5 f6 f7 f8) (run.sl.v3018 arg1 arg3 arg4 arg5 arg6 arg8 arg11 f1 f3 f4 f5 f6 f8) (View.readAt (Elt F) arg2.view (rectO 3 4).toLoadRect f2) = piece c i arg1 harg1 arg2 harg2 arg3 harg3 arg4 harg4 arg5 harg5 arg6 harg6 arg7 harg7 arg8 harg8 arg9 harg9 arg10 harg10 arg11 harg11 arg12 harg12 f1 f2 f3 f4 f5 f6 f7 f8 f12 3 4 := by
  simp only [run.sl.r_170, run.sl.r_176, run.sl.v3018, run.sl.v2918, run.sl.v3016]
  rfl

theorem pO33 : k0_pay461 (run.sl.r_170 c i arg1 harg1 arg2 harg2 arg3 harg3 arg4 harg4 arg5 harg5 arg6 harg6 arg7 harg7 arg8 harg8 arg9 harg9 arg10 harg10 arg11 harg11 arg12 harg12 f1 f3 f4 f5 f6 f7 f8 f12) (run.sl.v2992 arg1 arg3 arg4 arg5 arg6 arg7 arg8 arg10 f1 f3 f4 f5 f6 f7 f8) (run.sl.v2994 arg1 arg3 arg4 arg5 arg6 arg8 arg11 f1 f3 f4 f5 f6 f8) (View.readAt (Elt F) arg2.view (rectO 3 3).toLoadRect f2) = piece c i arg1 harg1 arg2 harg2 arg3 harg3 arg4 harg4 arg5 harg5 arg6 harg6 arg7 harg7 arg8 harg8 arg9 harg9 arg10 harg10 arg11 harg11 arg12 harg12 f1 f2 f3 f4 f5 f6 f7 f8 f12 3 3 := by
  simp only [run.sl.r_170, run.sl.v2992, run.sl.v2994, run.sl.v2918]
  rfl

theorem pO32 : k0_pay460 (run.sl.r_175 c i arg1 harg1 arg2 harg2 arg3 harg3 arg4 harg4 arg5 harg5 arg6 harg6 arg7 harg7 arg8 harg8 arg9 harg9 arg10 harg10 arg11 harg11 arg12 harg12 f1 f2 f3 f4 f5 f6 f7 f8 f12) = piece c i arg1 harg1 arg2 harg2 arg3 harg3 arg4 harg4 arg5 harg5 arg6 harg6 arg7 harg7 arg8 harg8 arg9 harg9 arg10 harg10 arg11 harg11 arg12 harg12 f1 f2 f3 f4 f5 f6 f7 f8 f12 3 2 := by
  simp only [run.sl.r_175, run.sl.r_170, run.sl.v2968, run.sl.v2970, run.sl.v2918]
  rfl

theorem pO31 : k0_pay458 (run.sl.r_172 c i arg1 harg1 arg2 harg2 arg3 harg3 arg4 harg4 arg5 harg5 arg6 harg6 arg7 harg7 arg8 harg8 arg9 harg9 arg10 harg10 arg11 harg11 arg12 harg12 f1 f3 f4 f5 f6 f7 f8 f12) (run.sl.r_173 arg2 f2) (run.sl.r_174 arg2 f2) run.sl.cst_1049 = piece c i arg1 harg1 arg2 harg2 arg3 harg3 arg4 harg4 arg5 harg5 arg6 harg6 arg7 harg7 arg8 harg8 arg9 harg9 arg10 harg10 arg11 harg11 arg12 harg12 f1 f2 f3 f4 f5 f6 f7 f8 f12 3 1 := by
  simp only [run.sl.r_172, run.sl.r_173, run.sl.r_174, run.sl.cst_1049, run.sl.r_170, run.sl.v2944, run.sl.v2946, run.sl.v2918]
  rfl

theorem pO30 : k0_pay454 (run.sl.r_170 c i arg1 harg1 arg2 harg2 arg3 harg3 arg4 harg4 arg5 harg5 arg6 harg6 arg7 harg7 arg8 harg8 arg9 harg9 arg10 harg10 arg11 harg11 arg12 harg12 f1 f3 f4 f5 f6 f7 f8 f12) (run.sl.r_171 arg1 arg3 arg4 arg5 arg6 arg7 arg8 arg10 f1 f3 f4 f5 f6 f7 f8) (run.sl.v2922 arg1 arg3 arg4 arg5 arg6 arg8 arg11 f1 f3 f4 f5 f6 f8) (View.readAt (Elt F) arg2.view (rectO 3 0).toLoadRect f2) = piece c i arg1 harg1 arg2 harg2 arg3 harg3 arg4 harg4 arg5 harg5 arg6 harg6 arg7 harg7 arg8 harg8 arg9 harg9 arg10 harg10 arg11 harg11 arg12 harg12 f1 f2 f3 f4 f5 f6 f7 f8 f12 3 0 := by
  simp only [run.sl.r_170, run.sl.r_171, run.sl.v2922, run.sl.v2918, run.sl.v2920]
  rfl

theorem pO27 : k0_pay451 (run.sl.r_161 c i arg1 harg1 arg2 harg2 arg3 harg3 arg4 harg4 arg5 harg5 arg6 harg6 arg7 harg7 arg8 harg8 arg9 harg9 arg10 harg10 arg11 harg11 arg12 harg12 f1 f3 f4 f5 f6 f7 f8 f12) (run.sl.v2894 arg1 arg3 arg4 arg5 arg6 arg7 arg8 arg10 f1 f3 f4 f5 f6 f7 f8) (run.sl.v2896 arg1 arg3 arg4 arg5 arg6 arg8 arg11 f1 f3 f4 f5 f6 f8) (View.readAt (Elt F) arg2.view (rectO 2 7).toLoadRect f2) = piece c i arg1 harg1 arg2 harg2 arg3 harg3 arg4 harg4 arg5 harg5 arg6 harg6 arg7 harg7 arg8 harg8 arg9 harg9 arg10 harg10 arg11 harg11 arg12 harg12 f1 f2 f3 f4 f5 f6 f7 f8 f12 2 7 := by
  simp only [run.sl.r_161, run.sl.v2894, run.sl.v2896, run.sl.v2724]
  rfl

theorem pO26 : k0_pay450 (run.sl.r_161 c i arg1 harg1 arg2 harg2 arg3 harg3 arg4 harg4 arg5 harg5 arg6 harg6 arg7 harg7 arg8 harg8 arg9 harg9 arg10 harg10 arg11 harg11 arg12 harg12 f1 f3 f4 f5 f6 f7 f8 f12) (run.sl.v2870 arg1 arg3 arg4 arg5 arg6 arg7 arg8 arg10 f1 f3 f4 f5 f6 f7 f8) (run.sl.v2872 arg1 arg3 arg4 arg5 arg6 arg8 arg11 f1 f3 f4 f5 f6 f8) (View.readAt (Elt F) arg2.view (rectO 2 6).toLoadRect f2) = piece c i arg1 harg1 arg2 harg2 arg3 harg3 arg4 harg4 arg5 harg5 arg6 harg6 arg7 harg7 arg8 harg8 arg9 harg9 arg10 harg10 arg11 harg11 arg12 harg12 f1 f2 f3 f4 f5 f6 f7 f8 f12 2 6 := by
  simp only [run.sl.r_161, run.sl.v2870, run.sl.v2872, run.sl.v2724]
  rfl

theorem pO25 : k0_pay449 (run.sl.r_167 c i arg1 harg1 arg2 harg2 arg3 harg3 arg4 harg4 arg5 harg5 arg6 harg6 arg7 harg7 arg8 harg8 arg9 harg9 arg10 harg10 arg11 harg11 arg12 harg12 f1 f3 f4 f5 f6 f7 f8 f12) (run.sl.r_168 arg2 f2) (run.sl.r_169 arg2 f2) run.sl.cst_1396 = piece c i arg1 harg1 arg2 harg2 arg3 harg3 arg4 harg4 arg5 harg5 arg6 harg6 arg7 harg7 arg8 harg8 arg9 harg9 arg10 harg10 arg11 harg11 arg12 harg12 f1 f2 f3 f4 f5 f6 f7 f8 f12 2 5 := by
  simp only [run.sl.r_167, run.sl.r_168, run.sl.r_169, run.sl.cst_1396, run.sl.r_161, run.sl.v2846, run.sl.v2848, run.sl.v2724]
  rfl

theorem pO24 : k0_pay445 (run.sl.r_166 c i arg1 harg1 arg2 harg2 arg3 harg3 arg4 harg4 arg5 harg5 arg6 harg6 arg7 harg7 arg8 harg8 arg9 harg9 arg10 harg10 arg11 harg11 arg12 harg12 f1 f3 f4 f5 f6 f7 f8 f12) (View.readAt (Elt F) arg2.view (rectO 2 4).toLoadRect f2) = piece c i arg1 harg1 arg2 harg2 arg3 harg3 arg4 harg4 arg5 harg5 arg6 harg6 arg7 harg7 arg8 harg8 arg9 harg9 arg10 harg10 arg11 harg11 arg12 harg12 f1 f2 f3 f4 f5 f6 f7 f8 f12 2 4 := by
  simp only [run.sl.r_166, run.sl.r_161, run.sl.v2822, run.sl.v2824, run.sl.v2724]
  rfl

theorem pO23 : k0_pay443 (run.sl.r_161 c i arg1 harg1 arg2 harg2 arg3 harg3 arg4 harg4 arg5 harg5 arg6 harg6 arg7 harg7 arg8 harg8 arg9 harg9 arg10 harg10 arg11 harg11 arg12 harg12 f1 f3 f4 f5 f6 f7 f8 f12) (run.sl.v2798 arg1 arg3 arg4 arg5 arg6 arg7 arg8 arg10 f1 f3 f4 f5 f6 f7 f8) (run.sl.v2800 arg1 arg3 arg4 arg5 arg6 arg8 arg11 f1 f3 f4 f5 f6 f8) (View.readAt (Elt F) arg2.view (rectO 2 3).toLoadRect f2) = piece c i arg1 harg1 arg2 harg2 arg3 harg3 arg4 harg4 arg5 harg5 arg6 harg6 arg7 harg7 arg8 harg8 arg9 harg9 arg10 harg10 arg11 harg11 arg12 harg12 f1 f2 f3 f4 f5 f6 f7 f8 f12 2 3 := by
  simp only [run.sl.r_161, run.sl.v2798, run.sl.v2800, run.sl.v2724]
  rfl

theorem pO22 : k0_pay442 (run.sl.r_161 c i arg1 harg1 arg2 harg2 arg3 harg3 arg4 harg4 arg5 harg5 arg6 harg6 arg7 harg7 arg8 harg8 arg9 harg9 arg10 harg10 arg11 harg11 arg12 harg12 f1 f3 f4 f5 f6 f7 f8 f12) (run.sl.v2774 arg1 arg3 arg4 arg5 arg6 arg7 arg8 arg10 f1 f3 f4 f5 f6 f7 f8) (run.sl.v2776 arg1 arg3 arg4 arg5 arg6 arg8 arg11 f1 f3 f4 f5 f6 f8) (View.readAt (Elt F) arg2.view (rectO 2 2).toLoadRect f2) = piece c i arg1 harg1 arg2 harg2 arg3 harg3 arg4 harg4 arg5 harg5 arg6 harg6 arg7 harg7 arg8 harg8 arg9 harg9 arg10 harg10 arg11 harg11 arg12 harg12 f1 f2 f3 f4 f5 f6 f7 f8 f12 2 2 := by
  simp only [run.sl.r_161, run.sl.v2774, run.sl.v2776, run.sl.v2724]
  rfl

theorem pO21 : k0_pay441 (run.sl.r_163 c i arg1 harg1 arg2 harg2 arg3 harg3 arg4 harg4 arg5 harg5 arg6 harg6 arg7 harg7 arg8 harg8 arg9 harg9 arg10 harg10 arg11 harg11 arg12 harg12 f1 f3 f4 f5 f6 f7 f8 f12) (run.sl.r_164 arg2 f2) (run.sl.r_165 arg2 f2) run.sl.cst_1396 = piece c i arg1 harg1 arg2 harg2 arg3 harg3 arg4 harg4 arg5 harg5 arg6 harg6 arg7 harg7 arg8 harg8 arg9 harg9 arg10 harg10 arg11 harg11 arg12 harg12 f1 f2 f3 f4 f5 f6 f7 f8 f12 2 1 := by
  simp only [run.sl.r_163, run.sl.r_164, run.sl.r_165, run.sl.cst_1396, run.sl.r_161, run.sl.v2750, run.sl.v2752, run.sl.v2724]
  rfl

theorem pO20 : k0_pay437 (run.sl.r_162 c i arg1 harg1 arg2 harg2 arg3 harg3 arg4 harg4 arg5 harg5 arg6 harg6 arg7 harg7 arg8 harg8 arg9 harg9 arg10 harg10 arg11 harg11 arg12 harg12 f1 f3 f4 f5 f6 f7 f8 f12) (View.readAt (Elt F) arg2.view (rectO 2 0).toLoadRect f2) = piece c i arg1 harg1 arg2 harg2 arg3 harg3 arg4 harg4 arg5 harg5 arg6 harg6 arg7 harg7 arg8 harg8 arg9 harg9 arg10 harg10 arg11 harg11 arg12 harg12 f1 f2 f3 f4 f5 f6 f7 f8 f12 2 0 := by
  simp only [run.sl.r_162, run.sl.v2724, run.sl.v2726, run.sl.v2728]
  rfl

theorem pO17 : k0_pay434 (run.sl.r_150 c i arg1 harg1 arg2 harg2 arg3 harg3 arg4 harg4 arg5 harg5 arg6 harg6 arg7 harg7 arg8 harg8 arg9 harg9 arg10 harg10 arg11 harg11 arg12 harg12 f1 f3 f4 f5 f6 f7 f8 f12) (run.sl.v_1 arg1 arg3 arg4 arg5 arg6 arg7 arg8 arg10 f1 f3 f4 f5 f6 f7 f8) (run.sl.v2702 arg1 arg3 arg4 arg5 arg6 arg8 arg11 f1 f3 f4 f5 f6 f8) (View.readAt (Elt F) arg2.view (rectO 1 7).toLoadRect f2) = piece c i arg1 harg1 arg2 harg2 arg3 harg3 arg4 harg4 arg5 harg5 arg6 harg6 arg7 harg7 arg8 harg8 arg9 harg9 arg10 harg10 arg11 harg11 arg12 harg12 f1 f2 f3 f4 f5 f6 f7 f8 f12 1 7 := by
  simp only [run.sl.r_150, run.sl.v_1, run.sl.v2702, run.sl.v2530]
  rfl

theorem pO16 : k0_pay433 (run.sl.r_150 c i arg1 harg1 arg2 harg2 arg3 harg3 arg4 harg4 arg5 harg5 arg6 harg6 arg7 harg7 arg8 harg8 arg9 harg9 arg10 harg10 arg11 harg11 arg12 harg12 f1 f3 f4 f5 f6 f7 f8 f12) (run.sl.v2676 arg1 arg3 arg4 arg5 arg6 arg7 arg8 arg10 f1 f3 f4 f5 f6 f7 f8) (run.sl.v2678 arg1 arg3 arg4 arg5 arg6 arg8 arg11 f1 f3 f4 f5 f6 f8) (View.readAt (Elt F) arg2.view (rectO 1 6).toLoadRect f2) = piece c i arg1 harg1 arg2 harg2 arg3 harg3 arg4 harg4 arg5 harg5 arg6 harg6 arg7 harg7 arg8 harg8 arg9 harg9 arg10 harg10 arg11 harg11 arg12 harg12 f1 f2 f3 f4 f5 f6 f7 f8 f12 1 6 := by
  simp only [run.sl.r_150, run.sl.v2676, run.sl.v2678, run.sl.v2530]
  rfl

theorem pO15 : k0_pay432 (run.sl.r_158 c i arg1 harg1 arg2 harg2 arg3 harg3 arg4 harg4 arg5 harg5 arg6 harg6 arg7 harg7 arg8 harg8 arg9 harg9 arg10 harg10 arg11 harg11 arg12 harg12 f1 f3 f4 f5 f6 f7 f8 f12) (run.sl.r_159 arg2 f2) (run.sl.r_160 arg2 f2) = piece c i arg1 harg1 arg2 harg2 arg3 harg3 arg4 harg4 arg5 harg5 arg6 harg6 arg7 harg7 arg8 harg8 arg9 harg9 arg10 harg10 arg11 harg11 arg12 harg12 f1 f2 f3 f4 f5 f6 f7 f8 f12 1 5 := by
  simp only [run.sl.r_158, run.sl.r_159, run.sl.r_160, run.sl.r_150, run.sl.v2652, run.sl.v2654, run.sl.v2530]
  rfl

theorem pO14 : k0_pay428 (run.sl.r_156 c i arg1 harg1 arg2 harg2 arg3 harg3 arg4 harg4 arg5 harg5 arg6 harg6 arg7 harg7 arg8 harg8 arg9 harg9 arg10 harg10 arg11 harg11 arg12 harg12 f1 f3 f4 f5 f6 f7 f8 f12) (run.sl.r_157 arg2 f2) = piece c i arg1 harg1 arg2 harg2 arg3 harg3 arg4 harg4 arg5 harg5 arg6 harg6 arg7 harg7 arg8 harg8 arg9 harg9 arg10 harg10 arg11 harg11 arg12 harg12 f1 f2 f3 f4 f5 f6 f7 f8 f12 1 4 := by
  simp only [run.sl.r_156, run.sl.r_157, run.sl.r_150, run.sl.v2628, run.sl.v2630, run.sl.v2530]
  rfl

theorem pO13 : k0_pay425 (run.sl.r_150 c i arg1 harg1 arg2 harg2 arg3 harg3 arg4 harg4 arg5 harg5 arg6 harg6 arg7 harg7 arg8 harg8 arg9 harg9 arg10 harg10 arg11 harg11 arg12 harg12 f1 f3 f4 f5 f6 f7 f8 f12) (run.sl.v arg1 arg3 arg4 arg5 arg6 arg7 arg8 arg10 f1 f3 f4 f5 f6 f7 f8) (run.sl.v2606 arg1 arg3 arg4 arg5 arg6 arg8 arg11 f1 f3 f4 f5 f6 f8) (View.readAt (Elt F) arg2.view (rectO 1 3).toLoadRect f2) = piece c i arg1 harg1 arg2 harg2 arg3 harg3 arg4 harg4 arg5 harg5 arg6 harg6 arg7 harg7 arg8 harg8 arg9 harg9 arg10 harg10 arg11 harg11 arg12 harg12 f1 f2 f3 f4 f5 f6 f7 f8 f12 1 3 := by
  simp only [run.sl.r_150, run.sl.v, run.sl.v2606, run.sl.v2530]
  rfl

theorem pO12 : k0_pay424 (run.sl.r_150 c i arg1 harg1 arg2 harg2 arg3 harg3 arg4 harg4 arg5 harg5 arg6 harg6 arg7 harg7 arg8 harg8 arg9 harg9 arg10 harg10 arg11 harg11 arg12 harg12 f1 f3 f4 f5 f6 f7 f8 f12) (run.sl.v2580 arg1 arg3 arg4 arg5 arg6 arg7 arg8 arg10 f1 f3 f4 f5 f6 f7 f8) (run.sl.v2582 arg1 arg3 arg4 arg5 arg6 arg8 arg11 f1 f3 f4 f5 f6 f8) (View.readAt (Elt F) arg2.view (rectO 1 2).toLoadRect f2) = piece c i arg1 harg1 arg2 harg2 arg3 harg3 arg4 harg4 arg5 harg5 arg6 harg6 arg7 harg7 arg8 harg8 arg9 harg9 arg10 harg10 arg11 harg11 arg12 harg12 f1 f2 f3 f4 f5 f6 f7 f8 f12 1 2 := by
  simp only [run.sl.r_150, run.sl.v2580, run.sl.v2582, run.sl.v2530]
  rfl

theorem pO11 : k0_pay423 (run.sl.r_153 c i arg1 harg1 arg2 harg2 arg3 harg3 arg4 harg4 arg5 harg5 arg6 harg6 arg7 harg7 arg8 harg8 arg9 harg9 arg10 harg10 arg11 harg11 arg12 harg12 f1 f3 f4 f5 f6 f7 f8 f12) (run.sl.r_154 arg2 f2) (run.sl.r_155 arg2 f2) = piece c i arg1 harg1 arg2 harg2 arg3 harg3 arg4 harg4 arg5 harg5 arg6 harg6 arg7 harg7 arg8 harg8 arg9 harg9 arg10 harg10 arg11 harg11 arg12 harg12 f1 f2 f3 f4 f5 f6 f7 f8 f12 1 1 := by
  simp only [run.sl.r_153, run.sl.r_154, run.sl.r_155, run.sl.r_150, run.sl.v2556, run.sl.v2558, run.sl.v2530]
  rfl

theorem pO10 : k0_pay419 (run.sl.r_151 c i arg1 harg1 arg2 harg2 arg3 harg3 arg4 harg4 arg5 harg5 arg6 harg6 arg7 harg7 arg8 harg8 arg9 harg9 arg10 harg10 arg11 harg11 arg12 harg12 f1 f3 f4 f5 f6 f7 f8 f12) (run.sl.r_152 arg2 f2) = piece c i arg1 harg1 arg2 harg2 arg3 harg3 arg4 harg4 arg5 harg5 arg6 harg6 arg7 harg7 arg8 harg8 arg9 harg9 arg10 harg10 arg11 harg11 arg12 harg12 f1 f2 f3 f4 f5 f6 f7 f8 f12 1 0 := by
  simp only [run.sl.r_151, run.sl.r_152, run.sl.v2530, run.sl.v2532, run.sl.v2534]
  rfl

theorem pO07 : k0_pay415 (run.sl.r_139 c i arg1 harg1 arg2 harg2 arg3 harg3 arg4 harg4 arg5 harg5 arg6 harg6 arg7 harg7 arg8 harg8 arg9 harg9 arg10 harg10 arg11 harg11 arg12 harg12 f1 f3 f4 f5 f6 f7 f8 f12) (run.sl.r_149 arg1 arg3 arg4 arg5 arg6 arg7 arg8 arg10 f1 f3 f4 f5 f6 f7 f8) (run.sl.v2508 arg1 arg3 arg4 arg5 arg6 arg8 arg11 f1 f3 f4 f5 f6 f8) (View.readAt (Elt F) arg2.view (rectO 0 7).toLoadRect f2) = piece c i arg1 harg1 arg2 harg2 arg3 harg3 arg4 harg4 arg5 harg5 arg6 harg6 arg7 harg7 arg8 harg8 arg9 harg9 arg10 harg10 arg11 harg11 arg12 harg12 f1 f2 f3 f4 f5 f6 f7 f8 f12 0 7 := by
  simp only [run.sl.r_139, run.sl.r_149, run.sl.v2508, run.sl.v2336, run.sl.v2506]
  rfl

theorem pO06 : k0_pay413 (run.sl.r_139 c i arg1 harg1 arg2 harg2 arg3 harg3 arg4 harg4 arg5 harg5 arg6 harg6 arg7 harg7 arg8 harg8 arg9 harg9 arg10 harg10 arg11 harg11 arg12 harg12 f1 f3 f4 f5 f6 f7 f8 f12) (run.sl.v2482 arg1 arg3 arg4 arg5 arg6 arg7 arg8 arg10 f1 f3 f4 f5 f6 f7 f8) (run.sl.v2484 arg1 arg3 arg4 arg5 arg6 arg8 arg11 f1 f3 f4 f5 f6 f8) (View.readAt (Elt F) arg2.view (rectO 0 6).toLoadRect f2) = piece c i arg1 harg1 arg2 harg2 arg3 harg3 arg4 harg4 arg5 harg5 arg6 harg6 arg7 harg7 arg8 harg8 arg9 harg9 arg10 harg10 arg11 harg11 arg12 harg12 f1 f2 f3 f4 f5 f6 f7 f8 f12 0 6 := by
  simp only [run.sl.r_139, run.sl.v2482, run.sl.v2484, run.sl.v2336]
  rfl

theorem pO05 : k0_pay412 (run.sl.r_148 c i arg1 harg1 arg2 harg2 arg3 harg3 arg4 harg4 arg5 harg5 arg6 harg6 arg7 harg7 arg8 harg8 arg9 harg9 arg10 harg10 arg11 harg11 arg12 harg12 f1 f2 f3 f4 f5 f6 f7 f8 f12) = piece c i arg1 harg1 arg2 harg2 arg3 harg3 arg4 harg4 arg5 harg5 arg6 harg6 arg7 harg7 arg8 harg8 arg9 harg9 arg10 harg10 arg11 harg11 arg12 harg12 f1 f2 f3 f4 f5 f6 f7 f8 f12 0 5 := by
  simp only [run.sl.r_148, run.sl.r_139, run.sl.v2458, run.sl.v2460, run.sl.v2336]
  rfl

theorem pO04 : k0_pay410 (run.sl.r_145 c i arg1 harg1 arg2 harg2 arg3 harg3 arg4 harg4 arg5 harg5 arg6 harg6 arg7 harg7 arg8 harg8 arg9 harg9 arg10 harg10 arg11 harg11 arg12 harg12 f1 f3 f4 f5 f6 f7 f8 f12) (run.sl.r_146 arg2 f2) (run.sl.r_147 arg2 f2) run.sl.cst_1049 = piece c i arg1 harg1 arg2 harg2 arg3 harg3 arg4 harg4 arg5 harg5 arg6 harg6 arg7 harg7 arg8 harg8 arg9 harg9 arg10 harg10 arg11 harg11 arg12 harg12 f1 f2 f3 f4 f5 f6 f7 f8 f12 0 4 := by
  simp only [run.sl.r_145, run.sl.r_146, run.sl.r_147, run.sl.cst_1049, run.sl.r_139, run.sl.v2434, run.sl.v2436, run.sl.v2336]
  rfl

theorem pO03 : k0_pay406 (run.sl.r_139 c i arg1 harg1 arg2 harg2 arg3 harg3 arg4 harg4 arg5 harg5 arg6 harg6 arg7 harg7 arg8 harg8 arg9 harg9 arg10 harg10 arg11 harg11 arg12 harg12 f1 f3 f4 f5 f6 f7 f8 f12) (run.sl.r_144 arg1 arg3 arg4 arg5 arg6 arg7 arg8 arg10 f1 f3 f4 f5 f6 f7 f8) (run.sl.v2412 arg1 arg3 arg4 arg5 arg6 arg8 arg11 f1 f3 f4 f5 f6 f8) (View.readAt (Elt F) arg2.view (rectO 0 3).toLoadRect f2) = piece c i arg1 harg1 arg2 harg2 arg3 harg3 arg4 harg4 arg5 harg5 arg6 harg6 arg7 harg7 arg8 harg8 arg9 harg9 arg10 harg10 arg11 harg11 arg12 harg12 f1 f2 f3 f4 f5 f6 f7 f8 f12 0 3 := by
  simp only [run.sl.r_139, run.sl.r_144, run.sl.v2412, run.sl.v2336, run.sl.v2410]
  rfl

theorem pO02 : k0_pay404 (run.sl.r_139 c i arg1 harg1 arg2 harg2 arg3 harg3 arg4 harg4 arg5 harg5 arg6 harg6 arg7 harg7 arg8 harg8 arg9 harg9 arg10 harg10 arg11 harg11 arg12 harg12 f1 f3 f4 f5 f6 f7 f8 f12) (run.sl.v2386 arg1 arg3 arg4 arg5 arg6 arg7 arg8 arg10 f1 f3 f4 f5 f6 f7 f8) (run.sl.v2388 arg1 arg3 arg4 arg5 arg6 arg8 arg11 f1 f3 f4 f5 f6 f8) (View.readAt (Elt F) arg2.view (rectO 0 2).toLoadRect f2) = piece c i arg1 harg1 arg2 harg2 arg3 harg3 arg4 harg4 arg5 harg5 arg6 harg6 arg7 harg7 arg8 harg8 arg9 harg9 arg10 harg10 arg11 harg11 arg12 harg12 f1 f2 f3 f4 f5 f6 f7 f8 f12 0 2 := by
  simp only [run.sl.r_139, run.sl.v2386, run.sl.v2388, run.sl.v2336]
  rfl

theorem pO01 : k0_pay403 (run.sl.r_143 c i arg1 harg1 arg2 harg2 arg3 harg3 arg4 harg4 arg5 harg5 arg6 harg6 arg7 harg7 arg8 harg8 arg9 harg9 arg10 harg10 arg11 harg11 arg12 harg12 f1 f2 f3 f4 f5 f6 f7 f8 f12) = piece c i arg1 harg1 arg2 harg2 arg3 harg3 arg4 harg4 arg5 harg5 arg6 harg6 arg7 harg7 arg8 harg8 arg9 harg9 arg10 harg10 arg11 harg11 arg12 harg12 f1 f2 f3 f4 f5 f6 f7 f8 f12 0 1 := by
  simp only [run.sl.r_143, run.sl.r_139, run.sl.v2362, run.sl.v2364, run.sl.v2336]
  rfl

theorem pO00 : k0_pay401 (run.sl.r_140 c i arg1 harg1 arg2 harg2 arg3 harg3 arg4 harg4 arg5 harg5 arg6 harg6 arg7 harg7 arg8 harg8 arg9 harg9 arg10 harg10 arg11 harg11 arg12 harg12 f1 f3 f4 f5 f6 f7 f8 f12) (run.sl.r_141 arg2 f2) (run.sl.r_142 arg2 f2) run.sl.cst_1049 = piece c i arg1 harg1 arg2 harg2 arg3 harg3 arg4 harg4 arg5 harg5 arg6 harg6 arg7 harg7 arg8 harg8 arg9 harg9 arg10 harg10 arg11 harg11 arg12 harg12 f1 f2 f3 f4 f5 f6 f7 f8 f12 0 0 := by
  simp only [run.sl.r_140, run.sl.r_141, run.sl.r_142, run.sl.cst_1049, run.sl.v2336, run.sl.v2338, run.sl.v2340]
  rfl

end Cert.KernelIdeal.Rec

end

end
-- ==== Proof.Rec.RunList.lean ====
module

public import proofs.«01_k».proof.Proof.Rec.Pieces

/-! The list of the stores of the output. -/

@[expose] public section

set_option maxRecDepth 16384
set_option maxHeartbeats 4000000

noncomputable section

namespace Cert.KernelIdeal.Rec

open Cert.KernelIdeal Cert.KernelIdeal.Gen
open Idealize.ShloMosaic Idealize.ShloMosaic.TcCoe Idealize.SL.Sem

variable {F : FTy → Type} [FloatOps F] [Named F]

variable (c : Dev nD) (i : grid0.Coords) (arg1 : Memref sig .tc .vmem S1x4x2048x128 .f32) (harg1 : arg1.IsWhole) (arg2 : Memref sig .tc .vmem S1x4x2048x128 .f32) (harg2 : arg2.IsWhole) (arg3 : Memref sig .tc .vmem S4x4x128 .f32) (harg3 : arg3.IsWhole) (arg4 : Memref sig .tc .vmem S4x1x128 .f32) (harg4 : arg4.IsWhole) (arg5 : Memref sig .tc .vmem S4x128x256 .bf16) (harg5 : arg5.IsWhole) (arg6 : Memref sig .tc .vmem S4x1x128 .f32) (harg6 : arg6.IsWhole) (arg7 : Memref sig .tc .vmem S4x1x128 .f32) (harg7 : arg7.IsWhole) (arg8 : Memref sig .tc .vmem S4x1x128 .f32) (harg8 : arg8.IsWhole) (arg9 : Memref sig .tc .vmem S1x4x2048x128 .f32) (harg9 : arg9.IsWhole) (arg10 : Memref sig .tc .vmem S4x8x256x128 .f32) (harg10 : arg10.IsWhole) (arg11 : Memref sig .tc .vmem S4x8x256x128 .f32) (harg11 : arg11.IsWhole) (arg12 : Memref sig .tc .vmem S4x264x128 .f32) (harg12 : arg12.IsWhole)
variable (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f12 : BufTy.Contents (Elt F) arg12.view.ty)

/-- Two stores of the same rectangle with equal values are equal. -/
theorem pc (s : Fin 4) (r : Fin 8) {w w' : (rectO s r).shape.Idx → Elt F .f32} (h : w = w') : (⟨rectO s r, w⟩ : View.Piece (Elt F) S1x4x2048x128 .f32) = ⟨rectO s r, w'⟩ := congrArg _ h

/-- The list of the output's stores. -/
theorem run_list : (run (F := F) c i arg1 harg1 arg2 harg2 arg3 harg3 arg4 harg4 arg5 harg5 arg6 harg6 arg7 harg7 arg8 harg8 arg9 harg9 arg10 harg10 arg11 harg11 arg12 harg12 f1 f2 f3 f4 f5 f6 f7 f8).1 f12 = groups.map (fun q => (⟨rectO q.1 q.2, piece c i arg1 harg1 arg2 harg2 arg3 harg3 arg4 harg4 arg5 harg5 arg6 harg6 arg7 harg7 arg8 harg8 arg9 harg9 arg10 harg10 arg11 harg11 arg12 harg12 f1 f2 f3 f4 f5 f6 f7 f8 f12 q.1 q.2⟩ : View.Piece (Elt F) S1x4x2048x128 .f32)) := by
  unfold run
  refine congrArg₂ List.cons (pc 3 7 (pO37 c i arg1 harg1 arg2 harg2 arg3 harg3 arg4 harg4 arg5 harg5 arg6 harg6 arg7 harg7 arg8 harg8 arg9 harg9 arg10 harg10 arg11 harg11 arg12 harg12 f1 f2 f3 f4 f5 f6 f7 f8 f12)) ?_
  refine congrArg₂ List.cons (pc 3 6 (pO36 c i arg1 harg1 arg2 harg2 arg3 harg3 arg4 harg4 arg5 harg5 arg6 harg6 arg7 harg7 arg8 harg8 arg9 harg9 arg10 harg10 arg11 harg11 arg12 harg12 f1 f2 f3 f4 f5 f6 f7 f8 f12)) ?_
  refine congrArg₂ List.cons (pc 3 5 (pO35 c i arg1 harg1 arg2 harg2 arg3 harg3 arg4 harg4 arg5 harg5 arg6 harg6 arg7 harg7 arg8 harg8 arg9 harg9 arg10 harg10 arg11 harg11 arg12 harg12 f1 f2 f3 f4 f5 f6 f7 f8 f12)) ?_
  refine congrArg₂ List.cons (pc 3 4 (pO34 c i arg1 harg1 arg2 harg2 arg3 harg3 arg4 harg4 arg5 harg5 arg6 harg6 arg7 harg7 arg8 harg8 arg9 harg9 arg10 harg10 arg11 harg11 arg12 harg12 f1 f2 f3 f4 f5 f6 f7 f8 f12)) ?_
  refine congrArg₂ List.cons (pc 3 3 (pO33 c i arg1 harg1 arg2 harg2 arg3 harg3 arg4 harg4 arg5 harg5 arg6 harg6 arg7 harg7 arg8 harg8 arg9 harg9 arg10 harg10 arg11 harg11 arg12 harg12 f1 f2 f3 f4 f5 f6 f7 f8 f12)) ?_
  refine congrArg₂ List.cons (pc 3 2 (pO32 c i arg1 harg1 arg2 harg2 arg3 harg3 arg4 harg4 arg5 harg5 arg6 harg6 arg7 harg7 arg8 harg8 arg9 harg9 arg10 harg10 arg11 harg11 arg12 harg12 f1 f2 f3 f4 f5 f6 f7 f8 f12)) ?_
  refine congrArg₂ List.cons (pc 3 1 (pO31 c i arg1 harg1 arg2 harg2 arg3 harg3 arg4 harg4 arg5 harg5 arg6 harg6 arg7 harg7 arg8 harg8 arg9 harg9 arg10 harg10 arg11 harg11 arg12 harg12 f1 f2 f3 f4 f5 f6 f7 f8 f12)) ?_
  refine congrArg₂ List.cons (pc 3 0 (pO30 c i arg1 harg1 arg2 harg2 arg3 harg3 arg4 harg4 arg5 harg5 arg6 harg6 arg7 harg7 arg8 harg8 arg9 harg9 arg10 harg10 arg11 harg11 arg12 harg12 f1 f2 f3 f4 f5 f6 f7 f8 f12)) ?_
  refine congrArg₂ List.cons (pc 2 7 (pO27 c i arg1 harg1 arg2 harg2 arg3 harg3 arg4 harg4 arg5 harg5 arg6 harg6 arg7 harg7 arg8 harg8 arg9 harg9 arg10 harg10 arg11 harg11 arg12 harg12 f1 f2 f3 f4 f5 f6 f7 f8 f12)) ?_
  refine congrArg₂ List.cons (pc 2 6 (pO26 c i arg1 harg1 arg2 harg2 arg3 harg3 arg4 harg4 arg5 harg5 arg6 harg6 arg7 harg7 arg8 harg8 arg9 harg9 arg10 harg10 arg11 harg11 arg12 harg12 f1 f2 f3 f4 f5 f6 f7 f8 f12)) ?_
  refine congrArg₂ List.cons (pc 2 5 (pO25 c i arg1 harg1 arg2 harg2 arg3 harg3 arg4 harg4 arg5 harg5 arg6 harg6 arg7 harg7 arg8 harg8 arg9 harg9 arg10 harg10 arg11 harg11 arg12 harg12 f1 f2 f3 f4 f5 f6 f7 f8 f12)) ?_
  refine congrArg₂ List.cons (pc 2 4 (pO24 c i arg1 harg1 arg2 harg2 arg3 harg3 arg4 harg4 arg5 harg5 arg6 harg6 arg7 harg7 arg8 harg8 arg9 harg9 arg10 harg10 arg11 harg11 arg12 harg12 f1 f2 f3 f4 f5 f6 f7 f8 f12)) ?_
  refine congrArg₂ List.cons (pc 2 3 (pO23 c i arg1 harg1 arg2 harg2 arg3 harg3 arg4 harg4 arg5 harg5 arg6 harg6 arg7 harg7 arg8 harg8 arg9 harg9 arg10 harg10 arg11 harg11 arg12 harg12 f1 f2 f3 f4 f5 f6 f7 f8 f12)) ?_
  refine congrArg₂ List.cons (pc 2 2 (pO22 c i arg1 harg1 arg2 harg2 arg3 harg3 arg4 harg4 arg5 harg5 arg6 harg6 arg7 harg7 arg8 harg8 arg9 harg9 arg10 harg10 arg11 harg11 arg12 harg12 f1 f2 f3 f4 f5 f6 f7 f8 f12)) ?_
  refine congrArg₂ List.cons (pc 2 1 (pO21 c i arg1 harg1 arg2 harg2 arg3 harg3 arg4 harg4 arg5 harg5 arg6 harg6 arg7 harg7 arg8 harg8 arg9 harg9 arg10 harg10 arg11 harg11 arg12 harg12 f1 f2 f3 f4 f5 f6 f7 f8 f12)) ?_
  refine congrArg₂ List.cons (pc 2 0 (pO20 c i arg1 harg1 arg2 harg2 arg3 harg3 arg4 harg4 arg5 harg5 arg6 harg6 arg7 harg7 arg8 harg8 arg9 harg9 arg10 harg10 arg11 harg11 arg12 harg12 f1 f2 f3 f4 f5 f6 f7 f8 f12)) ?_
  refine congrArg₂ List.cons (pc 1 7 (pO17 c i arg1 harg1 arg2 harg2 arg3 harg3 arg4 harg4 arg5 harg5 arg6 harg6 arg7 harg7 arg8 harg8 arg9 harg9 arg10 harg10 arg11 harg11 arg12 harg12 f1 f2 f3 f4 f5 f6 f7 f8 f12)) ?_
  refine congrArg₂ List.cons (pc 1 6 (pO16 c i arg1 harg1 arg2 harg2 arg3 harg3 arg4 harg4 arg5 harg5 arg6 harg6 arg7 harg7 arg8 harg8 arg9 harg9 arg10 harg10 arg11 harg11 arg12 harg12 f1 f2 f3 f4 f5 f6 f7 f8 f12)) ?_
  refine congrArg₂ List.cons (pc 1 5 (pO15 c i arg1 harg1 arg2 harg2 arg3 harg3 arg4 harg4 arg5 harg5 arg6 harg6 arg7 harg7 arg8 harg8 arg9 harg9 arg10 harg10 arg11 harg11 arg12 harg12 f1 f2 f3 f4 f5 f6 f7 f8 f12)) ?_
  refine congrArg₂ List.cons (pc 1 4 (pO14 c i arg1 harg1 arg2 harg2 arg3 harg3 arg4 harg4 arg5 harg5 arg6 harg6 arg7 harg7 arg8 harg8 arg9 harg9 arg10 harg10 arg11 harg11 arg12 harg12 f1 f2 f3 f4 f5 f6 f7 f8 f12)) ?_
  refine congrArg₂ List.cons (pc 1 3 (pO13 c i arg1 harg1 arg2 harg2 arg3 harg3 arg4 harg4 arg5 harg5 arg6 harg6 arg7 harg7 arg8 harg8 arg9 harg9 arg10 harg10 arg11 harg11 arg12 harg12 f1 f2 f3 f4 f5 f6 f7 f8 f12)) ?_
  refine congrArg₂ List.cons (pc 1 2 (pO12 c i arg1 harg1 arg2 harg2 arg3 harg3 arg4 harg4 arg5 harg5 arg6 harg6 arg7 harg7 arg8 harg8 arg9 harg9 arg10 harg10 arg11 harg11 arg12 harg12 f1 f2 f3 f4 f5 f6 f7 f8 f12)) ?_
  refine congrArg₂ List.cons (pc 1 1 (pO11 c i arg1 harg1 arg2 harg2 arg3 harg3 arg4 harg4 arg5 harg5 arg6 harg6 arg7 harg7 arg8 harg8 arg9 harg9 arg10 harg10 arg11 harg11 arg12 harg12 f1 f2 f3 f4 f5 f6 f7 f8 f12)) ?_
  refine congrArg₂ List.cons (pc 1 0 (pO10 c i arg1 harg1 arg2 harg2 arg3 harg3 arg4 harg4 arg5 harg5 arg6 harg6 arg7 harg7 arg8 harg8 arg9 harg9 arg10 harg10 arg11 harg11 arg12 harg12 f1 f2 f3 f4 f5 f6 f7 f8 f12)) ?_
  refine congrArg₂ List.cons (pc 0 7 (pO07 c i arg1 harg1 arg2 harg2 arg3 harg3 arg4 harg4 arg5 harg5 arg6 harg6 arg7 harg7 arg8 harg8 arg9 harg9 arg10 harg10 arg11 harg11 arg12 harg12 f1 f2 f3 f4 f5 f6 f7 f8 f12)) ?_
  refine congrArg₂ List.cons (pc 0 6 (pO06 c i arg1 harg1 arg2 harg2 arg3 harg3 arg4 harg4 arg5 harg5 arg6 harg6 arg7 harg7 arg8 harg8 arg9 harg9 arg10 harg10 arg11 harg11 arg12 harg12 f1 f2 f3 f4 f5 f6 f7 f8 f12)) ?_
  refine congrArg₂ List.cons (pc 0 5 (pO05 c i arg1 harg1 arg2 harg2 arg3 harg3 arg4 harg4 arg5 harg5 arg6 harg6 arg7 harg7 arg8 harg8 arg9 harg9 arg10 harg10 arg11 harg11 arg12 harg12 f1 f2 f3 f4 f5 f6 f7 f8 f12)) ?_
  refine congrArg₂ List.cons (pc 0 4 (pO04 c i arg1 harg1 arg2 harg2 arg3 harg3 arg4 harg4 arg5 harg5 arg6 harg6 arg7 harg7 arg8 harg8 arg9 harg9 arg10 harg10 arg11 harg11 arg12 harg12 f1 f2 f3 f4 f5 f6 f7 f8 f12)) ?_
  refine congrArg₂ List.cons (pc 0 3 (pO03 c i arg1 harg1 arg2 harg2 arg3 harg3 arg4 harg4 arg5 harg5 arg6 harg6 arg7 harg7 arg8 harg8 arg9 harg9 arg10 harg10 arg11 harg11 arg12 harg12 f1 f2 f3 f4 f5 f6 f7 f8 f12)) ?_
  refine congrArg₂ List.cons (pc 0 2 (pO02 c i arg1 harg1 arg2 harg2 arg3 harg3 arg4 harg4 arg5 harg5 arg6 harg6 arg7 harg7 arg8 harg8 arg9 harg9 arg10 harg10 arg11 harg11 arg12 harg12 f1 f2 f3 f4 f5 f6 f7 f8 f12)) ?_
  refine congrArg₂ List.cons (pc 0 1 (pO01 c i arg1 harg1 arg2 harg2 arg3 harg3 arg4 harg4 arg5 harg5 arg6 harg6 arg7 harg7 arg8 harg8 arg9 harg9 arg10 harg10 arg11 harg11 arg12 harg12 f1 f2 f3 f4 f5 f6 f7 f8 f12)) ?_
  refine congrArg₂ List.cons (pc 0 0 (pO00 c i arg1 harg1 arg2 harg2 arg3 harg3 arg4 harg4 arg5 harg5 arg6 harg6 arg7 harg7 arg8 harg8 arg9 harg9 arg10 harg10 arg11 harg11 arg12 harg12 f1 f2 f3 f4 f5 f6 f7 f8 f12)) ?_
  rfl

end Cert.KernelIdeal.Rec

end

end
-- ==== Proof.Rec.Scr.lean ====
module

public import proofs.«01_k».proof.Proof.Rec.Trip
public import proofs.«01_k».proof.Proof.Rec.RunList

/-! What one run of the body leaves in its output block: the scratches read back, the carried states read back, and the
    32 strided stores put together. -/

@[expose] public section

set_option maxRecDepth 16384
set_option maxHeartbeats 400000

noncomputable section

namespace Cert.KernelIdeal.Rec

open Cert.KernelIdeal Cert.KernelIdeal.Gen
open Idealize.ShloMosaic Idealize.ShloMosaic.TcCoe Idealize.SL.Sem

theorem cast4 (x : FVec Ideal S256x128 .f32) (g : Fin 256) (l : Fin 128) :
    shapeCast S1x1x256x128 x shapeCasts_S256x128_S1x1x256x128 (ix4 0 0 g l) = x (ix2 g l) := by
  pointwise

theorem cast42 (x : Vec Ideal S1x1x256x128 .f32) (g : Fin 256) (l : Fin 128) :
    shapeCast S256x128 x shapeCasts_S1x1x256x128_S256x128 (ix2 g l) = x (ix4 0 0 g l) := by
  pointwise

theorem cast32 (x : Vec Ideal S1x256x128 .f32) (g : Fin 256) (l : Fin 128) :
    shapeCast S256x128 x shapeCasts_S1x256x128_S256x128 (ix2 g l) = x (ix3 0 g l) := by
  pointwise

theorem rectS_idx (c : Fin 4) (r : Fin 8) (g : Fin 256) (l : Fin 128) :
    (rectS c r).toLoadRect.idx (ix4 (0 : Fin 1) (0 : Fin 1) g l : S1x1x256x128.Idx) = (ix4 c r g l : S4x8x256x128.Idx) := by
  funext a
  apply Fin.ext
  fin_cases a <;> simp [LoadRect.idx, Rect.unit, ix4, S4x8x256x128]

/-- The position of row `r` of group `g`. -/
def pos (g : Fin 256) (r : Fin 8) : Fin 2048 := ⟨8 * g.val + r.val, by omega⟩

theorem rectO_idx (c : Fin 4) (r : Fin 8) (g : Fin 256) (l : Fin 128) :
    (rectO c r).toLoadRect.idx (ix4 (0 : Fin 1) (0 : Fin 1) g l : S1x1x256x128.Idx) = (ix4 0 c (pos g r) l : S1x4x2048x128.Idx) := by
  funext a
  apply Fin.ext
  fin_cases a <;> simp [LoadRect.idx, ix4, S1x4x2048x128, pos] <;> omega

theorem mem_rectS (c : Fin 4) (r : Fin 8) (g : Fin 256) (l : Fin 128) : (ix4 c r g l : S4x8x256x128.Idx) ∈ (rectS c r).set :=
  Eq.subst (motive := fun z => z ∈ (rectS c r).set) (rectS_idx c r g l) ((rectS c r).idx_mem (ix4 (0 : Fin 1) (0 : Fin 1) g l : S1x1x256x128.Idx))

theorem mem_rectO (c : Fin 4) (r : Fin 8) (g : Fin 256) (l : Fin 128) : (ix4 0 c (pos g r) l : S1x4x2048x128.Idx) ∈ (rectO c r).set :=
  Eq.subst (motive := fun z => z ∈ (rectO c r).set) (rectO_idx c r g l) ((rectO c r).idx_mem (ix4 (0 : Fin 1) (0 : Fin 1) g l : S1x1x256x128.Idx))

/-- A scratch read back after its 32 stores. -/
theorem scr_read (v : View sig .tc .vmem S4x8x256x128 .f32) (f : BufTy.Contents (Elt Ideal) v.ty) (P : Fin 4 → ℕ → FVec Ideal S256x128 .f32) :
    v.read (Elt Ideal) (v.writes (Elt Ideal) f (groups.map fun q => (⟨rectS q.1 q.2, shapeCast S1x1x256x128 (P q.1 q.2.val) shapeCasts_S256x128_S1x1x256x128⟩ : View.Piece (Elt Ideal) S4x8x256x128 .f32)))
      = fun y => P (y 0) (y 1).val (ix2 (y 2) (y 3)) := by
  funext y
  refine View.read_writes_apply_of_pieces v f (fun y : S4x8x256x128.Idx => P (y 0) (y 1).val (ix2 (y 2) (y 3))) _ ?_ y ?_
  · intro p hp x
    obtain ⟨q, _, rfl⟩ := List.mem_map.mp hp
    obtain ⟨a, b, g, l, rfl⟩ : ∃ (a b : Fin 1) (g : Fin 256) (l : Fin 128), x = (ix4 a b g l : S1x1x256x128.Idx) := ⟨x 0, x 1, x 2, x 3, eq_ix4 x⟩
    obtain rfl : a = 0 := Subsingleton.elim _ _
    obtain rfl : b = 0 := Subsingleton.elim _ _
    refine (cast4 _ g l).trans ?_
    have e : (rectS q.1 q.2).emb (ix4 (0 : Fin 1) (0 : Fin 1) g l : S1x1x256x128.Idx) = (ix4 q.1 q.2 g l : S4x8x256x128.Idx) := rectS_idx q.1 q.2 g l
    exact (congrArg (fun y : S4x8x256x128.Idx => P (y 0) (y 1).val (ix2 (y 2) (y 3))) e).symm
  · obtain ⟨c, r, g, l, rfl⟩ : ∃ (c : Fin 4) (r : Fin 8) (g : Fin 256) (l : Fin 128), y = (ix4 c r g l : S4x8x256x128.Idx) := ⟨y 0, y 1, y 2, y 3, eq_ix4 y⟩
    exact ⟨_, List.mem_map.mpr ⟨(c, r), mem_groups c r, rfl⟩, mem_rectS c r g l⟩

/-- The output read back after its 32 strided stores. -/
theorem out_read (v : View sig .tc .vmem S1x4x2048x128 .f32) (f : BufTy.Contents (Elt Ideal) v.ty) (P : Fin 4 → Fin 8 → Vec Ideal S1x1x256x128 .f32) :
    v.read (Elt Ideal) (v.writes (Elt Ideal) f (groups.map fun q => (⟨rectO q.1 q.2, P q.1 q.2⟩ : View.Piece (Elt Ideal) S1x4x2048x128 .f32)))
      = fun y => P (y 1) ⟨(y 2).val % 8, Nat.mod_lt _ (by decide)⟩ (ix4 0 0 ⟨(y 2).val / 8, by have : (y 2).val < 2048 := (y 2).isLt; omega⟩ (y 3)) := by
  funext y
  refine View.read_writes_apply_of_pieces v f (fun y : S1x4x2048x128.Idx => P (y 1) ⟨(y 2).val % 8, Nat.mod_lt _ (by decide)⟩ (ix4 0 0 ⟨(y 2).val / 8, by have : (y 2).val < 2048 := (y 2).isLt; omega⟩ (y 3))) _ ?_ y ?_
  · intro p hp x
    obtain ⟨q, _, rfl⟩ := List.mem_map.mp hp
    obtain ⟨a, b, g, l, rfl⟩ : ∃ (a b : Fin 1) (g : Fin 256) (l : Fin 128), x = (ix4 a b g l : S1x1x256x128.Idx) := ⟨x 0, x 1, x 2, x 3, eq_ix4 x⟩
    obtain rfl : a = 0 := Subsingleton.elim _ _
    obtain rfl : b = 0 := Subsingleton.elim _ _
    have e : (rectO q.1 q.2).emb (ix4 (0 : Fin 1) (0 : Fin 1) g l : S1x1x256x128.Idx) = (ix4 0 q.1 (pos g q.2) l : S1x4x2048x128.Idx) := rectO_idx q.1 q.2 g l
    refine Eq.trans ?_ (congrArg (fun y : S1x4x2048x128.Idx => P (y 1) ⟨(y 2).val % 8, Nat.mod_lt _ (by decide)⟩ (ix4 0 0 ⟨(y 2).val / 8, by have : (y 2).val < 2048 := (y 2).isLt; omega⟩ (y 3))) e).symm
    have e1 : (⟨(pos g q.2).val % 8, Nat.mod_lt _ (by decide)⟩ : Fin 8) = q.2 := Fin.ext (by have := q.2.isLt; simp only [pos]; omega)
    have e2 : (⟨(pos g q.2).val / 8, by have := (pos g q.2).isLt; omega⟩ : Fin 256) = g := Fin.ext (by have := q.2.isLt; simp only [pos]; omega)
    show P q.1 q.2 (ix4 0 0 g l) = P q.1 ⟨(pos g q.2).val % 8, _⟩ (ix4 0 0 ⟨(pos g q.2).val / 8, _⟩ l)
    rw [e1, e2]
  · obtain ⟨a, c, t, l, rfl⟩ : ∃ (a : Fin 1) (c : Fin 4) (t : Fin 2048) (l : Fin 128), y = (ix4 a c t l : S1x4x2048x128.Idx) := ⟨y 0, y 1, y 2, y 3, eq_ix4 y⟩
    obtain rfl : a = 0 := Subsingleton.elim _ _
    obtain ⟨g, r, rfl⟩ : ∃ (g : Fin 256) (r : Fin 8), t = pos g r := ⟨⟨t.val / 8, by omega⟩, ⟨t.val % 8, Nat.mod_lt _ (by decide)⟩, Fin.ext (by simp only [pos]; omega)⟩
    exact ⟨_, List.mem_map.mpr ⟨(c, r), mem_groups c r, rfl⟩, mem_rectO c r g l⟩

/-- The scratch of four slabs' row groups. -/
def scrOf (P : Fin 4 → ℕ → FVec Ideal S256x128 .f32) : Vec Ideal S4x8x256x128 .f32 := fun y => P (y 0) (y 1).val (ix2 (y 2) (y 3))

/-- The state entering group `k` of slab `c`. -/
def entering (S : Fin 4 → Slab Ideal) (c : Fin 4) (k : ℕ) : FVec Ideal S1x128 .f32 := carry (scrOf fun c => hl (S c)) (scrOf fun c => ac (S c)) c k

/-- One stored row group of the output from the slabs and the gating input. -/
def outVal (S : Fin 4 → Slab Ideal) (x2 : Vec Ideal S1x4x2048x128 .f32) (c : Fin 4) (r : Fin 8) : Vec Ideal S1x1x256x128 .f32 :=
  gated (fun j => entering S c (j 0).val (ix2 0 (j 1))) (hl (S c) r.val) (ac (S c) r.val) (fun j => x2 (ix4 0 c (pos (j 0) r) (j 1)))

/-- The output's block. -/
def outBlk (S : Fin 4 → Slab Ideal) (x2 : Vec Ideal S1x4x2048x128 .f32) : Vec Ideal S1x4x2048x128 .f32 :=
  fun y => outVal S x2 (y 1) ⟨(y 2).val % 8, Nat.mod_lt _ (by decide)⟩ (ix4 0 0 ⟨(y 2).val / 8, by have : (y 2).val < 2048 := (y 2).isLt; omega⟩ (y 3))

/-- A row group of a scratch, loaded. -/
theorem load_scr (v : View sig .tc .vmem S4x8x256x128 .f32) (X : BufTy.Contents (Elt Ideal) v.ty) (P : Fin 4 → ℕ → FVec Ideal S256x128 .f32)
    (h : v.read (Elt Ideal) X = fun y => P (y 0) (y 1).val (ix2 (y 2) (y 3))) (c : Fin 4) (r : Fin 8) :
    shapeCast S256x128 (View.readAt (Elt Ideal) v (rectS c r).toLoadRect X : Vec Ideal S1x1x256x128 .f32) shapeCasts_S1x1x256x128_S256x128 = P c r.val := by
  funext j
  obtain ⟨g, l, rfl⟩ : ∃ (g : Fin 256) (l : Fin 128), j = ix2 g l := ⟨j 0, j 1, eq_ix2 j⟩
  refine (cast42 _ g l).trans ?_
  rw [View.readAt_apply, rectS_idx, h]
  rfl

/-- The gating input of a row group, loaded. -/
theorem load_gate (v : View sig .tc .vmem S1x4x2048x128 .f32) (X : BufTy.Contents (Elt Ideal) v.ty) (c : Fin 4) (r : Fin 8) :
    shapeCast S256x128 (View.readAt (Elt Ideal) v (rectO c r).toLoadRect X : Vec Ideal S1x1x256x128 .f32) shapeCasts_S1x1x256x128_S256x128
      = fun j => v.read (Elt Ideal) X (ix4 0 c (pos (j 0) r) (j 1)) := by
  funext j
  obtain ⟨g, l, rfl⟩ : ∃ (g : Fin 256) (l : Fin 128), j = ix2 g l := ⟨j 0, j 1, eq_ix2 j⟩
  refine (cast42 _ g l).trans ?_
  rw [View.readAt_apply, rectO_idx]
  rfl

/-- Row 0 of the carry scratch is zero before the loop. -/
theorem zero_rows (v : View sig .tc .vmem S4x264x128 .f32) (f : BufTy.Contents (Elt Ideal) v.ty) (s : Fin 4) (l : Fin 128) :
    v.read (Elt Ideal) (v.writes (Elt Ideal) f (zeroRows (F := Ideal))) (ix3 s 0 l) = (k0_pay392 (F := Ideal)) (ix2 0 l) := by
  have key : ∀ y : S4x264x128.Idx, (y 1).val < 8 → v.read (Elt Ideal) (v.writes (Elt Ideal) f (zeroRows (F := Ideal))) y = (k0_pay392 (F := Ideal)) (ix2 0 0) := by
    intro y hy
    refine View.read_writes_apply_of_pieces v f (fun _ => (k0_pay392 (F := Ideal)) (ix2 0 0)) _ ?_ y ?_
    · intro p hp x
      simp only [zeroRows, List.mem_cons, List.not_mem_nil, or_false] at hp
      rcases hp with rfl | rfl | rfl | rfl <;> rfl
    · have h0 : (y 0).val < 4 := (y 0).isLt
      have h2 : (y 2).val < 128 := (y 2).isLt
      have mem : ∀ (k : ℕ) (hb : ∀ a, (![k, 0, 0] : Fin 3 → ℕ) a + S1x8x128.size a ≤ S4x264x128.size a), (y 0).val = k → y ∈ (Rect.unit (s := S4x264x128) ![k, 0, 0] S1x8x128.size hb).set := by
        intro k hb hk
        rw [Rect.mem_set_unit]
        intro a
        fin_cases a
        · exact ⟨hk.ge, by show (y 0).val < k + 1; omega⟩
        · exact ⟨Nat.zero_le _, by show (y 1).val < 0 + 8; omega⟩
        · exact ⟨Nat.zero_le _, by show (y 2).val < 0 + 128; omega⟩
      simp only [zeroRows, List.mem_cons, List.not_mem_nil, or_false, exists_eq_or_imp, exists_eq_left]
      have : (y 0).val = 3 ∨ (y 0).val = 2 ∨ (y 0).val = 1 ∨ (y 0).val = 0 := by omega
      rcases this with h | h | h | h
      · exact .inl (mem 3 _ h)
      · exact .inr (.inl (mem 2 _ h))
      · exact .inr (.inr (.inl (mem 1 _ h)))
      · exact .inr (.inr (.inr (mem 0 _ h)))
  exact (key (ix3 s 0 l) (by show 0 < 8; decide)).trans rfl

section Rec0

variable (c : Dev nD) (i : grid0.Coords) (arg1 : Memref sig .tc .vmem S1x4x2048x128 .f32) (harg1 : arg1.IsWhole) (arg2 : Memref sig .tc .vmem S1x4x2048x128 .f32) (harg2 : arg2.IsWhole) (arg3 : Memref sig .tc .vmem S4x4x128 .f32) (harg3 : arg3.IsWhole) (arg4 : Memref sig .tc .vmem S4x1x128 .f32) (harg4 : arg4.IsWhole) (arg5 : Memref sig .tc .vmem S4x128x256 .bf16) (harg5 : arg5.IsWhole) (arg6 : Memref sig .tc .vmem S4x1x128 .f32) (harg6 : arg6.IsWhole) (arg7 : Memref sig .tc .vmem S4x1x128 .f32) (harg7 : arg7.IsWhole) (arg8 : Memref sig .tc .vmem S4x1x128 .f32) (harg8 : arg8.IsWhole) (arg9 : Memref sig .tc .vmem S1x4x2048x128 .f32) (harg9 : arg9.IsWhole) (arg10 : Memref sig .tc .vmem S4x8x256x128 .f32) (harg10 : arg10.IsWhole) (arg11 : Memref sig .tc .vmem S4x8x256x128 .f32) (harg11 : arg11.IsWhole) (arg12 : Memref sig .tc .vmem S4x264x128 .f32) (harg12 : arg12.IsWhole)
variable (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f12 : BufTy.Contents (Elt Ideal) arg12.view.ty)

theorem read_H : arg10.view.read (Elt Ideal) (arg10.view.writes (Elt Ideal) arg10.view.junk (run.sl.H10_32 arg1 arg3 arg4 arg5 arg6 arg7 arg8 f1 f3 f4 f5 f6 f7 f8)) = scrOf fun c => hl (cut arg1 arg3 arg4 arg5 arg6 arg7 arg8 f1 f3 f4 f5 f6 f7 f8 c) := by
  rw [H10_32_eq]
  exact scr_read arg10.view arg10.view.junk (fun c => hl (cut arg1 arg3 arg4 arg5 arg6 arg7 arg8 f1 f3 f4 f5 f6 f7 f8 c))

theorem read_A : arg11.view.read (Elt Ideal) (arg11.view.writes (Elt Ideal) arg11.view.junk (run.sl.H11_32 arg1 arg3 arg4 arg5 arg6 arg8 f1 f3 f4 f5 f6 f8)) = scrOf fun c => ac (cut arg1 arg3 arg4 arg5 arg6 arg7 arg8 f1 f3 f4 f5 f6 f7 f8 c) := by
  rw [H11_32_eq arg1 arg3 arg4 arg5 arg6 arg7 arg8 f1 f3 f4 f5 f6 f7 f8]
  exact scr_read arg11.view arg11.view.junk (fun c => ac (cut arg1 arg3 arg4 arg5 arg6 arg7 arg8 f1 f3 f4 f5 f6 f7 f8 c))

/-- The states entering the groups, loaded back. -/
theorem hin_eq (s : Fin 4) : hin c i arg1 harg1 arg2 harg2 arg3 harg3 arg4 harg4 arg5 harg5 arg6 harg6 arg7 harg7 arg8 harg8 arg9 harg9 arg10 harg10 arg11 harg11 arg12 harg12 f1 f3 f4 f5 f6 f7 f8 f12 s = fun j => entering (cut arg1 arg3 arg4 arg5 arg6 arg7 arg8 f1 f3 f4 f5 f6 f7 f8) s (j 0).val (ix2 0 (j 1)) := by
  funext j
  obtain ⟨g, l, rfl⟩ : ∃ (g : Fin 256) (l : Fin 128), j = ix2 g l := ⟨j 0, j 1, eq_ix2 j⟩
  refine (cast32 _ g l).trans ?_
  have e : (Rect.unit (s := S4x264x128) ![s.val, 0, 0] S1x256x128.size (inbC s)).toLoadRect.idx (ix3 (0 : Fin 1) g l : S1x256x128.Idx)
      = (ix3 s ⟨g.val, by omega⟩ l : S4x264x128.Idx) := by
    funext a
    apply Fin.ext
    fin_cases a <;> simp [LoadRect.idx, Rect.unit, ix3, S4x264x128]
  rw [View.readAt_apply, e, carried, show Scf.trips k0_t1_loop.lb k0_t1_loop.ub k0_t1_loop.st = 256 by decide +kernel]
  refine (carry_read c i arg1 harg1 arg2 harg2 arg3 harg3 arg4 harg4 arg5 harg5 arg6 harg6 arg7 harg7 arg8 harg8 arg9 harg9 arg10 harg10 arg11 harg11 arg12 harg12 _ _ _ _ f12 zeroRows (zero_rows arg12.view f12) 256 le_rfl s ⟨g.val, by omega⟩ l (by show g.val ≤ 256; omega)).trans ?_
  rw [read_H, read_A arg1 arg3 arg4 arg5 arg6 arg7 arg8 arg11 f1 f3 f4 f5 f6 f7 f8]
  rfl

theorem piece_eq (s : Fin 4) (r : Fin 8) : piece c i arg1 harg1 arg2 harg2 arg3 harg3 arg4 harg4 arg5 harg5 arg6 harg6 arg7 harg7 arg8 harg8 arg9 harg9 arg10 harg10 arg11 harg11 arg12 harg12 f1 f2 f3 f4 f5 f6 f7 f8 f12 s r = outVal (cut arg1 arg3 arg4 arg5 arg6 arg7 arg8 f1 f3 f4 f5 f6 f7 f8) (arg2.view.read (Elt Ideal) f2) s r := by
  unfold piece outVal
  rw [hin_eq]
  congr 1
  · exact load_scr arg10.view _ (fun c => hl (cut arg1 arg3 arg4 arg5 arg6 arg7 arg8 f1 f3 f4 f5 f6 f7 f8 c)) (read_H arg1 arg3 arg4 arg5 arg6 arg7 arg8 arg10 f1 f3 f4 f5 f6 f7 f8) s r
  · exact load_scr arg11.view _ (fun c => ac (cut arg1 arg3 arg4 arg5 arg6 arg7 arg8 f1 f3 f4 f5 f6 f7 f8 c)) (read_A arg1 arg3 arg4 arg5 arg6 arg7 arg8 arg11 f1 f3 f4 f5 f6 f7 f8) s r
  · exact load_gate arg2.view f2 s r

end Rec0

/-- What the body leaves is `outBlk` of the slabs cut from its blocks. -/
theorem leaves_out (x1 x2 : Vec Ideal S1x4x2048x128 .f32) (x3 : Vec Ideal S4x4x128 .f32) (x4 : Vec Ideal S4x1x128 .f32) (x5 : Vec Ideal S4x128x256 .bf16) (x6 x7 x8 : Vec Ideal S4x1x128 .f32) (Y : Vec Ideal S1x4x2048x128 .f32)
    (h : Leaves x1 x2 x3 x4 x5 x6 x7 x8 Y) : Y = outBlk (slab x1 x3 x4 x5 x6 x7 x8) x2 := by
  obtain ⟨c, i, arg1, harg1, arg2, harg2, arg3, harg3, arg4, harg4, arg5, harg5, arg6, harg6, arg7, harg7, arg8, harg8, arg9, harg9, arg10, harg10, arg11, harg11, arg12, harg12, f1, f2, f3, f4, f5, f6, f7, f8, f9, f10, f11, f12, rfl, rfl, rfl, rfl, rfl, rfl, rfl, rfl, rfl⟩ := h
  rw [run_list, out_read]
  funext y
  exact congrFun (piece_eq c i arg1 harg1 arg2 harg2 arg3 harg3 arg4 harg4 arg5 harg5 arg6 harg6 arg7 harg7 arg8 harg8 arg9 harg9 arg10 harg10 arg11 harg11 arg12 harg12 f1 f2 f3 f4 f5 f6 f7 f8 f12  _ _) _

end Cert.KernelIdeal.Rec

end

end
-- ==== Proof.Ffn.Row.lean ====
module

public import Idealize.ShloMosaic.PureOps.Ideal
public import Idealize.ShloMosaic.PureOps.Ideal.Laws

/-! One row of the layer's feed-forward network over the extended reals: the norm of a row, the gate, the
    product with the second weight matrix, and the lemmas that join the kernel's chunks. -/

@[expose] public section

noncomputable section

namespace Cert.Ffn

open Idealize.ShloMosaic

/-- The number a float word stands for. -/
abbrev word (b : BitVec 32) : EReal := Ideal.ofBits .f32 b

/-- The layer's norm of a row `x` with weights `g`: `x / sqrt (mean of squares + ε) * g`, the mean a division by
    the number the word `n` stands for. -/
def rms {D : ℕ} (n : BitVec 32) (x g : Fin D → EReal) (j : Fin D) : EReal :=
  x j * Ideal.rsqrt (Ideal.div (∑ k, x k * x k) (word n) + word 0x358637BD#32) * g j

/-- `z / (1 + exp (-z))`. -/
def silu (z : EReal) : EReal := z * Ideal.div 1 (1 + Ideal.exp (-z))

/-- The hidden row at unit `f`: the gate column's product through `silu`, times the other column's product. -/
def hid {D H : ℕ} (y : Fin D → EReal) (wg wu : Fin D → Fin H → EReal) (f : Fin H) : EReal :=
  silu (∑ k, y k * wg k f) * ∑ k, y k * wu k f

/-- The feed-forward row: `x + 1/2 * (hidden row of the normed x) · wo`. -/
def row {D H : ℕ} (n : BitVec 32) (x g : Fin D → EReal) (wg wu : Fin D → Fin H → EReal) (wo : Fin H → Fin D → EReal)
    (j : Fin D) : EReal :=
  x j + word 0x3F000000#32 * ∑ f, hid (rms n x g) wg wu f * wo f j

/-- A power of two with the named factor `-1 / log 2` in its exponent is the exponential of the negative. -/
theorem exp2_neg_log2e (z : EReal) : Ideal.exp2 (z * ((-((Real.log 2)⁻¹) : ℝ) : EReal)) = Ideal.exp (-z) := by
  have hl : (0 : ℝ) < Real.log 2 := Real.log_pos (by norm_num)
  have hn : (-((Real.log 2)⁻¹) : ℝ) < 0 := neg_neg_of_pos (inv_pos.mpr hl)
  induction z using EReal.rec with
  | bot => rw [EReal.bot_mul_coe_of_neg hn]; rfl
  | top => rw [EReal.top_mul_coe_of_neg hn]; rfl
  | coe r =>
    rw [← EReal.coe_mul, ← EReal.coe_neg]
    show ((Real.rpow 2 (r * -((Real.log 2)⁻¹)) : ℝ) : EReal) = ((Real.exp (-r) : ℝ) : EReal)
    refine congrArg _ ?_
    show (2 : ℝ) ^ (r * -((Real.log 2)⁻¹)) = _
    rw [Real.rpow_def_of_pos (by norm_num)]
    refine congrArg _ ?_
    field_simp

/-- A sum over 2816 units, the first 1536 and the other 1280 apart. -/
theorem sum_split (f : Fin 2816 → EReal) :
    ∑ i, f i = (∑ i : Fin 1536, f ⟨i, by omega⟩) + ∑ i : Fin 1280, f ⟨1536 + i, by omega⟩ :=
  Fin.sum_univ_add (a := 1536) (b := 1280) f

/-- The same sum in chunks of 768, 768, 768 and 512. -/
theorem sum_split4 (f : Fin 2816 → EReal) :
    ∑ i, f i = (((∑ i : Fin 768, f ⟨i, by omega⟩) + ∑ i : Fin 768, f ⟨768 + i, by omega⟩) + ∑ i : Fin 768, f ⟨1536 + i, by omega⟩)
      + ∑ i : Fin 512, f ⟨2304 + i, by omega⟩ := by
  rw [show ∑ i, f i = (∑ i : Fin 2304, f ⟨i, by omega⟩) + ∑ i : Fin 512, f ⟨2304 + i, by omega⟩ from Fin.sum_univ_add (a := 2304) (b := 512) f]
  rw [show (∑ i : Fin 2304, f ⟨i, by omega⟩) = (∑ i : Fin 1536, f ⟨i, by omega⟩) + ∑ i : Fin 768, f ⟨1536 + i, by omega⟩ from
    Fin.sum_univ_add (a := 1536) (b := 768) (fun i : Fin 2304 => f ⟨i, by omega⟩)]
  rw [show (∑ i : Fin 1536, f ⟨i, by omega⟩) = (∑ i : Fin 768, f ⟨i, by omega⟩) + ∑ i : Fin 768, f ⟨768 + i, by omega⟩ from
    Fin.sum_univ_add (a := 768) (b := 768) (fun i : Fin 1536 => f ⟨i, by omega⟩)]

/-- The row after the mixers: `x` plus the normed outputs of the two mixers, side by side, times the output matrix. -/
def mix (x : Fin 1024 → EReal) (ya yr ga gr : Fin 512 → EReal) (w : Fin 1024 → Fin 1024 → EReal) (j : Fin 1024) : EReal :=
  x j + ((∑ k : Fin 512, rms 0x44000000#32 ya ga k * w ⟨k, by omega⟩ j) + ∑ k : Fin 512, rms 0x44000000#32 yr gr k * w ⟨512 + k, by omega⟩ j)

/-- The last call's row: the mixers, the feed-forward half-step, the final norm. -/
def last (x : Fin 1024 → EReal) (ya yr ga gr : Fin 512 → EReal) (w : Fin 1024 → Fin 1024 → EReal) (g : Fin 1024 → EReal)
    (wg wu : Fin 1024 → Fin 2816 → EReal) (wo : Fin 2816 → Fin 1024 → EReal) (gf : Fin 1024 → EReal) : Fin 1024 → EReal :=
  rms 0x44800000#32 (row 0x44800000#32 (mix x ya yr ga gr w) g wg wu wo) gf

/-- Two last rows of the same entries. -/
theorem last_congr {x x' : Fin 1024 → EReal} {ya ya' yr yr' ga ga' gr gr' : Fin 512 → EReal} {w w' : Fin 1024 → Fin 1024 → EReal} {g g' : Fin 1024 → EReal}
    {wg wg' wu wu' : Fin 1024 → Fin 2816 → EReal} {wo wo' : Fin 2816 → Fin 1024 → EReal} {gf gf' : Fin 1024 → EReal} (j : Fin 1024)
    (hx : ∀ k, x k = x' k) (hya : ∀ k, ya k = ya' k) (hyr : ∀ k, yr k = yr' k) (hga : ∀ k, ga k = ga' k) (hgr : ∀ k, gr k = gr' k)
    (hw : ∀ k f, w k f = w' k f) (hg : ∀ k, g k = g' k) (hwg : ∀ k f, wg k f = wg' k f) (hwu : ∀ k f, wu k f = wu' k f) (hwo : ∀ f k, wo f k = wo' f k)
    (hgf : ∀ k, gf k = gf' k) :
    last x ya yr ga gr w g wg wu wo gf j = last x' ya' yr' ga' gr' w' g' wg' wu' wo' gf' j := by
  obtain rfl := funext hx
  obtain rfl := funext hya
  obtain rfl := funext hyr
  obtain rfl := funext hga
  obtain rfl := funext hgr
  obtain rfl : w = w' := funext fun k => funext (hw k)
  obtain rfl := funext hg
  obtain rfl : wg = wg' := funext fun k => funext (hwg k)
  obtain rfl : wu = wu' := funext fun k => funext (hwu k)
  obtain rfl : wo = wo' := funext fun k => funext (hwo k)
  obtain rfl := funext hgf
  rfl

/-- Two feed-forward rows of the same entries. -/
theorem row_congr {D H : ℕ} (n : BitVec 32) {x x' g g' : Fin D → EReal} {wg wg' wu wu' : Fin D → Fin H → EReal} {wo wo' : Fin H → Fin D → EReal} (j : Fin D)
    (hx : ∀ k, x k = x' k) (hg : ∀ k, g k = g' k) (hwg : ∀ k f, wg k f = wg' k f) (hwu : ∀ k f, wu k f = wu' k f) (hwo : ∀ f k, wo f k = wo' f k) :
    row n x g wg wu wo j = row n x' g' wg' wu' wo' j := by
  obtain rfl := funext hx
  obtain rfl := funext hg
  obtain rfl : wg = wg' := funext fun k => funext (hwg k)
  obtain rfl : wu = wu' := funext fun k => funext (hwu k)
  obtain rfl : wo = wo' := funext fun k => funext (hwo k)
  rfl

end Cert.Ffn

end

end
-- ==== Proof.Rec.Algebra.lean ====
module

public import proofs.«01_k».proof.Proof.Ffn.Row
public import Idealize.ShloMosaic.Lib.IdealHost

/-! The scalar laws behind the recurrence call, over the extended reals: the logistic function and the softplus, the
    two spellings of the input's factor, the two spellings of the gelu, and a linear recurrence taken eight steps at a
    time. -/

@[expose] public section

set_option maxRecDepth 16384

noncomputable section

namespace Cert.Rec

open Idealize.ShloMosaic
open Cert.Ffn (word)

/-! ### Words -/

theorem word_eight : word 0x41000000#32 = ((8 : ℝ) : EReal) := by
  show Ideal.ofBits .f32 _ = _
  simp [Ideal.ofBits, Ideal.ieee, -EReal.coe_mul, -EReal.coe_neg]; norm_num

theorem word_neg_eight : word 0xC1000000#32 = ((-8 : ℝ) : EReal) := by
  show Ideal.ofBits .f32 _ = _
  simp [Ideal.ofBits, Ideal.ieee, -EReal.coe_mul, -EReal.coe_neg]; norm_num

theorem word_two : word 0x40000000#32 = ((2 : ℝ) : EReal) := by
  show Ideal.ofBits .f32 _ = _
  simp [Ideal.ofBits, Ideal.ieee, -EReal.coe_mul, -EReal.coe_neg]; norm_num

theorem word_half : word 0x3F000000#32 = ((1 / 2 : ℝ) : EReal) := by
  show Ideal.ofBits .f32 _ = _
  simp [Ideal.ofBits, Ideal.ieee, -EReal.coe_mul, -EReal.coe_neg]; norm_num

theorem word_root : word 0x3F4C422A#32 = ((6693141 / 8388608 : ℝ) : EReal) := by
  show Ideal.ofBits .f32 _ = _
  simp [Ideal.ofBits, Ideal.ieee, -EReal.coe_mul, -EReal.coe_neg]; norm_num

theorem word_cubic : word 0x3D372713#32 = ((12003091 / 268435456 : ℝ) : EReal) := by
  show Ideal.ofBits .f32 _ = _
  simp [Ideal.ofBits, Ideal.ieee, -EReal.coe_mul, -EReal.coe_neg]; norm_num

/-! ### Signs -/

theorem exp_nonneg (x : EReal) : 0 ≤ Ideal.exp x := by
  induction x using EReal.rec with
  | bot => exact le_rfl
  | top => exact le_top
  | coe r => exact EReal.coe_nonneg.mpr (Real.exp_pos r).le

theorem exp_ne_bot (x : EReal) : Ideal.exp x ≠ ⊥ := fun h => absurd (exp_nonneg x) (by rw [h]; simp)

/-- The logistic function as the reference spells it. -/
def sg (z : EReal) : EReal := Ideal.div 1 (1 + Ideal.exp (-z))

theorem sg_nonneg (z : EReal) : 0 ≤ sg z := by
  have h1 : (0 : EReal) < 1 + Ideal.exp (-z) := lt_of_lt_of_le zero_lt_one (le_add_of_nonneg_right (exp_nonneg _))
  unfold sg Ideal.div
  rw [if_neg h1.ne', one_mul]
  exact EReal.inv_nonneg_of_nonneg h1.le

theorem log_nonneg {x : EReal} (h : 1 ≤ x) : 0 ≤ Ideal.log x := by
  induction x using EReal.rec with
  | bot =>
    simp at h
    exact absurd h (EReal.coe_ne_bot 1)
  | top => exact le_top
  | coe r =>
    have hr : (1 : ℝ) ≤ r := by exact_mod_cast h
    rw [Ideal.log_coe, if_neg (by linarith)]
    exact EReal.coe_nonneg.mpr (Real.log_nonneg hr)

/-- The softplus: `max z 0 + log (1 + exp (-|z|))`. -/
def softplus (z : EReal) : EReal := max z 0 + Ideal.log (1 + Ideal.exp (-(max z (-z))))

theorem softplus_nonneg (z : EReal) : 0 ≤ softplus z :=
  add_nonneg (le_max_right _ _) (log_nonneg (le_add_of_nonneg_right (exp_nonneg _)))

/-! ### The decay -/

theorem neg_decay (r s : EReal) : word 0xC1000000#32 * r * s = -(r * (word 0x41000000#32 * s)) := by
  rw [word_neg_eight, word_eight, EReal.coe_neg, EReal.neg_mul, EReal.neg_mul, mul_comm ((8 : ℝ) : EReal) r, mul_assoc]

theorem decay_nonneg {r s : EReal} (hr : 0 ≤ r) (hs : 0 ≤ s) : 0 ≤ r * (word 0x41000000#32 * s) := by
  rw [word_eight]
  exact mul_nonneg hr (mul_nonneg (by exact_mod_cast (by norm_num : (0 : ℝ) ≤ 8)) hs)

theorem exp_neg_ne_top {t : EReal} (ht : 0 ≤ t) : Ideal.exp (-t) ≠ ⊤ := by
  induction t using EReal.rec with
  | bot => simp at ht
  | top => rw [EReal.neg_top]; simp
  | coe r => rw [← EReal.coe_neg, Ideal.exp_coe]; exact EReal.coe_ne_top _

/-- The two spellings of the input's factor. -/
theorem root_eq {t : EReal} (ht : 0 ≤ t) :
    Ideal.sqrt (Ideal.tanh t * (Ideal.exp (-t) * Ideal.exp (-t) + 1)) = Ideal.sqrt (-(Ideal.expm1 (word 0x40000000#32 * -t))) := by
  refine congrArg Ideal.sqrt ?_
  rw [word_two]
  unfold Ideal.expm1
  induction t using EReal.rec with
  | bot => simp at ht
  | top =>
    rw [EReal.neg_top, EReal.coe_mul_bot_of_pos (by norm_num)]
    simp
  | coe r =>
    rw [← EReal.coe_neg, ← EReal.coe_mul, Ideal.exp_coe, Ideal.exp_coe, Ideal.tanh_coe]
    rw [← EReal.coe_one, ← EReal.coe_mul, ← EReal.coe_add, ← EReal.coe_mul, ← EReal.coe_sub, ← EReal.coe_neg]
    refine congrArg _ ?_
    rw [show (2 : ℝ) * -r = -r + -r by ring, Real.exp_add, Real.tanh_eq_sinh_div_cosh, Real.sinh_eq, Real.cosh_eq, Real.exp_neg]
    have hp := Real.exp_pos r
    field_simp
    ring

/-! ### The gelu -/

/-- The gelu as the reference spells it. -/
def gelu (x : EReal) : EReal :=
  x * (word 0x3F000000#32 * (1 + Ideal.tanh (word 0x3F4C422A#32 * (x + word 0x3D372713#32 * (x * x * x)))))

/-- The gelu with its cubic coefficient folded. -/
theorem gelu_eq (x : EReal) :
    x * (word 0x3F000000#32 + word 0x3F000000#32 * Ideal.tanh (x * (word 0x3F4C422A#32 + ((80338380498831 / 2251799813685248 : ℝ) : EReal) * (x * x)))) = gelu x := by
  unfold gelu
  rw [word_half, word_root, word_cubic]
  refine congrArg (x * ·) ?_
  induction x using EReal.rec with
  | bot =>
    rw [EReal.bot_mul_bot, EReal.top_mul_bot, EReal.coe_mul_top_of_pos (by norm_num), EReal.coe_mul_bot_of_pos (by norm_num), EReal.coe_add_top, EReal.bot_mul_top, EReal.bot_add, EReal.coe_mul_bot_of_pos (by norm_num), Ideal.tanh_bot]
    have e1 : ((1 / 2 : ℝ) : EReal) * (-1) = ((-(1 / 2) : ℝ) : EReal) := by rw [show (-1 : EReal) = ((-1 : ℝ) : EReal) by norm_num, ← EReal.coe_mul]; norm_num
    have e2 : (1 : EReal) + -1 = 0 := by rw [show (-1 : EReal) = ((-1 : ℝ) : EReal) by norm_num, ← EReal.coe_one, ← EReal.coe_add]; norm_num
    rw [e1, e2, ← EReal.coe_add, mul_zero]; norm_num
  | top =>
    rw [EReal.top_mul_top, EReal.top_mul_top, EReal.coe_mul_top_of_pos (by norm_num), EReal.coe_mul_top_of_pos (by norm_num), EReal.coe_add_top, EReal.top_mul_top, EReal.top_add_top, EReal.coe_mul_top_of_pos (by norm_num), Ideal.tanh_top]
    rw [← EReal.coe_one, ← EReal.coe_mul, ← EReal.coe_add, ← EReal.coe_add, ← EReal.coe_mul]; norm_num
  | coe r =>
    simp only [← EReal.coe_mul, ← EReal.coe_add, Ideal.tanh_coe, ← EReal.coe_one]
    refine congrArg _ ?_
    rw [show r * (6693141 / 8388608 + 80338380498831 / 2251799813685248 * (r * r)) = 6693141 / 8388608 * (r + 12003091 / 268435456 * (r * r * r)) by ring]
    ring

/-! ### The recurrence -/

/-- The linear recurrence from zero. -/
def lin (a u : ℕ → EReal) : ℕ → EReal
  | 0 => 0
  | n + 1 => a n * lin a u n + u n

/-- The recurrence of one group, from zero, after its row `r`. -/
def own (a u : ℕ → EReal) (g : ℕ) : ℕ → EReal
  | 0 => u (8 * g)
  | r + 1 => a (8 * g + (r + 1)) * own a u g r + u (8 * g + (r + 1))

/-- The product of a group's factors up to row `r`. -/
def prods (a : ℕ → EReal) (g : ℕ) : ℕ → EReal
  | 0 => a (8 * g)
  | r + 1 => a (8 * g + (r + 1)) * prods a g r

/-- The state entering group `g`. -/
def into (a u : ℕ → EReal) : ℕ → EReal
  | 0 => 0
  | g + 1 => own a u g 7 + prods a g 7 * into a u g

variable {a u : ℕ → EReal} (h0 : ∀ n, 0 ≤ a n) (h1 : ∀ n, a n ≠ ⊤)

include h0 h1

/-- A group's rows from the state that enters it. -/
theorem rows_eq (g : ℕ) (x : EReal) (hx : lin a u (8 * g) = x) :
    ∀ r, lin a u (8 * g + r + 1) = own a u g r + prods a g r * x
  | 0 => by
    show a (8 * g) * lin a u (8 * g) + u (8 * g) = u (8 * g) + a (8 * g) * x
    rw [hx, add_comm]
  | r + 1 => by
    show a (8 * g + (r + 1)) * lin a u (8 * g + r + 1) + u (8 * g + (r + 1)) = _
    rw [rows_eq g x hx r, EReal.left_distrib_of_nonneg_of_ne_top (h0 _) (h1 _)]
    show _ = a (8 * g + (r + 1)) * own a u g r + u (8 * g + (r + 1)) + a (8 * g + (r + 1)) * prods a g r * x
    rw [mul_assoc, add_right_comm]

/-- The state carried from group to group is the recurrence's. -/
theorem into_eq : ∀ g, lin a u (8 * g) = into a u g
  | 0 => rfl
  | g + 1 => by
    show lin a u (8 * g + 7 + 1) = _
    exact rows_eq h0 h1 g (into a u g) (into_eq g) 7

/-- The recurrence eight steps at a time. -/
theorem blocked_eq (g r : ℕ) : own a u g r + prods a g r * into a u g = lin a u (8 * g + r + 1) :=
  (rows_eq h0 h1 g _ (into_eq h0 h1 g) r).symm

end Cert.Rec

end

end
-- ==== Proof.Rec.Point.lean ====
module

public import proofs.«01_k».proof.Proof.Rec.Scr
public import proofs.«01_k».proof.Proof.Rec.Algebra

/-! A slab's functions at one place: the convolution, the gates, the recurrence's factor and input, as scalars of the
    time and the lane. -/

@[expose] public section

set_option maxRecDepth 16384
set_option maxHeartbeats 400000

noncomputable section

namespace Cert.Rec

open Idealize.ShloMosaic
open Cert.Ffn (word)

/-- What lies `k` steps before `n`, zero before the start. -/
def tap (x : ℕ → EReal) (k n : ℕ) : EReal := if k ≤ n then x (n - k) else 0

/-- The causal convolution of width four. -/
def cv (w : Fin 4 → EReal) (b : EReal) (x : ℕ → EReal) (n : ℕ) : EReal :=
  b + w 0 * tap x 3 n + w 1 * tap x 2 n + w 2 * tap x 1 n + w 3 * x n

/-- Minus the logarithm of the recurrence's factor. -/
def tOf (p lam : EReal) : EReal := sg p * (word 0x41000000#32 * softplus (-lam))

/-- The recurrence's factor. -/
def aOf (p lam : EReal) : EReal := Ideal.exp (-(tOf p lam))

/-- The recurrence's input. -/
def uOf (p q lam x : EReal) : EReal :=
  Ideal.sqrt (Ideal.tanh (tOf p lam) * (aOf p lam * aOf p lam + 1)) * (sg q * x)

theorem tOf_nonneg (p lam : EReal) : 0 ≤ tOf p lam := decay_nonneg (sg_nonneg p) (softplus_nonneg _)

end Cert.Rec

namespace Cert.KernelIdeal.Rec

open Cert.KernelIdeal Cert.KernelIdeal.Gen
open Idealize.ShloMosaic Idealize.ShloMosaic.TcCoe Idealize.SL.Sem
open Cert.Rec Cert.Ffn

variable (s : Slab Ideal)

/-- The slab's input of lane `l` at time `n`. -/
def X (l : Fin 128) (n : ℕ) : EReal := s.x ⟨n % 8, Nat.mod_lt _ (by decide)⟩ (ix2 ⟨n / 8 % 256, Nat.mod_lt _ (by decide)⟩ l)

/-- The convolved input. -/
def XR (l : Fin 128) (n : ℕ) : EReal := cv (fun k => s.cw (ix2 k l)) (s.cb (ix2 0 l)) (X s l) n

/-- The first gate's argument. -/
def PA (l : Fin 128) (n : ℕ) : EReal := (∑ j : Fin 128, XR s j n * s.w (ix2 j ⟨l.val, by omega⟩)) + s.ba (ix2 0 l)

/-- The second gate's argument. -/
def PX (l : Fin 128) (n : ℕ) : EReal := (∑ j : Fin 128, XR s j n * s.w (ix2 j ⟨128 + l.val, by omega⟩)) + s.bx (ix2 0 l)

theorem X_pos (l : Fin 128) (g : Fin 256) (r : Fin 8) : X s l (8 * g.val + r.val) = s.x r (ix2 g l) := by
  unfold X
  rw [show (⟨(8 * g.val + r.val) % 8, Nat.mod_lt _ (by decide)⟩ : Fin 8) = r from Fin.ext (by simp only; omega),
    show (⟨(8 * g.val + r.val) / 8 % 256, Nat.mod_lt _ (by decide)⟩ : Fin 256) = g from Fin.ext (by simp only; omega)]

theorem spread_apply (v : FVec Ideal S1x128 .f32) (g : Fin 256) (l : Fin 128) : spread v (ix2 g l) = v (ix2 0 l) := by
  pointwise [spread]

/-- A word holds a small number's zero test. -/
theorem word_zero_iff (g : Fin 256) : BitVec.ofNat 32 g.val = 0#32 ↔ g.val = 0 := by
  rw [← BitVec.toNat_inj, BitVec.toNat_ofNat, BitVec.toNat_ofNat]
  have := g.isLt
  omega

theorem shiftDown_apply (v : FVec Ideal S256x128 .f32) (g : Fin 256) (l : Fin 128) :
    shiftDown v (ix2 g l) = if g.val = 0 then 0 else v (ix2 ⟨(g.val + 256 - 1) % 256, Nat.mod_lt _ (by decide)⟩ l) := by
  pointwise [shiftDown]
  by_cases h : g.val = 0
  · rw [if_pos h, show IntOp.cmpi CmpIPredicate.eq (BitVec.ofNat 32 g.val) 0#32 = 1#1 by rw [(word_zero_iff g).mpr h]; rfl]
    rfl
  · rw [if_neg h, show IntOp.cmpi CmpIPredicate.eq (BitVec.ofNat 32 g.val) 0#32 = 0#1 by
      have := mt (word_zero_iff g).mp h
      show BitVec.ofBool (_ == _) = _
      rw [beq_false_of_ne this]; rfl]
    rfl

theorem conv_apply (p0 p1 p2 p3 : FVec Ideal S256x128 .f32) (g : Fin 256) (l : Fin 128) :
    conv s p0 p1 p2 p3 (ix2 g l) = s.cb (ix2 0 l) + s.cw (ix2 0 l) * p0 (ix2 g l) + s.cw (ix2 1 l) * p1 (ix2 g l) + s.cw (ix2 2 l) * p2 (ix2 g l) + s.cw (ix2 3 l) * p3 (ix2 g l) := by
  pointwise [conv, spread]

theorem yAll_apply (i : Fin 2048) (j : Fin 256) :
    yAll s (ix2 i j) = ∑ k : Fin 128, concatenate S2048x128 0 [⟨S256x128, xr s 0⟩, ⟨S256x128, xr s 1⟩, ⟨S256x128, xr s 2⟩, ⟨S256x128, xr s 3⟩, ⟨S256x128, xr s 4⟩, ⟨S256x128, xr s 5⟩, ⟨S256x128, xr s 6⟩, ⟨S256x128, xr s 7⟩] concatenates_S256x128_S256x128_S256x128_S256x128_S256x128_S256x128_S256x128_S256x128_S2048x128_d0 (ix2 i k) * s.w (ix2 k j) := by
  generalize hx : concatenate S2048x128 0 [⟨S256x128, xr s 0⟩, ⟨S256x128, xr s 1⟩, ⟨S256x128, xr s 2⟩, ⟨S256x128, xr s 3⟩, ⟨S256x128, xr s 4⟩, ⟨S256x128, xr s 5⟩, ⟨S256x128, xr s 6⟩, ⟨S256x128, xr s 7⟩] concatenates_S256x128_S256x128_S256x128_S256x128_S256x128_S256x128_S256x128_S256x128_S2048x128_d0 = Z
  unfold yAll
  rw [hx]
  pointwise

theorem decay_apply (l : Fin 128) : decay s (ix2 0 l) = word 0x41000000#32 * softplus (-(s.lam (ix2 0 l))) := by
  pointwise [decay]
  rw [zero_sub, zero_sub]
  rfl

theorem gate_apply (v : FVec Ideal S256x128 .f32) (g : Fin 256) (l : Fin 128) : gate v (ix2 g l) = sg (v (ix2 g l)) := by
  pointwise [gate, ones, negLog]
  exact congrArg (fun e => Ideal.div 1 (1 + e)) (exp2_neg_log2e _)

/-- The tap of three, two and one steps back, by rows. -/
theorem tap_same (l : Fin 128) (g : Fin 256) (r q : Fin 8) (k : ℕ) (h : q.val + k = r.val) : tap (X s l) k (8 * g.val + r.val) = s.x q (ix2 g l) := by
  unfold tap
  rw [if_pos (by omega), ← X_pos]
  exact congrArg _ (by omega)

theorem tap_back (l : Fin 128) (g : Fin 256) (r q : Fin 8) (k : ℕ) (h : q.val + k = r.val + 8) : tap (X s l) k (8 * g.val + r.val) = shiftDown (s.x q) (ix2 g l) := by
  rw [shiftDown_apply]
  unfold tap
  have hg := g.isLt
  have hq := q.isLt
  by_cases h0 : g.val = 0
  · rw [if_pos h0, if_neg (by omega)]
  · rw [if_neg h0, if_pos (by omega), ← X_pos]
    exact congrArg _ (by simp only; omega)

/-- A slab's convolved row, at a place. -/
theorem xr_apply (r : Fin 8) (g : Fin 256) (l : Fin 128) : xr s r.val (ix2 g l) = XR s l (8 * g.val + r.val) := by
  unfold XR cv
  match r with
  | 0 => rw [tap_back s l g 0 5 3 rfl, tap_back s l g 0 6 2 rfl, tap_back s l g 0 7 1 rfl, X_pos s l g 0]; exact conv_apply s _ _ _ _ g l
  | 1 => rw [tap_back s l g 1 6 3 rfl, tap_back s l g 1 7 2 rfl, tap_same s l g 1 0 1 rfl, X_pos s l g 1]; exact conv_apply s _ _ _ _ g l
  | 2 => rw [tap_back s l g 2 7 3 rfl, tap_same s l g 2 0 2 rfl, tap_same s l g 2 1 1 rfl, X_pos s l g 2]; exact conv_apply s _ _ _ _ g l
  | 3 => rw [tap_same s l g 3 0 3 rfl, tap_same s l g 3 1 2 rfl, tap_same s l g 3 2 1 rfl, X_pos s l g 3]; exact conv_apply s _ _ _ _ g l
  | 4 => rw [tap_same s l g 4 1 3 rfl, tap_same s l g 4 2 2 rfl, tap_same s l g 4 3 1 rfl, X_pos s l g 4]; exact conv_apply s _ _ _ _ g l
  | 5 => rw [tap_same s l g 5 2 3 rfl, tap_same s l g 5 3 2 rfl, tap_same s l g 5 4 1 rfl, X_pos s l g 5]; exact conv_apply s _ _ _ _ g l
  | 6 => rw [tap_same s l g 6 3 3 rfl, tap_same s l g 6 4 2 rfl, tap_same s l g 6 5 1 rfl, X_pos s l g 6]; exact conv_apply s _ _ _ _ g l
  | 7 => rw [tap_same s l g 7 4 3 rfl, tap_same s l g 7 5 2 rfl, tap_same s l g 7 6 1 rfl, X_pos s l g 7]; exact conv_apply s _ _ _ _ g l

/-- Eight row groups one below the other, at a place. -/
theorem stack_apply (x0 x1 x2 x3 x4 x5 x6 x7 : FVec Ideal S256x128 .f32) (r : Fin 8) (g : Fin 256) (k : Fin 128) :
    concatenate S2048x128 0 [⟨S256x128, x0⟩, ⟨S256x128, x1⟩, ⟨S256x128, x2⟩, ⟨S256x128, x3⟩, ⟨S256x128, x4⟩, ⟨S256x128, x5⟩, ⟨S256x128, x6⟩, ⟨S256x128, x7⟩] concatenates_S256x128_S256x128_S256x128_S256x128_S256x128_S256x128_S256x128_S256x128_S2048x128_d0 (ix2 ⟨256 * r.val + g.val, by omega⟩ k)
      = (match r with | 0 => x0 | 1 => x1 | 2 => x2 | 3 => x3 | 4 => x4 | 5 => x5 | 6 => x6 | 7 => x7) (ix2 g k) := by
  fin_cases r <;> pointwise <;> (repeat' first | rw [dif_pos (by omega)] | rw [dif_neg (by omega)]) <;>
    exact congrArg _ (congrArg (ix2 · k) (Fin.ext (by simp only; omega)))

/-- Both gates' products of a row, at a place. -/
theorem y_apply (r : Fin 8) (g : Fin 256) (j : Fin 256) : y s r.val (ix2 g j) = ∑ k : Fin 128, XR s k (8 * g.val + r.val) * s.w (ix2 k j) := by
  have e : y s r.val (ix2 g j) = yAll s (ix2 ⟨256 * r.val + g.val, by omega⟩ j) := by
    fin_cases r <;> · simp only [y]; pointwise
  rw [e, yAll_apply]
  refine Finset.sum_congr rfl fun k _ => ?_
  rw [stack_apply, ← xr_apply]
  fin_cases r <;> rfl

theorem negLogA_apply (r : Fin 8) (g : Fin 256) (l : Fin 128) : negLogA s r.val (ix2 g l) = tOf (PA s l (8 * g.val + r.val)) (s.lam (ix2 0 l)) := by
  unfold negLogA tOf PA
  rw [← y_apply]
  show gate _ (ix2 g l) * spread (decay s) (ix2 g l) = _
  rw [gate_apply, spread_apply, decay_apply]
  generalize y s r.val = Y
  generalize s.ba = B
  refine congrArg (sg · * _) ?_
  pointwise [spread]

theorem fac_apply (r : Fin 8) (g : Fin 256) (l : Fin 128) : fac s r.val (ix2 g l) = aOf (PA s l (8 * g.val + r.val)) (s.lam (ix2 0 l)) := by
  unfold fac aOf
  rw [← negLogA_apply]
  exact exp2_neg_log2e _

theorem inp_apply (r : Fin 8) (g : Fin 256) (l : Fin 128) : inp s r.val (ix2 g l) = uOf (PA s l (8 * g.val + r.val)) (PX s l (8 * g.val + r.val)) (s.lam (ix2 0 l)) (XR s l (8 * g.val + r.val)) := by
  unfold inp uOf
  rw [← fac_apply, ← negLogA_apply, ← xr_apply]
  unfold PX
  rw [← y_apply]
  show Ideal.sqrt (Ideal.tanh (negLogA s r.val (ix2 g l)) * (fac s r.val (ix2 g l) * fac s r.val (ix2 g l) + ones (F := Ideal) (ix2 g l))) * (gate (F := Ideal) _ (ix2 g l) * xr s r.val (ix2 g l)) = _
  rw [gate_apply]
  generalize y s r.val = Y
  generalize s.bx = B
  have h1 : ones (F := Ideal) (ix2 g l) = (1 : EReal) := by pointwise [ones]
  have h2 : addf (extractStridedSlice S256x128 ![0, 128] Y slices_S256x256_o0_128_S256x128) (spread B) (ix2 g l) = Y (ix2 g ⟨128 + l.val, by omega⟩) + B (ix2 0 l) := by pointwise [spread]
  rw [h1, h2]

/-- The recurrence's factor and input of lane `l` at time `n`. -/
def A (l : Fin 128) (n : ℕ) : EReal := aOf (PA s l n) (s.lam (ix2 0 l))
def U (l : Fin 128) (n : ℕ) : EReal := uOf (PA s l n) (PX s l n) (s.lam (ix2 0 l)) (XR s l n)

theorem hl_apply (g : Fin 256) (l : Fin 128) : ∀ (r : ℕ), r < 8 → hl s r (ix2 g l) = own (A s l) (U s l) g.val r
  | 0, _ => inp_apply s 0 g l
  | r + 1, h => by
    show fac s (r + 1) (ix2 g l) * hl s r (ix2 g l) + inp s (r + 1) (ix2 g l) = _
    rw [hl_apply g l r (by omega)]
    exact congrArg₂ (fun a b => a * _ + b) (fac_apply s ⟨r + 1, h⟩ g l) (inp_apply s ⟨r + 1, h⟩ g l)

theorem ac_apply (g : Fin 256) (l : Fin 128) : ∀ (r : ℕ), r < 8 → ac s r (ix2 g l) = prods (A s l) g.val r
  | 0, _ => fac_apply s 0 g l
  | r + 1, h => by
    show fac s (r + 1) (ix2 g l) * ac s r (ix2 g l) = _
    rw [ac_apply g l r (by omega)]
    exact congrArg (fun a => a * _) (fac_apply s ⟨r + 1, h⟩ g l)

theorem entering_apply (S : Fin 4 → Slab Ideal) (c : Fin 4) (l : Fin 128) : ∀ k : ℕ, k ≤ 256 → entering S c k (ix2 0 l) = into (A (S c) l) (U (S c) l) k
  | 0, _ => by
    show k0_pay392 (F := Ideal) (ix2 0 l) = 0
    pointwise [k0_pay392]
  | k + 1, h => by
    unfold entering carry
    rw [dif_pos (by omega)]
    show hl (S c) 7 (ix2 ⟨k, by omega⟩ l) + ac (S c) 7 (ix2 ⟨k, by omega⟩ l) * entering S c k (ix2 0 l) = _
    rw [entering_apply S c l k (by omega), hl_apply _ _ _ 7 (by omega), ac_apply _ _ _ 7 (by omega)]
    rfl

theorem geluV_apply (v : FVec Ideal S256x128 .f32) (g : Fin 256) (l : Fin 128) : geluV v (ix2 g l) = gelu (v (ix2 g l)) := by
  rw [← gelu_eq]
  pointwise [geluV]
  rfl

/-- A slab's outputs are the recurrence's states times the gelu of the other branch. -/
theorem outBlk_apply (S : Fin 4 → Slab Ideal) (x2 : Vec Ideal S1x4x2048x128 .f32) (c : Fin 4) (n : Fin 2048) (l : Fin 128) :
    outBlk S x2 (ix4 0 c n l) = lin (A (S c) l) (U (S c) l) (n.val + 1) * gelu (x2 (ix4 0 c n l)) := by
  obtain ⟨g, r, rfl⟩ : ∃ (g : Fin 256) (r : Fin 8), n = pos g r :=
    ⟨⟨n.val / 8, by omega⟩, ⟨n.val % 8, by omega⟩, Fin.ext (by simp only [pos]; omega)⟩
  have e : outBlk S x2 (ix4 0 c (pos g r) l) = outVal S x2 c r (ix4 0 0 g l) := by
    unfold outBlk
    refine congrFun (congrArg₂ (outVal S x2) rfl ?_) _ |>.trans (congrArg _ ?_)
    · exact Fin.ext (by show (8 * g.val + r.val) % 8 = r.val; omega)
    · exact congrArg (fun i => ix4 0 0 i l) (Fin.ext (by show (8 * g.val + r.val) / 8 = g.val; omega))
  rw [e]
  show _ = lin (A (S c) l) (U (S c) l) (8 * g.val + r.val + 1) * _
  rw [← blocked_eq (a := A (S c) l) (u := U (S c) l) (fun n => exp_nonneg _) (fun n => exp_neg_ne_top (tOf_nonneg _ _)) g.val r.val, ← entering_apply S c l g.val (by omega), ← hl_apply _ g l r.val r.isLt, ← ac_apply _ g l r.val r.isLt]
  unfold outVal gated
  refine (cast4 _ g l).trans ?_
  show (_ + _ * _) * geluV _ (ix2 g l) = _
  rw [geluV_apply]
  rfl

end Cert.KernelIdeal.Rec

end

end
-- ==== Proof.Rec.Spec.lean ====
module

public import proofs.«01_k».proof.Proof.Rec.Point

/-! The gated recurrence in scalars: what a batch, a time and a channel of the result are, of the eight arguments. -/

@[expose] public section

set_option maxRecDepth 16384

noncomputable section

namespace Cert.Rec

open Idealize.ShloMosaic

/-- The arguments by batch, time and channel. -/
structure Par where
  x : Fin 16 → Fin 512 → ℕ → EReal
  gb : Fin 16 → Fin 2048 → Fin 512 → EReal
  cw : Fin 4 → Fin 512 → EReal
  cb : Fin 512 → EReal
  wa : Fin 8 → Fin 64 → Fin 64 → EReal
  ba : Fin 512 → EReal
  wx : Fin 8 → Fin 64 → Fin 64 → EReal
  bx : Fin 512 → EReal
  lam : Fin 512 → EReal

/-- The arguments as the arrays hold them: the recurrent branch in columns 1536 to 2047 of the projection, the other
    branch in the last 512. -/
def par (p : FVec Ideal ⟨3, ![16, 2048, 2560]⟩ .f32) (cw : FVec Ideal ⟨2, ![4, 512]⟩ .f32) (cb : FVec Ideal ⟨1, ![512]⟩ .f32)
    (wa : FVec Ideal ⟨3, ![8, 64, 64]⟩ .f32) (ba : FVec Ideal ⟨1, ![512]⟩ .f32) (wx : FVec Ideal ⟨3, ![8, 64, 64]⟩ .f32)
    (bx : FVec Ideal ⟨1, ![512]⟩ .f32) (lam : FVec Ideal ⟨1, ![512]⟩ .f32) : Par where
  x b d n := p (ix3 b ⟨n % 2048, Nat.mod_lt _ (by decide)⟩ ⟨1536 + d.val, by omega⟩)
  gb b n d := p (ix3 b n ⟨2048 + d.val, by omega⟩)
  cw k d := cw (ix2 k d)
  cb d := cb (ix1 d)
  wa g i j := wa (ix3 g i j)
  ba d := ba (ix1 d)
  wx g i j := wx (ix3 g i j)
  bx d := bx (ix1 d)
  lam d := lam (ix1 d)

namespace Par

variable (P : Par)

/-- The convolved input. -/
def xr (b : Fin 16) (d : Fin 512) (n : ℕ) : EReal := cv (fun k => P.cw k d) (P.cb d) (P.x b d) n

/-- A gate's argument: the product with the channel's own block, and the bias. -/
def arg (w : Fin 8 → Fin 64 → Fin 64 → EReal) (v : Fin 512 → EReal) (b : Fin 16) (d : Fin 512) (n : ℕ) : EReal :=
  (∑ i : Fin 64, P.xr b ⟨64 * (d.val / 64) + i.val, by omega⟩ n * w ⟨d.val / 64, by omega⟩ i ⟨d.val % 64, Nat.mod_lt _ (by decide)⟩) + v d

/-- The recurrence's factor. -/
def a (b : Fin 16) (d : Fin 512) (n : ℕ) : EReal := aOf (P.arg P.wa P.ba b d n) (P.lam d)

/-- The recurrence's input. -/
def u (b : Fin 16) (d : Fin 512) (n : ℕ) : EReal := uOf (P.arg P.wa P.ba b d n) (P.arg P.wx P.bx b d n) (P.lam d) (P.xr b d n)

/-- The result: the recurrence's state times the gelu of the other branch. -/
def out (b : Fin 16) (n : Fin 2048) (d : Fin 512) : EReal := lin (P.a b d) (P.u b d) (n.val + 1) * gelu (P.gb b n d)

end Par

/-- The recurrence reads its factors and inputs up to the time only. -/
theorem lin_congr {a a' u u' : ℕ → EReal} : ∀ (n : ℕ), (∀ k < n, a k = a' k) → (∀ k < n, u k = u' k) → lin a u n = lin a' u' n
  | 0, _, _ => rfl
  | n + 1, ha, hu => by
    show a n * lin a u n + u n = a' n * lin a' u' n + u' n
    rw [lin_congr n (fun k h => ha k (by omega)) (fun k h => hu k (by omega)), ha n (by omega), hu n (by omega)]

/-- A sum over two blocks of 64, one of them zero. -/
theorem half_sum (F : Fin 128 → EReal) (q : ℕ) (hq : q < 2) (h : ∀ j : Fin 128, j.val / 64 ≠ q → F j = 0) :
    ∑ j, F j = ∑ i : Fin 64, F ⟨64 * q + i.val, by omega⟩ := by
  symm
  refine Fintype.sum_of_injective (fun i : Fin 64 => (⟨64 * q + i.val, by omega⟩ : Fin 128)) (fun i j e => ?_) _ _ (fun j hj => ?_) (fun i => rfl)
  · have := congrArg Fin.val e
    exact Fin.ext (by simp only at this; omega)
  · refine h j fun e => hj ⟨⟨j.val - 64 * q, by omega⟩, Fin.ext ?_⟩
    show 64 * q + (j.val - 64 * q) = j.val
    omega

end Cert.Rec

end

end
-- ==== Proof.Rec.Blk.lean ====
module

public import proofs.«01_k».proof.Proof.Rec.Scr

/-! The blocks of the recurrence call as places of its arguments. -/

@[expose] public section

set_option maxRecDepth 16384
set_option maxHeartbeats 400000

noncomputable section

namespace Cert.KernelIdeal.Rec

open Cert.KernelIdeal Cert.KernelIdeal.Gen
open Idealize.ShloMosaic Idealize.ShloMosaic.TcCoe Idealize.SL.Sem

variable (m : (ℓ : Loc nD τ sig) → Buf (Elt Ideal) ℓ)

theorem idx0 : ∀ t : Fin grid0.N, win0_0.index t = ![t.val, 3, 0, 0] := by decide +kernel
theorem idx1 : ∀ t : Fin grid0.N, win0_1.index t = ![t.val, 4, 0, 0] := by decide +kernel
theorem idx2 : ∀ t : Fin grid0.N, win0_2.index t = ![0, 0, 0] := by decide +kernel
theorem idx3 : ∀ t : Fin grid0.N, win0_3.index t = ![0, 0, 0] := by decide +kernel
theorem idx4 : ∀ t : Fin grid0.N, win0_4.index t = ![0, 0, 0] := by decide +kernel
theorem idx5 : ∀ t : Fin grid0.N, win0_5.index t = ![0, 0, 0] := by decide +kernel
theorem idx6 : ∀ t : Fin grid0.N, win0_6.index t = ![0, 0, 0] := by decide +kernel
theorem idx7 : ∀ t : Fin grid0.N, win0_7.index t = ![0, 0, 0] := by decide +kernel
theorem idx8 : ∀ t : Fin grid0.N, win0_8.index t = ![t.val, 0, 0, 0] := by decide +kernel

theorem point_lt (t : Fin cfg0.N) : t.val < 16 := t.isLt

theorem blk0 (c : Dev nD) (t : Fin cfg0.N) (k : Fin 4) (n : Fin 2048) (l : Fin 128) : iblk m c 0 t (ix4 0 k n l) = m ((c : Thread nD τ).loc main_arg0) (ix3 ⟨t.val, point_lt t⟩ n ⟨1536 + (128 * k.val + l.val), by omega⟩) := by
  blk_point [iblk, V, idx0 t]

theorem blk1 (c : Dev nD) (t : Fin cfg0.N) (k : Fin 4) (n : Fin 2048) (l : Fin 128) : iblk m c 1 t (ix4 0 k n l) = m ((c : Thread nD τ).loc main_arg0) (ix3 ⟨t.val, point_lt t⟩ n ⟨2048 + (128 * k.val + l.val), by omega⟩) := by
  blk_point [iblk, V, idx1 t]

theorem blk2 (c : Dev nD) (t : Fin cfg0.N) (k : Fin 4) (i : Fin 4) (l : Fin 128) : iblk m c 2 t (ix3 k i l) = m ((c : Thread nD τ).loc main_arg1) (ix2 i ⟨128 * k.val + l.val, by omega⟩) := by
  blk_point [iblk, V, idx2 t]

theorem blk3 (c : Dev nD) (t : Fin cfg0.N) (k : Fin 4) (l : Fin 128) : iblk m c 3 t (ix3 k 0 l) = m ((c : Thread nD τ).loc main_arg2) (ix1 ⟨128 * k.val + l.val, by omega⟩) := by
  blk_point [iblk, V, idx3 t]

theorem blk5 (c : Dev nD) (t : Fin cfg0.N) (k : Fin 4) (l : Fin 128) : iblk m c 5 t (ix3 k 0 l) = m ((c : Thread nD τ).loc main_arg4) (ix1 ⟨128 * k.val + l.val, by omega⟩) := by
  blk_point [iblk, V, idx5 t]

theorem blk6 (c : Dev nD) (t : Fin cfg0.N) (k : Fin 4) (l : Fin 128) : iblk m c 6 t (ix3 k 0 l) = m ((c : Thread nD τ).loc main_arg6) (ix1 ⟨128 * k.val + l.val, by omega⟩) := by
  blk_point [iblk, V, idx6 t]

theorem blk7 (c : Dev nD) (t : Fin cfg0.N) (k : Fin 4) (l : Fin 128) : iblk m c 7 t (ix3 k 0 l) = m ((c : Thread nD τ).loc main_arg7) (ix1 ⟨128 * k.val + l.val, by omega⟩) := by
  blk_point [iblk, V, idx7 t]

end Cert.KernelIdeal.Rec

end

end
-- ==== Proof.Rec.Blk4.lean ====
module

public import proofs.«01_k».proof.Proof.Rec.Scr
public import Idealize.ShloMosaic.Lib.StableHlo.RunRead

/-! The blocks of the recurrence call as places of its arguments. -/

@[expose] public section

set_option maxRecDepth 16384
set_option maxHeartbeats 400000

noncomputable section

namespace Cert.KernelIdeal.Rec

open Cert.KernelIdeal Cert.KernelIdeal.Gen
open Idealize.ShloMosaic Idealize.ShloMosaic.TcCoe Idealize.SL.Sem

variable (m : (ℓ : Loc nD τ sig) → Buf (Elt Ideal) ℓ)

theorem idx0 : ∀ t : Fin grid0.N, win0_0.index t = ![t.val, 3, 0, 0] := by decide +kernel
theorem idx1 : ∀ t : Fin grid0.N, win0_1.index t = ![t.val, 4, 0, 0] := by decide +kernel
theorem idx2 : ∀ t : Fin grid0.N, win0_2.index t = ![0, 0, 0] := by decide +kernel
theorem idx3 : ∀ t : Fin grid0.N, win0_3.index t = ![0, 0, 0] := by decide +kernel
theorem idx4 : ∀ t : Fin grid0.N, win0_4.index t = ![0, 0, 0] := by decide +kernel
theorem idx5 : ∀ t : Fin grid0.N, win0_5.index t = ![0, 0, 0] := by decide +kernel
theorem idx6 : ∀ t : Fin grid0.N, win0_6.index t = ![0, 0, 0] := by decide +kernel
theorem idx7 : ∀ t : Fin grid0.N, win0_7.index t = ![0, 0, 0] := by decide +kernel
theorem idx8 : ∀ t : Fin grid0.N, win0_8.index t = ![t.val, 0, 0, 0] := by decide +kernel

theorem point_lt (t : Fin cfg0.N) : t.val < 16 := t.isLt

/-- Pairs of gate matrices on the diagonal of larger ones, as the host lays them out. -/
def paired (w : Vec Ideal S8x64x64 .f32) : Vec Ideal S4x128x128 .f32 :=
  have z : Vec Ideal S4x64x64 .f32 := broadcastInDim S4x64x64 ![] bcast_S_S4x64x64 (constant (F := Ideal) S_ .f32 0x00000000#32)
  concatenate S4x128x128 1
    [⟨S4x64x128, concatenate S4x64x128 2 [⟨S4x64x64, Host.slice S4x64x64 ![0, 0, 0] ![2, 1, 1] w slicesBy_S8x64x64_S4x64x64_0s2_0s1_0s1⟩, ⟨S4x64x64, z⟩] concatenates_S4x64x64_S4x64x64_S4x64x128_d2⟩,
     ⟨S4x64x128, concatenate S4x64x128 2 [⟨S4x64x64, z⟩, ⟨S4x64x64, Host.slice S4x64x64 ![1, 0, 0] ![2, 1, 1] w slicesBy_S8x64x64_S4x64x64_1s2_0s1_0s1⟩] concatenates_S4x64x64_S4x64x64_S4x64x128_d2⟩]
    concatenates_S4x64x128_S4x64x128_S4x128x128_d1

theorem paired_apply (w : Vec Ideal S8x64x64 .f32) (k : Fin 4) (i j : Fin 128) :
    paired w (ix3 k i j) = if i.val / 64 = j.val / 64 then w (ix3 ⟨2 * k.val + j.val / 64, by omega⟩ ⟨i.val % 64, Nat.mod_lt _ (by decide)⟩ ⟨j.val % 64, Nat.mod_lt _ (by decide)⟩) else 0 := by
  pointwise [paired]
  by_cases hi : i.val < 64
  · refine (dif_pos hi).trans ?_
    by_cases hj : j.val < 64
    · refine (dif_pos hj).trans (Eq.trans ?_ (if_pos (by omega)).symm)
      exact congrArg w (congr (congrArg₂ ix3 (Fin.ext (by show 2 * k.val = _; simp only; omega)) (Fin.ext (by show i.val = _; simp only; omega))) (Fin.ext (by show j.val = _; simp only; omega)))
    · exact (dif_neg hj).trans (if_neg (by omega)).symm
  · refine (dif_neg hi).trans ?_
    by_cases hj : j.val < 64
    · exact (dif_pos hj).trans (if_neg (by omega)).symm
    · refine (dif_neg hj).trans (Eq.trans ?_ (if_pos (by omega)).symm)
      exact congrArg w (congr (congrArg₂ ix3 (Fin.ext (by show 1 + 2 * k.val = _; simp only; omega)) (Fin.ext (by show i.val - 64 = _; simp only; omega))) (Fin.ext (by show j.val - 64 = _; simp only; omega)))

/-- Both gates' matrices, side by side. -/
def both (wa wx : Vec Ideal S8x64x64 .f32) : Vec Ideal S4x128x256 .f32 :=
  concatenate S4x128x256 2 [⟨S4x128x128, paired wa⟩, ⟨S4x128x128, paired wx⟩] concatenates_S4x128x128_S4x128x128_S4x128x256_d2

theorem both_apply (wa wx : Vec Ideal S8x64x64 .f32) (k : Fin 4) (i : Fin 128) (j : Fin 256) :
    both wa wx (ix3 k i j) = if h : j.val < 128 then paired wa (ix3 k i ⟨j.val, h⟩) else paired wx (ix3 k i ⟨j.val - 128, by omega⟩) := by
  unfold both
  generalize paired wa = A
  generalize paired wx = B
  pointwise

theorem V_w (c : Dev nD) : V m c main_v18 = (truncf (F := Ideal) .bf16 (both (m ((c : Thread nD τ).loc main_arg3)) (m ((c : Thread nD τ).loc main_arg5))) bitsLt_bf16_f32 : FVec Ideal S4x128x256 .bf16) := by
  unfold V
  simp only [hostOps0]
  after_reads_simp
  rfl

theorem blk4 (c : Dev nD) (t : Fin cfg0.N) (k : Fin 4) (i : Fin 128) (j : Fin 256) : iblk m c 4 t (ix3 k i j) = both (m ((c : Thread nD τ).loc main_arg3)) (m ((c : Thread nD τ).loc main_arg5)) (ix3 k i j) := by
  have h := congrFun (V_w m c) (ix3 k i j)
  refine Eq.trans ?_ h
  unfold iblk
  show V m c main_v18 ((win0_4.blk t).view.emb (ix3 k i j)) = V m c main_v18 (ix3 k i j)
  generalize V m c main_v18 = Z
  refine congrArg Z (funext fun a => Fin.ext ?_)
  fin_cases a
  · show ((win0_4.blk t).view.emb (ix3 k i j) 0).val = k.val
    blk_simp [idx4 t]
  · show ((win0_4.blk t).view.emb (ix3 k i j) 1).val = i.val
    blk_simp [idx4 t]
  · show ((win0_4.blk t).view.emb (ix3 k i j) 2).val = j.val
    blk_simp [idx4 t]

end Cert.KernelIdeal.Rec

end

end
-- ==== Proof.Rec.KerVal.lean ====
module

public import proofs.«01_k».proof.Proof.Rec.Spec
public import proofs.«01_k».proof.Proof.Rec.Blk
public import proofs.«01_k».proof.Proof.Rec.Blk4

/-! The recurrence call's result, of its arguments. -/

@[expose] public section

set_option maxRecDepth 16384
set_option maxHeartbeats 400000

noncomputable section

namespace Cert.KernelIdeal.Rec

open Cert.KernelIdeal Cert.KernelIdeal.Gen
open Idealize.ShloMosaic Idealize.ShloMosaic.TcCoe Idealize.SL.Sem
open Cert.Rec

section Slab

variable (x1 : Vec Ideal S1x4x2048x128 .f32) (x3 : Vec Ideal S4x4x128 .f32) (x4 : Vec Ideal S4x1x128 .f32) (x5 : Vec Ideal S4x128x256 .bf16) (x6 x7 x8 : Vec Ideal S4x1x128 .f32) (k : Fin 4)

theorem slab_x (r : Fin 8) (g : Fin 256) (l : Fin 128) : (slab x1 x3 x4 x5 x6 x7 x8 k).x r (ix2 g l) = x1 (ix4 0 k (pos g r) l) :=
  (cast42 (fun j => x1 (LoadRect.idx (s := S1x4x2048x128) ⟨![0, k.val, r.val, 0], S1x1x256x128.size, ![1, 1, 8, 1], inbX k r⟩ j)) g l).trans (congrArg x1 (rectO_idx k r g l))

theorem cast_b (x : Vec Ideal S1x1x128 .f32) (l : Fin 128) : shapeCast S1x128 x shapeCasts_S1x1x128_S1x128 (ix2 0 l) = x (ix3 0 0 l) := by
  pointwise

theorem cast_cw (x : Vec Ideal S1x4x128 .f32) (i : Fin 4) (l : Fin 128) : shapeCast S4x128 x shapeCasts_S1x4x128_S4x128 (ix2 i l) = x (ix3 0 i l) := by
  pointwise

theorem cast_w (x : Vec Ideal S1x128x256 .bf16) (i : Fin 128) (j : Fin 256) : shapeCast S128x256 x shapeCasts_S1x128x256_S128x256 (ix2 i j) = x (ix3 0 i j) := by
  pointwise

theorem idx_b (l : Fin 128) : (Rect.unit (s := S4x1x128) ![k.val, 0, 0] S1x1x128.size (inb1 k)).toLoadRect.idx (ix3 (0 : Fin 1) (0 : Fin 1) l : S1x1x128.Idx) = (ix3 k 0 l : S4x1x128.Idx) := by
  funext a
  apply Fin.ext
  fin_cases a <;> simp [LoadRect.idx, Rect.unit, ix3, S4x1x128]

theorem slab_cb (l : Fin 128) : (slab x1 x3 x4 x5 x6 x7 x8 k).cb (ix2 0 l) = x4 (ix3 k 0 l) := (cast_b (fun j => x4 ((Rect.unit (s := S4x1x128) ![k.val, 0, 0] S1x1x128.size (inb1 k)).toLoadRect.idx j)) l).trans (congrArg x4 (idx_b k l))
theorem slab_ba (l : Fin 128) : (slab x1 x3 x4 x5 x6 x7 x8 k).ba (ix2 0 l) = x6 (ix3 k 0 l) := (cast_b (fun j => x6 ((Rect.unit (s := S4x1x128) ![k.val, 0, 0] S1x1x128.size (inb1 k)).toLoadRect.idx j)) l).trans (congrArg x6 (idx_b k l))
theorem slab_bx (l : Fin 128) : (slab x1 x3 x4 x5 x6 x7 x8 k).bx (ix2 0 l) = x7 (ix3 k 0 l) := (cast_b (fun j => x7 ((Rect.unit (s := S4x1x128) ![k.val, 0, 0] S1x1x128.size (inb1 k)).toLoadRect.idx j)) l).trans (congrArg x7 (idx_b k l))
theorem slab_lam (l : Fin 128) : (slab x1 x3 x4 x5 x6 x7 x8 k).lam (ix2 0 l) = x8 (ix3 k 0 l) := (cast_b (fun j => x8 ((Rect.unit (s := S4x1x128) ![k.val, 0, 0] S1x1x128.size (inb1 k)).toLoadRect.idx j)) l).trans (congrArg x8 (idx_b k l))

theorem slab_cw (i : Fin 4) (l : Fin 128) : (slab x1 x3 x4 x5 x6 x7 x8 k).cw (ix2 i l) = x3 (ix3 k i l) := by
  refine (cast_cw (fun j => x3 ((Rect.unit (s := S4x4x128) ![k.val, 0, 0] S1x4x128.size (inb4 k)).toLoadRect.idx j)) i l).trans (congrArg x3 ?_)
  funext a
  apply Fin.ext
  fin_cases a <;> simp [LoadRect.idx, Rect.unit, ix3, S4x4x128]

theorem slab_w (i : Fin 128) (j : Fin 256) : (slab x1 x3 x4 x5 x6 x7 x8 k).w (ix2 i j) = x5 (ix3 k i j) := by
  refine (cast_w (fun j => x5 ((Rect.unit (s := S4x128x256) ![k.val, 0, 0] S1x128x256.size (inbW k)).toLoadRect.idx j)) i j).trans (congrArg x5 ?_)
  funext a
  apply Fin.ext
  fin_cases a <;> simp [LoadRect.idx, Rect.unit, ix3, S4x128x256]

end Slab

variable (m : (ℓ : Loc nD τ sig) → Buf (Elt Ideal) ℓ)

/-- The arguments of core `c`. -/
abbrev P (c : Dev nD) : Par :=
  par (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- The slabs of point `t`. -/
abbrev S (c : Dev nD) (t : Fin cfg0.N) : Fin 4 → Slab Ideal :=
  slab (iblk m c 0 t) (iblk m c 2 t) (iblk m c 3 t) (iblk m c 4 t) (iblk m c 5 t) (iblk m c 6 t) (iblk m c 7 t)

/-- What the body of point `t` leaves. -/
abbrev O (c : Dev nD) (t : Fin cfg0.N) : Vec Ideal S1x4x2048x128 .f32 := outBlk (S m c t) (iblk m c 1 t)

variable (c : Dev nD) (t : Fin cfg0.N) (k : Fin 4) (l : Fin 128)

/-- The channel of lane `l` of slab `k`. -/
abbrev ch (k : Fin 4) (l : Fin 128) : Fin 512 := ⟨128 * k.val + l.val, by omega⟩
/-- The batch of point `t`. -/
abbrev bt (t : Fin cfg0.N) : Fin 16 := ⟨t.val, point_lt t⟩

theorem X_eq (n : ℕ) : X (S m c t k) l n = (P m c).x (bt t) (ch k l) n := by
  unfold X
  refine (slab_x _ _ _ _ _ _ _ k _ _ l).trans ((blk0 m c t k _ l).trans ?_)
  refine congrArg (fun q => (m ((c : Thread nD τ).loc main_arg0) : FVec Ideal S16x2048x2560 .f32) (ix3 (bt t) q ⟨1536 + (128 * k.val + l.val), by omega⟩)) (Fin.ext ?_)
  show 8 * (n / 8 % 256) + n % 8 = n % 2048
  omega

theorem XR_eq (n : ℕ) : XR (S m c t k) l n = (P m c).xr (bt t) (ch k l) n := by
  unfold XR Par.xr
  rw [show X (S m c t k) l = (P m c).x (bt t) (ch k l) from funext fun n => X_eq m c t k l n,
    show (fun i => (S m c t k).cw (ix2 i l)) = fun i => (P m c).cw i (ch k l) from funext fun i => (slab_cw _ _ _ _ _ _ _ k i l).trans (blk2 m c t k i l),
    show (S m c t k).cb (ix2 0 l) = (P m c).cb (ch k l) from (slab_cb _ _ _ _ _ _ _ k l).trans (blk3 m c t k l)]

/-- A gate's product with the paired matrix is the product with the channel's own block. -/
theorem dot_eq (w : Vec Ideal S8x64x64 .f32) (n : ℕ) :
    (∑ j : Fin 128, XR (S m c t k) j n * paired w (ix3 k j l)) = ∑ i : Fin 64, (P m c).xr (bt t) ⟨64 * ((ch k l).val / 64) + i.val, by omega⟩ n * w (ix3 ⟨(ch k l).val / 64, by omega⟩ i ⟨(ch k l).val % 64, Nat.mod_lt _ (by decide)⟩) := by
  rw [half_sum _ (l.val / 64) (by omega) (fun j hj => by rw [paired_apply, if_neg hj, mul_zero])]
  refine Finset.sum_congr rfl fun i _ => ?_
  rw [paired_apply, if_pos (by simp only; omega), XR_eq]
  refine congrArg₂ (· * ·) (congrArg (fun d => (P m c).xr (bt t) d n) (Fin.ext ?_)) (congrArg w (congr (congrArg₂ ix3 (Fin.ext ?_) (Fin.ext ?_)) (Fin.ext ?_)))
  · show 128 * k.val + (64 * (l.val / 64) + i.val) = 64 * ((128 * k.val + l.val) / 64) + i.val
    omega
  · show 2 * k.val + l.val / 64 = (128 * k.val + l.val) / 64
    omega
  · show (64 * (l.val / 64) + i.val) % 64 = i.val
    omega
  · show l.val % 64 = (128 * k.val + l.val) % 64
    omega

theorem PA_eq (n : ℕ) : PA (S m c t k) l n = (P m c).arg (P m c).wa (P m c).ba (bt t) (ch k l) n := by
  unfold PA Par.arg
  refine congrArg₂ (· + ·) ((Finset.sum_congr rfl fun j _ => congrArg (XR (S m c t k) j n * ·) ?_).trans (dot_eq m c t k l (m ((c : Thread nD τ).loc main_arg3)) n)) ((slab_ba _ _ _ _ _ _ _ k l).trans (blk5 m c t k l))
  refine (slab_w _ _ _ _ _ _ _ k j _).trans ((blk4 m c t k j _).trans ?_)
  rw [both_apply, dif_pos l.isLt]

theorem PX_eq (n : ℕ) : PX (S m c t k) l n = (P m c).arg (P m c).wx (P m c).bx (bt t) (ch k l) n := by
  unfold PX Par.arg
  refine congrArg₂ (· + ·) ((Finset.sum_congr rfl fun j _ => congrArg (XR (S m c t k) j n * ·) ?_).trans (dot_eq m c t k l (m ((c : Thread nD τ).loc main_arg5)) n)) ((slab_bx _ _ _ _ _ _ _ k l).trans (blk6 m c t k l))
  refine (slab_w _ _ _ _ _ _ _ k j _).trans ((blk4 m c t k j _).trans ?_)
  rw [both_apply, dif_neg (by simp only; omega)]
  exact congrArg (fun q => paired _ (ix3 k j q)) (Fin.ext (by simp only; omega))

theorem lam_eq : (S m c t k).lam (ix2 0 l) = (P m c).lam (ch k l) := (slab_lam _ _ _ _ _ _ _ k l).trans (blk7 m c t k l)

/-- The body's result at a place. -/
theorem O_apply (n : Fin 2048) : O m c t (ix4 0 k n l) = (P m c).out (bt t) n (ch k l) := by
  refine (outBlk_apply (S m c t) (iblk m c 1 t) k n l).trans ?_
  unfold Par.out
  refine congrArg₂ (· * ·) (lin_congr _ (fun j _ => ?_) (fun j _ => ?_)) (congrArg gelu (blk1 m c t k n l))
  · unfold A Par.a
    rw [PA_eq, lam_eq]
  · unfold U Par.u
    rw [PA_eq, PX_eq, lam_eq, XR_eq]

end Cert.KernelIdeal.Rec

end

end
-- ==== Proof.Rec.KerFinal.lean ====
module

public import proofs.«01_k».proof.Proof.Rec.KerVal
public import proofs.«01_k».proof.Proof.Rec.Frame
public import proofs.«01_k».proof.Proof.Rec.Scr

/-! The recurrence kernel's whole result. -/

@[expose] public section

set_option maxRecDepth 16384
set_option maxHeartbeats 400000

noncomputable section

namespace Cert.KernelIdeal.Rec

open Cert.KernelIdeal Cert.KernelIdeal.Gen
open Idealize.ShloMosaic Idealize.ShloMosaic.TcCoe Idealize.SL.Sem
open Cert.Rec

/-- The result as an array, by batch, slab of channels, time and lane. -/
def G (p : Par) : FVec Ideal S16x4x2048x128 .f32 := fun y =>
  p.out (y 0) (y 2) ⟨128 * (y 1).val + (y 3).val, by have := (y 1).isLt; have := (y 3).isLt; simp only [S16x4x2048x128] at *; simp at *; omega⟩

theorem G_apply (p : Par) (b : Fin 16) (k : Fin 4) (n : Fin 2048) (l : Fin 128) : G p (ix4 b k n l) = p.out b n (ch k l) := rfl

variable (m : (ℓ : Loc nD τ sig) → Buf (Elt Ideal) ℓ)

/-- Where the block of point `t` sits in the result: the point's batch. -/
theorem emb8 (t : Fin cfg0.N) (k : Fin 4) (n : Fin 2048) (l : Fin 128) :
    ((cfg0.win 8).blk t).view.emb (ix4 0 k n l : S1x4x2048x128.Idx) = (ix4 (bt t) k n l : S16x4x2048x128.Idx) := by
  funext a
  apply Fin.ext
  match a with
  | 0 =>
    blk_simp [idx8 t]
    exact Nat.add_zero _
  | 1 => blk_simp [idx8 t]
  | 2 => blk_simp [idx8 t]
  | 3 => blk_simp [idx8 t]

/-- The result array after the run, of the arguments. -/
theorem final (c : Dev nD) : (dats m (O m) 0 c).arrAt 8 cfg0.N = G (P m c) := by
  refine (dats m (O m) 0 c).arrAt_eq_of_covers 8 _ (by decide +kernel) fun t _ y => ?_
  obtain ⟨k, n, l, rfl⟩ : ∃ (k : Fin 4) (n : Fin 2048) (l : Fin 128), y = (ix4 0 k n l : S1x4x2048x128.Idx) :=
    ⟨y 1, y 2, y 3, (eq_ix4 y).trans (congrArg (fun q : Fin 1 => (ix4 q (y 1) (y 2) (y 3) : S1x4x2048x128.Idx)) (Subsingleton.elim _ _))⟩
  refine Eq.trans ?_ (congrArg (G (P m c)) (emb8 t k n l)).symm
  blk_simp
  rw [after0_8]
  exact (O_apply m c t k l n).trans (G_apply (P m c) (bt t) k n l).symm

/-- The run: it ends with the result array so and the arguments as they were. -/
theorem run_final (ρ : Dev nD → PrngReg) : θ_run defs (onTc (τ := τ) (main (F := Ideal))) ⟨m, fun _ => 0, ρ⟩ (fun r => (∀ c : Dev nD,
    r.2.mem ((c : Thread nD τ).loc main_v22) = G (P m c)
    ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7)) ∧ r.2.sem = fun _ => 0) :=
  (θ_run _ _ _).mono (fun r h => ⟨fun c => ⟨(h.1 c).1.trans (final m c), (h.1 c).2⟩, h.2⟩)
    (run_blocks m ρ (O m) (fun c t Y h => leaves_out _ _ _ _ _ _ _ _ Y h))

end Cert.KernelIdeal.Rec

end

end
-- ==== Proof.Rec.RefEntry.lean ====
module

public import proofs.«01_k».proof.Proof.Gen.ReferenceIdeal.Run
public import Idealize.ShloMosaic.Lib.StableHlo.RunRead
public import Idealize.ShloMosaic.Lib.Pipeline.ValueKit

/-! The reference's arrays before its scan, as named functions of the arguments, and the scan's entry in their terms. -/

@[expose] public section

set_option maxRecDepth 16384
set_option maxHeartbeats 400000

noncomputable section

namespace Cert.ReferenceIdeal.Rec

open Cert.ReferenceIdeal Cert.ReferenceIdeal.Gen Cert.ReferenceIdeal.Value
open Idealize.ShloMosaic Idealize.ShloMosaic.TcCoe Idealize.SL.Sem Idealize.ShloMosaic.StableHlo

/-- A row of channels over all batches and times. -/
def bc (v : FVec Ideal S512 .f32) : FVec Ideal S16x2048x512 .f32 :=
  broadcastInDim S16x2048x512 ![0, 1, 2] bcast_S1x1x512_S16x2048x512_0_1_2 (broadcastInDim S1x1x512 ![2] bcast_S512_S1x1x512_2 v)

/-- A word over all batches, times and channels. -/
def wd (b : BitVec 32) : FVec Ideal S16x2048x512 .f32 :=
  broadcastInDim S16x2048x512 ![] bcast_S_S16x2048x512 (constant (F := Ideal) S_ .f32 b)

/-- The recurrent branch, three steps of zero before it. -/
def padded (p : FVec Ideal S16x2048x2560 .f32) : FVec Ideal S16x2051x512 .f32 :=
  pad S16x2051x512 ![0, 3, 0] ![0, 0, 0] ![0, 0, 0] (extractStridedSlice S16x2048x512 ![0, 0, 1536] p slices_S16x2048x2560_S16x2048x512_0_0_1536)
    (sitofp (F := Ideal) .f32 (constantI S_ 32 0#32)) pads_S16x2048x512_S16x2051x512_000_300_000 h_S_

/-- The convolution. -/
def xrV (xp : FVec Ideal S16x2051x512 .f32) (cw : FVec Ideal S4x512 .f32) (cb : FVec Ideal S512 .f32) : FVec Ideal S16x2048x512 .f32 :=
  addf (addf (addf (addf
    (mulf (extractStridedSlice S16x2048x512 ![0, 0, 0] xp slices_S16x2051x512_S16x2048x512_0_0_0) (bc (shapeCast S512 (extractStridedSlice S1x512 ![0, 0] cw slices_S4x512_S1x512_0_0) shapeCasts_S1x512_S512)))
    (mulf (extractStridedSlice S16x2048x512 ![0, 1, 0] xp slices_S16x2051x512_S16x2048x512_0_1_0) (bc (shapeCast S512 (extractStridedSlice S1x512 ![1, 0] cw slices_S4x512_S1x512_1_0) shapeCasts_S1x512_S512))))
    (mulf (extractStridedSlice S16x2048x512 ![0, 2, 0] xp slices_S16x2051x512_S16x2048x512_0_2_0) (bc (shapeCast S512 (extractStridedSlice S1x512 ![2, 0] cw slices_S4x512_S1x512_2_0) shapeCasts_S1x512_S512))))
    (mulf (extractStridedSlice S16x2048x512 ![0, 3, 0] xp slices_S16x2051x512_S16x2048x512_0_3_0) (bc (shapeCast S512 (extractStridedSlice S1x512 ![3, 0] cw slices_S4x512_S1x512_3_0) shapeCasts_S1x512_S512))))
    (bc cb)

/-- A block-diagonal product and its bias. -/
def linV (w : FVec Ideal S8x64x64 .f32) (x : FVec Ideal S16x2048x512 .f32) (b : FVec Ideal S512 .f32) : FVec Ideal S16x2048x512 .f32 :=
  addf (shapeCast S16x2048x512 (transpose S16x2048x8x64 [2, 3, 0, 1]
    (Host.dotGeneral (F := Ideal) dot_S8x64x64_S16x2048x8x64_S8x64x16x2048_1_3_2_01_0_2 none w (shapeCast S16x2048x8x64 x shapeCasts_S16x2048x512_S16x2048x8x64))
    transposes_S8x64x16x2048_S16x2048x8x64_2_3_0_1) shapeCasts_S16x2048x8x64_S16x2048x512) (bc b)

/-- The logistic function. -/
def sgV (z : FVec Ideal S16x2048x512 .f32) : FVec Ideal S16x2048x512 .f32 :=
  Host.divf (wd 0x3F800000#32) (addf (wd 0x3F800000#32) (Host.exp (Host.negf z)))

/-- The softplus. -/
def spV (n : FVec Ideal S512 .f32) : FVec Ideal S512 .f32 :=
  have z : FVec Ideal S512 .f32 := broadcastInDim S512 ![] bcast_S_S512 (constant (F := Ideal) S_ .f32 0x00000000#32)
  select (cmpf .une (subf n z) (subf n z)) (addf n z) (addf (maximumf n z) (Host.log1p (Host.exp (Host.negf (Host.absf (subf n z))))))

/-- The logarithm of the recurrence's factor. -/
def laV (r : FVec Ideal S16x2048x512 .f32) (lam : FVec Ideal S512 .f32) : FVec Ideal S16x2048x512 .f32 :=
  mulf (mulf (wd 0xC1000000#32) r) (bc (spV (Host.negf lam)))

/-- The recurrence's input. -/
def inV (la i x : FVec Ideal S16x2048x512 .f32) : FVec Ideal S16x2048x512 .f32 :=
  mulf (Host.sqrt (Host.negf (Host.expm1 (mulf (wd 0x40000000#32) la)))) (mulf i x)

variable (m : (ℓ : Loc nD τ sig) → Buf (Elt Ideal) ℓ)

abbrev XRv (c : Dev nD) : FVec Ideal S16x2048x512 .f32 :=
  xrV (padded (m ((c.tc : Thread nD τ).loc main_arg0))) (m ((c.tc : Thread nD τ).loc main_arg1)) (m ((c.tc : Thread nD τ).loc main_arg2))

abbrev LAv (c : Dev nD) : FVec Ideal S16x2048x512 .f32 :=
  laV (sgV (linV (m ((c.tc : Thread nD τ).loc main_arg3)) (XRv m c) (m ((c.tc : Thread nD τ).loc main_arg4)))) (m ((c.tc : Thread nD τ).loc main_arg7))

abbrev INv (c : Dev nD) : FVec Ideal S16x2048x512 .f32 :=
  inV (LAv m c) (sgV (linV (m ((c.tc : Thread nD τ).loc main_arg5)) (XRv m c) (m ((c.tc : Thread nD τ).loc main_arg6)))) (XRv m c)

/-- The factors the scan reads. -/
theorem entry_a (c : Dev nD) : entryContents preI m c (Proc.devRef .tc main_v77_0) = transpose S2048x16x512 [1, 0, 2] (Host.exp (LAv m c)) transposes_S16x2048x512_S2048x16x512_1_0_2 := by
  simp only [entryContents, afterL_cons, afterL_nil, hostOps0, hostOps0_1, hostOps0_2, hostOps0_3, hostOps0_4]
  after_reads_simp
  rfl

/-- The inputs the scan reads. -/
theorem entry_u (c : Dev nD) : entryContents preI m c (Proc.devRef .tc main_v77_1) = transpose S2048x16x512 [1, 0, 2] (INv m c) transposes_S16x2048x512_S2048x16x512_1_0_2 := by
  simp only [entryContents, afterL_cons, afterL_nil, hostOps0, hostOps0_1, hostOps0_2, hostOps0_3, hostOps0_4]
  after_reads_simp
  rfl

/-- The scan's first state. -/
theorem entry_h (c : Dev nD) : entryContents preI m c (Proc.devRef .tc main_v77_3) = (broadcastInDim S16x512 ![] bcast_S_S16x512 (constant (F := Ideal) S_ .f32 0x00000000#32) : FVec Ideal S16x512 .f32) := by
  simp only [entryContents, afterL_cons, afterL_nil, hostOps0, hostOps0_1, hostOps0_2, hostOps0_3, hostOps0_4]
  after_reads_simp
  rfl

end Cert.ReferenceIdeal.Rec

end

end
-- ==== Proof.Rec.RefPoint.lean ====
module

public import proofs.«01_k».proof.Proof.Rec.RefEntry
public import proofs.«01_k».proof.Proof.Rec.Point

/-! The reference's arrays before its scan, at one place. -/

@[expose] public section

set_option maxRecDepth 16384
set_option maxHeartbeats 400000

noncomputable section

namespace Cert.ReferenceIdeal.Rec

open Cert.ReferenceIdeal Cert.ReferenceIdeal.Gen
open Idealize.ShloMosaic Idealize.ShloMosaic.TcCoe Idealize.SL.Sem
open Cert.Rec Cert.Ffn

theorem bc_apply (v : FVec Ideal S512 .f32) (b : Fin 16) (t : Fin 2048) (d : Fin 512) : bc v (ix3 b t d) = v (ix1 d) := by
  pointwise [bc]

theorem wd_apply (w : BitVec 32) (b : Fin 16) (t : Fin 2048) (d : Fin 512) : wd w (ix3 b t d) = word w := by
  pointwise [wd]

theorem padded_apply (p : FVec Ideal S16x2048x2560 .f32) (b : Fin 16) (t : Fin 2051) (d : Fin 512) :
    padded p (ix3 b t d) = if h : 3 ≤ t.val then p (ix3 b ⟨t.val - 3, by omega⟩ ⟨1536 + d.val, by omega⟩) else 0 := by
  pointwise [padded]
  by_cases h : 3 ≤ t.val
  · rw [dif_pos h]
    exact dif_pos ⟨h, by omega⟩
  · rw [dif_neg h]
    refine (dif_neg (fun q => h q.1)).trans ?_
    show ((((0#32 : BitVec 32).toInt : ℤ) : ℝ) : EReal) = 0
    simp

theorem xrV_apply (xp : FVec Ideal S16x2051x512 .f32) (cw : FVec Ideal S4x512 .f32) (cb : FVec Ideal S512 .f32) (b : Fin 16) (t : Fin 2048) (d : Fin 512) :
    xrV xp cw cb (ix3 b t d) = xp (ix3 b ⟨t.val, by omega⟩ d) * cw (ix2 0 d) + xp (ix3 b ⟨1 + t.val, by omega⟩ d) * cw (ix2 1 d) + xp (ix3 b ⟨2 + t.val, by omega⟩ d) * cw (ix2 2 d) + xp (ix3 b ⟨3 + t.val, by omega⟩ d) * cw (ix2 3 d) + cb (ix1 d) := by
  pointwise [xrV, bc]

theorem linV_apply (w : FVec Ideal S8x64x64 .f32) (x : FVec Ideal S16x2048x512 .f32) (v : FVec Ideal S512 .f32) (b : Fin 16) (t : Fin 2048) (d : Fin 512) :
    linV w x v (ix3 b t d) = (∑ i : Fin 64, w (ix3 ⟨d.val / 64, by omega⟩ i ⟨d.val % 64, Nat.mod_lt _ (by decide)⟩) * x (ix3 b t ⟨64 * (d.val / 64) + i.val, by omega⟩)) + v (ix1 d) := by
  pointwise [linV, bc]
  refine congrArg (· + v (ix1 d)) (Finset.sum_congr rfl fun i _ => congrArg (w (ix3 ⟨d.val / 64, by omega⟩ i ⟨d.val % 64, Nat.mod_lt _ (by decide)⟩) * ·) (congrArg (fun q => x (ix3 b t q)) (Fin.ext ?_)))
  show d.val / 64 * 64 + i.val = 64 * (d.val / 64) + i.val
  omega

theorem sgV_apply (z : FVec Ideal S16x2048x512 .f32) (b : Fin 16) (t : Fin 2048) (d : Fin 512) : sgV z (ix3 b t d) = sg (z (ix3 b t d)) := by
  pointwise [sgV, wd]
  rfl

theorem spV_apply (n : FVec Ideal S512 .f32) (d : Fin 512) : spV n (ix1 d) = softplus (n (ix1 d)) := by
  pointwise [spV]
  rw [if_neg (fun h => h rfl)]
  rfl

theorem laV_apply (r : FVec Ideal S16x2048x512 .f32) (lam : FVec Ideal S512 .f32) (b : Fin 16) (t : Fin 2048) (d : Fin 512) :
    laV r lam (ix3 b t d) = word 0xC1000000#32 * r (ix3 b t d) * softplus (-(lam (ix1 d))) := by
  unfold laV
  show wd 0xC1000000#32 (ix3 b t d) * r (ix3 b t d) * bc _ (ix3 b t d) = _
  rw [wd_apply, bc_apply, spV_apply]
  rfl

theorem inV_apply (la i x : FVec Ideal S16x2048x512 .f32) (b : Fin 16) (t : Fin 2048) (d : Fin 512) :
    inV la i x (ix3 b t d) = Ideal.sqrt (-(Ideal.expm1 (word 0x40000000#32 * la (ix3 b t d)))) * (i (ix3 b t d) * x (ix3 b t d)) := by
  unfold inV
  show Ideal.sqrt (-(Ideal.expm1 (wd 0x40000000#32 (ix3 b t d) * la (ix3 b t d)))) * (i (ix3 b t d) * x (ix3 b t d)) = _
  rw [wd_apply]

end Cert.ReferenceIdeal.Rec

end

end
-- ==== Proof.Rec.RefScan.lean ====
module

public import proofs.«01_k».proof.Proof.Rec.RefEntry
public import proofs.«01_k».proof.Proof.Rec.Algebra
public import Idealize.ShloMosaic.Lib.WordCmp

/-! The reference's scan: after `k` trips the state is the recurrence's after `k` steps, and the first `k` rows written
    are the states. -/

@[expose] public section

set_option maxRecDepth 16384
set_option maxHeartbeats 400000

noncomputable section

namespace Cert.ReferenceIdeal.Rec

open Cert.ReferenceIdeal Cert.ReferenceIdeal.Gen Cert.ReferenceIdeal.Value
open Idealize.ShloMosaic Idealize.ShloMosaic.TcCoe Idealize.SL.Sem Idealize.ShloMosaic.StableHlo
open Cert.Rec

/-- The scan's counter as its slices read it. -/
def at_ (w : (⟨S_, .i32⟩ : BufTy).Contents (Elt Ideal)) : Fin 3 → ℤ :=
  fun k => (((![w, constantI S_ 32 0#32, constantI S_ 32 0#32] : Fin 3 → (⟨S_, .i32⟩ : BufTy).Contents (Elt Ideal))) k (Shape.Idx.first h_S_)).toInt

theorem at_eq (w : (⟨S_, .i32⟩ : BufTy).Contents (Elt Ideal)) (k : ℕ) (hk : k < 2048) (hw : w = fun _ => BitVec.ofNat 32 k) (a : Fin 3) : at_ w a = ((![k, 0, 0] : Fin 3 → ℕ) a : ℤ) := by
  subst hw
  fin_cases a
  · show (BitVec.ofNat 32 k).toInt = (k : ℤ)
    exact WordCmp.toInt_ofNat_of_lt (by omega)
  · rfl
  · rfl

theorem fits (k : ℕ) (hk : k < 2048) : S2048x16x512.Slices ![k, 0, 0] S1x16x512 :=
  ⟨rfl, fun a => by fin_cases a <;> simp [S2048x16x512, S1x16x512] <;> omega⟩

theorem slice_at (Z : FVec Ideal S2048x16x512 .f32) (w : (⟨S_, .i32⟩ : BufTy).Contents (Elt Ideal)) (k : ℕ) (hk : k < 2048) (hw : w = fun _ => BitVec.ofNat 32 k) (b : Fin 16) (d : Fin 512) :
    shapeCast S16x512 (Host.dynamicSlice S1x16x512 Z (at_ w) sliceFits_S2048x16x512_S1x16x512) shapeCasts_S1x16x512_S16x512 (ix2 b d) = Z (ix3 ⟨k, hk⟩ b d) := by
  rw [WordCmp.dynamicSlice_eq_extract S1x16x512 Z (at_ w) _ ![k, 0, 0] (fits k hk) (at_eq w k hk hw)]
  pointwise

theorem update_at (Z : FVec Ideal S2048x16x512 .f32) (y : FVec Ideal S16x512 .f32) (w : (⟨S_, .i32⟩ : BufTy).Contents (Elt Ideal)) (k : ℕ) (hk : k < 2048) (hw : w = fun _ => BitVec.ofNat 32 k) (n : Fin 2048) (b : Fin 16) (d : Fin 512) :
    Host.dynamicUpdateSlice Z (broadcastInDim S1x16x512 ![1, 2] bcast_S16x512_S1x16x512_1_2 y) (at_ w) updateFits_S2048x16x512_S1x16x512 (ix3 n b d) = if n.val = k then y (ix2 b d) else Z (ix3 n b d) := by
  rw [WordCmp.dynamicUpdateSlice_eq_update Z _ (at_ w) _ ![k, 0, 0] (fits k hk) (at_eq w k hk hw)]
  pointwise
  by_cases h : n.val = k
  · rw [if_pos h]
    exact dif_pos ⟨by omega, by omega⟩
  · rw [if_neg h]
    exact dif_neg (fun q => h (by omega))

variable (m : (ℓ : Loc nD τ sig) → Buf (Elt Ideal) ℓ)

/-- The buffers before trip `k`. -/
abbrev at_trip (c : Dev nD) (k : ℕ) : Valuation τ sig (Elt Ideal) := STEP^[k] (entryContents preI m c)

theorem trip_a (c : Dev nD) : ∀ k, at_trip m c k (Proc.devRef .tc main_v77_0) = entryContents preI m c (Proc.devRef .tc main_v77_0)
  | 0 => rfl
  | k + 1 => by rw [at_trip, Function.iterate_succ_apply', STEP_main_v77_0]; exact trip_a c k

theorem trip_u (c : Dev nD) : ∀ k, at_trip m c k (Proc.devRef .tc main_v77_1) = entryContents preI m c (Proc.devRef .tc main_v77_1)
  | 0 => rfl
  | k + 1 => by rw [at_trip, Function.iterate_succ_apply', STEP_main_v77_1]; exact trip_u c k

theorem trip_n (c : Dev nD) (k : ℕ) : at_trip m c k (Proc.devRef .tc main_v77_2) = fun _ => BitVec.ofNat 32 k := by
  refine ((atK_agree m c k) main_v77_2 (by decide)).symm.trans ((atK_ctr m c k).trans (funext fun _ => ?_))
  simp [Scf.iv]

/-- The factors and the inputs the scan reads, by time. -/
def fa (c : Dev nD) (b : Fin 16) (d : Fin 512) (n : ℕ) : EReal := (entryContents preI m c (Proc.devRef .tc main_v77_0) : FVec Ideal S2048x16x512 .f32) (ix3 ⟨n % 2048, Nat.mod_lt _ (by decide)⟩ b d)
def fu (c : Dev nD) (b : Fin 16) (d : Fin 512) (n : ℕ) : EReal := (entryContents preI m c (Proc.devRef .tc main_v77_1) : FVec Ideal S2048x16x512 .f32) (ix3 ⟨n % 2048, Nat.mod_lt _ (by decide)⟩ b d)

/-- One trip's state. -/
theorem res_apply (c : Dev nD) (k : ℕ) (hk : k < 2048) (b : Fin 16) (d : Fin 512) :
    (res_main_while0b_v99 (at_trip m c k) : FVec Ideal S16x512 .f32) (ix2 b d) = fa m c b d k * (at_trip m c k (Proc.devRef .tc main_v77_3) : FVec Ideal S16x512 .f32) (ix2 b d) + fu m c b d k := by
  have ha := slice_at (at_trip m c k (Proc.devRef .tc main_v77_0)) (at_trip m c k (Proc.devRef .tc main_v77_2)) k hk (trip_n m c k) b d
  have hu := slice_at (at_trip m c k (Proc.devRef .tc main_v77_1)) (at_trip m c k (Proc.devRef .tc main_v77_2)) k hk (trip_n m c k) b d
  refine (congrArg₂ (fun p q : EReal => p * (at_trip m c k (Proc.devRef .tc main_v77_3) : FVec Ideal S16x512 .f32) (ix2 b d) + q) ha hu).trans ?_
  rw [trip_a, trip_u]
  unfold fa fu
  simp only [Nat.mod_eq_of_lt hk]

/-- The state before trip `k`. -/
theorem trip_h (c : Dev nD) (b : Fin 16) (d : Fin 512) : ∀ k, k ≤ 2048 → (at_trip m c k (Proc.devRef .tc main_v77_3) : FVec Ideal S16x512 .f32) (ix2 b d) = lin (fa m c b d) (fu m c b d) k
  | 0, _ => by
    refine (congrFun (entry_h m c) (ix2 b d)).trans ?_
    show _ = (0 : EReal)
    pointwise
  | k + 1, h => by
    rw [at_trip, Function.iterate_succ_apply', STEP_main_v77_3]
    refine (res_apply m c k (by omega) b d).trans ?_
    rw [trip_h c b d k (by omega)]
    rfl

/-- The rows written before trip `k`. -/
theorem trip_y (c : Dev nD) (n : Fin 2048) (b : Fin 16) (d : Fin 512) : ∀ k, k ≤ 2048 → n.val < k →
    (at_trip m c k (Proc.devRef .tc main_v77_4) : FVec Ideal S2048x16x512 .f32) (ix3 n b d) = lin (fa m c b d) (fu m c b d) (n.val + 1)
  | 0, _, h => absurd h (Nat.not_lt_zero _)
  | k + 1, hk, h => by
    rw [at_trip, Function.iterate_succ_apply', STEP_main_v77_4]
    refine (update_at (at_trip m c k (Proc.devRef .tc main_v77_4)) (res_main_while0b_v99 (at_trip m c k)) (at_trip m c k (Proc.devRef .tc main_v77_2)) k (by omega) (trip_n m c k) n b d).trans ?_
    by_cases e : n.val = k
    · rw [if_pos e, res_apply m c k (by omega) b d, trip_h m c b d k (by omega), e]
      rfl
    · rw [if_neg e]
      exact trip_y c n b d k (by omega) (by omega)

end Cert.ReferenceIdeal.Rec

end

end
-- ==== Proof.Rec.RefVal.lean ====
module

public import proofs.«01_k».proof.Proof.Rec.Spec
public import proofs.«01_k».proof.Proof.Rec.RefPoint
public import proofs.«01_k».proof.Proof.Rec.RefScan

/-! The reference's result, of its arguments. -/

@[expose] public section

set_option maxRecDepth 16384
set_option maxHeartbeats 400000

noncomputable section

namespace Cert.ReferenceIdeal.Rec

open Cert.ReferenceIdeal Cert.ReferenceIdeal.Gen Cert.ReferenceIdeal.Value
open Idealize.ShloMosaic Idealize.ShloMosaic.TcCoe Idealize.SL.Sem Idealize.ShloMosaic.StableHlo
open Cert.Rec Cert.Ffn

variable (m : (ℓ : Loc nD τ sig) → Buf (Elt Ideal) ℓ)

/-- The arguments of core `c`. -/
abbrev P (c : Dev nD) : Par :=
  par (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))

variable (c : Dev nD) (b : Fin 16) (d : Fin 512)

/-- A padded read is a tap of the input. -/
theorem padded_tap (p : FVec Ideal S16x2048x2560 .f32) (n : Fin 2048) (k : ℕ) (hk : k ≤ 3) (q : Fin 2051) (hq : q.val = 3 - k + n.val) :
    padded p (ix3 b q d) = tap (fun n => p (ix3 b ⟨n % 2048, Nat.mod_lt _ (by decide)⟩ ⟨1536 + d.val, by omega⟩)) k n.val := by
  rw [padded_apply]
  unfold tap
  by_cases h : k ≤ n.val
  · rw [if_pos h, dif_pos (by omega)]
    exact congrArg (fun q => p (ix3 b q ⟨1536 + d.val, by omega⟩)) (Fin.ext (by simp only; omega))
  · rw [if_neg h, dif_neg (by omega)]

theorem tap_zero (x : ℕ → EReal) (n : ℕ) : tap x 0 n = x n := by
  unfold tap
  rw [if_pos (Nat.zero_le n), Nat.sub_zero]

theorem conv_comm (a0 a1 a2 a3 w0 w1 w2 w3 v : EReal) : a0 * w0 + a1 * w1 + a2 * w2 + a3 * w3 + v = v + w0 * a0 + w1 * a1 + w2 * a2 + w3 * a3 := by
  rw [mul_comm a0, mul_comm a1, mul_comm a2, mul_comm a3, add_comm]
  simp only [← add_assoc]

theorem XRv_apply (n : Fin 2048) : XRv m c (ix3 b n d) = (P m c).xr b d n.val := by
  refine (xrV_apply _ _ _ b n d).trans ?_
  rw [padded_tap b d _ n 3 (by omega) ⟨n.val, by omega⟩ (by simp only; omega), padded_tap b d _ n 2 (by omega) ⟨1 + n.val, by omega⟩ (by simp only),
    padded_tap b d _ n 1 (by omega) ⟨2 + n.val, by omega⟩ (by simp only), padded_tap b d _ n 0 (by omega) ⟨3 + n.val, by omega⟩ (by simp only), tap_zero]
  exact conv_comm _ _ _ _ _ _ _ _ _

theorem arg_apply (w : FVec Ideal S8x64x64 .f32) (v : FVec Ideal S512 .f32) (n : Fin 2048) :
    linV w (XRv m c) v (ix3 b n d) = (P m c).arg (fun g i j => w (ix3 g i j)) (fun d => v (ix1 d)) b d n.val := by
  rw [linV_apply]
  unfold Par.arg
  refine congrArg (· + v (ix1 d)) (Finset.sum_congr rfl fun i _ => ?_)
  rw [XRv_apply, mul_comm]

/-- The logarithm of the factor. -/
theorem LAv_apply (n : Fin 2048) : LAv m c (ix3 b n d) = -(tOf ((P m c).arg (P m c).wa (P m c).ba b d n.val) ((P m c).lam d)) := by
  unfold LAv tOf
  rw [laV_apply, sgV_apply, arg_apply, neg_decay]
  rfl

theorem INv_apply (n : Fin 2048) : INv m c (ix3 b n d) = (P m c).u b d n.val := by
  unfold INv Par.u uOf aOf
  rw [inV_apply, sgV_apply, arg_apply, LAv_apply, XRv_apply, root_eq (tOf_nonneg _ _)]
  rfl

theorem turn_apply (Z : FVec Ideal S16x2048x512 .f32) (n : Fin 2048) : transpose S2048x16x512 [1, 0, 2] Z transposes_S16x2048x512_S2048x16x512_1_0_2 (ix3 n b d) = Z (ix3 b n d) := by
  pointwise

theorem fa_eq (n : ℕ) (hn : n < 2048) : fa m c b d n = (P m c).a b d n := by
  unfold fa
  rw [show (⟨n % 2048, Nat.mod_lt _ (by decide)⟩ : Fin 2048) = ⟨n, hn⟩ from Fin.ext (Nat.mod_eq_of_lt hn)]
  refine (congrFun (entry_a m c) _).trans ((turn_apply b d _ ⟨n, hn⟩).trans ?_)
  exact congrArg Ideal.exp (LAv_apply m c b d ⟨n, hn⟩)

theorem fu_eq (n : ℕ) (hn : n < 2048) : fu m c b d n = (P m c).u b d n := by
  unfold fu
  rw [show (⟨n % 2048, Nat.mod_lt _ (by decide)⟩ : Fin 2048) = ⟨n, hn⟩ from Fin.ext (Nat.mod_eq_of_lt hn)]
  exact (congrFun (entry_u m c) _).trans ((turn_apply b d _ ⟨n, hn⟩).trans (INv_apply m c b d ⟨n, hn⟩))

/-- The result before the last transposes, of the scan's rows and the projection. -/
theorem out_apply (V0 : Valuation τ sig (Elt Ideal)) (Y : FVec Ideal S2048x16x512 .f32) (p : FVec Ideal S16x2048x2560 .f32)
    (hY : V0 (Proc.devRef .tc main_v77_4) = Y) (hp : V0 (Proc.devRef .tc main_arg0) = p) (k : Fin 4) (n : Fin 2048) (l : Fin 128) :
    (out_main_v95 V0 : FVec Ideal S16x4x2048x128 .f32) (ix4 b k n l)
      = Y (ix3 n b ⟨128 * k.val + l.val, by omega⟩) * gelu (p (ix3 b n ⟨2048 + (128 * k.val + l.val), by omega⟩)) := by
  unfold out_main_v95
  rw [hY, hp]
  pointwise
  exact congrArg (fun q : Fin 512 => Y (ix3 n b q) * gelu (p (ix3 b n ⟨2048 + q.val, by omega⟩)))
    (Fin.ext (by simp only; omega) : (⟨k.val * 128 + l.val, by omega⟩ : Fin 512) = ⟨128 * k.val + l.val, by omega⟩)

/-- The result at one place. -/
theorem result_apply (k : Fin 4) (n : Fin 2048) (l : Fin 128) :
    (out_main_v95 (STEP^[2048] (entryContents preI m c)) : FVec Ideal S16x4x2048x128 .f32) (ix4 b k n l) = (P m c).out b n ⟨128 * k.val + l.val, by omega⟩ := by
  refine (out_apply b _ _ _ rfl (iter_main_arg0 m c 2048) k n l).trans ?_
  unfold Par.out
  refine congrArg₂ (· * ·) ((trip_y m c n b _ 2048 le_rfl n.isLt).trans (lin_congr _ (fun j hj => fa_eq m c b _ j (by omega)) (fun j hj => fu_eq m c b _ j (by omega)))) rfl

end Cert.ReferenceIdeal.Rec

end

end
-- ==== Proof.Rec.Pair1.lean ====
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Rec.FrameBits
public import proofs.«01_k».proof.Proof.Rec.KerFinal
public import proofs.«01_k».proof.Proof.Rec.RefVal

/-! The claims about the recurrence: the three frames, the named constants, the equality of the results. -/

@[expose] public section

set_option maxRecDepth 16384

noncomputable section

namespace Cert.Rec.Pair1

open Idealize.ShloMosaic Idealize.ShloMosaic.StableHlo Idealize.SL.Sem

/-- The kernel runs for any float values, leaves its arguments as they were and ends with its counters at zero. -/
theorem frame : Cert.quiescent_Kernel (hKernel := Cert.Kernel.Gen.facts) := fun m g _ => Cert.Kernel.Rec.frame m g

/-- So does the kernel with its constants named. -/
theorem frame_ideal : Cert.quiescent_KernelIdeal (hKernelIdeal := Cert.KernelIdeal.Gen.facts) := fun m g _ =>
  (θ_run (Cert.KernelIdeal.defs (F := Ideal)) _ _).mono (fun r h => ⟨fun c => (h.1 c).2, h.2⟩) (Cert.KernelIdeal.Rec.run_final m g)

/-- The reference runs, leaves its arguments as they were and has no semaphore. -/
theorem frame_ref : Cert.quiescent_ReferenceIdeal (hReferenceIdeal := Cert.ReferenceIdeal.Gen.facts) := by
  intro m g _
  exact (θ_run (Cert.ReferenceIdeal.defs (F := Ideal)) _ _).mono (fun r h => ⟨fun c => (h c).2, sem_eq_zero_of_no_sems (by decide) r.2⟩)
    (Cert.ReferenceIdeal.Value.run (F := Ideal) m g)

open Cert.ReferenceIdeal Cert.ReferenceIdeal.Value in
/-- The reference's result, as a whole array, is the kernel's. -/
theorem result_eq (m : (ℓ : Loc nD τ sig) → Buf (Elt Ideal) ℓ) (c : Dev nD) :
    (out_main_v95 (STEP^[2048] (entryContents preI m c)) : FVec Ideal S16x4x2048x128 .f32) = Cert.KernelIdeal.Rec.G (Cert.ReferenceIdeal.Rec.P m c) := by
  funext y
  obtain ⟨b, k, n, l, rfl⟩ : ∃ (b : Fin 16) (k : Fin 4) (n : Fin 2048) (l : Fin 128), y = (ix4 b k n l : S16x4x2048x128.Idx) := ⟨y 0, y 1, y 2, y 3, eq_ix4 y⟩
  exact Cert.ReferenceIdeal.Rec.result_apply m c b k n l

/-- The kernel and the reference end with the same array, over the extended reals. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Rec.G (Cert.KernelIdeal.Rec.P m c), (θ_run _ _ _).mono (fun r h c => h.1 c) (Cert.KernelIdeal.Rec.run_final m g), ?_⟩
  refine (θ_run _ _ _).mono (fun r h c => ?_) (Cert.ReferenceIdeal.Value.run (F := Ideal) m' g')
  obtain ⟨hv, hr⟩ := h c
  refine ⟨hv.trans ((result_eq m' c).trans (congrArg Cert.KernelIdeal.Rec.G ?_)), hr⟩
  obtain ⟨e0, e1, e2, e3, e4, e5, e6, e7⟩ := hargs c
  unfold Cert.ReferenceIdeal.Rec.P
  rw [e0, e1, e2, e3, e4, e5, e6, e7]

/-- The two rounded literals are the words of the numbers they are named for. -/
theorem preserves : Cert.preserves_Kernel_KernelIdeal :=
  ⟨IdealRules.named_const.statement Cert.KernelIdeal.κ "neg_log2e" .f32 0xBFB8AA3B#32 ((-((Real.log 2)⁻¹) : ℝ) : EReal) rfl,
    IdealRules.named_const.statement Cert.KernelIdeal.κ "gelu_cubic" .f32 0x3D122279#32 ((80338380498831 / 2251799813685248 : ℝ) : EReal) rfl⟩

end Cert.Rec.Pair1

end

end
-- ==== Proof.Ffn.Block2.lean ====
module

public import proofs.«01_k».proof.Proof.Gen.Kernel2Ideal.Value
public import Idealize.ShloMosaic.Lib.Pipeline.ValueKit
public import proofs.«01_k».proof.Proof.Ffn.Row

/-! What the last call's body computes of a block of 1024 rows. -/

@[expose] public section

set_option maxRecDepth 16384

noncomputable section

namespace Cert.Kernel2Ideal.Row

open Cert.Kernel2Ideal Cert.Kernel2Ideal.Gen Idealize.ShloMosaic Idealize.ShloMosaic.TcCoe Idealize.SL.Sem
open Cert.Ffn

/-- The gate as the body spells it. -/
theorem gate_eq (z : EReal) (b : BitVec 32) :
    z * Ideal.div 1 (1 + FloatOps.exp2 (F := Ideal) (φ := .f32) (z * (Named.named κ "neg_log2e" b : Ideal .f32))) = silu z :=
  congrArg (fun e => z * Ideal.div 1 (1 + e)) (exp2_neg_log2e z)

/-- The four slabs of a mixer's output side by side: channel `k` is lane `k % 128` of slab `k / 128`. -/
theorem slabs_at (x : Vec Ideal S1x4x1024x128 .f32) (i : Fin 1024) (k : Fin 512) :
    k0_pay3 (View.ld x r0_1) (View.ld x r0_2) (View.ld x r0_3) (View.ld x r0_4) (ix2 i k) = x (ix4 0 ⟨k / 128, by omega⟩ i ⟨k % 128, by omega⟩) := by
  have hk := k.isLt
  pointwise [k0_pay3]
  have e : ∀ (a a' : Fin 4) (b b' : Fin 128), a.val = a'.val → b.val = b'.val → x (ix4 0 a i b) = x (ix4 0 a' i b') := by
    intro a a' b b' ha hb
    obtain rfl := Fin.ext ha
    obtain rfl := Fin.ext hb
    rfl
  by_cases h1 : k.val < 128
  · rw [dif_pos h1]
    exact e _ _ _ _ (by show 0 = k.val / 128; omega) (by show k.val = k.val % 128; omega)
  rw [dif_neg h1]
  by_cases h2 : k.val - 128 < 128
  · rw [dif_pos h2]
    exact e _ _ _ _ (by show 1 = k.val / 128; omega) (by show k.val - 128 = k.val % 128; omega)
  rw [dif_neg h2]
  by_cases h3 : k.val - 128 - 128 < 128
  · rw [dif_pos h3]
    exact e _ _ _ _ (by show 2 = k.val / 128; omega) (by show k.val - 128 - 128 = k.val % 128; omega)
  rw [dif_neg h3]
  exact e _ _ _ _ (by show 3 = k.val / 128; omega) (by show k.val - 128 - 128 - 128 = k.val % 128; omega)

/-- The mixers' norms and the output matrix. -/
theorem mix_at (x : FVec Ideal S1024x1024 .f32) (ya yr : FVec Ideal S1024x512 .f32) (ga : FVec Ideal S1x512 .f32) (gr : Vec Ideal S1x512 .f32) (w : Vec Ideal S1024x1024 .bf16) (i : Fin 1024) (j : Fin 1024) :
    k0_pay7 x ya yr ga (mulf ya ya) gr w (ix2 i j) = mix (fun k => x (ix2 i k)) (fun k => ya (ix2 i k)) (fun k => yr (ix2 i k)) (fun k => ga (ix2 0 k)) (fun k => gr (ix2 0 k)) (fun k j => w (ix2 k j)) j := by
  pointwise [k0_pay7]
  rfl

/-- The feed-forward norm. -/
theorem norm_at (x : FVec Ideal S1024x1024 .f32) (ya yr : FVec Ideal S1024x512 .f32) (ga : FVec Ideal S1x512 .f32) (s : FVec Ideal S1024x512 .f32) (gr : Vec Ideal S1x512 .f32) (w : Vec Ideal S1024x1024 .bf16) (g : Vec Ideal S1x1024 .f32)  (i : Fin 1024) (j : Fin 1024) :
    k0_pay10 (k0_pay8 x ya yr ga s gr w) (k0_pay9 g) (ix2 i j) = rms 0x44800000#32 (fun k => k0_pay7 x ya yr ga s gr w (ix2 i k)) (fun k => g (ix2 0 k)) j := by
  pointwise [k0_pay8, k0_pay9, k0_pay10]
  rfl

/-- The first chunk of 768 hidden units. -/
theorem chunk0_at (u v : FVec Ideal S1024x1024 .f32) (a b : Vec Ideal S1024x768 .bf16) (w : Vec Ideal S768x1024 .bf16) (i : Fin 1024) (j : Fin 1024) :
    k0_pay11 u v a b w (ix2 i j) = ∑ f : Fin 768, hid (fun k => k0_pay10 u v (ix2 i k)) (fun k f => a (ix2 k f)) (fun k f => b (ix2 k f)) f * w (ix2 f j) := by
  pointwise [k0_pay11]
  refine Finset.sum_congr rfl fun f _ => ?_
  exact congrArg (fun z => z * _ * _) (gate_eq _ _)

/-- The second chunk's hidden units. -/
theorem hid1_at (u v : FVec Ideal S1024x1024 .f32) (a b : Vec Ideal S1024x768 .bf16) (i : Fin 1024) (f : Fin 768) :
    k0_pay12 u v a b (ix2 i f) = hid (fun k => k0_pay10 u v (ix2 i k)) (fun k f => a (ix2 k f)) (fun k f => b (ix2 k f)) f := by
  pointwise [k0_pay12]
  exact congrArg (fun z => z * _) (gate_eq _ _)

/-- The first three chunks' sum. -/
theorem sum_at (y : FVec Ideal S1024x1024 .bf16) (s : FVec Ideal S1024x1024 .f32) (h : FVec Ideal S1024x768 .bf16) (w : Vec Ideal S768x1024 .bf16) (a b : Vec Ideal S1024x768 .bf16) (w2 : Vec Ideal S768x1024 .bf16) (i : Fin 1024) (j : Fin 1024) :
    k0_pay13 y s h w a b w2 (ix2 i j) = (s (ix2 i j) + ∑ f : Fin 768, h (ix2 i f) * w (ix2 f j)) + ∑ f : Fin 768, hid (fun k => y (ix2 i k)) (fun k f => a (ix2 k f)) (fun k f => b (ix2 k f)) f * w2 (ix2 f j) := by
  pointwise [k0_pay13]
  refine congrArg ((s (ix2 i j) + ∑ f : Fin 768, h (ix2 i f) * w (ix2 f j) : EReal) + ·) (Finset.sum_congr rfl fun f _ => ?_)
  exact congrArg (fun z => z * _ * _) (gate_eq _ _)

/-- The last chunk's hidden units. -/
theorem hid3_at (y : FVec Ideal S1024x1024 .bf16) (a b : Vec Ideal S1024x512 .bf16) (i : Fin 1024) (f : Fin 512) :
    k0_pay15 y a (ix2 i f) * k0_pay14 y b (ix2 i f) = hid (fun k => y (ix2 i k)) (fun k f => a (ix2 k f)) (fun k f => b (ix2 k f)) f := by
  pointwise [k0_pay14, k0_pay15]
  exact congrArg (fun z => z * _) (gate_eq _ _)

/-- The half-step's end and the final norm. -/
theorem pay1_at (x s : FVec Ideal S1024x1024 .f32) (u h : FVec Ideal S1024x512 .f32) (w : Vec Ideal S512x1024 .bf16) (g : Vec Ideal S1x1024 .f32) (i : Fin 1024) (j : Fin 1024) :
    k0_pay1 x s u h w g (ix2 i j) = rms 0x44800000#32 (fun k => x (ix2 i k) + word 0x3F000000#32 * (s (ix2 i k) + ∑ f : Fin 512, (h (ix2 i f) * u (ix2 i f)) * w (ix2 f k))) (fun k => g (ix2 0 k)) j := by
  pointwise [k0_pay1]
  rfl

end Cert.Kernel2Ideal.Row

end

end
-- ==== Proof.Ffn.Final2.lean ====
module

public import proofs.«01_k».proof.Proof.Ffn.Block2

/-! The array the last call leaves, row by row. -/

@[expose] public section

set_option maxRecDepth 16384

noncomputable section

namespace Cert.Kernel2Ideal.Row

open Cert.Kernel2Ideal Cert.Kernel2Ideal.Gen Idealize.ShloMosaic Idealize.ShloMosaic.TcCoe Idealize.SL.Sem
open Idealize.ShloMosaic.Pipeline (Dat)
open Cert.Ffn

/-- The mixers' row of the blocks. -/
theorem mixv (x : Vec Ideal S1024x1024 .f32) (ya yr : Vec Ideal S1x4x1024x128 .f32) (ga gr : Vec Ideal S1x512 .f32) (w : Vec Ideal S1024x1024 .bf16) (g : Vec Ideal S1x1024 .f32)
    (wi : Vec Ideal S1024x5632 .bf16) (wo : Vec Ideal S2816x1024 .bf16) (gf : Vec Ideal S1x1024 .f32) (i : Fin 1024) (j : Fin 1024) :
    k0_pay7 (k0_pay16 x ya yr ga gr w g wi wo gf) (k0_pay17 x ya yr ga gr w g wi wo gf) (k0_pay18 x ya yr ga gr w g wi wo gf) (k0_pay19 x ya yr ga gr w g wi wo gf) (k0_pay20 x ya yr ga gr w g wi wo gf) gr w (ix2 i j) = mix (fun k => x (ix2 i k)) (fun k => ya (ix4 0 ⟨k / 128, by omega⟩ i ⟨k % 128, by omega⟩)) (fun k => yr (ix4 0 ⟨k / 128, by omega⟩ i ⟨k % 128, by omega⟩))
      (fun k => ga (ix2 0 k)) (fun k => gr (ix2 0 k)) (fun k j => w (ix2 k j)) j := by
  refine (mix_at (k0_pay16 x ya yr ga gr w g wi wo gf) (k0_pay17 x ya yr ga gr w g wi wo gf) (k0_pay18 x ya yr ga gr w g wi wo gf) (k0_pay19 x ya yr ga gr w g wi wo gf) gr w i j).trans ?_
  unfold k0_pay16 k0_pay17 k0_pay18 k0_pay19
  have e : ∀ k : Fin 512, k0_pay4 (View.ld yr r0_1) (View.ld yr r0_2) (View.ld yr r0_3) (View.ld yr r0_4) (ix2 i k) = yr (ix4 0 ⟨k / 128, by omega⟩ i ⟨k % 128, by omega⟩) := fun k => slabs_at yr i k
  simp only [slabs_at, e]
  pointwise [k0_pay2, k0_pay5]

/-- The feed-forward norm of it. -/
theorem normv (x : Vec Ideal S1024x1024 .f32) (ya yr : Vec Ideal S1x4x1024x128 .f32) (ga gr : Vec Ideal S1x512 .f32) (w : Vec Ideal S1024x1024 .bf16) (g : Vec Ideal S1x1024 .f32)
    (wi : Vec Ideal S1024x5632 .bf16) (wo : Vec Ideal S2816x1024 .bf16) (gf : Vec Ideal S1x1024 .f32) (i : Fin 1024) (j : Fin 1024) :
    k0_pay23 x ya yr ga gr w g wi wo gf (ix2 i j) = rms 0x44800000#32 (mix (fun k => x (ix2 i k)) (fun k => ya (ix4 0 ⟨k / 128, by omega⟩ i ⟨k % 128, by omega⟩)) (fun k => yr (ix4 0 ⟨k / 128, by omega⟩ i ⟨k % 128, by omega⟩))
      (fun k => ga (ix2 0 k)) (fun k => gr (ix2 0 k)) (fun k j => w (ix2 k j))) (fun k => g (ix2 0 k)) j := by
  unfold k0_pay23 k0_pay21 k0_pay22
  refine (norm_at _ _ _ _ _ _ _ _ i j).trans ?_
  have z2 : (![0, 0] : Fin 2 → ℕ) = fun _ => 0 := funext fun a => by fin_cases a <;> rfl
  rw [View.ld_unit_zero z2 _ gr, View.ld_unit_zero z2 _ w, View.ld_unit_zero z2 _ g]
  simp only [mixv]

/-- The same, as the first two chunks take it. -/
theorem normv' (x : Vec Ideal S1024x1024 .f32) (ya yr : Vec Ideal S1x4x1024x128 .f32) (ga gr : Vec Ideal S1x512 .f32) (w : Vec Ideal S1024x1024 .bf16) (g : Vec Ideal S1x1024 .f32)
    (wi : Vec Ideal S1024x5632 .bf16) (wo : Vec Ideal S2816x1024 .bf16) (gf : Vec Ideal S1x1024 .f32) (i : Fin 1024) (j : Fin 1024) :
    k0_pay10 (k0_pay21 x ya yr ga gr w g wi wo gf) (k0_pay22 x ya yr ga gr w g wi wo gf) (ix2 i j) = rms 0x44800000#32 (mix (fun k => x (ix2 i k)) (fun k => ya (ix4 0 ⟨k / 128, by omega⟩ i ⟨k % 128, by omega⟩)) (fun k => yr (ix4 0 ⟨k / 128, by omega⟩ i ⟨k % 128, by omega⟩))
      (fun k => ga (ix2 0 k)) (fun k => gr (ix2 0 k)) (fun k j => w (ix2 k j))) (fun k => g (ix2 0 k)) j :=
  normv x ya yr ga gr w g wi wo gf i j

/-- What the body leaves of its blocks, row by row. -/
theorem out_at (x : Vec Ideal S1024x1024 .f32) (ya yr : Vec Ideal S1x4x1024x128 .f32) (ga gr : Vec Ideal S1x512 .f32) (w : Vec Ideal S1024x1024 .bf16) (g : Vec Ideal S1x1024 .f32)
    (wi : Vec Ideal S1024x5632 .bf16) (wo : Vec Ideal S2816x1024 .bf16) (gf : Vec Ideal S1x1024 .f32) (i : Fin 1024) (j : Fin 1024) :
    out0_10 x ya yr ga gr w g wi wo gf (ix2 i j) = last (fun k => x (ix2 i k)) (fun k => ya (ix4 0 ⟨k / 128, by omega⟩ i ⟨k % 128, by omega⟩)) (fun k => yr (ix4 0 ⟨k / 128, by omega⟩ i ⟨k % 128, by omega⟩))
      (fun k => ga (ix2 0 k)) (fun k => gr (ix2 0 k)) (fun k j => w (ix2 k j)) (fun k => g (ix2 0 k))
      (fun k f => wi (ix2 k ⟨f, by omega⟩)) (fun k f => wi (ix2 k ⟨2816 + f, by omega⟩)) (fun f k => wo (ix2 f k)) (fun k => gf (ix2 0 k)) j := by
  frame_out
  rw [pay1_at]
  unfold last
  refine congrArg (fun r => rms _ r _ j) (funext fun k => ?_)
  rw [mixv, sum_at, chunk0_at]
  simp only [hid1_at, hid3_at, normv, normv']
  unfold row
  rw [sum_split4]
  pointwise []
  have e1 : ∀ f : Fin 768, (⟨3584 + f.val, by omega⟩ : Fin 5632) = ⟨2816 + (768 + f.val), by omega⟩ := fun f => Fin.ext (by simp only; omega)
  have e2 : ∀ f : Fin 768, (⟨4352 + f.val, by omega⟩ : Fin 5632) = ⟨2816 + (1536 + f.val), by omega⟩ := fun f => Fin.ext (by simp only; omega)
  have e3 : ∀ f : Fin 512, (⟨5120 + f.val, by omega⟩ : Fin 5632) = ⟨2816 + (2304 + f.val), by omega⟩ := fun f => Fin.ext (by simp only; omega)
  simp only [e1, e2, e3]
  rfl

variable (m : (ℓ : Loc nD τ sig) → Buf (Elt Ideal) ℓ)

/-- The windows' block indices: the row block is the grid point, two of them to a batch; the weights are taken whole. -/
theorem idx : ∀ t : Fin cfg0.N, win0_0.index t = ![t.val, 0] ∧ win0_1.index t = ![t.val / 2, 0, t.val % 2, 0] ∧ win0_2.index t = ![t.val / 2, 0, t.val % 2, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![0, 0] ∧ win0_10.index t = ![t.val, 0] :=
  (by decide +kernel : ∀ t : Fin grid0.N, _)

/-- The result array as a function of the arguments. -/
def G (x : FVec Ideal S16x2048x1024 .f32) (ya yr : FVec Ideal S16x2048x512 .f32) (ga gr : FVec Ideal S512 .f32) (w : FVec Ideal S1024x1024 .f32) (g : FVec Ideal S1024 .f32) (wi : FVec Ideal S1024x5632 .f32) (wo : FVec Ideal S2816x1024 .f32) (gf : FVec Ideal S1024 .f32) : FVec Ideal S32768x1024 .f32 := fun i =>
  last (fun k => x (ix3 ⟨(i 0).val / 2048, by have := (i 0).isLt; change (i 0).val < 32768 at this; omega⟩ ⟨(i 0).val % 2048, by omega⟩ k)) (fun k => ya (ix3 ⟨(i 0).val / 2048, by have := (i 0).isLt; change (i 0).val < 32768 at this; omega⟩ ⟨(i 0).val % 2048, by omega⟩ k)) (fun k => yr (ix3 ⟨(i 0).val / 2048, by have := (i 0).isLt; change (i 0).val < 32768 at this; omega⟩ ⟨(i 0).val % 2048, by omega⟩ k))
      (fun k => ga (ix1 k)) (fun k => gr (ix1 k)) (fun k j => w (ix2 k j)) (fun k => g (ix1 k))
      (fun k f => wi (ix2 k ⟨f, by omega⟩)) (fun k f => wi (ix2 k ⟨2816 + f, by omega⟩)) (fun f k => wo (ix2 f k)) (fun k => gf (ix1 k)) (i 1)

/-- The result array at an index whose coordinates are known. -/
theorem G_at (x : FVec Ideal S16x2048x1024 .f32) (ya yr : FVec Ideal S16x2048x512 .f32) (ga gr : FVec Ideal S512 .f32) (w : FVec Ideal S1024x1024 .f32) (g : FVec Ideal S1024 .f32) (wi : FVec Ideal S1024x5632 .f32) (wo : FVec Ideal S2816x1024 .f32) (gf : FVec Ideal S1024 .f32) (i : S32768x1024.Idx)
    (r : ℕ) (hr : r < 32768) (j : Fin 1024) (h0 : (i 0).val = r) (h1 : (i 1).val = j.val) :
    G x ya yr ga gr w g wi wo gf i = last (fun k => x (ix3 ⟨r / 2048, by omega⟩ ⟨r % 2048, by omega⟩ k)) (fun k => ya (ix3 ⟨r / 2048, by omega⟩ ⟨r % 2048, by omega⟩ k)) (fun k => yr (ix3 ⟨r / 2048, by omega⟩ ⟨r % 2048, by omega⟩ k))
      (fun k => ga (ix1 k)) (fun k => gr (ix1 k)) (fun k j => w (ix2 k j)) (fun k => g (ix1 k))
      (fun k f => wi (ix2 k ⟨f, by omega⟩)) (fun k f => wi (ix2 k ⟨2816 + f, by omega⟩)) (fun f k => wo (ix2 f k)) (fun k => gf (ix1 k)) j := by
  subst h0
  obtain rfl : i 1 = j := Fin.ext h1
  rfl

/-- The grid's points. -/
theorem point_lt (t : Fin cfg0.N) : t.val < 32 := t.isLt

/-- Row `i` of the block of point `t` is row `1024 t + i` of the input, batch and position apart. -/
theorem blk0 (c : Dev nD) (t : Fin cfg0.N) (i k : Fin 1024) : iblk m c 0 t (ix2 i k) = m ((c : Thread nD τ).loc main_arg0) (ix3 ⟨(t.val * 1024 + i.val) / 2048, by have := point_lt t; omega⟩ ⟨(t.val * 1024 + i.val) % 2048, by omega⟩ k) := by
  blk_point [iblk, V, idx t]

/-- The attention's slabs hold its channels. -/
theorem blk1 (c : Dev nD) (t : Fin cfg0.N) (i : Fin 1024) (k : Fin 512) : iblk m c 1 t (ix4 0 ⟨k / 128, by omega⟩ i ⟨k % 128, by omega⟩) = m ((c : Thread nD τ).loc main_arg1) (ix3 ⟨(t.val * 1024 + i.val) / 2048, by have := point_lt t; omega⟩ ⟨(t.val * 1024 + i.val) % 2048, by omega⟩ k) := by
  blk_point [iblk, V, idx t]

/-- The recurrence's slabs hold its channels. -/
theorem blk2 (c : Dev nD) (t : Fin cfg0.N) (i : Fin 1024) (k : Fin 512) : iblk m c 2 t (ix4 0 ⟨k / 128, by omega⟩ i ⟨k % 128, by omega⟩) = m ((c : Thread nD τ).loc main_arg2) (ix3 ⟨(t.val * 1024 + i.val) / 2048, by have := point_lt t; omega⟩ ⟨(t.val * 1024 + i.val) % 2048, by omega⟩ k) := by
  blk_point [iblk, V, idx t]

/-- Argument 3 is taken whole. -/
theorem blk3 (c : Dev nD) (t : Fin cfg0.N) (k : Fin 512) : iblk m c 3 t (ix2 0 k) = m ((c : Thread nD τ).loc main_arg3) (ix1 k) := by
  blk_point [iblk, V, idx t]

/-- Argument 4 is taken whole. -/
theorem blk4 (c : Dev nD) (t : Fin cfg0.N) (k : Fin 512) : iblk m c 4 t (ix2 0 k) = m ((c : Thread nD τ).loc main_arg4) (ix1 k) := by
  blk_point [iblk, V, idx t]

/-- Argument 5 is taken whole. -/
theorem blk5 (c : Dev nD) (t : Fin cfg0.N) (k : Fin 1024) (f : Fin 1024) : iblk m c 5 t (ix2 k f) = m ((c : Thread nD τ).loc main_arg5) (ix2 k f) := by
  blk_point [iblk, V, idx t]

/-- Argument 6 is taken whole. -/
theorem blk6 (c : Dev nD) (t : Fin cfg0.N) (k : Fin 1024) : iblk m c 6 t (ix2 0 k) = m ((c : Thread nD τ).loc main_arg6) (ix1 k) := by
  blk_point [iblk, V, idx t]

/-- Argument 7 is taken whole. -/
theorem blk7 (c : Dev nD) (t : Fin cfg0.N) (k : Fin 1024) (f : Fin 5632) : iblk m c 7 t (ix2 k f) = m ((c : Thread nD τ).loc main_arg7) (ix2 k f) := by
  blk_point [iblk, V, idx t]

/-- Argument 8 is taken whole. -/
theorem blk8 (c : Dev nD) (t : Fin cfg0.N) (k : Fin 2816) (f : Fin 1024) : iblk m c 8 t (ix2 k f) = m ((c : Thread nD τ).loc main_arg8) (ix2 k f) := by
  blk_point [iblk, V, idx t]

/-- Argument 9 is taken whole. -/
theorem blk9 (c : Dev nD) (t : Fin cfg0.N) (k : Fin 1024) : iblk m c 9 t (ix2 0 k) = m ((c : Thread nD τ).loc main_arg9) (ix1 k) := by
  blk_point [iblk, V, idx t]

/-- Where the block of point `t` sits in the result: its row `y 0` at `1024 t + y 0`. -/
theorem emb10 (t : Fin cfg0.N) (y : S1024x1024.Idx) : (((cfg0.win 10).blk t).view.emb y 0).val = t.val * 1024 + (y 0).val ∧ (((cfg0.win 10).blk t).view.emb y 1).val = (y 1).val := by
  constructor <;> blk_simp [idx t]

/-- THE RESULT ARRAY after the run is `G` of the arguments. -/
theorem final (c : Dev nD) : (dats m 0 c).arrAt 10 cfg0.N
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t _ y => ?_
  have hy : (y 0).val < 1024 := (y 0).isLt
  refine Eq.trans ?_ (G_at _ _ _ _ _ _ _ _ _ _ _ (t.val * 1024 + (y 0).val) (by have := point_lt t; omega) (y 1) (emb10 t y).1 (emb10 t y).2).symm
  blk_simp
  rw [after0_10]
  refine (congrArg (out0_10 _ _ _ _ _ _ _ _ _ _) (eq_ix2 y)).trans ?_
  refine Eq.trans (out_at _ _ _ _ _ _ _ _ _ _ (y 0) (y 1)) ?_
  exact last_congr _ (fun k => blk0 m c t (y 0) k) (fun k => blk1 m c t (y 0) k) (fun k => blk2 m c t (y 0) k) (fun k => blk3 m c t k) (fun k => blk4 m c t k)
    (fun k f => blk5 m c t k f) (fun k => blk6 m c t k) (fun k f => blk7 m c t k _) (fun k f => blk7 m c t k _) (fun f k => blk8 m c t f k) (fun k => blk9 m c t k)

end Cert.Kernel2Ideal.Row

end

end
-- ==== Proof.Ffn.Ref2.lean ====
module

public import proofs.«01_k».proof.Proof.Gen.Reference2Ideal.Read
public import Idealize.ShloMosaic.Lib.Pipeline.ValueKit
public import proofs.«01_k».proof.Proof.Ffn.Row

/-! The reference of the last call, row by row. -/

@[expose] public section

set_option maxRecDepth 16384

noncomputable section

namespace Cert.Reference2Ideal.Row

open Cert.Reference2Ideal Cert.Reference2Ideal.Gen Cert.Reference2Ideal.Read Idealize.ShloMosaic Idealize.ShloMosaic.TcCoe Idealize.SL.Sem
open Cert.Ffn

variable (x : FVec Ideal S16x2048x1024 .f32) (ya yr : FVec Ideal S16x2048x512 .f32) (ga gr : FVec Ideal S512 .f32) (w : FVec Ideal S1024x1024 .f32)
  (g : FVec Ideal S1024 .f32) (wi : FVec Ideal S1024x5632 .f32) (wo : FVec Ideal S2816x1024 .f32) (gf : FVec Ideal S1024 .f32)

/-- The normed attention output. -/
theorem normA_at (b : Fin 16) (t : Fin 2048) (j : Fin 512) :
    val_main_v12 (F := Ideal) ya ga (ix3 b t j) = rms 0x44000000#32 (fun k => ya (ix3 b t k)) (fun k => ga (ix1 k)) j := by
  pointwise [val_main_v0, val_main_v1, val_main_v2, val_main_v3, val_main_v4, val_main_v5, val_main_v6, val_main_v7, val_main_v8, val_main_v9, val_main_v10, val_main_v11, val_main_v12, val_main_cst, val_main_cst_0, val_main_cst_1]
  rfl

/-- The normed output of the recurrence. -/
theorem normR_at (b : Fin 16) (t : Fin 2048) (j : Fin 512) :
    val_main_v25 (F := Ideal) yr gr (ix3 b t j) = rms 0x44000000#32 (fun k => yr (ix3 b t k)) (fun k => gr (ix1 k)) j := by
  pointwise [val_main_v13, val_main_v14, val_main_v15, val_main_v16, val_main_v17, val_main_v18, val_main_v19, val_main_v20, val_main_v21, val_main_v22, val_main_v23, val_main_v24, val_main_v25, val_main_cst_2, val_main_cst_3, val_main_cst_4]
  rfl

/-- The row after the mixers. -/
theorem mix_at (b : Fin 16) (t : Fin 2048) (j : Fin 1024) :
    val_main_v28 (F := Ideal) x ya yr ga gr w (ix3 b t j) = mix (fun k => x (ix3 b t k)) (fun k => ya (ix3 b t k)) (fun k => yr (ix3 b t k)) (fun k => ga (ix1 k)) (fun k => gr (ix1 k)) (fun k j => w (ix2 k j)) j := by
  pointwise [val_main_v26, val_main_v27, val_main_v28]
  simp only [normA_at, normR_at]
  rfl

/-- The feed-forward norm. -/
theorem norm_at (b : Fin 16) (t : Fin 2048) (j : Fin 1024) :
    val_main_v41 (F := Ideal) x ya yr ga gr w g (ix3 b t j) = rms 0x44800000#32 (fun k => val_main_v28 (F := Ideal) x ya yr ga gr w (ix3 b t k)) (fun k => g (ix1 k)) j := by
  pointwise [val_main_v29, val_main_v30, val_main_v31, val_main_v32, val_main_v33, val_main_v34, val_main_v35, val_main_v36, val_main_v37, val_main_v38, val_main_v39, val_main_v40, val_main_v41, val_main_cst_5, val_main_cst_6, val_main_cst_7]
  rfl

/-- The hidden row. -/
theorem hid_at (b : Fin 16) (t : Fin 2048) (f : Fin 2816) :
    val_main_v46 (F := Ideal) x ya yr ga gr w g wi (ix3 b t f) = hid (fun k => val_main_v41 (F := Ideal) x ya yr ga gr w g (ix3 b t k)) (fun k f => wi (ix2 k ⟨f, by omega⟩)) (fun k f => wi (ix2 k ⟨2816 + f, by omega⟩)) f := by
  pointwise [val_main_v42, val_main_v43, val_main_v44, val_main_v45, val_main_v46, val_main_call0_v0, val_main_call0_v1, val_main_call0_v2, val_main_call0_v3, val_main_call0_v4, val_main_call0_v5, val_main_call0_cst, val_main_call0_cst_0]
  rfl

/-- The row after the half-step. -/
theorem half_at (b : Fin 16) (t : Fin 2048) (j : Fin 1024) :
    val_main_v50 (F := Ideal) x ya yr ga gr w g wi wo (ix3 b t j) = val_main_v28 (F := Ideal) x ya yr ga gr w (ix3 b t j) +
      word 0x3F000000#32 * ∑ f, val_main_v46 (F := Ideal) x ya yr ga gr w g wi (ix3 b t f) * wo (ix2 f j) := by
  pointwise [val_main_v47, val_main_v48, val_main_v49, val_main_v50, val_main_cst_8]

/-- The result's row `r` (the batch and the position run together): the final norm of the row before it. -/
theorem out_at (r : Fin 32768) (j : Fin 1024) :
    val_main_v64 (F := Ideal) x ya yr ga gr w g wi wo gf (ix2 r j) = rms 0x44800000#32 (fun k => val_main_v50 (F := Ideal) x ya yr ga gr w g wi wo (ix3 ⟨r / 2048, by omega⟩ ⟨r % 2048, by omega⟩ k)) (fun k => gf (ix1 k)) j := by
  pointwise [val_main_v51, val_main_v52, val_main_v53, val_main_v54, val_main_v55, val_main_v56, val_main_v57, val_main_v58, val_main_v59, val_main_v60, val_main_v61, val_main_v62, val_main_v63, val_main_v64, val_main_cst_9, val_main_cst_10, val_main_cst_11]
  rfl

/-- The reference's result is the last call's row of each row of the inputs. -/
theorem result_at (r : Fin 32768) (j : Fin 1024) :
    val_main_v64 (F := Ideal) x ya yr ga gr w g wi wo gf (ix2 r j) = last (fun k => x (ix3 ⟨r / 2048, by omega⟩ ⟨r % 2048, by omega⟩ k)) (fun k => ya (ix3 ⟨r / 2048, by omega⟩ ⟨r % 2048, by omega⟩ k)) (fun k => yr (ix3 ⟨r / 2048, by omega⟩ ⟨r % 2048, by omega⟩ k))
      (fun k => ga (ix1 k)) (fun k => gr (ix1 k)) (fun k j => w (ix2 k j)) (fun k => g (ix1 k))
      (fun k f => wi (ix2 k ⟨f, by omega⟩)) (fun k f => wi (ix2 k ⟨2816 + f, by omega⟩)) (fun f k => wo (ix2 f k)) (fun k => gf (ix1 k)) j := by
  rw [out_at]
  simp only [half_at, hid_at, norm_at, mix_at]
  rfl

end Cert.Reference2Ideal.Row

end

end
-- ==== Proof.Ffn.Pair2.lean ====
module

public import proofs.«01_k».proof.Defs
public import proofs.«01_k».proof.Proof.Gen.Kernel2
public import proofs.«01_k».proof.Proof.Gen.Kernel2Ideal.Value
public import proofs.«01_k».proof.Proof.Gen.Reference2Ideal.Run
public import proofs.«01_k».proof.Proof.Ffn.Final2
public import proofs.«01_k».proof.Proof.Ffn.Ref2

/-! The claims about the pair of call 2: the reference's frame, the named constant, the equality of the results. -/

@[expose] public section

set_option maxRecDepth 16384

noncomputable section

namespace Cert.Ffn.Pair2

open Idealize.ShloMosaic Idealize.SL.Sem

/-- The reference runs, leaves its arguments as they were and has no semaphore. -/
theorem frame_ref : Cert.quiescent_Reference2Ideal (hReference2Ideal := Cert.Reference2Ideal.Gen.facts) := by
  intro m g _
  exact (θ_run (Cert.Reference2Ideal.defs (F := Ideal)) _ _).mono (fun r h => ⟨fun c => (h c).2, sem_eq_zero_of_no_sems (by decide) r.2⟩)
    (Cert.Reference2Ideal.Value.run (F := Ideal) m g)

open Cert.Kernel2Ideal in
/-- The reference's result, as a whole array, is the kernel's. -/
theorem result_eq (x : FVec Ideal S16x2048x1024 .f32) (ya yr : FVec Ideal S16x2048x512 .f32) (ga gr : FVec Ideal S512 .f32) (w : FVec Ideal S1024x1024 .f32)
  (g : FVec Ideal S1024 .f32) (wi : FVec Ideal S1024x5632 .f32) (wo : FVec Ideal S2816x1024 .f32) (gf : FVec Ideal S1024 .f32) :
    Cert.Reference2Ideal.Read.val_main_v64 (F := Ideal) x ya yr ga gr w g wi wo gf = Cert.Kernel2Ideal.Row.G x ya yr ga gr w g wi wo gf := by
  funext i
  exact (congrArg (Cert.Reference2Ideal.Read.val_main_v64 (F := Ideal) x ya yr ga gr w g wi wo gf) (eq_ix2 i)).trans
    (Cert.Reference2Ideal.Row.result_at x ya yr ga gr w g wi wo gf (i 0) (i 1))

/-- The kernel and the reference end with the same array, over the extended reals. -/
theorem algebraic : Cert.algebraic_Kernel2Ideal_Reference2Ideal (hKernel2Ideal := Cert.Kernel2Ideal.Gen.facts) (hReference2Ideal := Cert.Reference2Ideal.Gen.facts) := by
  intro m g m' g' _ hargs
  refine ⟨fun c => Cert.Kernel2Ideal.Row.G (m ((c.tc : Thread _ _).loc Cert.Kernel2Ideal.main_arg0)) (m ((c.tc : Thread _ _).loc Cert.Kernel2Ideal.main_arg1)) (m ((c.tc : Thread _ _).loc Cert.Kernel2Ideal.main_arg2)) (m ((c.tc : Thread _ _).loc Cert.Kernel2Ideal.main_arg3)) (m ((c.tc : Thread _ _).loc Cert.Kernel2Ideal.main_arg4)) (m ((c.tc : Thread _ _).loc Cert.Kernel2Ideal.main_arg5)) (m ((c.tc : Thread _ _).loc Cert.Kernel2Ideal.main_arg6)) (m ((c.tc : Thread _ _).loc Cert.Kernel2Ideal.main_arg7)) (m ((c.tc : Thread _ _).loc Cert.Kernel2Ideal.main_arg8)) (m ((c.tc : Thread _ _).loc Cert.Kernel2Ideal.main_arg9)),
    (θ_run _ _ _).mono (fun r h c => ⟨(h c).1.trans (Cert.Kernel2Ideal.Row.final m c), (h c).2⟩) (Cert.Kernel2Ideal.Value.run_blocks m g), ?_⟩
  refine (θ_run _ _ _).mono (fun r h c => ?_) (Cert.Reference2Ideal.Value.run (F := Ideal) m' g')
  obtain ⟨hv, hr⟩ := h c
  refine ⟨(hv.trans (Cert.Reference2Ideal.Read.val_main_v64_eq m' c)).trans ?_, hr⟩
  obtain ⟨e0, e1, e2, e3, e4, e5, e6, e7, e8, e9⟩ := hargs c
  rw [e0, e1, e2, e3, e4, e5, e6, e7, e8, e9]
  exact result_eq _ _ _ _ _ _ _ _ _ _

/-- The rounded literal is the word of the number it is named for. -/
theorem preserves : Cert.preserves_Kernel2_Kernel2Ideal :=
  IdealRules.named_const.statement Cert.Kernel2Ideal.κ "neg_log2e" .f32 0xBFB8AA3B#32 ((-((Real.log 2)⁻¹) : ℝ) : EReal) rfl

end Cert.Ffn.Pair2

end

end
-- ==== Proof.Ffn.Block3.lean ====
module

public import proofs.«01_k».proof.Proof.Gen.Kernel3Ideal.Value
public import Idealize.ShloMosaic.Lib.Pipeline.ValueKit
public import proofs.«01_k».proof.Proof.Ffn.Row

/-! What the first feed-forward call's body computes of a block of 1024 rows: each row is `Cert.Ffn.row` of it. -/

@[expose] public section

set_option maxRecDepth 16384

noncomputable section

namespace Cert.Kernel3Ideal.Row

open Cert.Kernel3Ideal Cert.Kernel3Ideal.Gen Idealize.ShloMosaic Idealize.ShloMosaic.TcCoe Idealize.SL.Sem
open Cert.Ffn

/-- The named constant is `-1 / log 2`. -/
theorem kappa_eq (b : BitVec 32) : (Named.named κ "neg_log2e" b : Ideal .f32) = ((-((Real.log 2)⁻¹) : ℝ) : EReal) := rfl

/-- The gate as the body spells it. -/
theorem gate_eq (z : EReal) (b : BitVec 32) :
    z * Ideal.div 1 (1 + FloatOps.exp2 (F := Ideal) (φ := .f32) (z * (Named.named κ "neg_log2e" b : Ideal .f32))) = silu z :=
  congrArg (fun e => z * Ideal.div 1 (1 + e)) (exp2_neg_log2e z)

/-- The body's norm of the block, row by row. -/
theorem norm_at (x : Vec Ideal S1024x1024 .f32) (g : Vec Ideal S1x1024 .f32) (i : Fin 1024) (j : Fin 1024) :
    k0_pay3 x g (ix2 i j) = rms 0x44800000#32 (fun k => x (ix2 i k)) (fun k => g (ix2 0 k)) j := by
  pointwise [k0_pay3, k0_pay2]
  rfl

/-- The first chunk of 1536 hidden units. -/
theorem chunk0_at (x : Vec Ideal S1024x1024 .f32) (g : Vec Ideal S1x1024 .f32) (a b : Vec Ideal S1024x1536 .bf16) (w : Vec Ideal S1536x1024 .bf16) (i : Fin 1024) (j : Fin 1024) :
    k0_pay4 x g a b w (ix2 i j) = ∑ f : Fin 1536, hid (fun k => k0_pay3 x g (ix2 i k)) (fun k f => a (ix2 k f)) (fun k f => b (ix2 k f)) f * w (ix2 f j) := by
  pointwise [k0_pay4]
  refine Finset.sum_congr rfl fun f _ => ?_
  exact congrArg (fun z => z * _ * _) (gate_eq _ _)

/-- The whole payload: the row, the first chunk's sum and the second chunk's, halved. -/
theorem pay1_at (x : FVec Ideal S1024x1024 .f32) (y : FVec Ideal S1024x1024 .bf16) (s : FVec Ideal S1024x1024 .f32) (a : FVec Ideal S1024x1280 .bf16) (b : Vec Ideal S1024x1280 .bf16) (w : Vec Ideal S1280x1024 .bf16) (i : Fin 1024) (j : Fin 1024) :
    k0_pay1 x y s a b w (ix2 i j) = x (ix2 i j) + word 0x3F000000#32 * (s (ix2 i j) + ∑ f : Fin 1280, hid (fun k => y (ix2 i k)) (fun k f => a (ix2 k f)) (fun k f => b (ix2 k f)) f * w (ix2 f j)) := by
  pointwise [k0_pay1]
  refine congrArg (fun z => _ + _ * (_ + z)) (Finset.sum_congr rfl fun f _ => ?_)
  exact congrArg (fun z => z * _ * _) (gate_eq _ _)

end Cert.Kernel3Ideal.Row

end

end
-- ==== Proof.Ffn.Final3.lean ====
module

public import proofs.«01_k».proof.Proof.Ffn.Block3

/-! The array the first feed-forward call leaves: row `r` is the feed-forward row of row `r` of the input. -/

@[expose] public section

set_option maxRecDepth 16384

noncomputable section

namespace Cert.Kernel3Ideal.Row

open Cert.Kernel3Ideal Cert.Kernel3Ideal.Gen Idealize.ShloMosaic Idealize.ShloMosaic.TcCoe Idealize.SL.Sem
open Idealize.ShloMosaic.Pipeline (Dat)
open Cert.Ffn

/-- What the body leaves of its blocks: the feed-forward row of each of its rows. -/
theorem out_at (x : Vec Ideal S1024x1024 .f32) (g : Vec Ideal S1x1024 .f32) (wi : Vec Ideal S1024x5632 .bf16) (wo : Vec Ideal S2816x1024 .bf16) (i : Fin 1024) (j : Fin 1024) :
    out0_4 x g wi wo (ix2 i j) = row 0x44800000#32 (fun k => x (ix2 i k)) (fun k => g (ix2 0 k))
      (fun k f => wi (ix2 k ⟨f, by omega⟩)) (fun k f => wi (ix2 k ⟨2816 + f, by omega⟩)) (fun (f : Fin 2816) k => wo (ix2 f k)) j := by
  frame_out
  rw [pay1_at, chunk0_at]
  unfold row
  rw [sum_split]
  simp only [norm_at]
  pointwise [k0_pay2, k0_pay5]
  have e : ∀ f : Fin 1280, (⟨4352 + f.val, by omega⟩ : Fin 5632) = ⟨2816 + (1536 + f.val), by omega⟩ := fun f => Fin.ext (by simp only; omega)
  simp only [e]
  rfl

variable (m : (ℓ : Loc nD τ sig) → Buf (Elt Ideal) ℓ)

/-- The windows' block indices: the row block is the grid point, the weights are taken whole. -/
theorem idx : ∀ t : Fin cfg0.N, win0_0.index t = ![t.val, 0] ∧ win0_1.index t = ![0, 0] ∧ win0_2.index t = ![0, 0] ∧ win0_3.index t = ![0, 0] ∧ win0_4.index t = ![t.val, 0] :=
  (by decide +kernel : ∀ t : Fin grid0.N, _)

/-- The result array as a function of the arguments. -/
def G (x : FVec Ideal S16x2048x1024 .f32) (g : FVec Ideal S1024 .f32) (wi : FVec Ideal S1024x5632 .f32) (wo : FVec Ideal S2816x1024 .f32) : FVec Ideal S32768x1024 .f32 := fun i =>
  row 0x44800000#32 (fun k => x (ix3 ⟨(i 0).val / 2048, by have := (i 0).isLt; change (i 0).val < 32768 at this; omega⟩ ⟨(i 0).val % 2048, by omega⟩ k)) (fun k => g (ix1 k))
      (fun k f => wi (ix2 k ⟨f, by omega⟩)) (fun k f => wi (ix2 k ⟨2816 + f, by omega⟩)) (fun (f : Fin 2816) k => wo (ix2 f k)) (i 1)

/-- The result array at an index whose coordinates are known. -/
theorem G_at (x : FVec Ideal S16x2048x1024 .f32) (g : FVec Ideal S1024 .f32) (wi : FVec Ideal S1024x5632 .f32) (wo : FVec Ideal S2816x1024 .f32) (i : S32768x1024.Idx)
    (r : ℕ) (hr : r < 32768) (j : Fin 1024) (h0 : (i 0).val = r) (h1 : (i 1).val = j.val) :
    G x g wi wo i = row 0x44800000#32 (fun k => x (ix3 ⟨r / 2048, by omega⟩ ⟨r % 2048, by omega⟩ k)) (fun k => g (ix1 k))
      (fun k f => wi (ix2 k ⟨f, by omega⟩)) (fun k f => wi (ix2 k ⟨2816 + f, by omega⟩)) (fun (f : Fin 2816) k => wo (ix2 f k)) j := by
  subst h0
  obtain rfl : i 1 = j := Fin.ext h1
  rfl

/-- The grid's points. -/
theorem point_lt (t : Fin cfg0.N) : t.val < 32 := t.isLt

/-- Row `i` of the block of point `t` is row `1024 t + i` of the input, batch and position apart. -/
theorem blk0 (c : Dev nD) (t : Fin cfg0.N) (i k : Fin 1024) : iblk m c 0 t (ix2 i k) = m ((c : Thread nD τ).loc main_arg0) (ix3 ⟨(t.val * 1024 + i.val) / 2048, by have := point_lt t; omega⟩ ⟨(t.val * 1024 + i.val) % 2048, by omega⟩ k) := by
  blk_point [iblk, V, idx t]

/-- The norm's weights are taken whole. -/
theorem blk1 (c : Dev nD) (t : Fin cfg0.N) (k : Fin 1024) : iblk m c 1 t (ix2 0 k) = m ((c : Thread nD τ).loc main_arg1) (ix1 k) := by
  blk_point [iblk, V, idx t]

/-- The first weight matrix is taken whole. -/
theorem blk2 (c : Dev nD) (t : Fin cfg0.N) (k : Fin 1024) (f : Fin 5632) : iblk m c 2 t (ix2 k f) = m ((c : Thread nD τ).loc main_arg2) (ix2 k f) := by
  blk_point [iblk, V, idx t]

/-- The second weight matrix is taken whole. -/
theorem blk3 (c : Dev nD) (t : Fin cfg0.N) (k : Fin 2816) (f : Fin 1024) : iblk m c 3 t (ix2 k f) = m ((c : Thread nD τ).loc main_arg3) (ix2 k f) := by
  blk_point [iblk, V, idx t]

/-- Where the block of point `t` sits in the result: its row `y 0` at `1024 t + y 0`. -/
theorem emb4 (t : Fin cfg0.N) (y : S1024x1024.Idx) : (((cfg0.win 4).blk t).view.emb y 0).val = t.val * 1024 + (y 0).val ∧ (((cfg0.win 4).blk t).view.emb y 1).val = (y 1).val := by
  constructor <;> blk_simp [idx t]

/-- THE RESULT ARRAY after the run is `G` of the arguments. -/
theorem final (c : Dev nD) : (dats m 0 c).arrAt 4 cfg0.N
    = G (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  have hy : (y 0).val < 1024 := (y 0).isLt
  refine Eq.trans ?_ (G_at _ _ _ _ _ (t.val * 1024 + (y 0).val) (by have := point_lt t; omega) (y 1) (emb4 t y).1 (emb4 t y).2).symm
  blk_simp
  rw [after0_4]
  refine (congrArg (out0_4 _ _ _ _) (eq_ix2 y)).trans ?_
  refine Eq.trans (out_at _ _ _ _ (y 0) (y 1)) ?_
  exact row_congr _ _ (fun k => blk0 m c t (y 0) k) (fun k => blk1 m c t k) (fun k f => blk2 m c t k _) (fun k f => blk2 m c t k _) (fun f k => blk3 m c t f k)

end Cert.Kernel3Ideal.Row

end

end
-- ==== Proof.Ffn.Ref3.lean ====
module

public import proofs.«01_k».proof.Proof.Gen.Reference3Ideal.Read
public import Idealize.ShloMosaic.Lib.Pipeline.ValueKit
public import proofs.«01_k».proof.Proof.Ffn.Row

/-! The reference of the first feed-forward half-step, row by row. -/

@[expose] public section

set_option maxRecDepth 16384

noncomputable section

namespace Cert.Reference3Ideal.Row

open Cert.Reference3Ideal Cert.Reference3Ideal.Gen Cert.Reference3Ideal.Read Idealize.ShloMosaic Idealize.ShloMosaic.TcCoe Idealize.SL.Sem
open Cert.Ffn

variable (x : FVec Ideal S16x2048x1024 .f32) (g : FVec Ideal S1024 .f32) (wi : FVec Ideal S1024x5632 .f32) (wo : FVec Ideal S2816x1024 .f32)

/-- The normed row. -/
theorem norm_at (b : Fin 16) (t : Fin 2048) (j : Fin 1024) :
    val_main_v12 (F := Ideal) x g (ix3 b t j) = rms 0x44800000#32 (fun k => x (ix3 b t k)) (fun k => g (ix1 k)) j := by
  pointwise [val_main_v0, val_main_v1, val_main_v2, val_main_v3, val_main_v4, val_main_v5, val_main_v6, val_main_v7, val_main_v8, val_main_v9, val_main_v10, val_main_v11, val_main_v12, val_main_cst, val_main_cst_0, val_main_cst_1]
  rfl

/-- The hidden row. -/
theorem hid_at (b : Fin 16) (t : Fin 2048) (f : Fin 2816) :
    val_main_v17 (F := Ideal) x g wi (ix3 b t f) = hid (fun k => val_main_v12 (F := Ideal) x g (ix3 b t k)) (fun k f => wi (ix2 k ⟨f, by omega⟩)) (fun k f => wi (ix2 k ⟨2816 + f, by omega⟩)) f := by
  pointwise [val_main_v13, val_main_v14, val_main_v15, val_main_v16, val_main_v17, val_main_call0_v0, val_main_call0_v1, val_main_call0_v2, val_main_call0_v3, val_main_call0_v4, val_main_call0_v5, val_main_call0_cst, val_main_call0_cst_0]
  rfl

/-- The result's row `r` (the batch and the position run together) from the hidden row. -/
theorem out_at (r : Fin 32768) (j : Fin 1024) :
    val_main_v22 (F := Ideal) x g wi wo (ix2 r j) = x (ix3 ⟨r / 2048, by omega⟩ ⟨r % 2048, by omega⟩ j) +
      word 0x3F000000#32 * ∑ f, val_main_v17 (F := Ideal) x g wi (ix3 ⟨r / 2048, by omega⟩ ⟨r % 2048, by omega⟩ f) * wo (ix2 f j) := by
  pointwise [val_main_v18, val_main_v19, val_main_v20, val_main_v21, val_main_v22, val_main_cst_2]
/-- The reference's result is the feed-forward row of each row of `x`. -/
theorem result_at (r : Fin 32768) (j : Fin 1024) :
    val_main_v22 (F := Ideal) x g wi wo (ix2 r j) = row 0x44800000#32 (fun k => x (ix3 ⟨r / 2048, by omega⟩ ⟨r % 2048, by omega⟩ k)) (fun k => g (ix1 k))
      (fun k f => wi (ix2 k ⟨f, by omega⟩)) (fun k f => wi (ix2 k ⟨2816 + f, by omega⟩)) (fun (f : Fin 2816) k => wo (ix2 f k)) j := by
  rw [out_at]
  simp only [hid_at, norm_at]
  rfl

end Cert.Reference3Ideal.Row

end

end
-- ==== Proof.Ffn.Pair3.lean ====
module

public import proofs.«01_k».proof.Defs
public import proofs.«01_k».proof.Proof.Gen.Kernel3
public import proofs.«01_k».proof.Proof.Gen.Kernel3Ideal.Value
public import proofs.«01_k».proof.Proof.Gen.Reference3Ideal.Run
public import proofs.«01_k».proof.Proof.Ffn.Final3
public import proofs.«01_k».proof.Proof.Ffn.Ref3

/-! The claims about the pair of call 3: the reference's frame, the named constant, the equality of the results. -/

@[expose] public section

set_option maxRecDepth 16384

noncomputable section

namespace Cert.Ffn.Pair3

open Idealize.ShloMosaic Idealize.SL.Sem

/-- The reference runs, leaves its arguments as they were and has no semaphore. -/
theorem frame_ref : Cert.quiescent_Reference3Ideal (hReference3Ideal := Cert.Reference3Ideal.Gen.facts) := by
  intro m g _
  exact (θ_run (Cert.Reference3Ideal.defs (F := Ideal)) _ _).mono (fun r h => ⟨fun c => (h c).2, sem_eq_zero_of_no_sems (by decide) r.2⟩)
    (Cert.Reference3Ideal.Value.run (F := Ideal) m g)

open Cert.Kernel3Ideal in
/-- The reference's result, as a whole array, is the kernel's. -/
theorem result_eq (x : FVec Ideal S16x2048x1024 .f32) (g : FVec Ideal S1024 .f32) (wi : FVec Ideal S1024x5632 .f32) (wo : FVec Ideal S2816x1024 .f32) :
    Cert.Reference3Ideal.Read.val_main_v22 (F := Ideal) x g wi wo = Cert.Kernel3Ideal.Row.G x g wi wo := by
  funext i
  exact (congrArg (Cert.Reference3Ideal.Read.val_main_v22 (F := Ideal) x g wi wo) (eq_ix2 i)).trans
    (Cert.Reference3Ideal.Row.result_at x g wi wo (i 0) (i 1))

/-- The kernel and the reference end with the same array, over the extended reals. -/
theorem algebraic : Cert.algebraic_Kernel3Ideal_Reference3Ideal (hKernel3Ideal := Cert.Kernel3Ideal.Gen.facts) (hReference3Ideal := Cert.Reference3Ideal.Gen.facts) := by
  intro m g m' g' _ hargs
  refine ⟨fun c => Cert.Kernel3Ideal.Row.G (m ((c.tc : Thread _ _).loc Cert.Kernel3Ideal.main_arg0)) (m ((c.tc : Thread _ _).loc Cert.Kernel3Ideal.main_arg1)) (m ((c.tc : Thread _ _).loc Cert.Kernel3Ideal.main_arg2)) (m ((c.tc : Thread _ _).loc Cert.Kernel3Ideal.main_arg3)),
    (θ_run _ _ _).mono (fun r h c => ⟨(h c).1.trans (Cert.Kernel3Ideal.Row.final m c), (h c).2⟩) (Cert.Kernel3Ideal.Value.run_blocks m g), ?_⟩
  refine (θ_run _ _ _).mono (fun r h c => ?_) (Cert.Reference3Ideal.Value.run (F := Ideal) m' g')
  obtain ⟨hv, hr⟩ := h c
  refine ⟨hv.trans ?_, hr⟩
  obtain ⟨e0, e1, e2, e3⟩ := hargs c
  rw [e0, e1, e2, e3]
  exact (Cert.Reference3Ideal.Read.val_main_v22_eq (F := Ideal) _ _ _ _).trans (result_eq _ _ _ _)

/-- The rounded literal is the word of the number it is named for. -/
theorem preserves : Cert.preserves_Kernel3_Kernel3Ideal :=
  IdealRules.named_const.statement Cert.Kernel3Ideal.κ "neg_log2e" .f32 0xBFB8AA3B#32 ((-((Real.log 2)⁻¹) : ℝ) : EReal) rfl

end Cert.Ffn.Pair3

end

end
-- ==== Proof.Proj.Spec.lean ====
module

public import proofs.«01_k».proof.Proof.Ffn.Row

/-! The slabs the input projection leaves of one position, from that position's projected row: four of queries and four
of keys, turned by the position's angles and split by the halves of the heads, then twelve taken as they are. -/

@[expose] public section

set_option maxRecDepth 16384

noncomputable section

namespace Cert.Proj

open Idealize.ShloMosaic Cert.Ffn

variable (p : Fin 2560 → EReal) (C S : Fin 32 → EReal)

/-- The column of the first half of head `4 q + l / 32`, queries first and keys after them. -/
def lo (q : Fin 4) (l : Fin 128) : Fin 2560 := ⟨256 * q.val + 64 * (l.val / 32) + l.val % 32, by omega⟩

/-- The column of the second half of that head. -/
def hi (q : Fin 4) (l : Fin 128) : Fin 2560 := ⟨256 * q.val + 64 * (l.val / 32) + 32 + l.val % 32, by omega⟩

/-- The place of a lane in its half head. -/
def lane (l : Fin 128) : Fin 32 := ⟨l.val % 32, by omega⟩

/-- The first half of a head after the turn. -/
def turnLo (q : Fin 4) (l : Fin 128) : EReal := p (lo q l) * C (lane l) - p (hi q l) * S (lane l)

/-- The second half of a head after the turn. -/
def turnHi (q : Fin 4) (l : Fin 128) : EReal := p (hi q l) * C (lane l) + p (lo q l) * S (lane l)

/-- The attention's scale, with the factor that turns `exp2` into the exponential. -/
def scale : EReal := (((8 * Real.log 2)⁻¹ : ℝ) : EReal)

/-- Lane `l` of slab `j`. -/
def value (j : Fin 20) (l : Fin 128) : EReal :=
  match j with
  | 0 => turnLo p C S 0 l * scale
  | 1 => turnHi p C S 0 l * scale
  | 2 => turnLo p C S 1 l * scale
  | 3 => turnHi p C S 1 l * scale
  | 4 => turnLo p C S 2 l
  | 5 => turnHi p C S 2 l
  | 6 => turnLo p C S 3 l
  | 7 => turnHi p C S 3 l
  | j => p ⟨128 * j.val + l.val, by omega⟩

/-- The projected row of a position. -/
def proj (x g : Fin 1024 → EReal) (w : Fin 1024 → Fin 2560 → EReal) (f : Fin 2560) : EReal :=
  ∑ k : Fin 1024, rms 0x44800000#32 x g k * w k f

theorem proj_congr {x x' g g' : Fin 1024 → EReal} (hx : ∀ k, x k = x' k) (hg : ∀ k, g k = g' k) {w w' : Fin 1024 → Fin 2560 → EReal} {f f' : Fin 2560}
    (hw : ∀ k, w k f = w' k f') : proj x g w f = proj x' g' w' f' := by
  obtain rfl := funext hx
  obtain rfl := funext hg
  exact Finset.sum_congr rfl fun k _ => congrArg _ (hw k)

end Cert.Proj

end

end
-- ==== Proof.Proj.Block.lean ====
module

public import proofs.«01_k».proof.Proof.Gen.Kernel4Ideal.Value
public import Idealize.ShloMosaic.Lib.Pipeline.ValueKit
public import proofs.«01_k».proof.Proof.Proj.Spec

/-! What the projection call's body computes of a block of 1024 rows. -/

@[expose] public section

set_option maxRecDepth 16384
set_option maxHeartbeats 400000

noncomputable section

namespace Cert.Kernel4Ideal.Proj

open Cert.Kernel4Ideal Cert.Kernel4Ideal.Gen Idealize.ShloMosaic Idealize.ShloMosaic.TcCoe Idealize.SL.Sem
open Cert.Ffn Cert.Proj

variable (x : Vec Ideal S1024x1024 .f32) (g : Vec Ideal S1x1024 .f32) (w : Vec Ideal S1024x2560 .bf16) (c s : Vec Ideal S1024x128 .f32)

/-- The projected row. -/
theorem proj_at (i : Fin 1024) (f : Fin 2560) :
    k0_pay4 x g w (ix2 i f) = ∑ k : Fin 1024, rms 0x44800000#32 (fun k => x (ix2 i k)) (fun k => g (ix2 0 k)) k * w (ix2 k f) := by
  pointwise [k0_pay4]
  rfl

theorem whole : k0_pay34 x g w c s = k0_pay4 x g w := by
  funext y
  obtain ⟨i, f, rfl⟩ : ∃ i f, y = ix2 i f := ⟨y 0, y 1, eq_ix2 y⟩
  rw [proj_at]
  pointwise [k0_pay34, k0_pay4]
  rfl

/-- The slabs of a block: four of the rotated and scaled queries, four of the rotated keys, twelve plain. -/
def slab (Q : FVec Ideal S1024x2560 .f32) (c s : Vec Ideal S1024x128 .f32) (j : Fin 20) (i : Fin 1024) (l : Fin 128) : EReal :=
  match j with
  | 0 => (Q (ix2 i ⟨l.val, by omega⟩) * c (ix2 i l) - Q (ix2 i ⟨128 + l.val, by omega⟩) * s (ix2 i l)) * scale
  | 1 => (Q (ix2 i ⟨128 + l.val, by omega⟩) * c (ix2 i l) + Q (ix2 i ⟨l.val, by omega⟩) * s (ix2 i l)) * scale
  | 2 => (Q (ix2 i ⟨256 + l.val, by omega⟩) * c (ix2 i l) - Q (ix2 i ⟨384 + l.val, by omega⟩) * s (ix2 i l)) * scale
  | 3 => (Q (ix2 i ⟨384 + l.val, by omega⟩) * c (ix2 i l) + Q (ix2 i ⟨256 + l.val, by omega⟩) * s (ix2 i l)) * scale
  | 4 => Q (ix2 i ⟨512 + l.val, by omega⟩) * c (ix2 i l) - Q (ix2 i ⟨640 + l.val, by omega⟩) * s (ix2 i l)
  | 5 => Q (ix2 i ⟨640 + l.val, by omega⟩) * c (ix2 i l) + Q (ix2 i ⟨512 + l.val, by omega⟩) * s (ix2 i l)
  | 6 => Q (ix2 i ⟨768 + l.val, by omega⟩) * c (ix2 i l) - Q (ix2 i ⟨896 + l.val, by omega⟩) * s (ix2 i l)
  | 7 => Q (ix2 i ⟨896 + l.val, by omega⟩) * c (ix2 i l) + Q (ix2 i ⟨768 + l.val, by omega⟩) * s (ix2 i l)
  | j => Q (ix2 i ⟨128 * j.val + l.val, by omega⟩)

variable (Q : FVec Ideal S1024x2560 .f32) (i : Fin 1024) (l : Fin 128)

theorem slab_19 : k0_pay3 Q (ix4 0 0 i l) = slab Q c s 19 i l := by
  pointwise [k0_pay3]
  rfl

theorem slab_18 : k0_pay2 Q (ix4 0 0 i l) = slab Q c s 18 i l := by
  pointwise [k0_pay2]
  rfl

theorem slab_17 : k0_pay1 (k0_pay33 Q) (ix4 0 0 i l) = slab Q c s 17 i l := by
  pointwise [k0_pay1, k0_pay33]
  rfl

theorem slab_16 : k0_pay32 Q (ix4 0 0 i l) = slab Q c s 16 i l := by
  pointwise [k0_pay32]
  rfl

theorem slab_15 : k0_pay31 Q (ix4 0 0 i l) = slab Q c s 15 i l := by
  pointwise [k0_pay31]
  rfl

theorem slab_14 : k0_pay30 Q (ix4 0 0 i l) = slab Q c s 14 i l := by
  pointwise [k0_pay30]
  rfl

theorem slab_13 : k0_pay29 Q (ix4 0 0 i l) = slab Q c s 13 i l := by
  pointwise [k0_pay29]
  rfl

theorem slab_12 : k0_pay28 Q (ix4 0 0 i l) = slab Q c s 12 i l := by
  pointwise [k0_pay28]
  rfl

theorem slab_11 : k0_pay27 Q (ix4 0 0 i l) = slab Q c s 11 i l := by
  pointwise [k0_pay27]
  rfl

theorem slab_10 : k0_pay26 (k0_pay25 Q) (ix4 0 0 i l) = slab Q c s 10 i l := by
  pointwise [k0_pay26, k0_pay25]
  rfl

theorem slab_9 : k0_pay24 Q (ix4 0 0 i l) = slab Q c s 9 i l := by
  pointwise [k0_pay24]
  rfl

theorem slab_8 : k0_pay23 Q (ix4 0 0 i l) = slab Q c s 8 i l := by
  pointwise [k0_pay23]
  rfl

theorem slab_7 : k0_pay22 Q c s (ix4 0 0 i l) = slab Q c s 7 i l := by
  pointwise [k0_pay22, k0_pay19, k0_pay20]
  rfl

theorem slab_6 : k0_pay21 Q c s (ix4 0 0 i l) = slab Q c s 6 i l := by
  pointwise [k0_pay21, k0_pay19, k0_pay20]
  rfl

theorem slab_5 : k0_pay18 (k0_pay17 Q c s) (ix4 0 0 i l) = slab Q c s 5 i l := by
  pointwise [k0_pay18, k0_pay17, k0_pay14, k0_pay15]
  rfl

theorem slab_4 : k0_pay16 Q c s (ix4 0 0 i l) = slab Q c s 4 i l := by
  pointwise [k0_pay16, k0_pay14, k0_pay15]
  rfl

theorem slab_3 : k0_pay13 Q c s (ix4 0 0 i l) = slab Q c s 3 i l := by
  pointwise [k0_pay13, k0_pay10, k0_pay11]
  rfl

theorem slab_2 : k0_pay12 Q c s (ix4 0 0 i l) = slab Q c s 2 i l := by
  pointwise [k0_pay12, k0_pay10, k0_pay11]
  rfl

theorem slab_1 : k0_pay9 (k0_pay8 x g w c s) (ix4 0 0 i l) = slab (k0_pay4 x g w) c s 1 i l := by
  pointwise [k0_pay9, k0_pay8, k0_pay5, k0_pay6]
  rfl

theorem slab_0 : k0_pay7 x g w c s (ix4 0 0 i l) = slab (k0_pay4 x g w) c s 0 i l := by
  pointwise [k0_pay7, k0_pay5, k0_pay6]
  rfl

theorem out_at (j : Fin 20) (i : Fin 1024) (l : Fin 128) : out0_5 x g w c s (ix4 0 j i l) = slab (k0_pay4 x g w) c s j i l := by
  frame_out
  generalize e : k0_pay34 x g w c s = Q
  obtain rfl : k0_pay4 x g w = Q := (whole x g w c s).symm.trans e
  canon_tiles a h
  all_goals obtain rfl : a = ix4 0 0 i l := (eq_ix4 a).trans (congr (congr (congrArg₂ ix4 (Subsingleton.elim _ _) (Subsingleton.elim _ _)) (Fin.ext h2.symm)) (Fin.ext h3.symm))
  case piece0 =>
    obtain rfl : j = 19 := Fin.ext h1
    exact slab_19 _ _ _ _ _
  case piece1 =>
    obtain rfl : j = 18 := Fin.ext h1
    exact slab_18 _ _ _ _ _
  case piece2 =>
    obtain rfl : j = 17 := Fin.ext h1
    exact slab_17 _ _ _ _ _
  case piece3 =>
    obtain rfl : j = 16 := Fin.ext h1
    exact slab_16 _ _ _ _ _
  case piece4 =>
    obtain rfl : j = 15 := Fin.ext h1
    exact slab_15 _ _ _ _ _
  case piece5 =>
    obtain rfl : j = 14 := Fin.ext h1
    exact slab_14 _ _ _ _ _
  case piece6 =>
    obtain rfl : j = 13 := Fin.ext h1
    exact slab_13 _ _ _ _ _
  case piece7 =>
    obtain rfl : j = 12 := Fin.ext h1
    exact slab_12 _ _ _ _ _
  case piece8 =>
    obtain rfl : j = 11 := Fin.ext h1
    exact slab_11 _ _ _ _ _
  case piece9 =>
    obtain rfl : j = 10 := Fin.ext h1
    exact slab_10 _ _ _ _ _
  case piece10 =>
    obtain rfl : j = 9 := Fin.ext h1
    exact slab_9 _ _ _ _ _
  case piece11 =>
    obtain rfl : j = 8 := Fin.ext h1
    exact slab_8 _ _ _ _ _
  case piece12 =>
    obtain rfl : j = 7 := Fin.ext h1
    exact slab_7 _ _ _ _ _
  case piece13 =>
    obtain rfl : j = 6 := Fin.ext h1
    exact slab_6 _ _ _ _ _
  case piece14 =>
    obtain rfl : j = 5 := Fin.ext h1
    exact slab_5 _ _ _ _ _
  case piece15 =>
    obtain rfl : j = 4 := Fin.ext h1
    exact slab_4 _ _ _ _ _
  case piece16 =>
    obtain rfl : j = 3 := Fin.ext h1
    exact slab_3 _ _ _ _ _
  case piece17 =>
    obtain rfl : j = 2 := Fin.ext h1
    exact slab_2 _ _ _ _ _
  case piece18 =>
    obtain rfl : j = 1 := Fin.ext h1
    exact slab_1 _ _ _ _ _ _ _
  case piece19 =>
    obtain rfl : j = 0 := Fin.ext h1
    exact slab_0 _ _ _ _ _ _ _

end Cert.Kernel4Ideal.Proj

end

end
-- ==== Proof.Proj.Weights.lean ====
module

public import proofs.«01_k».proof.Proof.Proj.Block
public import proofs.«01_k».proof.Proof.Proj.Spec
public import Idealize.ShloMosaic.Lib.StableHlo.RunRead

/-! The projection's weights as the host lays them out: the columns of queries and of keys sorted by halves of heads. -/

@[expose] public section

set_option maxRecDepth 16384
set_option maxHeartbeats 400000

noncomputable section

namespace Cert.Kernel4Ideal.Proj

open Cert.Kernel4Ideal Cert.Kernel4Ideal.Gen Idealize.ShloMosaic Idealize.ShloMosaic.TcCoe Idealize.SL.Sem
open Cert.Ffn Cert.Proj

/-- The columns of one group of eight heads, sorted by halves. -/
def sorted (u : FVec Ideal S1024x512 .bf16) : FVec Ideal S1024x512 .bf16 :=
  shapeCast S1024x512 (transpose S1024x2x2x4x32 [0, 1, 3, 2, 4] (shapeCast S1024x2x4x2x32 u shapeCasts_S1024x512_S1024x2x4x2x32) transposes_S1024x2x4x2x32_S1024x2x2x4x32_0_1_3_2_4) shapeCasts_S1024x2x2x4x32_S1024x512

theorem sorted_at (u : FVec Ideal S1024x512 .bf16) (k : Fin 1024) (f : Fin 512) :
    sorted u (ix2 k f) = u (ix2 k ⟨256 * (f.val / 256) + 64 * ((f.val % 128) / 32) + 32 * (f.val % 256 / 128) + f.val % 32, by omega⟩) := by
  pointwise [sorted]
  refine congrArg u (congrArg (ix2 k) (Fin.ext ?_))
  simp only
  omega

/-- All the columns. -/
def arranged (w : FVec Ideal S1024x2560 .bf16) : FVec Ideal S1024x2560 .bf16 :=
  concatenate S1024x2560 1
    [⟨S1024x512, sorted (extractStridedSlice S1024x512 ![0, 0] w slices_S1024x2560_S1024x512_0_0)⟩,
     ⟨S1024x512, sorted (extractStridedSlice S1024x512 ![0, 512] w slices_S1024x2560_S1024x512_0_512)⟩,
     ⟨S1024x1536, extractStridedSlice S1024x1536 ![0, 1024] w slices_S1024x2560_S1024x1536_0_1024⟩]
    concatenates_S1024x512_S1024x512_S1024x1536_S1024x2560_d1

theorem arranged_at (w : FVec Ideal S1024x2560 .bf16) (k : Fin 1024) (f : Fin 2560) :
    arranged w (ix2 k f) = if h : f.val < 512 then sorted (extractStridedSlice S1024x512 ![0, 0] w slices_S1024x2560_S1024x512_0_0) (ix2 k ⟨f.val, h⟩)
      else if h' : f.val - 512 < 512 then sorted (extractStridedSlice S1024x512 ![0, 512] w slices_S1024x2560_S1024x512_0_512) (ix2 k ⟨f.val - 512, h'⟩)
      else w (ix2 k f) := by
  unfold arranged
  generalize sorted (extractStridedSlice S1024x512 ![0, 0] w slices_S1024x2560_S1024x512_0_0) = A
  generalize sorted (extractStridedSlice S1024x512 ![0, 512] w slices_S1024x2560_S1024x512_0_512) = B
  pointwise
  by_cases h : f.val < 512
  · refine (dif_pos h).trans (Eq.trans ?_ (dif_pos h).symm)
    rfl
  refine (dif_neg h).trans (Eq.trans ?_ (dif_neg h).symm)
  by_cases h' : f.val - 512 < 512
  · refine (dif_pos h').trans (Eq.trans ?_ (dif_pos h').symm)
    rfl
  refine (dif_neg h').trans (Eq.trans ?_ (dif_neg h').symm)
  exact congrArg w (congrArg (ix2 k) (Fin.ext (by simp only; omega)))

/-- The columns of queries and keys, from the sorted place. -/
theorem arranged_head (w : FVec Ideal S1024x2560 .bf16) (k : Fin 1024) (f : Fin 2560) (hf : f.val < 1024) :
    arranged w (ix2 k f) = w (ix2 k ⟨256 * (f.val / 256) + 64 * ((f.val % 128) / 32) + 32 * (f.val % 256 / 128) + f.val % 32, by omega⟩) := by
  rw [arranged_at]
  by_cases h : f.val < 512
  · refine (dif_pos h).trans ((sorted_at _ k _).trans ?_)
    pointwise
  · refine (dif_neg h).trans ((dif_pos (by omega)).trans ((sorted_at _ k _).trans ?_))
    pointwise
    exact congrArg w (congrArg (ix2 k) (Fin.ext (by simp only; omega)))

theorem arranged_lo (w : FVec Ideal S1024x2560 .bf16) (k : Fin 1024) (q : Fin 4) (l : Fin 128) (f : Fin 2560) (hf : f.val = 256 * q.val + l.val) :
    arranged w (ix2 k f) = w (ix2 k (lo q l)) := by
  refine (arranged_head w k f (by omega)).trans (congrArg w (congrArg (ix2 k) (Fin.ext ?_)))
  show 256 * (f.val / 256) + 64 * ((f.val % 128) / 32) + 32 * (f.val % 256 / 128) + f.val % 32 = 256 * q.val + 64 * (l.val / 32) + l.val % 32
  omega

theorem arranged_hi (w : FVec Ideal S1024x2560 .bf16) (k : Fin 1024) (q : Fin 4) (l : Fin 128) (f : Fin 2560) (hf : f.val = 256 * q.val + 128 + l.val) :
    arranged w (ix2 k f) = w (ix2 k (hi q l)) := by
  refine (arranged_head w k f (by omega)).trans (congrArg w (congrArg (ix2 k) (Fin.ext ?_)))
  show 256 * (f.val / 256) + 64 * ((f.val % 128) / 32) + 32 * (f.val % 256 / 128) + f.val % 32 = 256 * q.val + 64 * (l.val / 32) + 32 + l.val % 32
  omega

theorem arranged_rest (w : FVec Ideal S1024x2560 .bf16) (k : Fin 1024) (f : Fin 2560) (hf : 1024 ≤ f.val) :
    arranged w (ix2 k f) = w (ix2 k f) :=
  (arranged_at w k f).trans ((dif_neg (by omega)).trans (dif_neg (by omega)))

variable (m : (ℓ : Loc nD τ sig) → Buf (Elt Ideal) ℓ)

theorem V_w (c : Dev nD) : V m c main_v10 = (arranged (truncf (F := Ideal) .bf16 (m ((c : Thread nD τ).loc main_arg2)) bitsLt_bf16_f32) : FVec Ideal S1024x2560 .bf16) := by
  unfold V
  simp only [hostOps0]
  after_reads_simp
  rfl

end Cert.Kernel4Ideal.Proj

end

end
-- ==== Proof.Proj.Final.lean ====
module

public import proofs.«01_k».proof.Proof.Proj.Weights

/-! The array the input projection leaves, as a function of its arguments. -/

@[expose] public section

set_option maxRecDepth 16384
set_option maxHeartbeats 400000

noncomputable section

namespace Cert.Kernel4Ideal.Proj

open Cert.Kernel4Ideal Cert.Kernel4Ideal.Gen Idealize.ShloMosaic Idealize.ShloMosaic.TcCoe Idealize.SL.Sem
open Idealize.ShloMosaic.Pipeline (Dat)
open Cert.Ffn Cert.Proj

variable (m : (ℓ : Loc nD τ sig) → Buf (Elt Ideal) ℓ)

/-- A block's slabs are the slabs of its rows, when the block's columns are the sorted ones. -/
theorem slab_eq (Q : FVec Ideal S1024x2560 .f32) (c s : Vec Ideal S1024x128 .f32) (i : Fin 1024) (l : Fin 128)
    (p : Fin 2560 → EReal) (C S : Fin 32 → EReal)
    (hlo : ∀ (q : Fin 4) (f : Fin 2560), f.val = 256 * q.val + l.val → Q (ix2 i f) = p (lo q l))
    (hhi : ∀ (q : Fin 4) (f : Fin 2560), f.val = 256 * q.val + 128 + l.val → Q (ix2 i f) = p (hi q l))
    (hid : ∀ f : Fin 2560, 1024 ≤ f.val → Q (ix2 i f) = p f)
    (hc : c (ix2 i l) = C (lane l)) (hs : s (ix2 i l) = S (lane l)) (j : Fin 20) :
    slab Q c s j i l = value p C S j l :=
  match j with
  | 0 => congrArg (· * scale) (congrArg₂ (· - ·) (congrArg₂ (· * ·) (hlo 0 _ (by simp <;> omega)) hc) (congrArg₂ (· * ·) (hhi 0 _ (by simp <;> omega)) hs))
  | 1 => congrArg (· * scale) (congrArg₂ (· + ·) (congrArg₂ (· * ·) (hhi 0 _ (by simp <;> omega)) hc) (congrArg₂ (· * ·) (hlo 0 _ (by simp <;> omega)) hs))
  | 2 => congrArg (· * scale) (congrArg₂ (· - ·) (congrArg₂ (· * ·) (hlo 1 _ (by simp <;> omega)) hc) (congrArg₂ (· * ·) (hhi 1 _ (by simp <;> omega)) hs))
  | 3 => congrArg (· * scale) (congrArg₂ (· + ·) (congrArg₂ (· * ·) (hhi 1 _ (by simp <;> omega)) hc) (congrArg₂ (· * ·) (hlo 1 _ (by simp <;> omega)) hs))
  | 4 => congrArg₂ (· - ·) (congrArg₂ (· * ·) (hlo 2 _ (by simp <;> omega)) hc) (congrArg₂ (· * ·) (hhi 2 _ (by simp <;> omega)) hs)
  | 5 => congrArg₂ (· + ·) (congrArg₂ (· * ·) (hhi 2 _ (by simp <;> omega)) hc) (congrArg₂ (· * ·) (hlo 2 _ (by simp <;> omega)) hs)
  | 6 => congrArg₂ (· - ·) (congrArg₂ (· * ·) (hlo 3 _ (by simp <;> omega)) hc) (congrArg₂ (· * ·) (hhi 3 _ (by simp <;> omega)) hs)
  | 7 => congrArg₂ (· + ·) (congrArg₂ (· * ·) (hhi 3 _ (by simp <;> omega)) hc) (congrArg₂ (· * ·) (hlo 3 _ (by simp <;> omega)) hs)
  | 8 => hid _ (by simp <;> omega)
  | 9 => hid _ (by simp <;> omega)
  | 10 => hid _ (by simp <;> omega)
  | 11 => hid _ (by simp <;> omega)
  | 12 => hid _ (by simp <;> omega)
  | 13 => hid _ (by simp <;> omega)
  | 14 => hid _ (by simp <;> omega)
  | 15 => hid _ (by simp <;> omega)
  | 16 => hid _ (by simp <;> omega)
  | 17 => hid _ (by simp <;> omega)
  | 18 => hid _ (by simp <;> omega)
  | 19 => hid _ (by simp <;> omega)
  | ⟨n + 20, h⟩ => absurd h (by omega)

/-- The windows' block indices. -/
theorem idx : ∀ t : Fin cfg0.N, win0_0.index t = ![t.val, 0] ∧ win0_1.index t = ![0, 0] ∧ win0_2.index t = ![0, 0] ∧ win0_3.index t = ![t.val % 2, 0] ∧ win0_4.index t = ![t.val % 2, 0] ∧ win0_5.index t = ![t.val / 2, 0, t.val % 2, 0] :=
  (by decide +kernel : ∀ t : Fin grid0.N, _)

/-- The result array as a function of the arguments. -/
def G (x : FVec Ideal S16x2048x1024 .f32) (g : FVec Ideal S1024 .f32) (w : FVec Ideal S1024x2560 .f32) (C S : FVec Ideal S2048x32 .f32) : FVec Ideal S16x20x2048x128 .f32 := fun y =>
  value (proj (fun k => x (ix3 (y 0) (y 2) k)) (fun k => g (ix1 k)) (fun k f => w (ix2 k f))) (fun f => C (ix2 (y 2) f)) (fun f => S (ix2 (y 2) f)) (y 1) (y 3)

/-- The result array at an index whose coordinates are known. -/
theorem G_at (x : FVec Ideal S16x2048x1024 .f32) (g : FVec Ideal S1024 .f32) (w : FVec Ideal S1024x2560 .f32) (C S : FVec Ideal S2048x32 .f32) (y : S16x20x2048x128.Idx)
    (b : Fin 16) (j : Fin 20) (n : Fin 2048) (l : Fin 128) (h0 : (y 0).val = b.val) (h1 : (y 1).val = j.val) (h2 : (y 2).val = n.val) (h3 : (y 3).val = l.val) :
    G x g w C S y = value (proj (fun k => x (ix3 b n k)) (fun k => g (ix1 k)) (fun k f => w (ix2 k f))) (fun f => C (ix2 n f)) (fun f => S (ix2 n f)) j l := by
  obtain rfl : y 0 = b := Fin.ext h0
  obtain rfl : y 1 = j := Fin.ext h1
  obtain rfl : y 2 = n := Fin.ext h2
  obtain rfl : y 3 = l := Fin.ext h3
  rfl

/-- The grid's points. -/
theorem point_lt (t : Fin cfg0.N) : t.val < 32 := t.isLt

/-- The batch of a point. -/
def batch (t : Fin cfg0.N) : Fin 16 := ⟨t.val / 2, by have := point_lt t; omega⟩

/-- The position of row `i` of a point's block. -/
def pos (t : Fin cfg0.N) (i : Fin 1024) : Fin 2048 := ⟨t.val % 2 * 1024 + i.val, by omega⟩

theorem blk0 (c : Dev nD) (t : Fin cfg0.N) (i k : Fin 1024) : iblk m c 0 t (ix2 i k) = m ((c : Thread nD τ).loc main_arg0) (ix3 (batch t) (pos t i) k) := by
  have e0 : batch t = ⟨(t.val * 1024 + i.val) / 2048, by have := point_lt t; omega⟩ := Fin.ext (by show t.val / 2 = _; simp only; omega)
  have e1 : pos t i = ⟨(t.val * 1024 + i.val) % 2048, by omega⟩ := Fin.ext (by show t.val % 2 * 1024 + i.val = _; simp only; omega)
  rw [e0, e1]
  blk_point [iblk, V, idx t]

theorem blk1 (c : Dev nD) (t : Fin cfg0.N) (k : Fin 1024) : iblk m c 1 t (ix2 0 k) = m ((c : Thread nD τ).loc main_arg1) (ix1 k) := by
  blk_point [iblk, V, idx t]

theorem blk2 (c : Dev nD) (t : Fin cfg0.N) (k : Fin 1024) (f : Fin 2560) : iblk m c 2 t (ix2 k f) = arranged (truncf (F := Ideal) .bf16 (m ((c : Thread nD τ).loc main_arg2)) bitsLt_bf16_f32) (ix2 k f) := by
  have h := congrFun (V_w m c) (ix2 k f)
  refine Eq.trans ?_ h
  unfold iblk
  show V m c main_v10 ((win0_2.blk t).view.emb (ix2 k f)) = V m c main_v10 (ix2 k f)
  generalize V m c main_v10 = Z
  refine congrArg Z (funext fun a => Fin.ext ?_)
  fin_cases a
  · show ((win0_2.blk t).view.emb (ix2 k f) 0).val = k.val
    blk_simp [idx t]
  · show ((win0_2.blk t).view.emb (ix2 k f) 1).val = f.val
    blk_simp [idx t]

theorem blk3 (c : Dev nD) (t : Fin cfg0.N) (i : Fin 1024) (l : Fin 128) : iblk m c 3 t (ix2 i l) = m ((c : Thread nD τ).loc main_arg3) (ix2 (pos t i) (lane l)) := by
  unfold pos lane
  blk_point [iblk, V, idx t]

theorem blk4 (c : Dev nD) (t : Fin cfg0.N) (i : Fin 1024) (l : Fin 128) : iblk m c 4 t (ix2 i l) = m ((c : Thread nD τ).loc main_arg4) (ix2 (pos t i) (lane l)) := by
  unfold pos lane
  blk_point [iblk, V, idx t]

/-- Where the block of a point sits in the result. -/
theorem emb5 (t : Fin cfg0.N) (j : Fin 20) (i : Fin 1024) (l : Fin 128) :
    (((cfg0.win 5).blk t).view.emb (ix4 0 j i l) 0).val = (batch t).val ∧ (((cfg0.win 5).blk t).view.emb (ix4 0 j i l) 1).val = j.val
    ∧ (((cfg0.win 5).blk t).view.emb (ix4 0 j i l) 2).val = (pos t i).val ∧ (((cfg0.win 5).blk t).view.emb (ix4 0 j i l) 3).val = l.val := by
  unfold batch pos
  refine ⟨?_, ?_, ?_, ?_⟩
  · blk_simp [idx t]
    exact Nat.add_zero _
  · blk_simp [idx t]
  · blk_simp [idx t]
  · blk_simp [idx t]

/-- THE RESULT ARRAY after the run is `G` of the arguments. -/
theorem final (c : Dev nD) : (dats m 0 c).arrAt 5 cfg0.N
    = G (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  obtain ⟨j, i, l, rfl⟩ : ∃ (j : Fin 20) (i : Fin 1024) (l : Fin 128), y = ix4 0 j i l :=
    ⟨y 1, y 2, y 3, (eq_ix4 y).trans (congrArg (fun a => ix4 a (y 1) (y 2) (y 3)) (Subsingleton.elim _ _))⟩
  refine Eq.trans ?_ (G_at _ _ _ _ _ _ (batch t) j (pos t i) l (emb5 t j i l).1 (emb5 t j i l).2.1 (emb5 t j i l).2.2.1 (emb5 t j i l).2.2.2).symm
  blk_simp
  rw [after0_5]
  refine Eq.trans (out_at _ _ _ _ _ j i l) ?_
  refine slab_eq _ _ _ i l _ _ _ (fun q f hf => ?_) (fun q f hf => ?_) (fun f hf => ?_) (blk3 m c t i l) (blk4 m c t i l) j
  · exact (proj_at _ _ _ i f).trans (proj_congr (fun k => blk0 m c t i k) (fun k => blk1 m c t k) (w := fun k f => iblk m c 2 t (ix2 k f)) (fun k => (blk2 m c t k f).trans (arranged_lo _ k q l f hf)))
  · exact (proj_at _ _ _ i f).trans (proj_congr (fun k => blk0 m c t i k) (fun k => blk1 m c t k) (w := fun k f => iblk m c 2 t (ix2 k f)) (fun k => (blk2 m c t k f).trans (arranged_hi _ k q l f hf)))
  · exact (proj_at _ _ _ i f).trans (proj_congr (fun k => blk0 m c t i k) (fun k => blk1 m c t k) (w := fun k f => iblk m c 2 t (ix2 k f)) (fun k => (blk2 m c t k f).trans (arranged_rest _ k f hf)))

end Cert.Kernel4Ideal.Proj

end

end
-- ==== Proof.Proj.Ref.lean ====
module

public import proofs.«01_k».proof.Proof.Gen.Reference4Ideal.Read
public import Idealize.ShloMosaic.Lib.Pipeline.ValueKit
public import proofs.«01_k».proof.Proof.Proj.Spec

/-! The reference of the input projection, slab by slab. -/

@[expose] public section

set_option maxRecDepth 16384
set_option maxHeartbeats 400000

noncomputable section

namespace Cert.Reference4Ideal.Proj

open Cert.Reference4Ideal Cert.Reference4Ideal.Gen Cert.Reference4Ideal.Read Idealize.ShloMosaic Idealize.ShloMosaic.TcCoe Idealize.SL.Sem
open Cert.Ffn Cert.Proj

variable (x : FVec Ideal S16x2048x1024 .f32) (g : FVec Ideal S1024 .f32) (w : FVec Ideal S1024x2560 .f32) (C S : FVec Ideal S2048x32 .f32)

/-- The normed row. -/
theorem norm_at (b : Fin 16) (n : Fin 2048) (j : Fin 1024) :
    val_main_v12 (F := Ideal) x g (ix3 b n j) = rms 0x44800000#32 (fun k => x (ix3 b n k)) (fun k => g (ix1 k)) j := by
  pointwise [val_main_v0, val_main_v1, val_main_v2, val_main_v3, val_main_v4, val_main_v5, val_main_v6, val_main_v7, val_main_v8, val_main_v9, val_main_v10, val_main_v11, val_main_v12, val_main_cst, val_main_cst_0, val_main_cst_1]
  rfl

/-- The projected row. -/
theorem proj_at (b : Fin 16) (n : Fin 2048) (f : Fin 2560) :
    val_main_v13 (F := Ideal) x g w (ix3 b n f) = proj (fun k => x (ix3 b n k)) (fun k => g (ix1 k)) (fun k f => w (ix2 k f)) f := by
  have h : val_main_v13 (F := Ideal) x g w (ix3 b n f) = ∑ k : Fin 1024, val_main_v12 (F := Ideal) x g (ix3 b n k) * w (ix2 k f) := by
    pointwise [val_main_v13]
  rw [h]
  simp only [norm_at]
  rfl

/-- The halves of the heads, brought together. -/
def halves (Z : FVec Ideal S16x2048x8x64 .f32) : FVec Ideal S16x4x2048x128 .f32 :=
  shapeCast S16x4x2048x128 (transpose S16x2x2x2048x4x32 [0, 2, 4, 1, 3, 5] (shapeCast S16x2048x2x4x2x32 Z shapeCasts_S16x2048x8x64_S16x2048x2x4x2x32) transposes_S16x2048x2x4x2x32_S16x2x2x2048x4x32_0_2_4_1_3_5) shapeCasts_S16x2x2x2048x4x32_S16x4x2048x128

theorem halves_at (Z : FVec Ideal S16x2048x8x64 .f32) (b : Fin 16) (j : Fin 4) (n : Fin 2048) (l : Fin 128) :
    halves Z (ix4 b j n l) = Z (ix4 b n ⟨4 * (j.val / 2) + l.val / 32, by omega⟩ ⟨32 * (j.val % 2) + l.val % 32, by omega⟩) := by
  pointwise [halves]
  exact congrArg Z (congrArg₂ (ix4 b n) (Fin.ext (by simp only; omega)) (Fin.ext (by simp only; omega)))

/-- A head after its turn, place by place. -/
def turned (p : Fin 2560 → EReal) (C S : Fin 32 → EReal) (o : ℕ) (ho : o ≤ 512) (h : Fin 8) (d : Fin 64) : EReal :=
  if hd : d.val < 32 then
    p ⟨o + (h.val * 64 + d.val), by omega⟩ * C ⟨d.val, hd⟩ - p ⟨o + (h.val * 64 + (32 + d.val)), by omega⟩ * S ⟨d.val, hd⟩
  else
    p ⟨o + (h.val * 64 + (32 + (d.val - 32))), by omega⟩ * C ⟨d.val - 32, by omega⟩ + p ⟨o + (h.val * 64 + (d.val - 32)), by omega⟩ * S ⟨d.val - 32, by omega⟩

theorem turned_lo (p : Fin 2560 → EReal) (C S : Fin 32 → EReal) (o : ℕ) (ho : o ≤ 512) (q : Fin 4) (l : Fin 128) (h : Fin 8) (d : Fin 64)
    (hh : o + 64 * h.val = 256 * q.val + 64 * (l.val / 32)) (hd : d.val = l.val % 32) : turned p C S o ho h d = turnLo p C S q l := by
  refine (dif_pos (by omega)).trans ?_
  exact congrArg₂ (· - ·)
    (congrArg₂ (· * ·) (congrArg p (Fin.ext (by show o + (h.val * 64 + d.val) = 256 * q.val + 64 * (l.val / 32) + l.val % 32; omega))) (congrArg C (Fin.ext hd)))
    (congrArg₂ (· * ·) (congrArg p (Fin.ext (by show o + (h.val * 64 + (32 + d.val)) = 256 * q.val + 64 * (l.val / 32) + 32 + l.val % 32; omega))) (congrArg S (Fin.ext hd)))

theorem turned_hi (p : Fin 2560 → EReal) (C S : Fin 32 → EReal) (o : ℕ) (ho : o ≤ 512) (q : Fin 4) (l : Fin 128) (h : Fin 8) (d : Fin 64)
    (hh : o + 64 * h.val = 256 * q.val + 64 * (l.val / 32)) (hd : d.val = 32 + l.val % 32) : turned p C S o ho h d = turnHi p C S q l := by
  have e : d.val - 32 = l.val % 32 := by omega
  refine (dif_neg (by omega)).trans ?_
  exact congrArg₂ (· + ·)
    (congrArg₂ (· * ·) (congrArg p (Fin.ext (by show o + (h.val * 64 + (32 + (d.val - 32))) = 256 * q.val + 64 * (l.val / 32) + 32 + l.val % 32; omega))) (congrArg C (Fin.ext e)))
    (congrArg₂ (· * ·) (congrArg p (Fin.ext (by show o + (h.val * 64 + (d.val - 32)) = 256 * q.val + 64 * (l.val / 32) + l.val % 32; omega))) (congrArg S (Fin.ext e)))

theorem word_two : word 0x40000000#32 = ((2 : ℝ) : EReal) := by
  show Ideal.ofBits .f32 _ = _
  simp [Ideal.ofBits, Ideal.ieee, -EReal.coe_mul, -EReal.coe_neg]; norm_num

theorem word_eight : word 0x41000000#32 = ((8 : ℝ) : EReal) := by
  show Ideal.ofBits .f32 _ = _
  simp [Ideal.ofBits, Ideal.ieee, -EReal.coe_mul, -EReal.coe_neg]; norm_num

/-- The queries' scale, as the reference computes it. -/
theorem scale_at (i : S16x2048x8x64.Idx) : val_main_v34 (F := Ideal) i = scale := by
  unfold scale
  pointwise [val_main_v31, val_main_v32, val_main_v33, val_main_v34, val_main_cst_2, val_main_cst_3, val_main_cst_4]
  have hpos : (0 : ℝ) < Real.log 2 := Real.log_pos (by norm_num)
  have hlog : Ideal.log (word 0x40000000#32) = ((Real.log 2 : ℝ) : EReal) := by
    rw [word_two, Ideal.log_coe, if_neg (by norm_num)]
  refine (congrArg (Ideal.div 1) (congrArg₂ (· * ·) word_eight hlog)).trans ?_
  show Ideal.div 1 (((8 : ℝ) : EReal) * ((Real.log 2 : ℝ) : EReal)) = _
  rw [← EReal.coe_mul, Ideal.div_coe (by positivity), one_mul, one_div]

/-- The queries, turned and scaled. -/
theorem q_at (b : Fin 16) (n : Fin 2048) (h : Fin 8) (d : Fin 64) :
    val_main_v35 (F := Ideal) x g w C S (ix4 b n h d) = turned (fun f => val_main_v13 (F := Ideal) x g w (ix3 b n f)) (fun f => C (ix2 n f)) (fun f => S (ix2 n f)) 0 (by omega) h d * scale := by
  unfold turned
  rw [← scale_at (ix4 b n h d)]
  pointwise [val_main_v14, val_main_v15, val_main_v16, val_main_v17, val_main_v18, val_main_v19, val_main_v20, val_main_v21, val_main_v22, val_main_v23, val_main_v24, val_main_v25, val_main_v26, val_main_v27, val_main_v28, val_main_v29, val_main_v30, val_main_v35]

/-- The keys, turned. -/
theorem k_at (b : Fin 16) (n : Fin 2048) (h : Fin 8) (d : Fin 64) :
    val_main_v52 (F := Ideal) x g w C S (ix4 b n h d) = turned (fun f => val_main_v13 (F := Ideal) x g w (ix3 b n f)) (fun f => C (ix2 n f)) (fun f => S (ix2 n f)) 512 (by omega) h d := by
  unfold turned
  pointwise [val_main_v36, val_main_v37, val_main_v38, val_main_v39, val_main_v40, val_main_v41, val_main_v42, val_main_v43, val_main_v44, val_main_v45, val_main_v46, val_main_v47, val_main_v48, val_main_v49, val_main_v50, val_main_v51, val_main_v52]

/-- The rest. -/
theorem rest_at (b : Fin 16) (n : Fin 2048) (j : Fin 12) (l : Fin 128) :
    val_main_v55 (F := Ideal) x g w (ix4 b j n l) = val_main_v13 (F := Ideal) x g w (ix3 b n ⟨1024 + (128 * j.val + l.val), by omega⟩) := by
  pointwise [val_main_v53, val_main_v54, val_main_v55]
  exact congrArg (val_main_v13 (F := Ideal) x g w) (congrArg (ix3 b n) (Fin.ext (by simp only; omega)))

/-- The three parts, one after another. -/
theorem all_at (b : Fin 16) (n : Fin 2048) (j : Fin 20) (l : Fin 128) :
    val_main_v62 (F := Ideal) x g w C S (ix4 b j n l) = if h : j.val < 4 then val_main_v58 (F := Ideal) x g w C S (ix4 b ⟨j.val, h⟩ n l)
      else if h' : j.val - 4 < 4 then val_main_v61 (F := Ideal) x g w C S (ix4 b ⟨j.val - 4, h'⟩ n l)
      else val_main_v55 (F := Ideal) x g w (ix4 b ⟨j.val - 4 - 4, by omega⟩ n l) := by
  unfold val_main_v62
  generalize val_main_v58 (F := Ideal) x g w C S = P
  generalize val_main_v61 (F := Ideal) x g w C S = R
  generalize val_main_v55 (F := Ideal) x g w = T
  pointwise

/-- A slab of queries. -/
theorem q_slab (b : Fin 16) (n : Fin 2048) (j : Fin 20) (l : Fin 128) (hj : j.val < 4) :
    val_main_v62 (F := Ideal) x g w C S (ix4 b j n l) = turned (fun f => val_main_v13 (F := Ideal) x g w (ix3 b n f)) (fun f => C (ix2 n f)) (fun f => S (ix2 n f)) 0 (by omega)
      ⟨4 * (j.val / 2) + l.val / 32, by omega⟩ ⟨32 * (j.val % 2) + l.val % 32, by omega⟩ * scale :=
  (all_at x g w C S b n j l).trans ((dif_pos hj).trans ((halves_at (val_main_v35 (F := Ideal) x g w C S) b ⟨j.val, hj⟩ n l).trans (q_at x g w C S b n _ _)))

/-- A slab of keys. -/
theorem k_slab (b : Fin 16) (n : Fin 2048) (j : Fin 20) (l : Fin 128) (hj : 4 ≤ j.val) (hj' : j.val - 4 < 4) :
    val_main_v62 (F := Ideal) x g w C S (ix4 b j n l) = turned (fun f => val_main_v13 (F := Ideal) x g w (ix3 b n f)) (fun f => C (ix2 n f)) (fun f => S (ix2 n f)) 512 (by omega)
      ⟨4 * ((j.val - 4) / 2) + l.val / 32, by omega⟩ ⟨32 * ((j.val - 4) % 2) + l.val % 32, by omega⟩ :=
  (all_at x g w C S b n j l).trans ((dif_neg (by omega)).trans ((dif_pos hj').trans ((halves_at (val_main_v52 (F := Ideal) x g w C S) b ⟨j.val - 4, hj'⟩ n l).trans (k_at x g w C S b n _ _))))

/-- A slab of the rest. -/
theorem rest_slab (b : Fin 16) (n : Fin 2048) (j : Fin 20) (l : Fin 128) (hj : 8 ≤ j.val) :
    val_main_v62 (F := Ideal) x g w C S (ix4 b j n l) = val_main_v13 (F := Ideal) x g w (ix3 b n ⟨128 * j.val + l.val, by omega⟩) := by
  refine (all_at x g w C S b n j l).trans ((dif_neg (by omega)).trans ((dif_neg (by omega)).trans ((rest_at x g w b n _ l).trans ?_)))
  exact congrArg (val_main_v13 (F := Ideal) x g w) (congrArg (ix3 b n) (Fin.ext (by simp only; omega)))

/-- The slabs from the projected rows. -/
theorem slab_at (b : Fin 16) (n : Fin 2048) (l : Fin 128) (j : Fin 20) :
    val_main_v62 (F := Ideal) x g w C S (ix4 b j n l) = value (fun f => val_main_v13 (F := Ideal) x g w (ix3 b n f)) (fun f => C (ix2 n f)) (fun f => S (ix2 n f)) j l :=
  match j with
  | 0 => (q_slab x g w C S b n 0 l (by decide)).trans (congrArg (· * scale) (turned_lo _ _ _ 0 _ 0 l _ _ (by simp <;> omega) (by simp)))
  | 1 => (q_slab x g w C S b n 1 l (by decide)).trans (congrArg (· * scale) (turned_hi _ _ _ 0 _ 0 l _ _ (by simp <;> omega) (by simp)))
  | 2 => (q_slab x g w C S b n 2 l (by decide)).trans (congrArg (· * scale) (turned_lo _ _ _ 0 _ 1 l _ _ (by simp <;> omega) (by simp)))
  | 3 => (q_slab x g w C S b n 3 l (by decide)).trans (congrArg (· * scale) (turned_hi _ _ _ 0 _ 1 l _ _ (by simp <;> omega) (by simp)))
  | 4 => (k_slab x g w C S b n 4 l (by decide) (by decide)).trans (turned_lo _ _ _ 512 _ 2 l _ _ (by simp <;> omega) (by simp))
  | 5 => (k_slab x g w C S b n 5 l (by decide) (by decide)).trans (turned_hi _ _ _ 512 _ 2 l _ _ (by simp <;> omega) (by simp))
  | 6 => (k_slab x g w C S b n 6 l (by decide) (by decide)).trans (turned_lo _ _ _ 512 _ 3 l _ _ (by simp <;> omega) (by simp))
  | 7 => (k_slab x g w C S b n 7 l (by decide) (by decide)).trans (turned_hi _ _ _ 512 _ 3 l _ _ (by simp <;> omega) (by simp))
  | 8 => rest_slab x g w C S b n 8 l (by decide)
  | 9 => rest_slab x g w C S b n 9 l (by decide)
  | 10 => rest_slab x g w C S b n 10 l (by decide)
  | 11 => rest_slab x g w C S b n 11 l (by decide)
  | 12 => rest_slab x g w C S b n 12 l (by decide)
  | 13 => rest_slab x g w C S b n 13 l (by decide)
  | 14 => rest_slab x g w C S b n 14 l (by decide)
  | 15 => rest_slab x g w C S b n 15 l (by decide)
  | 16 => rest_slab x g w C S b n 16 l (by decide)
  | 17 => rest_slab x g w C S b n 17 l (by decide)
  | 18 => rest_slab x g w C S b n 18 l (by decide)
  | 19 => rest_slab x g w C S b n 19 l (by decide)
  | ⟨n + 20, h⟩ => absurd h (by omega)

/-- The reference's result. -/
theorem result_at (b : Fin 16) (n : Fin 2048) (j : Fin 20) (l : Fin 128) :
    val_main_v62 (F := Ideal) x g w C S (ix4 b j n l) = value (proj (fun k => x (ix3 b n k)) (fun k => g (ix1 k)) (fun k f => w (ix2 k f))) (fun f => C (ix2 n f)) (fun f => S (ix2 n f)) j l := by
  refine (slab_at x g w C S b n l j).trans ?_
  have e : (fun f => val_main_v13 (F := Ideal) x g w (ix3 b n f)) = proj (fun k => x (ix3 b n k)) (fun k => g (ix1 k)) (fun k f => w (ix2 k f)) := funext fun f => proj_at x g w b n f
  exact congrArg (fun p => value p (fun f => C (ix2 n f)) (fun f => S (ix2 n f)) j l) e

end Cert.Reference4Ideal.Proj

end

end
-- ==== Proof.Proj.Pair.lean ====
module

public import proofs.«01_k».proof.Defs
public import proofs.«01_k».proof.Proof.Gen.Kernel4
public import proofs.«01_k».proof.Proof.Gen.Kernel4Ideal.Value
public import proofs.«01_k».proof.Proof.Gen.Reference4Ideal.Run
public import proofs.«01_k».proof.Proof.Proj.Final
public import proofs.«01_k».proof.Proof.Proj.Ref

/-! The claims about the pair of the input projection: the reference's frame, the equality of the results. -/

@[expose] public section

set_option maxRecDepth 16384

noncomputable section

namespace Cert.Proj.Pair

open Idealize.ShloMosaic Idealize.SL.Sem

/-- The reference runs, leaves its arguments as they were and has no semaphore. -/
theorem frame_ref : Cert.quiescent_Reference4Ideal (hReference4Ideal := Cert.Reference4Ideal.Gen.facts) := by
  intro m g _
  exact (θ_run (Cert.Reference4Ideal.defs (F := Ideal)) _ _).mono (fun r h => ⟨fun c => (h c).2, sem_eq_zero_of_no_sems (by decide) r.2⟩)
    (Cert.Reference4Ideal.Value.run (F := Ideal) m g)

open Cert.Kernel4Ideal in
/-- The reference's result, as a whole array, is the kernel's. -/
theorem result_eq (x : FVec Ideal S16x2048x1024 .f32) (g : FVec Ideal S1024 .f32) (w : FVec Ideal S1024x2560 .f32) (C S : FVec Ideal S2048x32 .f32) :
    Cert.Reference4Ideal.Read.val_main_v62 (F := Ideal) x g w C S = Cert.Kernel4Ideal.Proj.G x g w C S := by
  funext i
  exact (congrArg (Cert.Reference4Ideal.Read.val_main_v62 (F := Ideal) x g w C S) (eq_ix4 i)).trans
    (Cert.Reference4Ideal.Proj.result_at x g w C S (i 0) (i 2) (i 1) (i 3))

/-- The kernel and the reference end with the same array, over the extended reals. -/
theorem algebraic : Cert.algebraic_Kernel4Ideal_Reference4Ideal (hKernel4Ideal := Cert.Kernel4Ideal.Gen.facts) (hReference4Ideal := Cert.Reference4Ideal.Gen.facts) := by
  intro m g m' g' _ hargs
  refine ⟨fun c => Cert.Kernel4Ideal.Proj.G (m ((c.tc : Thread _ _).loc Cert.Kernel4Ideal.main_arg0)) (m ((c.tc : Thread _ _).loc Cert.Kernel4Ideal.main_arg1)) (m ((c.tc : Thread _ _).loc Cert.Kernel4Ideal.main_arg2)) (m ((c.tc : Thread _ _).loc Cert.Kernel4Ideal.main_arg3)) (m ((c.tc : Thread _ _).loc Cert.Kernel4Ideal.main_arg4)),
    (θ_run _ _ _).mono (fun r h c => ⟨(h c).1.trans (Cert.Kernel4Ideal.Proj.final m c), (h c).2⟩) (Cert.Kernel4Ideal.Value.run_blocks m g), ?_⟩
  refine (θ_run _ _ _).mono (fun r h c => ?_) (Cert.Reference4Ideal.Value.run (F := Ideal) m' g')
  obtain ⟨hv, hr⟩ := h c
  refine ⟨hv.trans ?_, hr⟩
  obtain ⟨e0, e1, e2, e3, e4⟩ := hargs c
  refine (Cert.Reference4Ideal.Read.val_main_v62_eq (F := Ideal) m' c).trans ?_
  rw [e0, e1, e2, e3, e4]
  exact result_eq _ _ _ _ _

/-- Each rounded literal is the word of the number it is named for. -/
theorem preserves : Cert.preserves_Kernel4_Kernel4Ideal :=
  IdealRules.named_const.statement Cert.Kernel4Ideal.κ "q_scale" .f32 0x3E38AA3B#32 (((8 * (Real.log 2))⁻¹ : ℝ) : EReal) rfl

end Cert.Proj.Pair

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel2Ideal.Value
public import proofs.«01_k».proof.Proof.Gen.Kernel3Ideal.Value
public import proofs.«01_k».proof.Proof.Gen.Reference2Ideal.Run
public import proofs.«01_k».proof.Proof.Gen.Reference3Ideal.Run
public import proofs.«01_k».proof.Proof.Gen.ReferenceIdeal.Run
public import proofs.«01_k».proof.Proof.Gen.Reference2Ideal.Read
public import proofs.«01_k».proof.Proof.Gen.Reference3Ideal.Read
public import proofs.«01_k».proof.Proof.Rec.Pair1
public import proofs.«01_k».proof.Proof.Ffn.Pair2
public import proofs.«01_k».proof.Proof.Ffn.Pair3
public import proofs.«01_k».proof.Proof.Proj.Pair
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
  Cert.Rec.Pair1.frame, Cert.Rec.Pair1.frame_ideal, Cert.Rec.Pair1.frame_ref,
  fun m g _ => Cert.Kernel2.Gen.frame m g, fun m g _ => Cert.Kernel2Ideal.Gen.frame m g, Cert.Ffn.Pair2.frame_ref,
  fun m g _ => Cert.Kernel3.Gen.frame m g, fun m g _ => Cert.Kernel3Ideal.Gen.frame m g, Cert.Ffn.Pair3.frame_ref,
  fun m g _ => Cert.Kernel4.Gen.frame m g, fun m g _ => Cert.Kernel4Ideal.Gen.frame m g, Cert.Proj.Pair.frame_ref,
  Cert.Rec.Pair1.preserves, Cert.Rec.Pair1.algebraic, Cert.Ffn.Pair2.preserves, Cert.Ffn.Pair2.algebraic, Cert.Ffn.Pair3.preserves, Cert.Ffn.Pair3.algebraic,
  Cert.Proj.Pair.preserves, Cert.Proj.Pair.algebraic⟩

end Cert.Proof

end
